-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Router (m : (ℓ : Loc Cert.Router.nD Cert.Router.τ Cert.Router.sig) → Buf (Elt Bits) ℓ) : Prop :=
  True

def Pre_RouterIdeal (m : (ℓ : Loc Cert.RouterIdeal.nD Cert.RouterIdeal.τ Cert.RouterIdeal.sig) → Buf (Elt Ideal) ℓ) : Prop :=
  True

def Pre_BalanceIdeal (m : (ℓ : Loc Cert.BalanceIdeal.nD Cert.BalanceIdeal.τ Cert.BalanceIdeal.sig) → Buf (Elt Ideal) ℓ) : Prop :=
  True

def Pre_Slots (m : (ℓ : Loc Cert.Slots.nD Cert.Slots.τ Cert.Slots.sig) → Buf (Elt Bits) ℓ) : Prop :=
  True

def Pre_SlotsIdeal (m : (ℓ : Loc Cert.SlotsIdeal.nD Cert.SlotsIdeal.τ Cert.SlotsIdeal.sig) → Buf (Elt Ideal) ℓ) : Prop :=
  True

def Pre_SlotsIdeal_finite [hPre_finite : Cert.Pre_finite.Facts] (m : (ℓ : Loc Cert.SlotsIdeal.nD Cert.SlotsIdeal.τ Cert.SlotsIdeal.sig) → Buf (Elt Ideal) ℓ) : Prop :=
  ∀ c : Dev Cert.SlotsIdeal.nD,
    (Cert.Pre_finite.fn (F := Ideal) (m ((c.tc : Thread Cert.SlotsIdeal.nD Cert.SlotsIdeal.τ).loc Cert.SlotsIdeal.main_arg0)) (m ((c.tc : Thread Cert.SlotsIdeal.nD Cert.SlotsIdeal.τ).loc Cert.SlotsIdeal.main_arg1)) (m ((c.tc : Thread Cert.SlotsIdeal.nD Cert.SlotsIdeal.τ).loc Cert.SlotsIdeal.main_arg2))) = (fun _ => 1#1)

def Pre_DispatchIdeal (m : (ℓ : Loc Cert.DispatchIdeal.nD Cert.DispatchIdeal.τ Cert.DispatchIdeal.sig) → Buf (Elt Ideal) ℓ) : Prop :=
  True

def Pre_DispatchIdeal_finite [hPre_finite : Cert.Pre_finite.Facts] (m : (ℓ : Loc Cert.DispatchIdeal.nD Cert.DispatchIdeal.τ Cert.DispatchIdeal.sig) → Buf (Elt Ideal) ℓ) : Prop :=
  ∀ c : Dev Cert.DispatchIdeal.nD,
    (Cert.Pre_finite.fn (F := Ideal) (m ((c.tc : Thread Cert.DispatchIdeal.nD Cert.DispatchIdeal.τ).loc Cert.DispatchIdeal.main_arg0)) (m ((c.tc : Thread Cert.DispatchIdeal.nD Cert.DispatchIdeal.τ).loc Cert.DispatchIdeal.main_arg1)) (m ((c.tc : Thread Cert.DispatchIdeal.nD Cert.DispatchIdeal.τ).loc Cert.DispatchIdeal.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Router [hRouter : Cert.Router.Facts] : Prop :=
  ∀ (m : (ℓ : Loc Cert.Router.nD Cert.Router.τ Cert.Router.sig) → Buf (Elt Bits) ℓ) (g : Dev Cert.Router.nD → PrngReg), Pre_Router m →
    θ_run (Cert.Router.defs (F := Bits)) (onTc (τ := Cert.Router.τ) (Cert.Router.main (F := Bits))) ⟨m, fun _ => 0, g⟩ (fun r => (∀ c : Dev Cert.Router.nD,
      r.2.mem ((c.tc : Thread Cert.Router.nD Cert.Router.τ).loc Cert.Router.main_arg0) = m ((c.tc : Thread Cert.Router.nD Cert.Router.τ).loc Cert.Router.main_arg0)
      ∧ r.2.mem ((c.tc : Thread Cert.Router.nD Cert.Router.τ).loc Cert.Router.main_arg1) = m ((c.tc : Thread Cert.Router.nD Cert.Router.τ).loc Cert.Router.main_arg1)
      ∧ r.2.mem ((c.tc : Thread Cert.Router.nD Cert.Router.τ).loc Cert.Router.main_arg2) = m ((c.tc : Thread Cert.Router.nD Cert.Router.τ).loc Cert.Router.main_arg2))
      ∧ r.2.sem = fun _ => 0)

def quiescent_RouterIdeal [hRouterIdeal : Cert.RouterIdeal.Facts] : Prop :=
  ∀ (m : (ℓ : Loc Cert.RouterIdeal.nD Cert.RouterIdeal.τ Cert.RouterIdeal.sig) → Buf (Elt Ideal) ℓ) (g : Dev Cert.RouterIdeal.nD → PrngReg), Pre_RouterIdeal m →
    θ_run (Cert.RouterIdeal.defs (F := Ideal)) (onTc (τ := Cert.RouterIdeal.τ) (Cert.RouterIdeal.main (F := Ideal))) ⟨m, fun _ => 0, g⟩ (fun r => (∀ c : Dev Cert.RouterIdeal.nD,
      r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
      ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
      ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ r.2.sem = fun _ => 0)

def quiescent_BalanceIdeal [hBalanceIdeal : Cert.BalanceIdeal.Facts] : Prop :=
  ∀ (m : (ℓ : Loc Cert.BalanceIdeal.nD Cert.BalanceIdeal.τ Cert.BalanceIdeal.sig) → Buf (Elt Ideal) ℓ) (g : Dev Cert.BalanceIdeal.nD → PrngReg), Pre_BalanceIdeal m →
    θ_run (Cert.BalanceIdeal.defs (F := Ideal)) (onTc (τ := Cert.BalanceIdeal.τ) (Cert.BalanceIdeal.main (F := Ideal))) ⟨m, fun _ => 0, g⟩ (fun r => (∀ c : Dev Cert.BalanceIdeal.nD,
      r.2.mem ((c.tc : Thread Cert.BalanceIdeal.nD Cert.BalanceIdeal.τ).loc Cert.BalanceIdeal.main_arg0) = m ((c.tc : Thread Cert.BalanceIdeal.nD Cert.BalanceIdeal.τ).loc Cert.BalanceIdeal.main_arg0)
      ∧ r.2.mem ((c.tc : Thread Cert.BalanceIdeal.nD Cert.BalanceIdeal.τ).loc Cert.BalanceIdeal.main_arg1) = m ((c.tc : Thread Cert.BalanceIdeal.nD Cert.BalanceIdeal.τ).loc Cert.BalanceIdeal.main_arg1)
      ∧ r.2.mem ((c.tc : Thread Cert.BalanceIdeal.nD Cert.BalanceIdeal.τ).loc Cert.BalanceIdeal.main_arg2) = m ((c.tc : Thread Cert.BalanceIdeal.nD Cert.BalanceIdeal.τ).loc Cert.BalanceIdeal.main_arg2))
      ∧ r.2.sem = fun _ => 0)

def quiescent_Slots [hSlots : Cert.Slots.Facts] : Prop :=
  ∀ (m : (ℓ : Loc Cert.Slots.nD Cert.Slots.τ Cert.Slots.sig) → Buf (Elt Bits) ℓ) (g : Dev Cert.Slots.nD → PrngReg), Pre_Slots m →
    θ_run (Cert.Slots.defs (F := Bits)) (onTc (τ := Cert.Slots.τ) (Cert.Slots.main (F := Bits))) ⟨m, fun _ => 0, g⟩ (fun r => (∀ c : Dev Cert.Slots.nD,
      r.2.mem ((c.tc : Thread Cert.Slots.nD Cert.Slots.τ).loc Cert.Slots.main_arg0) = m ((c.tc : Thread Cert.Slots.nD Cert.Slots.τ).loc Cert.Slots.main_arg0)
      ∧ r.2.mem ((c.tc : Thread Cert.Slots.nD Cert.Slots.τ).loc Cert.Slots.main_arg1) = m ((c.tc : Thread Cert.Slots.nD Cert.Slots.τ).loc Cert.Slots.main_arg1)
      ∧ r.2.mem ((c.tc : Thread Cert.Slots.nD Cert.Slots.τ).loc Cert.Slots.main_arg2) = m ((c.tc : Thread Cert.Slots.nD Cert.Slots.τ).loc Cert.Slots.main_arg2))
      ∧ r.2.sem = fun _ => 0)

def quiescent_SlotsIdeal [hSlotsIdeal : Cert.SlotsIdeal.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0)
      ∧ r.2.mem ((c.tc : Thread Cert.SlotsIdeal.nD Cert.SlotsIdeal.τ).loc Cert.SlotsIdeal.main_arg1) = m ((c.tc : Thread Cert.SlotsIdeal.nD Cert.SlotsIdeal.τ).loc Cert.SlotsIdeal.main_arg1)
      ∧ r.2.mem ((c.tc : Thread Cert.SlotsIdeal.nD Cert.SlotsIdeal.τ).loc Cert.SlotsIdeal.main_arg2) = m ((c.tc : Thread Cert.SlotsIdeal.nD Cert.SlotsIdeal.τ).loc Cert.SlotsIdeal.main_arg2))
      ∧ r.2.sem = fun _ => 0)

def quiescent_SlotsIdeal_pre_finite [hSlotsIdeal : Cert.SlotsIdeal.Facts] [hPre_finite : Cert.Pre_finite.Facts] : Prop :=
  ∀ (m : (ℓ : Loc Cert.SlotsIdeal.nD Cert.SlotsIdeal.τ Cert.SlotsIdeal.sig) → Buf (Elt Ideal) ℓ) (g : Dev Cert.SlotsIdeal.nD → PrngReg), Pre_SlotsIdeal_finite m →
    θ_run (Cert.SlotsIdeal.defs (F := Ideal)) (onTc (τ := Cert.SlotsIdeal.τ) (Cert.SlotsIdeal.main (F := Ideal))) ⟨m, fun _ => 0, g⟩ (fun r => (∀ c : Dev Cert.SlotsIdeal.nD,
      r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0)
      ∧ r.2.mem ((c.tc : Thread Cert.SlotsIdeal.nD Cert.SlotsIdeal.τ).loc Cert.SlotsIdeal.main_arg1) = m ((c.tc : Thread Cert.SlotsIdeal.nD Cert.SlotsIdeal.τ).loc Cert.SlotsIdeal.main_arg1)
      ∧ r.2.mem ((c.tc : Thread Cert.SlotsIdeal.nD Cert.SlotsIdeal.τ).loc Cert.SlotsIdeal.main_arg2) = m ((c.tc : Thread Cert.SlotsIdeal.nD Cert.SlotsIdeal.τ).loc Cert.SlotsIdeal.main_arg2))
      ∧ r.2.sem = fun _ => 0)

def quiescent_DispatchIdeal [hDispatchIdeal : Cert.DispatchIdeal.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
      ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2))
      ∧ r.2.sem = fun _ => 0)

def quiescent_DispatchIdeal_pre_finite [hDispatchIdeal : Cert.DispatchIdeal.Facts] [hPre_finite : Cert.Pre_finite.Facts] : Prop :=
  ∀ (m : (ℓ : Loc Cert.DispatchIdeal.nD Cert.DispatchIdeal.τ Cert.DispatchIdeal.sig) → Buf (Elt Ideal) ℓ) (g : Dev Cert.DispatchIdeal.nD → PrngReg), Pre_DispatchIdeal_finite m →
    θ_run (Cert.DispatchIdeal.defs (F := Ideal)) (onTc (τ := Cert.DispatchIdeal.τ) (Cert.DispatchIdeal.main (F := Ideal))) ⟨m, fun _ => 0, g⟩ (fun r => (∀ c : Dev Cert.DispatchIdeal.nD,
      r.2.mem ((c.tc : Thread Cert.DispatchIdeal.nD Cert.DispatchIdeal.τ).loc Cert.DispatchIdeal.main_arg0) = m ((c.tc : Thread Cert.DispatchIdeal.nD Cert.DispatchIdeal.τ).loc Cert.DispatchIdeal.main_arg0)
      ∧ r.2.mem ((c.tc : Thread Cert.DispatchIdeal.nD Cert.DispatchIdeal.τ).loc Cert.DispatchIdeal.main_arg1) = m ((c.tc : Thread Cert.DispatchIdeal.nD Cert.DispatchIdeal.τ).loc Cert.DispatchIdeal.main_arg1)
      ∧ r.2.mem ((c.tc : Thread Cert.DispatchIdeal.nD Cert.DispatchIdeal.τ).loc Cert.DispatchIdeal.main_arg2) = m ((c.tc : Thread Cert.DispatchIdeal.nD Cert.DispatchIdeal.τ).loc Cert.DispatchIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v290) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Router_RouterIdeal : Prop :=
  True

def algebraic_RouterIdeal_BalanceIdeal [hRouterIdeal : Cert.RouterIdeal.Facts] [hBalanceIdeal : Cert.BalanceIdeal.Facts] : Prop :=
  ∀ (m : (ℓ : Loc Cert.RouterIdeal.nD Cert.RouterIdeal.τ Cert.RouterIdeal.sig) → Buf (Elt Ideal) ℓ) (g : Dev Cert.RouterIdeal.nD → PrngReg)
    (m' : (ℓ : Loc Cert.BalanceIdeal.nD Cert.BalanceIdeal.τ Cert.BalanceIdeal.sig) → Buf (Elt Ideal) ℓ) (g' : Dev Cert.BalanceIdeal.nD → PrngReg), Pre_RouterIdeal m →
    (∀ c : Dev Cert.RouterIdeal.nD,
      m' ((c.tc : Thread Cert.BalanceIdeal.nD Cert.BalanceIdeal.τ).loc Cert.BalanceIdeal.main_arg0) = m ((c.tc : Thread Cert.RouterIdeal.nD Cert.RouterIdeal.τ).loc Cert.RouterIdeal.main_arg0)
      ∧ m' ((c.tc : Thread Cert.BalanceIdeal.nD Cert.BalanceIdeal.τ).loc Cert.BalanceIdeal.main_arg1) = m ((c.tc : Thread Cert.RouterIdeal.nD Cert.RouterIdeal.τ).loc Cert.RouterIdeal.main_arg1)
      ∧ m' ((c.tc : Thread Cert.BalanceIdeal.nD Cert.BalanceIdeal.τ).loc Cert.BalanceIdeal.main_arg2) = m ((c.tc : Thread Cert.RouterIdeal.nD Cert.RouterIdeal.τ).loc Cert.RouterIdeal.main_arg2)) →
    ∃ (v0 : (c : Dev Cert.RouterIdeal.nD) → Buf (Elt Ideal) ((c.tc : Thread Cert.RouterIdeal.nD Cert.RouterIdeal.τ).loc Cert.RouterIdeal.main_v9_4)),
      θ_run (Cert.RouterIdeal.defs (F := Ideal)) (onTc (τ := Cert.RouterIdeal.τ) (Cert.RouterIdeal.main (F := Ideal))) ⟨m, fun _ => 0, g⟩ (fun r => ∀ c : Dev Cert.RouterIdeal.nD,
          r.2.mem ((c.tc : Thread Cert.RouterIdeal.nD Cert.RouterIdeal.τ).loc Cert.RouterIdeal.main_v9_4) = v0 c
          ∧ r.2.mem ((c.tc : Thread Cert.RouterIdeal.nD Cert.RouterIdeal.τ).loc Cert.RouterIdeal.main_arg0) = m ((c.tc : Thread Cert.RouterIdeal.nD Cert.RouterIdeal.τ).loc Cert.RouterIdeal.main_arg0)
          ∧ r.2.mem ((c.tc : Thread Cert.RouterIdeal.nD Cert.RouterIdeal.τ).loc Cert.RouterIdeal.main_arg1) = m ((c.tc : Thread Cert.RouterIdeal.nD Cert.RouterIdeal.τ).loc Cert.RouterIdeal.main_arg1)
          ∧ r.2.mem ((c.tc : Thread Cert.RouterIdeal.nD Cert.RouterIdeal.τ).loc Cert.RouterIdeal.main_arg2) = m ((c.tc : Thread Cert.RouterIdeal.nD Cert.RouterIdeal.τ).loc Cert.RouterIdeal.main_arg2))
      ∧ θ_run (Cert.BalanceIdeal.defs (F := Ideal)) (onTc (τ := Cert.BalanceIdeal.τ) (Cert.BalanceIdeal.main (F := Ideal))) ⟨m', fun _ => 0, g'⟩ (fun r => ∀ c : Dev Cert.BalanceIdeal.nD,
          r.2.mem ((c.tc : Thread Cert.BalanceIdeal.nD Cert.BalanceIdeal.τ).loc Cert.BalanceIdeal.main_v46) = v0 c
          ∧ r.2.mem ((c.tc : Thread Cert.BalanceIdeal.nD Cert.BalanceIdeal.τ).loc Cert.BalanceIdeal.main_arg0) = m' ((c.tc : Thread Cert.BalanceIdeal.nD Cert.BalanceIdeal.τ).loc Cert.BalanceIdeal.main_arg0)
          ∧ r.2.mem ((c.tc : Thread Cert.BalanceIdeal.nD Cert.BalanceIdeal.τ).loc Cert.BalanceIdeal.main_arg1) = m' ((c.tc : Thread Cert.BalanceIdeal.nD Cert.BalanceIdeal.τ).loc Cert.BalanceIdeal.main_arg1)
          ∧ r.2.mem ((c.tc : Thread Cert.BalanceIdeal.nD Cert.BalanceIdeal.τ).loc Cert.BalanceIdeal.main_arg2) = m' ((c.tc : Thread Cert.BalanceIdeal.nD Cert.BalanceIdeal.τ).loc Cert.BalanceIdeal.main_arg2))

def preserves_Slots_SlotsIdeal : Prop :=
  True

def algebraic_SlotsIdeal_DispatchIdeal_pre_finite [hSlotsIdeal : Cert.SlotsIdeal.Facts] [hDispatchIdeal : Cert.DispatchIdeal.Facts] [hPre_finite : Cert.Pre_finite.Facts] : Prop :=
  ∀ (m : (ℓ : Loc Cert.SlotsIdeal.nD Cert.SlotsIdeal.τ Cert.SlotsIdeal.sig) → Buf (Elt Ideal) ℓ) (g : Dev Cert.SlotsIdeal.nD → PrngReg)
    (m' : (ℓ : Loc Cert.DispatchIdeal.nD Cert.DispatchIdeal.τ Cert.DispatchIdeal.sig) → Buf (Elt Ideal) ℓ) (g' : Dev Cert.DispatchIdeal.nD → PrngReg), Pre_SlotsIdeal_finite m →
    (∀ c : Dev Cert.SlotsIdeal.nD,
      m' ((c.tc : Thread Cert.DispatchIdeal.nD Cert.DispatchIdeal.τ).loc Cert.DispatchIdeal.main_arg0) = m ((c.tc : Thread Cert.SlotsIdeal.nD Cert.SlotsIdeal.τ).loc Cert.SlotsIdeal.main_arg0)
      ∧ m' ((c.tc : Thread Cert.DispatchIdeal.nD Cert.DispatchIdeal.τ).loc Cert.DispatchIdeal.main_arg1) = m ((c.tc : Thread Cert.SlotsIdeal.nD Cert.SlotsIdeal.τ).loc Cert.SlotsIdeal.main_arg1)
      ∧ m' ((c.tc : Thread Cert.DispatchIdeal.nD Cert.DispatchIdeal.τ).loc Cert.DispatchIdeal.main_arg2) = m ((c.tc : Thread Cert.SlotsIdeal.nD Cert.SlotsIdeal.τ).loc Cert.SlotsIdeal.main_arg2)) →
    ∃ (v0 : (c : Dev Cert.SlotsIdeal.nD) → Buf (Elt Ideal) ((c.tc : Thread Cert.SlotsIdeal.nD Cert.SlotsIdeal.τ).loc Cert.SlotsIdeal.main_v9_0)) (v1 : (c : Dev Cert.SlotsIdeal.nD) → Buf (Elt Ideal) ((c.tc : Thread Cert.SlotsIdeal.nD Cert.SlotsIdeal.τ).loc Cert.SlotsIdeal.main_v9_1)) (v2 : (c : Dev Cert.SlotsIdeal.nD) → Buf (Elt Ideal) ((c.tc : Thread Cert.SlotsIdeal.nD Cert.SlotsIdeal.τ).loc Cert.SlotsIdeal.main_v9_2)) (v3 : (c : Dev Cert.SlotsIdeal.nD) → Buf (Elt Ideal) ((c.tc : Thread Cert.SlotsIdeal.nD Cert.SlotsIdeal.τ).loc Cert.SlotsIdeal.main_v9_3)),
      θ_run (Cert.SlotsIdeal.defs (F := Ideal)) (onTc (τ := Cert.SlotsIdeal.τ) (Cert.SlotsIdeal.main (F := Ideal))) ⟨m, fun _ => 0, g⟩ (fun r => ∀ c : Dev Cert.SlotsIdeal.nD,
          r.2.mem ((c.tc : Thread Cert.SlotsIdeal.nD Cert.SlotsIdeal.τ).loc Cert.SlotsIdeal.main_v9_0) = v0 c
          ∧ r.2.mem ((c.tc : Thread Cert.SlotsIdeal.nD Cert.SlotsIdeal.τ).loc Cert.SlotsIdeal.main_v9_1) = v1 c
          ∧ r.2.mem ((c.tc : Thread Cert.SlotsIdeal.nD Cert.SlotsIdeal.τ).loc Cert.SlotsIdeal.main_v9_2) = v2 c
          ∧ r.2.mem ((c.tc : Thread Cert.SlotsIdeal.nD Cert.SlotsIdeal.τ).loc Cert.SlotsIdeal.main_v9_3) = v3 c
          ∧ r.2.mem ((c.tc : Thread Cert.SlotsIdeal.nD Cert.SlotsIdeal.τ).loc Cert.SlotsIdeal.main_arg0) = m ((c.tc : Thread Cert.SlotsIdeal.nD Cert.SlotsIdeal.τ).loc Cert.SlotsIdeal.main_arg0)
          ∧ r.2.mem ((c.tc : Thread Cert.SlotsIdeal.nD Cert.SlotsIdeal.τ).loc Cert.SlotsIdeal.main_arg1) = m ((c.tc : Thread Cert.SlotsIdeal.nD Cert.SlotsIdeal.τ).loc Cert.SlotsIdeal.main_arg1)
          ∧ r.2.mem ((c.tc : Thread Cert.SlotsIdeal.nD Cert.SlotsIdeal.τ).loc Cert.SlotsIdeal.main_arg2) = m ((c.tc : Thread Cert.SlotsIdeal.nD Cert.SlotsIdeal.τ).loc Cert.SlotsIdeal.main_arg2))
      ∧ θ_run (Cert.DispatchIdeal.defs (F := Ideal)) (onTc (τ := Cert.DispatchIdeal.τ) (Cert.DispatchIdeal.main (F := Ideal))) ⟨m', fun _ => 0, g'⟩ (fun r => ∀ c : Dev Cert.DispatchIdeal.nD,
          r.2.mem ((c.tc : Thread Cert.DispatchIdeal.nD Cert.DispatchIdeal.τ).loc Cert.DispatchIdeal.main_v91) = v0 c
          ∧ r.2.mem ((c.tc : Thread Cert.DispatchIdeal.nD Cert.DispatchIdeal.τ).loc Cert.DispatchIdeal.main_v92) = v1 c
          ∧ r.2.mem ((c.tc : Thread Cert.DispatchIdeal.nD Cert.DispatchIdeal.τ).loc Cert.DispatchIdeal.main_v93) = v2 c
          ∧ r.2.mem ((c.tc : Thread Cert.DispatchIdeal.nD Cert.DispatchIdeal.τ).loc Cert.DispatchIdeal.main_v94) = v3 c
          ∧ r.2.mem ((c.tc : Thread Cert.DispatchIdeal.nD Cert.DispatchIdeal.τ).loc Cert.DispatchIdeal.main_arg0) = m' ((c.tc : Thread Cert.DispatchIdeal.nD Cert.DispatchIdeal.τ).loc Cert.DispatchIdeal.main_arg0)
          ∧ r.2.mem ((c.tc : Thread Cert.DispatchIdeal.nD Cert.DispatchIdeal.τ).loc Cert.DispatchIdeal.main_arg1) = m' ((c.tc : Thread Cert.DispatchIdeal.nD Cert.DispatchIdeal.τ).loc Cert.DispatchIdeal.main_arg1)
          ∧ r.2.mem ((c.tc : Thread Cert.DispatchIdeal.nD Cert.DispatchIdeal.τ).loc Cert.DispatchIdeal.main_arg2) = m' ((c.tc : Thread Cert.DispatchIdeal.nD Cert.DispatchIdeal.τ).loc Cert.DispatchIdeal.main_arg2))

def Claim : Prop :=
  ∃ (hKernel : Cert.Kernel.Facts) (hKernelIdeal : Cert.KernelIdeal.Facts) (hReferenceIdeal : Cert.ReferenceIdeal.Facts) (hRouter : Cert.Router.Facts) (hRouterIdeal : Cert.RouterIdeal.Facts) (hBalanceIdeal : Cert.BalanceIdeal.Facts) (hSlots : Cert.Slots.Facts) (hSlotsIdeal : Cert.SlotsIdeal.Facts) (hDispatchIdeal : Cert.DispatchIdeal.Facts) (hPre_in_range : Cert.Pre_in_range.Facts) (hPre_finite : Cert.Pre_finite.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal) (hPre_in_range := hPre_in_range)
    ∧ quiescent_Router (hRouter := hRouter)
    ∧ quiescent_RouterIdeal (hRouterIdeal := hRouterIdeal)
    ∧ quiescent_BalanceIdeal (hBalanceIdeal := hBalanceIdeal)
    ∧ quiescent_Slots (hSlots := hSlots)
    ∧ quiescent_SlotsIdeal (hSlotsIdeal := hSlotsIdeal)
    ∧ quiescent_SlotsIdeal_pre_finite (hSlotsIdeal := hSlotsIdeal) (hPre_finite := hPre_finite)
    ∧ quiescent_DispatchIdeal (hDispatchIdeal := hDispatchIdeal)
    ∧ quiescent_DispatchIdeal_pre_finite (hDispatchIdeal := hDispatchIdeal) (hPre_finite := hPre_finite)
    ∧ preserves_Kernel_KernelIdeal
    ∧ algebraic_KernelIdeal_ReferenceIdeal (hKernelIdeal := hKernelIdeal) (hReferenceIdeal := hReferenceIdeal) (hPre_in_range := hPre_in_range)
    ∧ preserves_Router_RouterIdeal
    ∧ algebraic_RouterIdeal_BalanceIdeal (hRouterIdeal := hRouterIdeal) (hBalanceIdeal := hBalanceIdeal)
    ∧ preserves_Slots_SlotsIdeal
    ∧ algebraic_SlotsIdeal_DispatchIdeal_pre_finite (hSlotsIdeal := hSlotsIdeal) (hDispatchIdeal := hDispatchIdeal) (hPre_finite := hPre_finite)
-- ==== Pre_finite.lean ====
abbrev S1x2048x768 : Shape := ⟨3, ![1, 2048, 768]⟩
abbrev S768x8 : Shape := ⟨2, ![768, 8]⟩
abbrev S8 : Shape := ⟨1, ![8]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S1x2048x768 .f32) (main_arg1 : FVec F S768x8 .f32) (main_arg2 : FVec F S8 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x8 .f32 := Host.absf main_arg1
  let main_cst_0 : FVec F S_ .f32 := constant S_ .f32 0x7F800000#32
  let main_v5 : FVec F S768x8 .f32 := broadcastInDim S768x8 ![] bcast_S_S768x8 main_cst_0
  let main_v6 : IVec S768x8 1 := cmpf .olt main_v4 main_v5
  let main_c_1 : IVec S_ 1 := constantI S_ 1 1#1
  let main_v7 : IVec S_ 1 := (fun x v => Host.reduce IntOp.andi x v reducesTo_S768x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Pre_in_range.lean ====
abbrev S1x2048x768 : Shape := ⟨3, ![1, 2048, 768]⟩
abbrev S4096x1 : Shape := ⟨2, ![4096, 1]⟩
abbrev S5120x1 : Shape := ⟨2, ![5120, 1]⟩
abbrev S128x1 : Shape := ⟨2, ![128, 1]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S_ : Shape := ⟨0, ![]⟩

class Facts : Prop where
  bcast_S_S4096x1 : S_.BroadcastsInDim S4096x1 (![] : Fin 0 → Fin S4096x1.rank)
  reducesTo_S4096x1_S_d0_1 : S4096x1.ReducesTo [0, 1] S_
  h_S_ : 0 < S_.numel
  bcast_S_S5120x1 : S_.BroadcastsInDim S5120x1 (![] : Fin 0 → Fin S5120x1.rank)
  reducesTo_S5120x1_S_d0_1 : S5120x1.ReducesTo [0, 1] S_
  bcast_S_S128x1 : S_.BroadcastsInDim S128x1 (![] : Fin 0 → Fin S128x1.rank)
  reducesTo_S128x1_S_d0_1 : S128x1.ReducesTo [0, 1] S_

variable [Facts]

def fn_part1 {F : FTy → Type} [FloatOps F] (main_arg4 : IVec S128x1 32) (main_v12 : IVec S_ 1) (main_v14 : IVec S128x1 1) (main_v15 : IVec S128x1 32) : IVec S_ 1 :=
  let main_v16 : IVec S128x1 1 := cmpi .slt main_arg4 main_v15
  let main_v17 : IVec S128x1 1 := andi main_v14 main_v16
  let main_c_7 : IVec S_ 1 := constantI S_ 1 1#1
  let main_v18 : IVec S_ 1 := (fun x v => Host.reduce IntOp.andi x v reducesTo_S128x1_S_d0_1 h_S_) main_v17 main_c_7
  let main_v19 : IVec S_ 1 := andi main_v12 main_v18
  main_v19

def fn {F : FTy → Type} [FloatOps F] (main_arg0 : FVec F S1x2048x768 .f32) (main_arg1 : IVec S4096x1 32) (main_arg2 : IVec S5120x1 32) (main_arg3 : FVec F S5120x1 .f32) (main_arg4 : IVec S128x1 32) (main_arg5 : FVec F S8x768x3072 .f32) (main_arg6 : FVec F S8x3072 .f32) (main_arg7 : FVec F S8x3072x768 .f32) (main_arg8 : FVec F S8x768 .f32) : IVec S_ 1 :=
  let main_c : IVec S_ 32 := constantI S_ 32 0#32
  let main_v0 : IVec S4096x1 32 := broadcastInDim S4096x1 ![] bcast_S_S4096x1 main_c
  let main_v1 : IVec S4096x1 1 := cmpi .sge main_arg1 main_v0
  let main_c_0 : IVec S_ 32 := constantI S_ 32 5120#32
  let main_v2 : IVec S4096x1 32 := broadcastInDim S4096x1 ![] bcast_S_S4096x1 main_c_0
  let main_v3 : IVec S4096x1 1 := cmpi .slt main_arg1 main_v2
  let main_v4 : IVec S4096x1 1 := andi main_v1 main_v3
  let main_c_1 : IVec S_ 1 := constantI S_ 1 1#1
  let main_v5 : IVec S_ 1 := (fun x v => Host.reduce IntOp.andi x v reducesTo_S4096x1_S_d0_1 h_S_) main_v4 main_c_1
  let main_c_2 : IVec S_ 32 := constantI S_ 32 0#32
  let main_v6 : IVec S5120x1 32 := broadcastInDim S5120x1 ![] bcast_S_S5120x1 main_c_2
  let main_v7 : IVec S5120x1 1 := cmpi .sge main_arg2 main_v6
  let main_c_3 : IVec S_ 32 := constantI S_ 32 2048#32
  let main_v8 : IVec S5120x1 32 := broadcastInDim S5120x1 ![] bcast_S_S5120x1 main_c_3
  let main_v9 : IVec S5120x1 1 := cmpi .slt main_arg2 main_v8
  let main_v10 : IVec S5120x1 1 := andi main_v7 main_v9
  let main_c_4 : IVec S_ 1 := constantI S_ 1 1#1
  let main_v11 : IVec S_ 1 := (fun x v => Host.reduce IntOp.andi x v reducesTo_S5120x1_S_d0_1 h_S_) main_v10 main_c_4
  let main_v12 : IVec S_ 1 := andi main_v5 main_v11
  let main_c_5 : IVec S_ 32 := constantI S_ 32 0#32
  let main_v13 : IVec S128x1 32 := broadcastInDim S128x1 ![] bcast_S_S128x1 main_c_5
  let main_v14 : IVec S128x1 1 := cmpi .sge main_arg4 main_v13
  let main_c_6 : IVec S_ 32 := constantI S_ 32 8#32
  let main_v15 : IVec S128x1 32 := broadcastInDim S128x1 ![] bcast_S_S128x1 main_c_6
  fn_part1 (F := F) main_arg4 main_v12 main_v14 main_v15
-- ==== Kernel.lean ====
abbrev S1x2048x768 : Shape := ⟨3, ![1, 2048, 768]⟩
abbrev S4096x1 : Shape := ⟨2, ![4096, 1]⟩
abbrev S5120x1 : Shape := ⟨2, ![5120, 1]⟩
abbrev S128x1 : Shape := ⟨2, ![128, 1]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S2048x768 : Shape := ⟨2, ![2048, 768]⟩
abbrev S5120 : Shape := ⟨1, ![5120]⟩
abbrev S5120x768 : Shape := ⟨2, ![5120, 768]⟩
abbrev S160 : Shape := ⟨1, ![160]⟩
abbrev S160x768 : Shape := ⟨2, ![160, 768]⟩
abbrev S_ : Shape := ⟨0, ![]⟩
abbrev S160x128 : Shape := ⟨2, ![160, 128]⟩
abbrev S2048x128 : Shape := ⟨2, ![2048, 128]⟩
abbrev S128 : Shape := ⟨1, ![128]⟩
abbrev S40 : Shape := ⟨1, ![40]⟩
abbrev S8x1x3072 : Shape := ⟨3, ![8, 1, 3072]⟩
abbrev S8x1x768 : Shape := ⟨3, ![8, 1, 768]⟩
abbrev S128x768 : Shape := ⟨2, ![128, 768]⟩
abbrev S1x768x3072 : Shape := ⟨3, ![1, 768, 3072]⟩
abbrev S1 : Shape := ⟨1, ![1]⟩
abbrev S1x1x3072 : Shape := ⟨3, ![1, 1, 3072]⟩
abbrev S1x3072x768 : Shape := ⟨3, ![1, 3072, 768]⟩
abbrev S1x1x768 : Shape := ⟨3, ![1, 1, 768]⟩
abbrev S768x3072 : Shape := ⟨2, ![768, 3072]⟩
abbrev S128x3072 : Shape := ⟨2, ![128, 3072]⟩
abbrev S1x3072 : Shape := ⟨2, ![1, 3072]⟩
abbrev S3072x768 : Shape := ⟨2, ![3072, 768]⟩
abbrev S1x768 : Shape := ⟨2, ![1, 768]⟩
abbrev S4096 : Shape := ⟨1, ![4096]⟩
abbrev S64 : Shape := ⟨1, ![64]⟩
abbrev S64x768 : Shape := ⟨2, ![64, 768]⟩
abbrev S32x768 : Shape := ⟨2, ![32, 768]⟩
abbrev S32 : Shape := ⟨1, ![32]⟩
abbrev S64x128 : Shape := ⟨2, ![64, 128]⟩
abbrev S5120x128 : Shape := ⟨2, ![5120, 128]⟩
abbrev S1x16 : Shape := ⟨2, ![1, 16]⟩
abbrev S16 : Shape := ⟨1, ![16]⟩

abbrev nBuf : Table → Nat
  | .hbm => 22
  | .local .tc .vmem => 14
  | .local .tc .smem => 1
  | .local .scVector .vmem => 5
  | _ => 0

abbrev bufTy : (tb : Table) → Fin (nBuf tb) → BufTy
  | .hbm, ⟨0, _⟩ => ⟨S1x2048x768, .f32⟩
  | .hbm, ⟨1, _⟩ => ⟨S4096x1, .i32⟩
  | .hbm, ⟨2, _⟩ => ⟨S5120x1, .i32⟩
  | .hbm, ⟨3, _⟩ => ⟨S5120x1, .f32⟩
  | .hbm, ⟨4, _⟩ => ⟨S128x1, .i32⟩
  | .hbm, ⟨5, _⟩ => ⟨S8x768x3072, .f32⟩
  | .hbm, ⟨6, _⟩ => ⟨S8x3072, .f32⟩
  | .hbm, ⟨7, _⟩ => ⟨S8x3072x768, .f32⟩
  | .hbm, ⟨8, _⟩ => ⟨S8x768, .f32⟩
  | .hbm, ⟨9, _⟩ => ⟨S2048x768, .f32⟩
  | .hbm, ⟨10, _⟩ => ⟨S5120, .i32⟩
  | .hbm, ⟨11, _⟩ => ⟨S5120x768, .f32⟩
  | .hbm, ⟨12, _⟩ => ⟨S128, .i32⟩
  | .hbm, ⟨13, _⟩ => ⟨S5120x768, .bf16⟩
  | .hbm, ⟨14, _⟩ => ⟨S8x768x3072, .bf16⟩
  | .hbm, ⟨15, _⟩ => ⟨S8x1x3072, .f32⟩
  | .hbm, ⟨16, _⟩ => ⟨S8x3072x768, .bf16⟩
  | .hbm, ⟨17, _⟩ => ⟨S8x1x768, .f32⟩
  | .hbm, ⟨18, _⟩ => ⟨S5120x768, .f32⟩
  | .hbm, ⟨19, _⟩ => ⟨S4096, .i32⟩
  | .hbm, ⟨20, _⟩ => ⟨S2048x768, .f32⟩
  | .hbm, ⟨21, _⟩ => ⟨S1x2048x768, .f32⟩
  | .local .tc .vmem, ⟨0, _⟩ => ⟨S128x768, .bf16⟩
  | .local .tc .vmem, ⟨1, _⟩ => ⟨S128x768, .bf16⟩
  | .local .tc .vmem, ⟨2, _⟩ => ⟨S1x768x3072, .bf16⟩
  | .local .tc .vmem, ⟨3, _⟩ => ⟨S1x768x3072, .bf16⟩
  | .local .tc .vmem, ⟨4, _⟩ => ⟨S1x1x3072, .f32⟩
  | .local .tc .vmem, ⟨5, _⟩ => ⟨S1x1x3072, .f32⟩
  | .local .tc .vmem, ⟨6, _⟩ => ⟨S1x3072x768, .bf16⟩
  | .local .tc .vmem, ⟨7, _⟩ => ⟨S1x3072x768, .bf16⟩
  | .local .tc .vmem, ⟨8, _⟩ => ⟨S1x1x768, .f32⟩
  | .local .tc .vmem, ⟨9, _⟩ => ⟨S1x1x768, .f32⟩
  | .local .tc .vmem, ⟨10, _⟩ => ⟨S128x1, .f32⟩
  | .local .tc .vmem, ⟨11, _⟩ => ⟨S128x1, .f32⟩
  | .local .tc .vmem, ⟨12, _⟩ => ⟨S128x768, .f32⟩
  | .local .tc .vmem, ⟨13, _⟩ => ⟨S128x768, .f32⟩
  | .local .tc .smem, ⟨0, _⟩ => ⟨S40, .i32⟩
  | .local .scVector .vmem, ⟨0, _⟩ => ⟨S160, .i32⟩
  | .local .scVector .vmem, ⟨1, _⟩ => ⟨S160x768, .f32⟩
  | .local .scVector .vmem, ⟨2, _⟩ => ⟨S64, .i32⟩
  | .local .scVector .vmem, ⟨3, _⟩ => ⟨S64x768, .f32⟩
  | .local .scVector .vmem, ⟨4, _⟩ => ⟨S32x768, .f32⟩
  | _, _ => ⟨S1x2048x768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 26 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => false
  | ⟨18, _⟩ => false
  | ⟨19, _⟩ => false
  | ⟨20, _⟩ => false
  | ⟨21, _⟩ => false
  | ⟨22, _⟩ => false
  | ⟨23, _⟩ => false
  | ⟨24, _⟩ => false
  | ⟨25, _⟩ => false
  | _ => false

abbrev sig : RefSig :=
  ofTables nBuf rfl bufTy 4 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v4 : Ref sig .tc := ⟨.smem, 0, rfl⟩
abbrev main_v1_scv : Ref sig .scVector := ⟨.hbm, 10, rfl⟩
abbrev main_v0_scv : Ref sig .scVector := ⟨.hbm, 9, rfl⟩
abbrev main_v2_scv : Ref sig .scVector := ⟨.hbm, 11, rfl⟩
abbrev main_v11_scv : Ref sig .scVector := ⟨.hbm, 19, rfl⟩
abbrev main_v10_scv : Ref sig .scVector := ⟨.hbm, 18, rfl⟩
abbrev main_v12_scv : Ref sig .scVector := ⟨.hbm, 20, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg5_1 : Ref sig .tc := ⟨.vmem, 11, rfl⟩
abbrev cc1_stg6_0 : Ref sig .tc := ⟨.vmem, 12, rfl⟩
abbrev cc1_stg6_1 : Ref sig .tc := ⟨.vmem, 13, rfl⟩
abbrev cc0_scratch0 : Ref sig .scVector := ⟨.vmem, 0, rfl⟩
abbrev cc0_scratch1 : Ref sig .scVector := ⟨.vmem, 1, rfl⟩
abbrev cc2_scratch0 : Ref sig .scVector := ⟨.vmem, 2, rfl⟩
abbrev cc2_scratch1 : Ref sig .scVector := ⟨.vmem, 3, rfl⟩
abbrev cc2_scratch2 : Ref sig .scVector := ⟨.vmem, 4, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c160_i32 : BitVec 32 := 160#32
  let v2 : BitVec 32 := Scalar.muli v1 c160_i32
  let c0_i32_42_r1 : BitVec 32 := 0#32
  ![v2.toNat, 0]
abbrev grid1 : Pipeline.Grid := ⟨1, ![40], ![false]⟩

abbrev pre1 : Pipeline.Prefetch sig := ⟨1, ![main_v4.idx], fun | 0 => main_v4.names | ⟨_ + 1, h⟩ => absurd h (Nat.not_lt.2 (Nat.le_add_left _ _)), fun | 0 => rfl | ⟨_ + 1, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_2 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_3 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_4 (k1_off1_inb : ∀ i : grid1.Coords, ∀ a, (k1_off1 i) a + S1.size a ≤ S40.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S40) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S128x768 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x768x3072 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x3072 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x3072x768 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x768 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S128x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S128x768 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨2, ![2, 16], ![false, false]⟩

def k2_off1 (i : grid2.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  ![v3.toNat]
def k2_off2 (i : grid2.Coords) (c0_i32 : BitVec 32) : Fin 1 → Nat :=
  let c2048_i32 : BitVec 32 := 2048#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let v4 : BitVec 32 := Scalar.addi c2048_i32 v3
  ![v4.toNat]
def k2_off3 (i : grid2.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c64_i32 : BitVec 32 := 64#32
  let v2 : BitVec 32 := Scalar.muli v1 c64_i32
  let v3 : BitVec 32 := Scalar.addi v2 c0_i32
  let c0_i32_101_r2 : BitVec 32 := 0#32
  ![v3.toNat, 0]
@[reducible] def k2_t1_loop : Scf.Loop 32 :=
  let c0_i32_44 : BitVec 32 := 0#32
  let c1536_i32 : BitVec 32 := 1536#32
  let v29 : BitVec 32 := Scalar.addi c0_i32_44 c1536_i32
  let c1_i32 : BitVec 32 := 1#32
  ⟨c0_i32_44, v29, c1_i32⟩
def k2_off4 (k2_t1 : Fin k2_t1_loop.trips) : Fin 2 → Nat :=
  let c0_i32_44 : BitVec 32 := 0#32
  let c1_i32 : BitVec 32 := 1#32
  let arg10 : BitVec 32 := Scf.iv c0_i32_44 c1_i32 k2_t1
  let c0_i32_101 : BitVec 32 := 0#32
  let v61 : BitVec 1 := Scalar.cmpi .sgt arg10 c0_i32_101
  let v62 : BitVec 32 := Scalar.extui v61
  let c0_i32_102 : BitVec 32 := 0#32
  let v63 : BitVec 1 := Scalar.cmpi .slt arg10 c0_i32_102
  let v64 : BitVec 32 := Scalar.extui v63
  let v65 : BitVec 32 := Scalar.subi v62 v64
  let c48_i32 : BitVec 32 := 48#32
  let c0_i32_103 : BitVec 32 := 0#32
  let v66 : BitVec 1 := Scalar.cmpi .sgt c48_i32 c0_i32_103
  let v67 : BitVec 32 := Scalar.extui v66
  let c0_i32_104 : BitVec 32 := 0#32
  let v68 : BitVec 1 := Scalar.cmpi .slt c48_i32 c0_i32_104
  let v69 : BitVec 32 := Scalar.extui v68
  let v70 : BitVec 32 := Scalar.subi v67 v69
  let v71 : BitVec 1 := Scalar.cmpi .ne v65 v70
  let v72 : BitVec 32 := Scalar.remsi arg10 c48_i32
  let c0_i32_105 : BitVec 32 := 0#32
  let v73 : BitVec 1 := Scalar.cmpi .ne v72 c0_i32_105
  let v74 : BitVec 1 := Scalar.andi v71 v73
  let v60 : BitVec 32 := Scalar.divsi arg10 c48_i32
  let c1_i32_106 : BitVec 32 := 1#32
  let v75 : BitVec 32 := Scalar.subi v60 c1_i32_106
  let v76 : BitVec 32 := Scalar.select v74 v75 v60
  let v88 : Index := Scalar.indexCast v76
  let c48_i32_107 : BitVec 32 := 48#32
  let c0_i32_108 : BitVec 32 := 0#32
  let v77 : BitVec 1 := Scalar.cmpi .eq c48_i32_107 c0_i32_108
  let c1_i32_109 : BitVec 32 := 1#32
  let v78 : BitVec 32 := Scalar.select v77 c1_i32_109 c48_i32_107
  let v79 : BitVec 32 := Scalar.remsi arg10 v78
  let c0_i32_111 : BitVec 32 := 0#32
  let v81 : BitVec 1 := Scalar.cmpi .slt v79 c0_i32_111
  let c0_i32_112 : BitVec 32 := 0#32
  let v82 : BitVec 1 := Scalar.cmpi .slt v78 c0_i32_112
  let v83 : BitVec 1 := Scalar.xori v81 v82
  let c0_i32_110 : BitVec 32 := 0#32
  let v80 : BitVec 1 := Scalar.cmpi .ne v79 c0_i32_110
  let v84 : BitVec 1 := Scalar.andi v83 v80
  let v85 : BitVec 32 := Scalar.addi v79 v78
  let v86 : BitVec 32 := Scalar.select v84 v85 v79
  let c16_i32 : BitVec 32 := 16#32
  let v87 : BitVec 32 := Scalar.muli v86 c16_i32
  let v89 : Index := Scalar.indexCast v87
  ![v88.toNat, v89.toNat]
def k2_off5 (k2_t1 : Fin k2_t1_loop.trips) : Fin 2 → Nat :=
  let c0_i32_44 : BitVec 32 := 0#32
  let c1_i32 : BitVec 32 := 1#32
  let arg10 : BitVec 32 := Scf.iv c0_i32_44 c1_i32 k2_t1
  let c0_i32_101 : BitVec 32 := 0#32
  let v61 : BitVec 1 := Scalar.cmpi .sgt arg10 c0_i32_101
  let v62 : BitVec 32 := Scalar.extui v61
  let c0_i32_102 : BitVec 32 := 0#32
  let v63 : BitVec 1 := Scalar.cmpi .slt arg10 c0_i32_102
  let v64 : BitVec 32 := Scalar.extui v63
  let v65 : BitVec 32 := Scalar.subi v62 v64
  let c48_i32 : BitVec 32 := 48#32
  let c0_i32_103 : BitVec 32 := 0#32
  let v66 : BitVec 1 := Scalar.cmpi .sgt c48_i32 c0_i32_103
  let v67 : BitVec 32 := Scalar.extui v66
  let c0_i32_104 : BitVec 32 := 0#32
  let v68 : BitVec 1 := Scalar.cmpi .slt c48_i32 c0_i32_104
  let v69 : BitVec 32 := Scalar.extui v68
  let v70 : BitVec 32 := Scalar.subi v67 v69
  let v71 : BitVec 1 := Scalar.cmpi .ne v65 v70
  let v72 : BitVec 32 := Scalar.remsi arg10 c48_i32
  let c0_i32_105 : BitVec 32 := 0#32
  let v73 : BitVec 1 := Scalar.cmpi .ne v72 c0_i32_105
  let v74 : BitVec 1 := Scalar.andi v71 v73
  let v60 : BitVec 32 := Scalar.divsi arg10 c48_i32
  let c1_i32_106 : BitVec 32 := 1#32
  let v75 : BitVec 32 := Scalar.subi v60 c1_i32_106
  let v76 : BitVec 32 := Scalar.select v74 v75 v60
  let v92 : Index := Scalar.indexCast v76
  let c48_i32_107 : BitVec 32 := 48#32
  let c0_i32_108 : BitVec 32 := 0#32
  let v77 : BitVec 1 := Scalar.cmpi .eq c48_i32_107 c0_i32_108
  let c1_i32_109 : BitVec 32 := 1#32
  let v78 : BitVec 32 := Scalar.select v77 c1_i32_109 c48_i32_107
  let v79 : BitVec 32 := Scalar.remsi arg10 v78
  let c0_i32_111 : BitVec 32 := 0#32
  let v81 : BitVec 1 := Scalar.cmpi .slt v79 c0_i32_111
  let c0_i32_112 : BitVec 32 := 0#32
  let v82 : BitVec 1 := Scalar.cmpi .slt v78 c0_i32_112
  let v83 : BitVec 1 := Scalar.xori v81 v82
  let c0_i32_110 : BitVec 32 := 0#32
  let v80 : BitVec 1 := Scalar.cmpi .ne v79 c0_i32_110
  let v84 : BitVec 1 := Scalar.andi v83 v80
  let v85 : BitVec 32 := Scalar.addi v79 v78
  let v86 : BitVec 32 := Scalar.select v84 v85 v79
  let c16_i32 : BitVec 32 := 16#32
  let v87 : BitVec 32 := Scalar.muli v86 c16_i32
  let v93 : Index := Scalar.indexCast v87
  ![v92.toNat, v93.toNat]
def k2_off6 (k2_t1 : Fin k2_t1_loop.trips) : Fin 2 → Nat :=
  let c0_i32_44 : BitVec 32 := 0#32
  let c1_i32 : BitVec 32 := 1#32
  let arg10 : BitVec 32 := Scf.iv c0_i32_44 c1_i32 k2_t1
  let c0_i32_101 : BitVec 32 := 0#32
  let v61 : BitVec 1 := Scalar.cmpi .sgt arg10 c0_i32_101
  let v62 : BitVec 32 := Scalar.extui v61
  let c0_i32_102 : BitVec 32 := 0#32
  let v63 : BitVec 1 := Scalar.cmpi .slt arg10 c0_i32_102
  let v64 : BitVec 32 := Scalar.extui v63
  let v65 : BitVec 32 := Scalar.subi v62 v64
  let c48_i32 : BitVec 32 := 48#32
  let c0_i32_103 : BitVec 32 := 0#32
  let v66 : BitVec 1 := Scalar.cmpi .sgt c48_i32 c0_i32_103
  let v67 : BitVec 32 := Scalar.extui v66
  let c0_i32_104 : BitVec 32 := 0#32
  let v68 : BitVec 1 := Scalar.cmpi .slt c48_i32 c0_i32_104
  let v69 : BitVec 32 := Scalar.extui v68
  let v70 : BitVec 32 := Scalar.subi v67 v69
  let v71 : BitVec 1 := Scalar.cmpi .ne v65 v70
  let v72 : BitVec 32 := Scalar.remsi arg10 c48_i32
  let c0_i32_105 : BitVec 32 := 0#32
  let v73 : BitVec 1 := Scalar.cmpi .ne v72 c0_i32_105
  let v74 : BitVec 1 := Scalar.andi v71 v73
  let v60 : BitVec 32 := Scalar.divsi arg10 c48_i32
  let c1_i32_106 : BitVec 32 := 1#32
  let v75 : BitVec 32 := Scalar.subi v60 c1_i32_106
  let v76 : BitVec 32 := Scalar.select v74 v75 v60
  let c32_i32_113 : BitVec 32 := 32#32
  let v97 : BitVec 32 := Scalar.addi v76 c32_i32_113
  let v98 : Index := Scalar.indexCast v97
  let c48_i32_107 : BitVec 32 := 48#32
  let c0_i32_108 : BitVec 32 := 0#32
  let v77 : BitVec 1 := Scalar.cmpi .eq c48_i32_107 c0_i32_108
  let c1_i32_109 : BitVec 32 := 1#32
  let v78 : BitVec 32 := Scalar.select v77 c1_i32_109 c48_i32_107
  let v79 : BitVec 32 := Scalar.remsi arg10 v78
  let c0_i32_111 : BitVec 32 := 0#32
  let v81 : BitVec 1 := Scalar.cmpi .slt v79 c0_i32_111
  let c0_i32_112 : BitVec 32 := 0#32
  let v82 : BitVec 1 := Scalar.cmpi .slt v78 c0_i32_112
  let v83 : BitVec 1 := Scalar.xori v81 v82
  let c0_i32_110 : BitVec 32 := 0#32
  let v80 : BitVec 1 := Scalar.cmpi .ne v79 c0_i32_110
  let v84 : BitVec 1 := Scalar.andi v83 v80
  let v85 : BitVec 32 := Scalar.addi v79 v78
  let v86 : BitVec 32 := Scalar.select v84 v85 v79
  let c16_i32 : BitVec 32 := 16#32
  let v87 : BitVec 32 := Scalar.muli v86 c16_i32
  let v99 : Index := Scalar.indexCast v87
  ![v98.toNat, v99.toNat]
@[reducible] def k2_t2_loop : Scf.Loop 32 :=
  let c0_i32_97 : BitVec 32 := 0#32
  let c1536_i32_98 : BitVec 32 := 1536#32
  let v58 : BitVec 32 := Scalar.addi c0_i32_97 c1536_i32_98
  let c1_i32_99 : BitVec 32 := 1#32
  ⟨c0_i32_97, v58, c1_i32_99⟩
def k2_off7 (k2_t2 : Fin k2_t2_loop.trips) : Fin 2 → Nat :=
  let c0_i32_97 : BitVec 32 := 0#32
  let c1_i32_99 : BitVec 32 := 1#32
  let arg10 : BitVec 32 := Scf.iv c0_i32_97 c1_i32_99 k2_t2
  let c0_i32_101 : BitVec 32 := 0#32
  let v61 : BitVec 1 := Scalar.cmpi .sgt arg10 c0_i32_101
  let v62 : BitVec 32 := Scalar.extui v61
  let c0_i32_102 : BitVec 32 := 0#32
  let v63 : BitVec 1 := Scalar.cmpi .slt arg10 c0_i32_102
  let v64 : BitVec 32 := Scalar.extui v63
  let v65 : BitVec 32 := Scalar.subi v62 v64
  let c48_i32 : BitVec 32 := 48#32
  let c0_i32_103 : BitVec 32 := 0#32
  let v66 : BitVec 1 := Scalar.cmpi .sgt c48_i32 c0_i32_103
  let v67 : BitVec 32 := Scalar.extui v66
  let c0_i32_104 : BitVec 32 := 0#32
  let v68 : BitVec 1 := Scalar.cmpi .slt c48_i32 c0_i32_104
  let v69 : BitVec 32 := Scalar.extui v68
  let v70 : BitVec 32 := Scalar.subi v67 v69
  let v71 : BitVec 1 := Scalar.cmpi .ne v65 v70
  let v72 : BitVec 32 := Scalar.remsi arg10 c48_i32
  let c0_i32_105 : BitVec 32 := 0#32
  let v73 : BitVec 1 := Scalar.cmpi .ne v72 c0_i32_105
  let v74 : BitVec 1 := Scalar.andi v71 v73
  let v60 : BitVec 32 := Scalar.divsi arg10 c48_i32
  let c1_i32_106 : BitVec 32 := 1#32
  let v75 : BitVec 32 := Scalar.subi v60 c1_i32_106
  let v76 : BitVec 32 := Scalar.select v74 v75 v60
  let v88 : Index := Scalar.indexCast v76
  let c48_i32_107 : BitVec 32 := 48#32
  let c0_i32_108 : BitVec 32 := 0#32
  let v77 : BitVec 1 := Scalar.cmpi .eq c48_i32_107 c0_i32_108
  let c1_i32_109 : BitVec 32 := 1#32
  let v78 : BitVec 32 := Scalar.select v77 c1_i32_109 c48_i32_107
  let v79 : BitVec 32 := Scalar.remsi arg10 v78
  let c0_i32_111 : BitVec 32 := 0#32
  let v81 : BitVec 1 := Scalar.cmpi .slt v79 c0_i32_111
  let c0_i32_112 : BitVec 32 := 0#32
  let v82 : BitVec 1 := Scalar.cmpi .slt v78 c0_i32_112
  let v83 : BitVec 1 := Scalar.xori v81 v82
  let c0_i32_110 : BitVec 32 := 0#32
  let v80 : BitVec 1 := Scalar.cmpi .ne v79 c0_i32_110
  let v84 : BitVec 1 := Scalar.andi v83 v80
  let v85 : BitVec 32 := Scalar.addi v79 v78
  let v86 : BitVec 32 := Scalar.select v84 v85 v79
  let c16_i32 : BitVec 32 := 16#32
  let v87 : BitVec 32 := Scalar.muli v86 c16_i32
  let v89 : Index := Scalar.indexCast v87
  ![v88.toNat, v89.toNat]
def k2_off8 (k2_t2 : Fin k2_t2_loop.trips) : Fin 2 → Nat :=
  let c0_i32_97 : BitVec 32 := 0#32
  let c1_i32_99 : BitVec 32 := 1#32
  let arg10 : BitVec 32 := Scf.iv c0_i32_97 c1_i32_99 k2_t2
  let c0_i32_101 : BitVec 32 := 0#32
  let v61 : BitVec 1 := Scalar.cmpi .sgt arg10 c0_i32_101
  let v62 : BitVec 32 := Scalar.extui v61
  let c0_i32_102 : BitVec 32 := 0#32
  let v63 : BitVec 1 := Scalar.cmpi .slt arg10 c0_i32_102
  let v64 : BitVec 32 := Scalar.extui v63
  let v65 : BitVec 32 := Scalar.subi v62 v64
  let c48_i32 : BitVec 32 := 48#32
  let c0_i32_103 : BitVec 32 := 0#32
  let v66 : BitVec 1 := Scalar.cmpi .sgt c48_i32 c0_i32_103
  let v67 : BitVec 32 := Scalar.extui v66
  let c0_i32_104 : BitVec 32 := 0#32
  let v68 : BitVec 1 := Scalar.cmpi .slt c48_i32 c0_i32_104
  let v69 : BitVec 32 := Scalar.extui v68
  let v70 : BitVec 32 := Scalar.subi v67 v69
  let v71 : BitVec 1 := Scalar.cmpi .ne v65 v70
  let v72 : BitVec 32 := Scalar.remsi arg10 c48_i32
  let c0_i32_105 : BitVec 32 := 0#32
  let v73 : BitVec 1 := Scalar.cmpi .ne v72 c0_i32_105
  let v74 : BitVec 1 := Scalar.andi v71 v73
  let v60 : BitVec 32 := Scalar.divsi arg10 c48_i32
  let c1_i32_106 : BitVec 32 := 1#32
  let v75 : BitVec 32 := Scalar.subi v60 c1_i32_106
  let v76 : BitVec 32 := Scalar.select v74 v75 v60
  let v92 : Index := Scalar.indexCast v76
  let c48_i32_107 : BitVec 32 := 48#32
  let c0_i32_108 : BitVec 32 := 0#32
  let v77 : BitVec 1 := Scalar.cmpi .eq c48_i32_107 c0_i32_108
  let c1_i32_109 : BitVec 32 := 1#32
  let v78 : BitVec 32 := Scalar.select v77 c1_i32_109 c48_i32_107
  let v79 : BitVec 32 := Scalar.remsi arg10 v78
  let c0_i32_111 : BitVec 32 := 0#32
  let v81 : BitVec 1 := Scalar.cmpi .slt v79 c0_i32_111
  let c0_i32_112 : BitVec 32 := 0#32
  let v82 : BitVec 1 := Scalar.cmpi .slt v78 c0_i32_112
  let v83 : BitVec 1 := Scalar.xori v81 v82
  let c0_i32_110 : BitVec 32 := 0#32
  let v80 : BitVec 1 := Scalar.cmpi .ne v79 c0_i32_110
  let v84 : BitVec 1 := Scalar.andi v83 v80
  let v85 : BitVec 32 := Scalar.addi v79 v78
  let v86 : BitVec 32 := Scalar.select v84 v85 v79
  let c16_i32 : BitVec 32 := 16#32
  let v87 : BitVec 32 := Scalar.muli v86 c16_i32
  let v93 : Index := Scalar.indexCast v87
  ![v92.toNat, v93.toNat]
def k2_off9 (k2_t2 : Fin k2_t2_loop.trips) : Fin 2 → Nat :=
  let c0_i32_97 : BitVec 32 := 0#32
  let c1_i32_99 : BitVec 32 := 1#32
  let arg10 : BitVec 32 := Scf.iv c0_i32_97 c1_i32_99 k2_t2
  let c0_i32_101 : BitVec 32 := 0#32
  let v61 : BitVec 1 := Scalar.cmpi .sgt arg10 c0_i32_101
  let v62 : BitVec 32 := Scalar.extui v61
  let c0_i32_102 : BitVec 32 := 0#32
  let v63 : BitVec 1 := Scalar.cmpi .slt arg10 c0_i32_102
  let v64 : BitVec 32 := Scalar.extui v63
  let v65 : BitVec 32 := Scalar.subi v62 v64
  let c48_i32 : BitVec 32 := 48#32
  let c0_i32_103 : BitVec 32 := 0#32
  let v66 : BitVec 1 := Scalar.cmpi .sgt c48_i32 c0_i32_103
  let v67 : BitVec 32 := Scalar.extui v66
  let c0_i32_104 : BitVec 32 := 0#32
  let v68 : BitVec 1 := Scalar.cmpi .slt c48_i32 c0_i32_104
  let v69 : BitVec 32 := Scalar.extui v68
  let v70 : BitVec 32 := Scalar.subi v67 v69
  let v71 : BitVec 1 := Scalar.cmpi .ne v65 v70
  let v72 : BitVec 32 := Scalar.remsi arg10 c48_i32
  let c0_i32_105 : BitVec 32 := 0#32
  let v73 : BitVec 1 := Scalar.cmpi .ne v72 c0_i32_105
  let v74 : BitVec 1 := Scalar.andi v71 v73
  let v60 : BitVec 32 := Scalar.divsi arg10 c48_i32
  let c1_i32_106 : BitVec 32 := 1#32
  let v75 : BitVec 32 := Scalar.subi v60 c1_i32_106
  let v76 : BitVec 32 := Scalar.select v74 v75 v60
  let c32_i32_113 : BitVec 32 := 32#32
  let v97 : BitVec 32 := Scalar.addi v76 c32_i32_113
  let v98 : Index := Scalar.indexCast v97
  let c48_i32_107 : BitVec 32 := 48#32
  let c0_i32_108 : BitVec 32 := 0#32
  let v77 : BitVec 1 := Scalar.cmpi .eq c48_i32_107 c0_i32_108
  let c1_i32_109 : BitVec 32 := 1#32
  let v78 : BitVec 32 := Scalar.select v77 c1_i32_109 c48_i32_107
  let v79 : BitVec 32 := Scalar.remsi arg10 v78
  let c0_i32_111 : BitVec 32 := 0#32
  let v81 : BitVec 1 := Scalar.cmpi .slt v79 c0_i32_111
  let c0_i32_112 : BitVec 32 := 0#32
  let v82 : BitVec 1 := Scalar.cmpi .slt v78 c0_i32_112
  let v83 : BitVec 1 := Scalar.xori v81 v82
  let c0_i32_110 : BitVec 32 := 0#32
  let v80 : BitVec 1 := Scalar.cmpi .ne v79 c0_i32_110
  let v84 : BitVec 1 := Scalar.andi v83 v80
  let v85 : BitVec 32 := Scalar.addi v79 v78
  let v86 : BitVec 32 := Scalar.select v84 v85 v79
  let c16_i32 : BitVec 32 := 16#32
  let v87 : BitVec 32 := Scalar.muli v86 c16_i32
  let v99 : Index := Scalar.indexCast v87
  ![v98.toNat, v99.toNat]
abbrev scKind : Fin 2 → Kind := fun | 0 => .scVector | 1 => .scVector | ⟨_ + 2, h⟩ => absurd h (Nat.not_lt.2 (Nat.le_add_left _ _))
abbrev scNCore : Fin 2 → Nat := fun | 0 => 2 | 1 => 2 | ⟨_ + 2, h⟩ => absurd h (Nat.not_lt.2 (Nat.le_add_left _ _))
abbrev scNSub : Fin 2 → Nat := fun | 0 => 16 | 1 => 16 | ⟨_ + 2, h⟩ => absurd h (Nat.not_lt.2 (Nat.le_add_left _ _))
-- ==== ReferenceIdeal.lean ====
abbrev S1x2048x768 : Shape := ⟨3, ![1, 2048, 768]⟩
abbrev S4096x1 : Shape := ⟨2, ![4096, 1]⟩
abbrev S5120x1 : Shape := ⟨2, ![5120, 1]⟩
abbrev S128x1 : Shape := ⟨2, ![128, 1]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S2048x768 : Shape := ⟨2, ![2048, 768]⟩
abbrev S5120 : Shape := ⟨1, ![5120]⟩
abbrev S5120x768 : Shape := ⟨2, ![5120, 768]⟩
abbrev S128 : Shape := ⟨1, ![128]⟩
abbrev S40 : Shape := ⟨1, ![40]⟩
abbrev S40x128 : Shape := ⟨2, ![40, 128]⟩
abbrev S_ : Shape := ⟨0, ![]⟩
abbrev S1x768x3072 : Shape := ⟨3, ![1, 768, 3072]⟩
abbrev S768x3072 : Shape := ⟨2, ![768, 3072]⟩
abbrev S5120x3072 : Shape := ⟨2, ![5120, 3072]⟩
abbrev S1x3072 : Shape := ⟨2, ![1, 3072]⟩
abbrev S3072 : Shape := ⟨1, ![3072]⟩
abbrev S1x3072x768 : Shape := ⟨3, ![1, 3072, 768]⟩
abbrev S3072x768 : Shape := ⟨2, ![3072, 768]⟩
abbrev S1x768 : Shape := ⟨2, ![1, 768]⟩
abbrev S768 : Shape := ⟨1, ![768]⟩
abbrev S2x2048 : Shape := ⟨2, ![2, 2048]⟩
abbrev S1x2048 : Shape := ⟨2, ![1, 2048]⟩
abbrev S2048 : Shape := ⟨1, ![2048]⟩
abbrev S2048x1 : Shape := ⟨2, ![2048, 1]⟩

abbrev nBuf : Space → Nat
  | .hbm => 352
  | .vmem => 0
  | .smem => 0
  | _ => 0

abbrev hbmTy0_0 (i : Nat) : BufTy := match i % 128 with
  | 0 => ⟨S1x2048x768, .f32⟩
  | 1 => ⟨S4096x1, .i32⟩
  | 2 => ⟨S5120x1, .i32⟩
  | 3 => ⟨S5120x1, .f32⟩
  | 4 => ⟨S128x1, .i32⟩
  | 5 => ⟨S8x768x3072, .f32⟩
  | 6 => ⟨S8x3072, .f32⟩
  | 7 => ⟨S8x3072x768, .f32⟩
  | 8 => ⟨S8x768, .f32⟩
  | 9 => ⟨S2048x768, .f32⟩
  | 10 => ⟨S5120, .i32⟩
  | 11 => ⟨S5120x1, .i32⟩
  | 12 => ⟨S5120x768, .f32⟩
  | 13 => ⟨S128, .i32⟩
  | 14 => ⟨S40, .i32⟩
  | 15 => ⟨S40x128, .i32⟩
  | 16 => ⟨S5120, .i32⟩
  | 17 => ⟨S5120x1, .i32⟩
  | 18 => ⟨S_, .f32⟩
  | 19 => ⟨S5120x768, .f32⟩
  | 20 => ⟨S1x768x3072, .f32⟩
  | 21 => ⟨S768x3072, .f32⟩
  | 22 => ⟨S5120x3072, .f32⟩
  | 23 => ⟨S1x3072, .f32⟩
  | 24 => ⟨S3072, .f32⟩
  | 25 => ⟨S1x3072, .f32⟩
  | 26 => ⟨S5120x3072, .f32⟩
  | 27 => ⟨S5120x3072, .f32⟩
  | 28 => ⟨S5120x3072, .f32⟩
  | 29 => ⟨S5120x3072, .f32⟩
  | 30 => ⟨S_, .f32⟩
  | 31 => ⟨S5120x3072, .f32⟩
  | 32 => ⟨S5120x3072, .f32⟩
  | 33 => ⟨S5120x3072, .f32⟩
  | 34 => ⟨S_, .f32⟩
  | 35 => ⟨S5120x3072, .f32⟩
  | 36 => ⟨S5120x3072, .f32⟩
  | 37 => ⟨S5120x3072, .f32⟩
  | 38 => ⟨S_, .f32⟩
  | 39 => ⟨S5120x3072, .f32⟩
  | 40 => ⟨S5120x3072, .f32⟩
  | 41 => ⟨S_, .f32⟩
  | 42 => ⟨S5120x3072, .f32⟩
  | 43 => ⟨S5120x3072, .f32⟩
  | 44 => ⟨S5120x3072, .f32⟩
  | 45 => ⟨S1x3072x768, .f32⟩
  | 46 => ⟨S3072x768, .f32⟩
  | 47 => ⟨S5120x768, .f32⟩
  | 48 => ⟨S1x768, .f32⟩
  | 49 => ⟨S768, .f32⟩
  | 50 => ⟨S1x768, .f32⟩
  | 51 => ⟨S5120x768, .f32⟩
  | 52 => ⟨S5120x768, .f32⟩
  | 53 => ⟨S_, .i32⟩
  | 54 => ⟨S5120x1, .i32⟩
  | 55 => ⟨S5120x1, .i1⟩
  | 56 => ⟨S5120x768, .f32⟩
  | 57 => ⟨S5120x768, .f32⟩
  | 58 => ⟨S5120x768, .i1⟩
  | 59 => ⟨S5120x768, .f32⟩
  | 60 => ⟨S1x768x3072, .f32⟩
  | 61 => ⟨S768x3072, .f32⟩
  | 62 => ⟨S5120x3072, .f32⟩
  | 63 => ⟨S1x3072, .f32⟩
  | 64 => ⟨S3072, .f32⟩
  | 65 => ⟨S1x3072, .f32⟩
  | 66 => ⟨S5120x3072, .f32⟩
  | 67 => ⟨S5120x3072, .f32⟩
  | 68 => ⟨S5120x3072, .f32⟩
  | 69 => ⟨S5120x3072, .f32⟩
  | 70 => ⟨S_, .f32⟩
  | 71 => ⟨S5120x3072, .f32⟩
  | 72 => ⟨S5120x3072, .f32⟩
  | 73 => ⟨S5120x3072, .f32⟩
  | 74 => ⟨S_, .f32⟩
  | 75 => ⟨S5120x3072, .f32⟩
  | 76 => ⟨S5120x3072, .f32⟩
  | 77 => ⟨S5120x3072, .f32⟩
  | 78 => ⟨S_, .f32⟩
  | 79 => ⟨S5120x3072, .f32⟩
  | 80 => ⟨S5120x3072, .f32⟩
  | 81 => ⟨S_, .f32⟩
  | 82 => ⟨S5120x3072, .f32⟩
  | 83 => ⟨S5120x3072, .f32⟩
  | 84 => ⟨S5120x3072, .f32⟩
  | 85 => ⟨S1x3072x768, .f32⟩
  | 86 => ⟨S3072x768, .f32⟩
  | 87 => ⟨S5120x768, .f32⟩
  | 88 => ⟨S1x768, .f32⟩
  | 89 => ⟨S768, .f32⟩
  | 90 => ⟨S1x768, .f32⟩
  | 91 => ⟨S5120x768, .f32⟩
  | 92 => ⟨S5120x768, .f32⟩
  | 93 => ⟨S_, .i32⟩
  | 94 => ⟨S5120x1, .i32⟩
  | 95 => ⟨S5120x1, .i1⟩
  | 96 => ⟨S5120x768, .f32⟩
  | 97 => ⟨S5120x768, .f32⟩
  | 98 => ⟨S5120x768, .i1⟩
  | 99 => ⟨S5120x768, .f32⟩
  | 100 => ⟨S1x768x3072, .f32⟩
  | 101 => ⟨S768x3072, .f32⟩
  | 102 => ⟨S5120x3072, .f32⟩
  | 103 => ⟨S1x3072, .f32⟩
  | 104 => ⟨S3072, .f32⟩
  | 105 => ⟨S1x3072, .f32⟩
  | 106 => ⟨S5120x3072, .f32⟩
  | 107 => ⟨S5120x3072, .f32⟩
  | 108 => ⟨S5120x3072, .f32⟩
  | 109 => ⟨S5120x3072, .f32⟩
  | 110 => ⟨S_, .f32⟩
  | 111 => ⟨S5120x3072, .f32⟩
  | 112 => ⟨S5120x3072, .f32⟩
  | 113 => ⟨S5120x3072, .f32⟩
  | 114 => ⟨S_, .f32⟩
  | 115 => ⟨S5120x3072, .f32⟩
  | 116 => ⟨S5120x3072, .f32⟩
  | 117 => ⟨S5120x3072, .f32⟩
  | 118 => ⟨S_, .f32⟩
  | 119 => ⟨S5120x3072, .f32⟩
  | 120 => ⟨S5120x3072, .f32⟩
  | 121 => ⟨S_, .f32⟩
  | 122 => ⟨S5120x3072, .f32⟩
  | 123 => ⟨S5120x3072, .f32⟩
  | 124 => ⟨S5120x3072, .f32⟩
  | 125 => ⟨S1x3072x768, .f32⟩
  | 126 => ⟨S3072x768, .f32⟩
  | 127 => ⟨S5120x768, .f32⟩
  | _ => ⟨S1x2048x768, .f32⟩

abbrev hbmTy0_1 (i : Nat) : BufTy := match i % 128 with
  | 0 => ⟨S1x768, .f32⟩
  | 1 => ⟨S768, .f32⟩
  | 2 => ⟨S1x768, .f32⟩
  | 3 => ⟨S5120x768, .f32⟩
  | 4 => ⟨S5120x768, .f32⟩
  | 5 => ⟨S_, .i32⟩
  | 6 => ⟨S5120x1, .i32⟩
  | 7 => ⟨S5120x1, .i1⟩
  | 8 => ⟨S5120x768, .f32⟩
  | 9 => ⟨S5120x768, .f32⟩
  | 10 => ⟨S5120x768, .i1⟩
  | 11 => ⟨S5120x768, .f32⟩
  | 12 => ⟨S1x768x3072, .f32⟩
  | 13 => ⟨S768x3072, .f32⟩
  | 14 => ⟨S5120x3072, .f32⟩
  | 15 => ⟨S1x3072, .f32⟩
  | 16 => ⟨S3072, .f32⟩
  | 17 => ⟨S1x3072, .f32⟩
  | 18 => ⟨S5120x3072, .f32⟩
  | 19 => ⟨S5120x3072, .f32⟩
  | 20 => ⟨S5120x3072, .f32⟩
  | 21 => ⟨S5120x3072, .f32⟩
  | 22 => ⟨S_, .f32⟩
  | 23 => ⟨S5120x3072, .f32⟩
  | 24 => ⟨S5120x3072, .f32⟩
  | 25 => ⟨S5120x3072, .f32⟩
  | 26 => ⟨S_, .f32⟩
  | 27 => ⟨S5120x3072, .f32⟩
  | 28 => ⟨S5120x3072, .f32⟩
  | 29 => ⟨S5120x3072, .f32⟩
  | 30 => ⟨S_, .f32⟩
  | 31 => ⟨S5120x3072, .f32⟩
  | 32 => ⟨S5120x3072, .f32⟩
  | 33 => ⟨S_, .f32⟩
  | 34 => ⟨S5120x3072, .f32⟩
  | 35 => ⟨S5120x3072, .f32⟩
  | 36 => ⟨S5120x3072, .f32⟩
  | 37 => ⟨S1x3072x768, .f32⟩
  | 38 => ⟨S3072x768, .f32⟩
  | 39 => ⟨S5120x768, .f32⟩
  | 40 => ⟨S1x768, .f32⟩
  | 41 => ⟨S768, .f32⟩
  | 42 => ⟨S1x768, .f32⟩
  | 43 => ⟨S5120x768, .f32⟩
  | 44 => ⟨S5120x768, .f32⟩
  | 45 => ⟨S_, .i32⟩
  | 46 => ⟨S5120x1, .i32⟩
  | 47 => ⟨S5120x1, .i1⟩
  | 48 => ⟨S5120x768, .f32⟩
  | 49 => ⟨S5120x768, .f32⟩
  | 50 => ⟨S5120x768, .i1⟩
  | 51 => ⟨S5120x768, .f32⟩
  | 52 => ⟨S1x768x3072, .f32⟩
  | 53 => ⟨S768x3072, .f32⟩
  | 54 => ⟨S5120x3072, .f32⟩
  | 55 => ⟨S1x3072, .f32⟩
  | 56 => ⟨S3072, .f32⟩
  | 57 => ⟨S1x3072, .f32⟩
  | 58 => ⟨S5120x3072, .f32⟩
  | 59 => ⟨S5120x3072, .f32⟩
  | 60 => ⟨S5120x3072, .f32⟩
  | 61 => ⟨S5120x3072, .f32⟩
  | 62 => ⟨S_, .f32⟩
  | 63 => ⟨S5120x3072, .f32⟩
  | 64 => ⟨S5120x3072, .f32⟩
  | 65 => ⟨S5120x3072, .f32⟩
  | 66 => ⟨S_, .f32⟩
  | 67 => ⟨S5120x3072, .f32⟩
  | 68 => ⟨S5120x3072, .f32⟩
  | 69 => ⟨S5120x3072, .f32⟩
  | 70 => ⟨S_, .f32⟩
  | 71 => ⟨S5120x3072, .f32⟩
  | 72 => ⟨S5120x3072, .f32⟩
  | 73 => ⟨S_, .f32⟩
  | 74 => ⟨S5120x3072, .f32⟩
  | 75 => ⟨S5120x3072, .f32⟩
  | 76 => ⟨S5120x3072, .f32⟩
  | 77 => ⟨S1x3072x768, .f32⟩
  | 78 => ⟨S3072x768, .f32⟩
  | 79 => ⟨S5120x768, .f32⟩
  | 80 => ⟨S1x768, .f32⟩
  | 81 => ⟨S768, .f32⟩
  | 82 => ⟨S1x768, .f32⟩
  | 83 => ⟨S5120x768, .f32⟩
  | 84 => ⟨S5120x768, .f32⟩
  | 85 => ⟨S_, .i32⟩
  | 86 => ⟨S5120x1, .i32⟩
  | 87 => ⟨S5120x1, .i1⟩
  | 88 => ⟨S5120x768, .f32⟩
  | 89 => ⟨S5120x768, .f32⟩
  | 90 => ⟨S5120x768, .i1⟩
  | 91 => ⟨S5120x768, .f32⟩
  | 92 => ⟨S1x768x3072, .f32⟩
  | 93 => ⟨S768x3072, .f32⟩
  | 94 => ⟨S5120x3072, .f32⟩
  | 95 => ⟨S1x3072, .f32⟩
  | 96 => ⟨S3072, .f32⟩
  | 97 => ⟨S1x3072, .f32⟩
  | 98 => ⟨S5120x3072, .f32⟩
  | 99 => ⟨S5120x3072, .f32⟩
  | 100 => ⟨S5120x3072, .f32⟩
  | 101 => ⟨S5120x3072, .f32⟩
  | 102 => ⟨S_, .f32⟩
  | 103 => ⟨S5120x3072, .f32⟩
  | 104 => ⟨S5120x3072, .f32⟩
  | 105 => ⟨S5120x3072, .f32⟩
  | 106 => ⟨S_, .f32⟩
  | 107 => ⟨S5120x3072, .f32⟩
  | 108 => ⟨S5120x3072, .f32⟩
  | 109 => ⟨S5120x3072, .f32⟩
  | 110 => ⟨S_, .f32⟩
  | 111 => ⟨S5120x3072, .f32⟩
  | 112 => ⟨S5120x3072, .f32⟩
  | 113 => ⟨S_, .f32⟩
  | 114 => ⟨S5120x3072, .f32⟩
  | 115 => ⟨S5120x3072, .f32⟩
  | 116 => ⟨S5120x3072, .f32⟩
  | 117 => ⟨S1x3072x768, .f32⟩
  | 118 => ⟨S3072x768, .f32⟩
  | 119 => ⟨S5120x768, .f32⟩
  | 120 => ⟨S1x768, .f32⟩
  | 121 => ⟨S768, .f32⟩
  | 122 => ⟨S1x768, .f32⟩
  | 123 => ⟨S5120x768, .f32⟩
  | 124 => ⟨S5120x768, .f32⟩
  | 125 => ⟨S_, .i32⟩
  | 126 => ⟨S5120x1, .i32⟩
  | 127 => ⟨S5120x1, .i1⟩
  | _ => ⟨S1x2048x768, .f32⟩

abbrev hbmTy0_2 (i : Nat) : BufTy := match i % 128 with
  | 0 => ⟨S5120x768, .f32⟩
  | 1 => ⟨S5120x768, .f32⟩
  | 2 => ⟨S5120x768, .i1⟩
  | 3 => ⟨S5120x768, .f32⟩
  | 4 => ⟨S1x768x3072, .f32⟩
  | 5 => ⟨S768x3072, .f32⟩
  | 6 => ⟨S5120x3072, .f32⟩
  | 7 => ⟨S1x3072, .f32⟩
  | 8 => ⟨S3072, .f32⟩
  | 9 => ⟨S1x3072, .f32⟩
  | 10 => ⟨S5120x3072, .f32⟩
  | 11 => ⟨S5120x3072, .f32⟩
  | 12 => ⟨S5120x3072, .f32⟩
  | 13 => ⟨S5120x3072, .f32⟩
  | 14 => ⟨S_, .f32⟩
  | 15 => ⟨S5120x3072, .f32⟩
  | 16 => ⟨S5120x3072, .f32⟩
  | 17 => ⟨S5120x3072, .f32⟩
  | 18 => ⟨S_, .f32⟩
  | 19 => ⟨S5120x3072, .f32⟩
  | 20 => ⟨S5120x3072, .f32⟩
  | 21 => ⟨S5120x3072, .f32⟩
  | 22 => ⟨S_, .f32⟩
  | 23 => ⟨S5120x3072, .f32⟩
  | 24 => ⟨S5120x3072, .f32⟩
  | 25 => ⟨S_, .f32⟩
  | 26 => ⟨S5120x3072, .f32⟩
  | 27 => ⟨S5120x3072, .f32⟩
  | 28 => ⟨S5120x3072, .f32⟩
  | 29 => ⟨S1x3072x768, .f32⟩
  | 30 => ⟨S3072x768, .f32⟩
  | 31 => ⟨S5120x768, .f32⟩
  | 32 => ⟨S1x768, .f32⟩
  | 33 => ⟨S768, .f32⟩
  | 34 => ⟨S1x768, .f32⟩
  | 35 => ⟨S5120x768, .f32⟩
  | 36 => ⟨S5120x768, .f32⟩
  | 37 => ⟨S_, .i32⟩
  | 38 => ⟨S5120x1, .i32⟩
  | 39 => ⟨S5120x1, .i1⟩
  | 40 => ⟨S5120x768, .f32⟩
  | 41 => ⟨S5120x768, .f32⟩
  | 42 => ⟨S5120x768, .i1⟩
  | 43 => ⟨S5120x768, .f32⟩
  | 44 => ⟨S1x768x3072, .f32⟩
  | 45 => ⟨S768x3072, .f32⟩
  | 46 => ⟨S5120x3072, .f32⟩
  | 47 => ⟨S1x3072, .f32⟩
  | 48 => ⟨S3072, .f32⟩
  | 49 => ⟨S1x3072, .f32⟩
  | 50 => ⟨S5120x3072, .f32⟩
  | 51 => ⟨S5120x3072, .f32⟩
  | 52 => ⟨S5120x3072, .f32⟩
  | 53 => ⟨S5120x3072, .f32⟩
  | 54 => ⟨S_, .f32⟩
  | 55 => ⟨S5120x3072, .f32⟩
  | 56 => ⟨S5120x3072, .f32⟩
  | 57 => ⟨S5120x3072, .f32⟩
  | 58 => ⟨S_, .f32⟩
  | 59 => ⟨S5120x3072, .f32⟩
  | 60 => ⟨S5120x3072, .f32⟩
  | 61 => ⟨S5120x3072, .f32⟩
  | 62 => ⟨S_, .f32⟩
  | 63 => ⟨S5120x3072, .f32⟩
  | 64 => ⟨S5120x3072, .f32⟩
  | 65 => ⟨S_, .f32⟩
  | 66 => ⟨S5120x3072, .f32⟩
  | 67 => ⟨S5120x3072, .f32⟩
  | 68 => ⟨S5120x3072, .f32⟩
  | 69 => ⟨S1x3072x768, .f32⟩
  | 70 => ⟨S3072x768, .f32⟩
  | 71 => ⟨S5120x768, .f32⟩
  | 72 => ⟨S1x768, .f32⟩
  | 73 => ⟨S768, .f32⟩
  | 74 => ⟨S1x768, .f32⟩
  | 75 => ⟨S5120x768, .f32⟩
  | 76 => ⟨S5120x768, .f32⟩
  | 77 => ⟨S_, .i32⟩
  | 78 => ⟨S5120x1, .i32⟩
  | 79 => ⟨S5120x1, .i1⟩
  | 80 => ⟨S5120x768, .f32⟩
  | 81 => ⟨S5120x768, .f32⟩
  | 82 => ⟨S5120x768, .i1⟩
  | 83 => ⟨S5120x768, .f32⟩
  | 84 => ⟨S2x2048, .i32⟩
  | 85 => ⟨S1x2048, .i32⟩
  | 86 => ⟨S2048, .i32⟩
  | 87 => ⟨S2048x1, .i32⟩
  | 88 => ⟨S2048x768, .f32⟩
  | 89 => ⟨S2048x768, .f32⟩
  | 90 => ⟨S1x2048, .i32⟩
  | 91 => ⟨S2048, .i32⟩
  | 92 => ⟨S2048x1, .i32⟩
  | 93 => ⟨S2048x768, .f32⟩
  | 94 => ⟨S2048x768, .f32⟩
  | 95 => ⟨S1x2048x768, .f32⟩
  | _ => ⟨S1x2048x768, .f32⟩

abbrev hbmTy (i : Nat) : BufTy := match i / 128 with
  | 0 => hbmTy0_0 i
  | 1 => hbmTy0_1 i
  | 2 => hbmTy0_2 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_0 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_1 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_2 : Ref sig .tc := ⟨.hbm, 38, rfl⟩
abbrev main_v25 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_c : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_call1_v0 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_4 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_cst_5 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_6 : Ref sig .tc := ⟨.hbm, 78, rfl⟩
abbrev main_v59 : Ref sig .tc := ⟨.hbm, 79, rfl⟩
abbrev main_v60 : Ref sig .tc := ⟨.hbm, 80, rfl⟩
abbrev main_cst_7 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_c_8 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_call2_v0 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_cst_9 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩
abbrev main_cst_10 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_cst_11 : Ref sig .tc := ⟨.hbm, 118, rfl⟩
abbrev main_v93 : Ref sig .tc := ⟨.hbm, 119, rfl⟩
abbrev main_v94 : Ref sig .tc := ⟨.hbm, 120, rfl⟩
abbrev main_cst_12 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_v103 : Ref sig .tc := ⟨.hbm, 130, rfl⟩
abbrev main_v104 : Ref sig .tc := ⟨.hbm, 131, rfl⟩
abbrev main_v105 : Ref sig .tc := ⟨.hbm, 132, rfl⟩
abbrev main_c_13 : Ref sig .tc := ⟨.hbm, 133, rfl⟩
abbrev main_v106 : Ref sig .tc := ⟨.hbm, 134, rfl⟩
abbrev main_v107 : Ref sig .tc := ⟨.hbm, 135, rfl⟩
abbrev main_v108 : Ref sig .tc := ⟨.hbm, 136, rfl⟩
abbrev main_v109 : Ref sig .tc := ⟨.hbm, 137, rfl⟩
abbrev main_call3_v0 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_cst_14 : Ref sig .tc := ⟨.hbm, 150, rfl⟩
abbrev main_v121 : Ref sig .tc := ⟨.hbm, 151, rfl⟩
abbrev main_v122 : Ref sig .tc := ⟨.hbm, 152, rfl⟩
abbrev main_v123 : Ref sig .tc := ⟨.hbm, 153, rfl⟩
abbrev main_cst_15 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_cst_16 : Ref sig .tc := ⟨.hbm, 158, rfl⟩
abbrev main_v127 : Ref sig .tc := ⟨.hbm, 159, rfl⟩
abbrev main_v128 : Ref sig .tc := ⟨.hbm, 160, rfl⟩
abbrev main_cst_17 : Ref sig .tc := ⟨.hbm, 161, rfl⟩
abbrev main_v129 : Ref sig .tc := ⟨.hbm, 162, rfl⟩
abbrev main_v130 : Ref sig .tc := ⟨.hbm, 163, rfl⟩
abbrev main_v131 : Ref sig .tc := ⟨.hbm, 164, rfl⟩
abbrev main_v132 : Ref sig .tc := ⟨.hbm, 165, rfl⟩
abbrev main_v133 : Ref sig .tc := ⟨.hbm, 166, rfl⟩
abbrev main_v134 : Ref sig .tc := ⟨.hbm, 167, rfl⟩
abbrev main_v135 : Ref sig .tc := ⟨.hbm, 168, rfl⟩
abbrev main_v136 : Ref sig .tc := ⟨.hbm, 169, rfl⟩
abbrev main_v137 : Ref sig .tc := ⟨.hbm, 170, rfl⟩
abbrev main_v138 : Ref sig .tc := ⟨.hbm, 171, rfl⟩
abbrev main_v139 : Ref sig .tc := ⟨.hbm, 172, rfl⟩
abbrev main_c_18 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_call4_v0 : Ref sig .tc := ⟨.hbm, 178, rfl⟩
abbrev main_v144 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_cst_19 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_cst_20 : Ref sig .tc := ⟨.hbm, 194, rfl⟩
abbrev main_v158 : Ref sig .tc := ⟨.hbm, 195, rfl⟩
abbrev main_v159 : Ref sig .tc := ⟨.hbm, 196, rfl⟩
abbrev main_v160 : Ref sig .tc := ⟨.hbm, 197, rfl⟩
abbrev main_cst_21 : Ref sig .tc := ⟨.hbm, 198, rfl⟩
abbrev main_v161 : Ref sig .tc := ⟨.hbm, 199, rfl⟩
abbrev main_v162 : Ref sig .tc := ⟨.hbm, 200, rfl⟩
abbrev main_cst_22 : Ref sig .tc := ⟨.hbm, 201, rfl⟩
abbrev main_v163 : Ref sig .tc := ⟨.hbm, 202, rfl⟩
abbrev main_v164 : Ref sig .tc := ⟨.hbm, 203, rfl⟩
abbrev main_v165 : Ref sig .tc := ⟨.hbm, 204, rfl⟩
abbrev main_v166 : Ref sig .tc := ⟨.hbm, 205, rfl⟩
abbrev main_v167 : Ref sig .tc := ⟨.hbm, 206, rfl⟩
abbrev main_v168 : Ref sig .tc := ⟨.hbm, 207, rfl⟩
abbrev main_v169 : Ref sig .tc := ⟨.hbm, 208, rfl⟩
abbrev main_v170 : Ref sig .tc := ⟨.hbm, 209, rfl⟩
abbrev main_v171 : Ref sig .tc := ⟨.hbm, 210, rfl⟩
abbrev main_v172 : Ref sig .tc := ⟨.hbm, 211, rfl⟩
abbrev main_v173 : Ref sig .tc := ⟨.hbm, 212, rfl⟩
abbrev main_c_23 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_call5_v0 : Ref sig .tc := ⟨.hbm, 218, rfl⟩
abbrev main_v178 : Ref sig .tc := ⟨.hbm, 219, rfl⟩
abbrev main_v179 : Ref sig .tc := ⟨.hbm, 220, rfl⟩
abbrev main_v180 : Ref sig .tc := ⟨.hbm, 221, rfl⟩
abbrev main_v181 : Ref sig .tc := ⟨.hbm, 222, rfl⟩
abbrev main_v182 : Ref sig .tc := ⟨.hbm, 223, rfl⟩
abbrev main_v183 : Ref sig .tc := ⟨.hbm, 224, rfl⟩
abbrev main_v184 : Ref sig .tc := ⟨.hbm, 225, rfl⟩
abbrev main_v185 : Ref sig .tc := ⟨.hbm, 226, rfl⟩
abbrev main_v186 : Ref sig .tc := ⟨.hbm, 227, rfl⟩
abbrev main_v187 : Ref sig .tc := ⟨.hbm, 228, rfl⟩
abbrev main_v188 : Ref sig .tc := ⟨.hbm, 229, rfl⟩
abbrev main_cst_24 : Ref sig .tc := ⟨.hbm, 230, rfl⟩
abbrev main_v189 : Ref sig .tc := ⟨.hbm, 231, rfl⟩
abbrev main_v190 : Ref sig .tc := ⟨.hbm, 232, rfl⟩
abbrev main_v191 : Ref sig .tc := ⟨.hbm, 233, rfl⟩
abbrev main_cst_25 : Ref sig .tc := ⟨.hbm, 234, rfl⟩
abbrev main_v192 : Ref sig .tc := ⟨.hbm, 235, rfl⟩
abbrev main_v193 : Ref sig .tc := ⟨.hbm, 236, rfl⟩
abbrev main_v194 : Ref sig .tc := ⟨.hbm, 237, rfl⟩
abbrev main_cst_26 : Ref sig .tc := ⟨.hbm, 238, rfl⟩
abbrev main_v195 : Ref sig .tc := ⟨.hbm, 239, rfl⟩
abbrev main_v196 : Ref sig .tc := ⟨.hbm, 240, rfl⟩
abbrev main_cst_27 : Ref sig .tc := ⟨.hbm, 241, rfl⟩
abbrev main_v197 : Ref sig .tc := ⟨.hbm, 242, rfl⟩
abbrev main_v198 : Ref sig .tc := ⟨.hbm, 243, rfl⟩
abbrev main_v199 : Ref sig .tc := ⟨.hbm, 244, rfl⟩
abbrev main_v200 : Ref sig .tc := ⟨.hbm, 245, rfl⟩
abbrev main_v201 : Ref sig .tc := ⟨.hbm, 246, rfl⟩
abbrev main_v202 : Ref sig .tc := ⟨.hbm, 247, rfl⟩
abbrev main_v203 : Ref sig .tc := ⟨.hbm, 248, rfl⟩
abbrev main_v204 : Ref sig .tc := ⟨.hbm, 249, rfl⟩
abbrev main_v205 : Ref sig .tc := ⟨.hbm, 250, rfl⟩
abbrev main_v206 : Ref sig .tc := ⟨.hbm, 251, rfl⟩
abbrev main_v207 : Ref sig .tc := ⟨.hbm, 252, rfl⟩
abbrev main_c_28 : Ref sig .tc := ⟨.hbm, 253, rfl⟩
abbrev main_v208 : Ref sig .tc := ⟨.hbm, 254, rfl⟩
abbrev main_v209 : Ref sig .tc := ⟨.hbm, 255, rfl⟩
abbrev main_v210 : Ref sig .tc := ⟨.hbm, 256, rfl⟩
abbrev main_v211 : Ref sig .tc := ⟨.hbm, 257, rfl⟩
abbrev main_call6_v0 : Ref sig .tc := ⟨.hbm, 258, rfl⟩
abbrev main_v212 : Ref sig .tc := ⟨.hbm, 259, rfl⟩
abbrev main_v213 : Ref sig .tc := ⟨.hbm, 260, rfl⟩
abbrev main_v214 : Ref sig .tc := ⟨.hbm, 261, rfl⟩
abbrev main_v215 : Ref sig .tc := ⟨.hbm, 262, rfl⟩
abbrev main_v216 : Ref sig .tc := ⟨.hbm, 263, rfl⟩
abbrev main_v217 : Ref sig .tc := ⟨.hbm, 264, rfl⟩
abbrev main_v218 : Ref sig .tc := ⟨.hbm, 265, rfl⟩
abbrev main_v219 : Ref sig .tc := ⟨.hbm, 266, rfl⟩
abbrev main_v220 : Ref sig .tc := ⟨.hbm, 267, rfl⟩
abbrev main_v221 : Ref sig .tc := ⟨.hbm, 268, rfl⟩
abbrev main_v222 : Ref sig .tc := ⟨.hbm, 269, rfl⟩
abbrev main_cst_29 : Ref sig .tc := ⟨.hbm, 270, rfl⟩
abbrev main_v223 : Ref sig .tc := ⟨.hbm, 271, rfl⟩
abbrev main_v224 : Ref sig .tc := ⟨.hbm, 272, rfl⟩
abbrev main_v225 : Ref sig .tc := ⟨.hbm, 273, rfl⟩
abbrev main_cst_30 : Ref sig .tc := ⟨.hbm, 274, rfl⟩
abbrev main_v226 : Ref sig .tc := ⟨.hbm, 275, rfl⟩
abbrev main_v227 : Ref sig .tc := ⟨.hbm, 276, rfl⟩
abbrev main_v228 : Ref sig .tc := ⟨.hbm, 277, rfl⟩
abbrev main_cst_31 : Ref sig .tc := ⟨.hbm, 278, rfl⟩
abbrev main_v229 : Ref sig .tc := ⟨.hbm, 279, rfl⟩
abbrev main_v230 : Ref sig .tc := ⟨.hbm, 280, rfl⟩
abbrev main_cst_32 : Ref sig .tc := ⟨.hbm, 281, rfl⟩
abbrev main_v231 : Ref sig .tc := ⟨.hbm, 282, rfl⟩
abbrev main_v232 : Ref sig .tc := ⟨.hbm, 283, rfl⟩
abbrev main_v233 : Ref sig .tc := ⟨.hbm, 284, rfl⟩
abbrev main_v234 : Ref sig .tc := ⟨.hbm, 285, rfl⟩
abbrev main_v235 : Ref sig .tc := ⟨.hbm, 286, rfl⟩
abbrev main_v236 : Ref sig .tc := ⟨.hbm, 287, rfl⟩
abbrev main_v237 : Ref sig .tc := ⟨.hbm, 288, rfl⟩
abbrev main_v238 : Ref sig .tc := ⟨.hbm, 289, rfl⟩
abbrev main_v239 : Ref sig .tc := ⟨.hbm, 290, rfl⟩
abbrev main_v240 : Ref sig .tc := ⟨.hbm, 291, rfl⟩
abbrev main_v241 : Ref sig .tc := ⟨.hbm, 292, rfl⟩
abbrev main_c_33 : Ref sig .tc := ⟨.hbm, 293, rfl⟩
abbrev main_v242 : Ref sig .tc := ⟨.hbm, 294, rfl⟩
abbrev main_v243 : Ref sig .tc := ⟨.hbm, 295, rfl⟩
abbrev main_v244 : Ref sig .tc := ⟨.hbm, 296, rfl⟩
abbrev main_v245 : Ref sig .tc := ⟨.hbm, 297, rfl⟩
abbrev main_call7_v0 : Ref sig .tc := ⟨.hbm, 298, rfl⟩
abbrev main_v246 : Ref sig .tc := ⟨.hbm, 299, rfl⟩
abbrev main_v247 : Ref sig .tc := ⟨.hbm, 300, rfl⟩
abbrev main_v248 : Ref sig .tc := ⟨.hbm, 301, rfl⟩
abbrev main_v249 : Ref sig .tc := ⟨.hbm, 302, rfl⟩
abbrev main_v250 : Ref sig .tc := ⟨.hbm, 303, rfl⟩
abbrev main_v251 : Ref sig .tc := ⟨.hbm, 304, rfl⟩
abbrev main_v252 : Ref sig .tc := ⟨.hbm, 305, rfl⟩
abbrev main_v253 : Ref sig .tc := ⟨.hbm, 306, rfl⟩
abbrev main_v254 : Ref sig .tc := ⟨.hbm, 307, rfl⟩
abbrev main_v255 : Ref sig .tc := ⟨.hbm, 308, rfl⟩
abbrev main_v256 : Ref sig .tc := ⟨.hbm, 309, rfl⟩
abbrev main_cst_34 : Ref sig .tc := ⟨.hbm, 310, rfl⟩
abbrev main_v257 : Ref sig .tc := ⟨.hbm, 311, rfl⟩
abbrev main_v258 : Ref sig .tc := ⟨.hbm, 312, rfl⟩
abbrev main_v259 : Ref sig .tc := ⟨.hbm, 313, rfl⟩
abbrev main_cst_35 : Ref sig .tc := ⟨.hbm, 314, rfl⟩
abbrev main_v260 : Ref sig .tc := ⟨.hbm, 315, rfl⟩
abbrev main_v261 : Ref sig .tc := ⟨.hbm, 316, rfl⟩
abbrev main_v262 : Ref sig .tc := ⟨.hbm, 317, rfl⟩
abbrev main_cst_36 : Ref sig .tc := ⟨.hbm, 318, rfl⟩
abbrev main_v263 : Ref sig .tc := ⟨.hbm, 319, rfl⟩
abbrev main_v264 : Ref sig .tc := ⟨.hbm, 320, rfl⟩
abbrev main_cst_37 : Ref sig .tc := ⟨.hbm, 321, rfl⟩
abbrev main_v265 : Ref sig .tc := ⟨.hbm, 322, rfl⟩
abbrev main_v266 : Ref sig .tc := ⟨.hbm, 323, rfl⟩
abbrev main_v267 : Ref sig .tc := ⟨.hbm, 324, rfl⟩
abbrev main_v268 : Ref sig .tc := ⟨.hbm, 325, rfl⟩
abbrev main_v269 : Ref sig .tc := ⟨.hbm, 326, rfl⟩
abbrev main_v270 : Ref sig .tc := ⟨.hbm, 327, rfl⟩
abbrev main_v271 : Ref sig .tc := ⟨.hbm, 328, rfl⟩
abbrev main_v272 : Ref sig .tc := ⟨.hbm, 329, rfl⟩
abbrev main_v273 : Ref sig .tc := ⟨.hbm, 330, rfl⟩
abbrev main_v274 : Ref sig .tc := ⟨.hbm, 331, rfl⟩
abbrev main_v275 : Ref sig .tc := ⟨.hbm, 332, rfl⟩
abbrev main_c_38 : Ref sig .tc := ⟨.hbm, 333, rfl⟩
abbrev main_v276 : Ref sig .tc := ⟨.hbm, 334, rfl⟩
abbrev main_v277 : Ref sig .tc := ⟨.hbm, 335, rfl⟩
abbrev main_v278 : Ref sig .tc := ⟨.hbm, 336, rfl⟩
abbrev main_v279 : Ref sig .tc := ⟨.hbm, 337, rfl⟩
abbrev main_call8_v0 : Ref sig .tc := ⟨.hbm, 338, rfl⟩
abbrev main_v280 : Ref sig .tc := ⟨.hbm, 339, rfl⟩
abbrev main_v281 : Ref sig .tc := ⟨.hbm, 340, rfl⟩
abbrev main_v282 : Ref sig .tc := ⟨.hbm, 341, rfl⟩
abbrev main_v283 : Ref sig .tc := ⟨.hbm, 342, rfl⟩
abbrev main_call9_v0 : Ref sig .tc := ⟨.hbm, 343, rfl⟩
abbrev main_v284 : Ref sig .tc := ⟨.hbm, 344, rfl⟩
abbrev main_v285 : Ref sig .tc := ⟨.hbm, 345, rfl⟩
abbrev main_v286 : Ref sig .tc := ⟨.hbm, 346, rfl⟩
abbrev main_v287 : Ref sig .tc := ⟨.hbm, 347, rfl⟩
abbrev main_call10_v0 : Ref sig .tc := ⟨.hbm, 348, rfl⟩
abbrev main_v288 : Ref sig .tc := ⟨.hbm, 349, rfl⟩
abbrev main_v289 : Ref sig .tc := ⟨.hbm, 350, rfl⟩
abbrev main_v290 : Ref sig .tc := ⟨.hbm, 351, rfl⟩

abbrev nD : Nat := 1
abbrev τ : Topo := Topo.v7x

variable {F : FTy → Type} [FloatOps F]
-- ==== Router.lean ====
abbrev S1x2048x768 : Shape := ⟨3, ![1, 2048, 768]⟩
abbrev S768x8 : Shape := ⟨2, ![768, 8]⟩
abbrev S8 : Shape := ⟨1, ![8]⟩
abbrev S2048x768 : Shape := ⟨2, ![2048, 768]⟩
abbrev S_ : Shape := ⟨0, ![]⟩
abbrev S768x128 : Shape := ⟨2, ![768, 128]⟩
abbrev S1 : Shape := ⟨1, ![1]⟩
abbrev S1x128 : Shape := ⟨2, ![1, 128]⟩
abbrev S2 : Shape := ⟨1, ![2]⟩
abbrev S4096x1 : Shape := ⟨2, ![4096, 1]⟩
abbrev S5120x1 : Shape := ⟨2, ![5120, 1]⟩
abbrev S128x1 : Shape := ⟨2, ![128, 1]⟩
abbrev S1x1 : Shape := ⟨2, ![1, 1]⟩
abbrev S2048x128 : Shape := ⟨2, ![2048, 128]⟩
abbrev S2048 : Shape := ⟨1, ![2048]⟩
abbrev S2048x1 : Shape := ⟨2, ![2048, 1]⟩
abbrev S4096x128 : Shape := ⟨2, ![4096, 128]⟩
abbrev S128 : Shape := ⟨1, ![128]⟩
abbrev S1x1x128 : Shape := ⟨3, ![1, 1, 128]⟩
abbrev S1x1x1 : Shape := ⟨3, ![1, 1, 1]⟩
abbrev S128x128 : Shape := ⟨2, ![128, 128]⟩
abbrev S32x32 : Shape := ⟨2, ![32, 32]⟩
abbrev S32x128 : Shape := ⟨2, ![32, 128]⟩
abbrev S4096 : Shape := ⟨1, ![4096]⟩
abbrev S4096x3 : Shape := ⟨2, ![4096, 3]⟩
abbrev S128x3 : Shape := ⟨2, ![128, 3]⟩

abbrev nBuf : Space → Nat
  | .hbm => 22
  | .vmem => 8
  | .smem => 0
  | _ => 0

abbrev bufTy : (tb : Table) → Fin (tcTables nBuf tb) → BufTy
  | .hbm, ⟨0, _⟩ => ⟨S1x2048x768, .f32⟩
  | .hbm, ⟨1, _⟩ => ⟨S768x8, .f32⟩
  | .hbm, ⟨2, _⟩ => ⟨S8, .f32⟩
  | .hbm, ⟨3, _⟩ => ⟨S2048x768, .f32⟩
  | .hbm, ⟨4, _⟩ => ⟨S_, .f32⟩
  | .hbm, ⟨5, _⟩ => ⟨S768x128, .f32⟩
  | .hbm, ⟨6, _⟩ => ⟨S_, .i32⟩
  | .hbm, ⟨7, _⟩ => ⟨S1, .i32⟩
  | .hbm, ⟨8, _⟩ => ⟨S768x128, .f32⟩
  | .hbm, ⟨9, _⟩ => ⟨S_, .f32⟩
  | .hbm, ⟨10, _⟩ => ⟨S1x128, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S1x128, .f32⟩
  | .hbm, ⟨17, _⟩ => ⟨S4096x1, .i32⟩
  | .hbm, ⟨18, _⟩ => ⟨S5120x1, .i32⟩
  | .hbm, ⟨19, _⟩ => ⟨S5120x1, .f32⟩
  | .hbm, ⟨20, _⟩ => ⟨S128x1, .i32⟩
  | .hbm, ⟨21, _⟩ => ⟨S1x1, .f32⟩
  | .local _ .vmem, ⟨0, _⟩ => ⟨S2048x768, .f32⟩
  | .local _ .vmem, ⟨1, _⟩ => ⟨S768x128, .f32⟩
  | .local _ .vmem, ⟨2, _⟩ => ⟨S1x128, .f32⟩
  | .local _ .vmem, ⟨3, _⟩ => ⟨S4096x1, .i32⟩
  | .local _ .vmem, ⟨4, _⟩ => ⟨S5120x1, .i32⟩
  | .local _ .vmem, ⟨5, _⟩ => ⟨S5120x1, .f32⟩
  | .local _ .vmem, ⟨6, _⟩ => ⟨S128x1, .i32⟩
  | .local _ .vmem, ⟨7, _⟩ => ⟨S1x1, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== BalanceIdeal.lean ====
abbrev S1x2048x768 : Shape := ⟨3, ![1, 2048, 768]⟩
abbrev S768x8 : Shape := ⟨2, ![768, 8]⟩
abbrev S8 : Shape := ⟨1, ![8]⟩
abbrev S2048x768 : Shape := ⟨2, ![2048, 768]⟩
abbrev S2048x8 : Shape := ⟨2, ![2048, 8]⟩
abbrev S1x8 : Shape := ⟨2, ![1, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2048x2x1 : Shape := ⟨3, ![2048, 2, 1]⟩
abbrev S2048x2x2 : Shape := ⟨3, ![2048, 2, 2]⟩
abbrev S1x1 : Shape := ⟨2, ![1, 1]⟩

abbrev nBuf : Space → Nat
  | .hbm => 68
  | .vmem => 0
  | .smem => 0
  | _ => 0

abbrev bufTy : (tb : Table) → Fin (tcTables nBuf tb) → BufTy
  | .hbm, ⟨0, _⟩ => ⟨S1x2048x768, .f32⟩
  | .hbm, ⟨1, _⟩ => ⟨S768x8, .f32⟩
  | .hbm, ⟨2, _⟩ => ⟨S8, .f32⟩
  | .hbm, ⟨3, _⟩ => ⟨S2048x768, .f32⟩
  | .hbm, ⟨4, _⟩ => ⟨S2048x8, .f32⟩
  | .hbm, ⟨5, _⟩ => ⟨S1x8, .f32⟩
  | .hbm, ⟨6, _⟩ => ⟨S2048x8, .f32⟩
  | .hbm, ⟨7, _⟩ => ⟨S2048x8, .f32⟩
  | .hbm, ⟨8, _⟩ => ⟨S_, .f32⟩
  | .hbm, ⟨9, _⟩ => ⟨S2048, .f32⟩
  | .hbm, ⟨10, _⟩ => ⟨S_, .f32⟩
  | .hbm, ⟨11, _⟩ => ⟨S2048, .f32⟩
  | .hbm, ⟨12, _⟩ => ⟨S2048, .f32⟩
  | .hbm, ⟨13, _⟩ => ⟨S2048x1, .f32⟩
  | .hbm, ⟨14, _⟩ => ⟨S2048x8, .f32⟩
  | .hbm, ⟨15, _⟩ => ⟨S2048x8, .f32⟩
  | .hbm, ⟨16, _⟩ => ⟨S2048x8, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S2048x8, .f32⟩
  | .hbm, ⟨21, _⟩ => ⟨S2048x8, .f32⟩
  | .hbm, ⟨22, _⟩ => ⟨S2048x2, .f32⟩
  | .hbm, ⟨23, _⟩ => ⟨S2048x2, .i32⟩
  | .hbm, ⟨24, _⟩ => ⟨S2048, .i32⟩
  | .hbm, ⟨25, _⟩ => ⟨S2048x1, .i32⟩
  | .hbm, ⟨26, _⟩ => ⟨S_, .f32⟩
  | .hbm, ⟨27, _⟩ => ⟨S2048x8, .f32⟩
  | .hbm, ⟨28, _⟩ => ⟨S_, .f32⟩
  | .hbm, ⟨29, _⟩ => ⟨S2048x2, .f32⟩
  | .hbm, ⟨30, _⟩ => ⟨S_, .i32⟩
  | .hbm, ⟨31, _⟩ => ⟨S2048x1, .i32⟩
  | .hbm, ⟨32, _⟩ => ⟨S2048x1, .i1⟩
  | .hbm, ⟨33, _⟩ => ⟨S_, .i32⟩
  | .hbm, ⟨34, _⟩ => ⟨S2048x1, .i32⟩
  | .hbm, ⟨35, _⟩ => ⟨S2048x1, .i32⟩
  | .hbm, ⟨36, _⟩ => ⟨S2048x1, .i32⟩
  | .hbm, ⟨37, _⟩ => ⟨S_, .i32⟩
  | .hbm, ⟨38, _⟩ => ⟨S2048x2, .i32⟩
  | .hbm, ⟨39, _⟩ => ⟨S2048x2, .i1⟩
  | .hbm, ⟨40, _⟩ => ⟨S_, .i32⟩
  | .hbm, ⟨41, _⟩ => ⟨S2048x2, .i32⟩
  | .hbm, ⟨42, _⟩ => ⟨S2048x2, .i32⟩
  | .hbm, ⟨43, _⟩ => ⟨S2048x2, .i32⟩
  | .hbm, ⟨44, _⟩ => ⟨S2048x2, .i32⟩
  | .hbm, ⟨45, _⟩ => ⟨S2048x2x1, .i32⟩
  | .hbm, ⟨46, _⟩ => ⟨S2048x2x1, .i32⟩
  | .hbm, ⟨47, _⟩ => ⟨S2048x2x2, .i32⟩
  | .hbm, ⟨48, _⟩ => ⟨S2048x8, .f32⟩
  | .hbm, ⟨49, _⟩ => ⟨S_, .f32⟩
  | .hbm, ⟨50, _⟩ => ⟨S8, .f32⟩
  | .hbm, ⟨51, _⟩ => ⟨S_, .f32⟩
  | .hbm, ⟨52, _⟩ => ⟨S8, .f32⟩
  | .hbm, ⟨53, _⟩ => ⟨S8, .f32⟩
  | .hbm, ⟨54, _⟩ => ⟨S_, .f32⟩
  | .hbm, ⟨55, _⟩ => ⟨S8, .f32⟩
  | .hbm, ⟨56, _⟩ => ⟨S8, .f32⟩
  | .hbm, ⟨57, _⟩ => ⟨S_, .f32⟩
  | .hbm, ⟨58, _⟩ => ⟨S8, .f32⟩
  | .hbm, ⟨59, _⟩ => ⟨S_, .f32⟩
  | .hbm, ⟨60, _⟩ => ⟨S8, .f32⟩
  | .hbm, ⟨61, _⟩ => ⟨S8, .f32⟩
  | .hbm, ⟨62, _⟩ => ⟨S8, .f32⟩
  | .hbm, ⟨63, _⟩ => ⟨S_, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S1x1, .f32⟩
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_c : Ref sig .tc := ⟨.hbm, 30, rfl⟩
abbrev main_v20 : Ref sig .tc := ⟨.hbm, 31, rfl⟩
abbrev main_v21 : Ref sig .tc := ⟨.hbm, 32, rfl⟩
abbrev main_c_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_cst_7 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_cst_9 : Ref sig .tc := ⟨.hbm, 54, rfl⟩
abbrev main_v38 : Ref sig .tc := ⟨.hbm, 55, rfl⟩
abbrev main_v39 : Ref sig .tc := ⟨.hbm, 56, rfl⟩
abbrev main_cst_10 : Ref sig .tc := ⟨.hbm, 57, rfl⟩
abbrev main_v40 : Ref sig .tc := ⟨.hbm, 58, rfl⟩
abbrev main_cst_11 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_12 : Ref sig .tc := ⟨.hbm, 63, rfl⟩
abbrev main_v44 : Ref sig .tc := ⟨.hbm, 64, rfl⟩
abbrev main_cst_13 : Ref sig .tc := ⟨.hbm, 65, rfl⟩
abbrev main_v45 : Ref sig .tc := ⟨.hbm, 66, rfl⟩
abbrev main_v46 : Ref sig .tc := ⟨.hbm, 67, rfl⟩

abbrev nD : Nat := 1
abbrev τ : Topo := Topo.v7x

variable {F : FTy → Type} [FloatOps F]
-- ==== Slots.lean ====
abbrev S1x2048x768 : Shape := ⟨3, ![1, 2048, 768]⟩
abbrev S768x8 : Shape := ⟨2, ![768, 8]⟩
abbrev S8 : Shape := ⟨1, ![8]⟩
abbrev S2048x768 : Shape := ⟨2, ![2048, 768]⟩
abbrev S_ : Shape := ⟨0, ![]⟩
abbrev S768x128 : Shape := ⟨2, ![768, 128]⟩
abbrev S1 : Shape := ⟨1, ![1]⟩
abbrev S1x128 : Shape := ⟨2, ![1, 128]⟩
abbrev S2 : Shape := ⟨1, ![2]⟩
abbrev S4096x1 : Shape := ⟨2, ![4096, 1]⟩
abbrev S5120x1 : Shape := ⟨2, ![5120, 1]⟩
abbrev S128x1 : Shape := ⟨2, ![128, 1]⟩
abbrev S1x1 : Shape := ⟨2, ![1, 1]⟩
abbrev S2048x128 : Shape := ⟨2, ![2048, 128]⟩
abbrev S2048 : Shape := ⟨1, ![2048]⟩
abbrev S2048x1 : Shape := ⟨2, ![2048, 1]⟩
abbrev S4096x128 : Shape := ⟨2, ![4096, 128]⟩
abbrev S128 : Shape := ⟨1, ![128]⟩
abbrev S1x1x128 : Shape := ⟨3, ![1, 1, 128]⟩
abbrev S1x1x1 : Shape := ⟨3, ![1, 1, 1]⟩
abbrev S128x128 : Shape := ⟨2, ![128, 128]⟩
abbrev S32x32 : Shape := ⟨2, ![32, 32]⟩
abbrev S32x128 : Shape := ⟨2, ![32, 128]⟩
abbrev S4096 : Shape := ⟨1, ![4096]⟩
abbrev S4096x3 : Shape := ⟨2, ![4096, 3]⟩
abbrev S128x3 : Shape := ⟨2, ![128, 3]⟩

abbrev nBuf : Space → Nat
  | .hbm => 22
  | .vmem => 8
  | .smem => 0
  | _ => 0

abbrev bufTy : (tb : Table) → Fin (tcTables nBuf tb) → BufTy
  | .hbm, ⟨0, _⟩ => ⟨S1x2048x768, .f32⟩
  | .hbm, ⟨1, _⟩ => ⟨S768x8, .f32⟩
  | .hbm, ⟨2, _⟩ => ⟨S8, .f32⟩
  | .hbm, ⟨3, _⟩ => ⟨S2048x768, .f32⟩
  | .hbm, ⟨4, _⟩ => ⟨S_, .f32⟩
  | .hbm, ⟨5, _⟩ => ⟨S768x128, .f32⟩
  | .hbm, ⟨6, _⟩ => ⟨S_, .i32⟩
  | .hbm, ⟨7, _⟩ => ⟨S1, .i32⟩
  | .hbm, ⟨8, _⟩ => ⟨S768x128, .f32⟩
  | .hbm, ⟨9, _⟩ => ⟨S_, .f32⟩
  | .hbm, ⟨10, _⟩ => ⟨S1x128, .f32⟩
  | .hbm, ⟨11, _⟩ => ⟨S_, .i32⟩
  | .hbm, ⟨12, _⟩ => ⟨S1, .i32⟩
  | .hbm, ⟨13, _⟩ => ⟨S_, .i32⟩
  | .hbm, ⟨14, _⟩ => ⟨S1, .i32⟩
  | .hbm, ⟨15, _⟩ => ⟨S2, .i32⟩
  | .hbm, ⟨16, _⟩ => ⟨S1x128, .f32⟩
  | .hbm, ⟨17, _⟩ => ⟨S4096x1, .i32⟩
  | .hbm, ⟨18, _⟩ => ⟨S5120x1, .i32⟩
  | .hbm, ⟨19, _⟩ => ⟨S5120x1, .f32⟩
  | .hbm, ⟨20, _⟩ => ⟨S128x1, .i32⟩
  | .hbm, ⟨21, _⟩ => ⟨S1x1, .f32⟩
  | .local _ .vmem, ⟨0, _⟩ => ⟨S2048x768, .f32⟩
  | .local _ .vmem, ⟨1, _⟩ => ⟨S768x128, .f32⟩
  | .local _ .vmem, ⟨2, _⟩ => ⟨S1x128, .f32⟩
  | .local _ .vmem, ⟨3, _⟩ => ⟨S4096x1, .i32⟩
  | .local _ .vmem, ⟨4, _⟩ => ⟨S5120x1, .i32⟩
  | .local _ .vmem, ⟨5, _⟩ => ⟨S5120x1, .f32⟩
  | .local _ .vmem, ⟨6, _⟩ => ⟨S128x1, .i32⟩
  | .local _ .vmem, ⟨7, _⟩ => ⟨S1x1, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_c_2 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5120x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== DispatchIdeal.lean ====
abbrev S1x2048x768 : Shape := ⟨3, ![1, 2048, 768]⟩
abbrev S768x8 : Shape := ⟨2, ![768, 8]⟩
abbrev S8 : Shape := ⟨1, ![8]⟩
abbrev S2048x768 : Shape := ⟨2, ![2048, 768]⟩
abbrev S2048x8 : Shape := ⟨2, ![2048, 8]⟩
abbrev S1x8 : Shape := ⟨2, ![1, 8]⟩
abbrev S_ : Shape := ⟨0, ![]⟩
abbrev S2048 : Shape := ⟨1, ![2048]⟩
abbrev S2048x1 : Shape := ⟨2, ![2048, 1]⟩
abbrev S2048x2 : Shape := ⟨2, ![2048, 2]⟩
abbrev S2x2048 : Shape := ⟨2, ![2, 2048]⟩
abbrev S4096x1 : Shape := ⟨2, ![4096, 1]⟩
abbrev S4096 : Shape := ⟨1, ![4096]⟩
abbrev S4096x8 : Shape := ⟨2, ![4096, 8]⟩
abbrev S1x4096 : Shape := ⟨2, ![1, 4096]⟩
abbrev S4096x4096 : Shape := ⟨2, ![4096, 4096]⟩
abbrev S8x1 : Shape := ⟨2, ![8, 1]⟩
abbrev S8x8 : Shape := ⟨2, ![8, 8]⟩
abbrev S5120 : Shape := ⟨1, ![5120]⟩
abbrev S128 : Shape := ⟨1, ![128]⟩
abbrev S128x1 : Shape := ⟨2, ![128, 1]⟩
abbrev S128x8 : Shape := ⟨2, ![128, 8]⟩
abbrev S5120x1 : Shape := ⟨2, ![5120, 1]⟩

abbrev nBuf : Space → Nat
  | .hbm => 148
  | .vmem => 0
  | .smem => 0
  | _ => 0

abbrev hbmTy0_0 (i : Nat) : BufTy := match i % 128 with
  | 0 => ⟨S1x2048x768, .f32⟩
  | 1 => ⟨S768x8, .f32⟩
  | 2 => ⟨S8, .f32⟩
  | 3 => ⟨S2048x768, .f32⟩
  | 4 => ⟨S2048x8, .f32⟩
  | 5 => ⟨S1x8, .f32⟩
  | 6 => ⟨S2048x8, .f32⟩
  | 7 => ⟨S2048x8, .f32⟩
  | 8 => ⟨S_, .f32⟩
  | 9 => ⟨S2048, .f32⟩
  | 10 => ⟨S_, .f32⟩
  | 11 => ⟨S2048, .f32⟩
  | 12 => ⟨S2048, .f32⟩
  | 13 => ⟨S2048x1, .f32⟩
  | 14 => ⟨S2048x8, .f32⟩
  | 15 => ⟨S2048x8, .f32⟩
  | 16 => ⟨S2048x8, .f32⟩
  | 17 => ⟨S_, .f32⟩
  | 18 => ⟨S2048, .f32⟩
  | 19 => ⟨S2048x1, .f32⟩
  | 20 => ⟨S2048x8, .f32⟩
  | 21 => ⟨S2048x8, .f32⟩
  | 22 => ⟨S2048x2, .f32⟩
  | 23 => ⟨S2048x2, .i32⟩
  | 24 => ⟨S_, .f32⟩
  | 25 => ⟨S2048, .f32⟩
  | 26 => ⟨S2048x1, .f32⟩
  | 27 => ⟨S2048x2, .f32⟩
  | 28 => ⟨S2048x2, .f32⟩
  | 29 => ⟨S2x2048, .i32⟩
  | 30 => ⟨S4096x1, .i32⟩
  | 31 => ⟨S4096, .i32⟩
  | 32 => ⟨S4096x1, .i32⟩
  | 33 => ⟨S8, .i32⟩
  | 34 => ⟨S1x8, .i32⟩
  | 35 => ⟨S4096x8, .i32⟩
  | 36 => ⟨S4096x8, .i32⟩
  | 37 => ⟨S4096x8, .i1⟩
  | 38 => ⟨S1x4096, .i32⟩
  | 39 => ⟨S4096x4096, .i32⟩
  | 40 => ⟨S4096x4096, .i32⟩
  | 41 => ⟨S4096x4096, .i1⟩
  | 42 => ⟨S1x4096, .i32⟩
  | 43 => ⟨S4096x4096, .i32⟩
  | 44 => ⟨S4096x4096, .i32⟩
  | 45 => ⟨S4096x4096, .i1⟩
  | 46 => ⟨S4096x4096, .i1⟩
  | 47 => ⟨S4096x4096, .i32⟩
  | 48 => ⟨S_, .i32⟩
  | 49 => ⟨S4096, .i32⟩
  | 50 => ⟨S4096x8, .i32⟩
  | 51 => ⟨S_, .i32⟩
  | 52 => ⟨S8, .i32⟩
  | 53 => ⟨S_, .i32⟩
  | 54 => ⟨S8, .i32⟩
  | 55 => ⟨S8, .i32⟩
  | 56 => ⟨S_, .i32⟩
  | 57 => ⟨S8, .i32⟩
  | 58 => ⟨S8, .i32⟩
  | 59 => ⟨S8, .i32⟩
  | 60 => ⟨S8x1, .i32⟩
  | 61 => ⟨S8, .i32⟩
  | 62 => ⟨S1x8, .i32⟩
  | 63 => ⟨S8x8, .i32⟩
  | 64 => ⟨S8x8, .i32⟩
  | 65 => ⟨S8x8, .i1⟩
  | 66 => ⟨S8x1, .i32⟩
  | 67 => ⟨S_, .i32⟩
  | 68 => ⟨S_, .i32⟩
  | 69 => ⟨S8x8, .i32⟩
  | 70 => ⟨S8x8, .i32⟩
  | 71 => ⟨S8x8, .i32⟩
  | 72 => ⟨S_, .i32⟩
  | 73 => ⟨S8, .i32⟩
  | 74 => ⟨S_, .i32⟩
  | 75 => ⟨S8, .i32⟩
  | 76 => ⟨S8, .i32⟩
  | 77 => ⟨S_, .i32⟩
  | 78 => ⟨S_, .i32⟩
  | 79 => ⟨S4096x8, .i32⟩
  | 80 => ⟨S4096x8, .i32⟩
  | 81 => ⟨S4096x8, .i32⟩
  | 82 => ⟨S_, .i32⟩
  | 83 => ⟨S4096, .i32⟩
  | 84 => ⟨S4096, .i32⟩
  | 85 => ⟨S_, .i32⟩
  | 86 => ⟨S5120, .i32⟩
  | 87 => ⟨S4096, .i32⟩
  | 88 => ⟨S_, .i32⟩
  | 89 => ⟨S_, .i32⟩
  | 90 => ⟨S_, .i32⟩
  | 91 => ⟨S_, .i1⟩
  | 92 => ⟨S_, .i32⟩
  | 93 => ⟨S_, .i32⟩
  | 94 => ⟨S4096, .i32⟩
  | 95 => ⟨S4096, .i32⟩
  | 96 => ⟨S_, .i32⟩
  | 97 => ⟨S4096, .i32⟩
  | 98 => ⟨S4096, .i1⟩
  | 99 => ⟨S_, .i32⟩
  | 100 => ⟨S4096, .i32⟩
  | 101 => ⟨S4096, .i1⟩
  | 102 => ⟨S_, .i32⟩
  | 103 => ⟨S_, .i1⟩
  | 104 => ⟨S4096, .i1⟩
  | 105 => ⟨S4096, .i1⟩
  | 106 => ⟨S4096, .i1⟩
  | 107 => ⟨S4096, .i32⟩
  | 108 => ⟨S4096, .i32⟩
  | 109 => ⟨S4096, .i32⟩
  | 110 => ⟨S_, .i32⟩
  | 111 => ⟨S4096, .i32⟩
  | 112 => ⟨S4096, .i1⟩
  | 113 => ⟨S_, .i32⟩
  | 114 => ⟨S4096, .i32⟩
  | 115 => ⟨S4096, .i32⟩
  | 116 => ⟨S4096, .i32⟩
  | 117 => ⟨S4096x1, .i32⟩
  | 118 => ⟨S5120, .i32⟩
  | 119 => ⟨S_, .f32⟩
  | 120 => ⟨S5120, .f32⟩
  | 121 => ⟨S2x2048, .f32⟩
  | 122 => ⟨S4096, .f32⟩
  | 123 => ⟨S_, .i32⟩
  | 124 => ⟨S4096, .i32⟩
  | 125 => ⟨S4096, .i1⟩
  | 126 => ⟨S_, .i32⟩
  | 127 => ⟨S4096, .i32⟩
  | _ => ⟨S1x2048x768, .f32⟩

abbrev hbmTy0_1 (i : Nat) : BufTy := match i % 128 with
  | 0 => ⟨S4096, .i32⟩
  | 1 => ⟨S4096, .i32⟩
  | 2 => ⟨S4096x1, .i32⟩
  | 3 => ⟨S5120, .f32⟩
  | 4 => ⟨S128, .i32⟩
  | 5 => ⟨S128x1, .i32⟩
  | 6 => ⟨S1x8, .i32⟩
  | 7 => ⟨S128x8, .i32⟩
  | 8 => ⟨S128x8, .i32⟩
  | 9 => ⟨S128x8, .i1⟩
  | 10 => ⟨S128x8, .i32⟩
  | 11 => ⟨S_, .i32⟩
  | 12 => ⟨S128, .i32⟩
  | 13 => ⟨S_, .i32⟩
  | 14 => ⟨S128, .i32⟩
  | 15 => ⟨S128, .i32⟩
  | 16 => ⟨S4096x1, .i32⟩
  | 17 => ⟨S5120x1, .i32⟩
  | 18 => ⟨S5120x1, .f32⟩
  | 19 => ⟨S128x1, .i32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_values : Ref sig .tc := ⟨.hbm, 22, rfl⟩
abbrev main_indices : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_c : Ref sig .tc := ⟨.hbm, 48, rfl⟩
abbrev main_v39 : Ref sig .tc := ⟨.hbm, 49, rfl⟩
abbrev main_v40 : Ref sig .tc := ⟨.hbm, 50, rfl⟩
abbrev main_c_3 : Ref sig .tc := ⟨.hbm, 51, rfl⟩
abbrev main_v41 : Ref sig .tc := ⟨.hbm, 52, rfl⟩
abbrev main_c_4 : Ref sig .tc := ⟨.hbm, 53, rfl⟩
abbrev main_v42 : Ref sig .tc := ⟨.hbm, 54, rfl⟩
abbrev main_v43 : Ref sig .tc := ⟨.hbm, 55, rfl⟩
abbrev main_c_5 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_c_6 : Ref sig .tc := ⟨.hbm, 67, rfl⟩
abbrev main_call0_v0 : Ref sig .tc := ⟨.hbm, 68, rfl⟩
abbrev main_call0_v1 : Ref sig .tc := ⟨.hbm, 69, rfl⟩
abbrev main_call0_v2 : Ref sig .tc := ⟨.hbm, 70, rfl⟩
abbrev main_v54 : Ref sig .tc := ⟨.hbm, 71, rfl⟩
abbrev main_c_7 : Ref sig .tc := ⟨.hbm, 72, rfl⟩
abbrev main_v55 : Ref sig .tc := ⟨.hbm, 73, rfl⟩
abbrev main_c_8 : Ref sig .tc := ⟨.hbm, 74, rfl⟩
abbrev main_v56 : Ref sig .tc := ⟨.hbm, 75, rfl⟩
abbrev main_v57 : Ref sig .tc := ⟨.hbm, 76, rfl⟩
abbrev main_c_9 : Ref sig .tc := ⟨.hbm, 77, rfl⟩
abbrev main_call1_v0 : Ref sig .tc := ⟨.hbm, 78, rfl⟩
abbrev main_call1_v1 : Ref sig .tc := ⟨.hbm, 79, rfl⟩
abbrev main_call1_v2 : Ref sig .tc := ⟨.hbm, 80, rfl⟩
abbrev main_v58 : Ref sig .tc := ⟨.hbm, 81, rfl⟩
abbrev main_c_10 : Ref sig .tc := ⟨.hbm, 82, rfl⟩
abbrev main_v59 : Ref sig .tc := ⟨.hbm, 83, rfl⟩
abbrev main_v60 : Ref sig .tc := ⟨.hbm, 84, rfl⟩
abbrev main_c_11 : Ref sig .tc := ⟨.hbm, 85, rfl⟩
abbrev main_v61 : Ref sig .tc := ⟨.hbm, 86, rfl⟩
abbrev main_v62 : Ref sig .tc := ⟨.hbm, 87, rfl⟩
abbrev main_c_12 : Ref sig .tc := ⟨.hbm, 88, rfl⟩
abbrev main_call2_v0 : Ref sig .tc := ⟨.hbm, 89, rfl⟩
abbrev main_call2_c : Ref sig .tc := ⟨.hbm, 90, rfl⟩
abbrev main_call2_v1 : Ref sig .tc := ⟨.hbm, 91, rfl⟩
abbrev main_call2_c_0 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_c_1 : Ref sig .tc := ⟨.hbm, 96, rfl⟩
abbrev main_call2_v5 : Ref sig .tc := ⟨.hbm, 97, rfl⟩
abbrev main_call2_v6 : Ref sig .tc := ⟨.hbm, 98, rfl⟩
abbrev main_call2_c_2 : Ref sig .tc := ⟨.hbm, 99, rfl⟩
abbrev main_call2_v7 : Ref sig .tc := ⟨.hbm, 100, rfl⟩
abbrev main_call2_v8 : Ref sig .tc := ⟨.hbm, 101, rfl⟩
abbrev main_call2_c_3 : Ref sig .tc := ⟨.hbm, 102, rfl⟩
abbrev main_call2_v9 : Ref sig .tc := ⟨.hbm, 103, rfl⟩
abbrev main_call2_v10 : Ref sig .tc := ⟨.hbm, 104, rfl⟩
abbrev main_call2_v11 : Ref sig .tc := ⟨.hbm, 105, rfl⟩
abbrev main_call2_v12 : Ref sig .tc := ⟨.hbm, 106, rfl⟩
abbrev main_call2_v13 : Ref sig .tc := ⟨.hbm, 107, rfl⟩
abbrev main_call2_v14 : Ref sig .tc := ⟨.hbm, 108, rfl⟩
abbrev main_v63 : Ref sig .tc := ⟨.hbm, 109, rfl⟩
abbrev main_c_13 : Ref sig .tc := ⟨.hbm, 110, rfl⟩
abbrev main_v64 : Ref sig .tc := ⟨.hbm, 111, rfl⟩
abbrev main_v65 : Ref sig .tc := ⟨.hbm, 112, rfl⟩
abbrev main_c_14 : Ref sig .tc := ⟨.hbm, 113, rfl⟩
abbrev main_v66 : Ref sig .tc := ⟨.hbm, 114, rfl⟩
abbrev main_v67 : Ref sig .tc := ⟨.hbm, 115, rfl⟩
abbrev main_v68 : Ref sig .tc := ⟨.hbm, 116, rfl⟩
abbrev main_v69 : Ref sig .tc := ⟨.hbm, 117, rfl⟩
abbrev main_v70 : Ref sig .tc := ⟨.hbm, 118, rfl⟩
abbrev main_cst_15 : Ref sig .tc := ⟨.hbm, 119, rfl⟩
abbrev main_v71 : Ref sig .tc := ⟨.hbm, 120, rfl⟩
abbrev main_v72 : Ref sig .tc := ⟨.hbm, 121, rfl⟩
abbrev main_v73 : Ref sig .tc := ⟨.hbm, 122, rfl⟩
abbrev main_c_16 : Ref sig .tc := ⟨.hbm, 123, rfl⟩
abbrev main_v74 : Ref sig .tc := ⟨.hbm, 124, rfl⟩
abbrev main_v75 : Ref sig .tc := ⟨.hbm, 125, rfl⟩
abbrev main_c_17 : Ref sig .tc := ⟨.hbm, 126, rfl⟩
abbrev main_v76 : Ref sig .tc := ⟨.hbm, 127, rfl⟩
abbrev main_v77 : Ref sig .tc := ⟨.hbm, 128, rfl⟩
abbrev main_v78 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_c_18 : Ref sig .tc := ⟨.hbm, 139, rfl⟩
abbrev main_v88 : Ref sig .tc := ⟨.hbm, 140, rfl⟩
abbrev main_c_19 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_v94 : Ref sig .tc := ⟨.hbm, 147, rfl⟩

abbrev nD : Nat := 1
abbrev τ : Topo := Topo.v7x

variable {F : FTy → Type} [FloatOps F]
-- ==== Proof.Common.lean ====
/- The set-up the proof's parts share: the program as the launch theorem sees it, the resource algebra, the shares the
   thirty-two tiles read a table at, and the split of a tile's own semaphores and buffers. -/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import Idealize.ShloMosaic.Lib.ValueIdxCore
public import proofs.«01_k».proof.Proof.Gen.KernelIdeal
public import proofs.«01_k».proof.Proof.Gen.KernelIdeal.Skeleton
public import proofs.«01_k».proof.Proof.Gen.KernelIdeal.Launch

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

/-! ## The program as the launch theorem sees it -/

abbrev ΛP : Labels := Pipeline.Sig Λ₀ (Fin 1) fun p => (pcfgs (F := F) p).Adm
abbrev K : SparseCore.Cfg τ sig (ΛP (F := F)) 2 := sc (F := F)
abbrev D : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the pipeline's rounds, the transfers' counters -/

abbrev UH : Type := URounds (GSem nD τ sig) ℕ
abbrev UP : Type := URounds (GSem nD τ sig) Unit
abbrev UU : Type := UH × (UP × Counters)

abbrev EH : Emb UH (MT nD τ sig (HIx 2) (Elt F) ℕ UU ℕ) := embL
abbrev EP : Emb UP (MT nD τ sig (HIx 2) (Elt F) ℕ UU ℕ) := (Emb.inl : Emb UP (UP × Counters)).trans embR

local notation "𝕄" => MT nD τ sig (HIx 2) (Elt F) ℕ UU ℕ

/-! ## Shares: the full share cut into a left half and the rest, again and again -/

/-- Share `i` of `n + 1` of share `q`. -/
def cut : (n : ℕ) → PosShare TreeShare → Fin (n + 1) → PosShare TreeShare
  | 0, q => fun _ => q
  | n + 1, q => Fin.cons q.left (cut n q.right)

theorem bigSep_fin_succ {M : Type} [URA M] {n : ℕ} (Φ : Fin (n + 1) → sProp M) :
    bigSep Finset.univ Φ = iprop(Φ 0 ∗ bigSep Finset.univ fun i : Fin n => Φ i.succ) := by
  classical
  rw [Fin.univ_succ, Finset.cons_eq_insert, bigSep_insert (by simp), bigSep_map]
  rfl

/-- A points-to at a share is its cut's at once. -/
theorem pointsTo_cut {ℓ : Loc nD τ sig} (I : Finset (Idx ℓ)) (f : Buf (Elt F) ℓ) (n : ℕ) :
    ∀ q : PosShare TreeShare, (ℓ ↦[I]{q} f : sProp 𝕄) = bigSep Finset.univ fun i : Fin (n + 1) => ℓ ↦[I]{cut n q i} f := by
  induction n with
  | zero => exact fun q => (bigSep_univ_of_subsingleton (0 : Fin 1) (Φ := fun i : Fin (0 + 1) => (ℓ ↦[I]{cut 0 q i} f : sProp 𝕄))).symm
  | succ n ih =>
    intro q
    have hs := pointsTo_share (ℓ := ℓ) (I := I) (f := f) (Ix := HIx 2) (Name := ℕ) (U := UU) (Lvl := ℕ) (PosShare.mem_left_op_right q)
    rw [BI.Entails.antisymm hs.1 hs.2, ih q.right]
    exact (bigSep_fin_succ (fun i : Fin (n + 2) => (ℓ ↦[I]{cut (n + 1) q i} f : sProp 𝕄))).symm

/-- The share of a table that tile `i` of the thirty-two reads at. -/
abbrev rq (i : Fin 32) : PosShare TreeShare := cut 31 fullShare i

/-- A table held whole is thirty-two shares of it. -/
theorem pointsTo_shares {ℓ : Loc nD τ sig} (f : Buf (Elt F) ℓ) :
    (ℓ ↦{fullShare} f : sProp 𝕄) = bigSep Finset.univ fun i : Fin 32 => ℓ ↦{rq i} f :=
  pointsTo_cut Finset.univ f 31 fullShare

/-! ## A tile's own semaphores and buffers -/

/-- The cells of some of a subcore's transfer semaphores, taken out of its own. -/
theorem ownSems0_take (d : Dev nD) (c : Fin τ.nSC) (i : Fin τ.nSub) (s : Finset (Fin sig.nDmaSem))
    (hs : ∀ k ∈ s, (SemLoc.dma k : SemLoc sig).isScoped .scVector = true) :
    (ownSems0 (V d c i) : sProp 𝕄)
      = iprop((bigSep s fun k => semVal (V d c i, .dma k) 0)
          ∗ bigSep (ownCells (V d c i) \ s.map ⟨fun k => ((V d c i, .dma k) : GSem nD τ sig), fun a b h => by simpa using h⟩) fun g => semVal g 0) := by
  unfold SparseCore.Cfg.ownSems0
  rw [bigSep_sdiff_split (t := s.map ⟨fun k => ((V d c i, .dma k) : GSem nD τ sig), fun a b h => by simpa using h⟩), bigSep_map]
  · rfl
  · intro g hg
    obtain ⟨k, hk, rfl⟩ := Finset.mem_map.mp hg
    exact mem_ownCells.mpr ⟨rfl, hs k hk⟩

/-- Some of a subcore's scratch buffers, taken out of its own. -/
theorem ownBufs_take (d : Dev nD) (c : Fin τ.nSC) (i : Fin τ.nSub) (s : Finset (Ref sig .scVector))
    (hs : ∀ b ∈ s, ((Proc.scVector (τ := τ) c i).devRef b).owner = .proc (.scVector c i)) :
    (ownBufs (V d c i) : sProp 𝕄)
      = iprop((bigSep s fun b => iprop(∃ f, (V d c i).loc b ↦{fullShare} f))
          ∗ bigSep (ownRefs (τ := τ) (sig := sig) (.scVector c i) \ s.map ⟨(Proc.scVector c i).devRef, Proc.devRef_injective _⟩)
              fun b => iprop(∃ f, ((d, b) : Loc nD τ sig) ↦{fullShare} f)) := by
  unfold SparseCore.Cfg.ownBufs
  refine (bigSep_sdiff_split (t := s.map ⟨(Proc.scVector c i).devRef, Proc.devRef_injective _⟩) ?_).trans ?_
  · intro g hg
    obtain ⟨k, hk, rfl⟩ := Finset.mem_map.mp hg
    exact SparseCore.Cfg.mem_ownRefs_of_owner (hs k hk)
  · rw [bigSep_map]; rfl

theorem sep_assoc_eq {M : Type} [URA M] (A B C : sProp M) : iprop((A ∗ B) ∗ C) = iprop(A ∗ B ∗ C) :=
  Entails.antisymm BI.sep_assoc BI.sep_assoc'

/-! ## What a gather of rows lands -/

open ValueIdx in
theorem rows_val {n N : ℕ} (idx : (⟨1, ![n]⟩ : Shape).Idx → Elt F .i32) (hn : (⟨1, ![n]⟩ : Shape).numel = n)
    (h : ∀ x, (idx x : BitVec 32).toNat < N) (k : Fin n) :
    (SparseCore.rows idx hn h k : Fin N).val = (idx (ix1 k) : BitVec 32).toNat := by
  have e : (⟨1, ![n]⟩ : Shape).rowMajor.symm (k.cast hn.symm) = ix1 k := by
    rw [Equiv.symm_apply_eq]; apply Fin.ext; rw [Shape.rowMajor_val_one]; rfl
  exact congrArg (fun y => (idx y : BitVec 32).toNat) e

/-- An index lies in a band of columns as its column does. -/
theorem mem_cols {n m k o : ℕ} (h : ∀ a, (![0, o] : Fin 2 → ℕ) a + (![n, k] : Fin 2 → ℕ) a ≤ (⟨2, ![n, m]⟩ : Shape).size a)
    (y : (⟨2, ![n, m]⟩ : Shape).Idx) (h0 : o ≤ (y 1).val) (h1 : (y 1).val < o + k) :
    y ∈ (Rect.unit (s := (⟨2, ![n, m]⟩ : Shape)) ![0, o] ![n, k] h).set := by
  rw [Rect.mem_set_unit]
  intro a
  match a with
  | 0 => exact ⟨Nat.zero_le _, by have := (y 0).isLt; show (y 0).val < 0 + n; rw [Nat.zero_add]; exact this⟩
  | 1 => exact ⟨h0, h1⟩

open ValueIdx in
theorem payload_apply {N n m : ℕ} {e : EltTy} (hg : (⟨2, ![N, m]⟩ : Shape).Gathers 0 ⟨2, ![n, m]⟩)
    (g : (⟨2, ![N, m]⟩ : Shape).Idx → Elt F e) (r : Fin n → Fin N) (x : (⟨2, ![n, m]⟩ : Shape).Idx) :
    SparseCore.gatherPayload hg g r x = g (ix2 (r (x 0)) (x 1)) := by
  unfold SparseCore.gatherPayload
  congr 1
  funext a
  match a with
  | 0 => exact hg.idx_axis r x
  | 1 => exact Fin.ext (hg.idx_of_ne r x (1 : Fin 2) Nat.one_ne_zero)

/-! ## Which tile is which -/

/-- The tile at SparseCore `c`, subcore `s`, counted as the kernels count: subcore-major. -/
def wid (c : Fin 2) (s : Fin 16) : Fin 32 := ⟨2 * s.val + c.val, by omega⟩

def widEquiv : Fin 2 × Fin 16 ≃ Fin 32 where
  toFun p := wid p.1 p.2
  invFun w := (⟨w.val % 2, by omega⟩, ⟨w.val / 2, by omega⟩)
  left_inv p := by ext <;> simp [wid] <;> omega
  right_inv w := by ext; simp [wid]; omega

/-- A conjunction over the tiles, SparseCore by SparseCore. -/
theorem bigSep_tiles (Φ : Fin 32 → sProp 𝕄) :
    bigSep Finset.univ Φ = bigSep Finset.univ fun c : Fin 2 => bigSep Finset.univ fun s : Fin 16 => Φ (wid c s) := by
  rw [bigSep_univ_equiv widEquiv, bigSep_univ_prod]; rfl

end Cert.Proof.Moe

end
-- ==== Proof.Gather.lean ====
/- The first SparseCore call: each of thirty-two tiles fetches its hundred and sixty row numbers and gathers those rows
   of the table, a hundred and twenty-eight columns at a time, into its block of the result. -/
module

public import proofs.«01_k».proof.Proof.Common

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev ridLoc (d : Dev nD) : Loc nD τ sig := (SparseCore.T d).loc main_v1
abbrev xLoc (d : Dev nD) : Loc nD τ sig := (SparseCore.T d).loc main_v0
abbrev xsLoc (d : Dev nD) : Loc nD τ sig := (SparseCore.T d).loc main_v2

local notation "iV" => (Memref.whole Cert.KernelIdeal.main_v1_scv : Memref Cert.KernelIdeal.sig Kind.scVector Space.hbm Cert.KernelIdeal.S5120 EltTy.i32)
local notation "xV" => (Memref.whole Cert.KernelIdeal.main_v0_scv : Memref Cert.KernelIdeal.sig Kind.scVector Space.hbm Cert.KernelIdeal.S2048x768 EltTy.f32)
local notation "oV" => (Memref.whole Cert.KernelIdeal.main_v2_scv : Memref Cert.KernelIdeal.sig Kind.scVector Space.hbm Cert.KernelIdeal.S5120x768 EltTy.f32)
local notation "sV" => (Memref.whole Cert.KernelIdeal.cc0_scratch0 : Memref Cert.KernelIdeal.sig Kind.scVector Space.vmem Cert.KernelIdeal.S160 EltTy.i32)
local notation "rV" => (Memref.whole Cert.KernelIdeal.cc0_scratch1 : Memref Cert.KernelIdeal.sig Kind.scVector Space.vmem Cert.KernelIdeal.S160x768 EltTy.f32)

theorem div_xs : 32 ∣ S5120x768.size 0 := ⟨160, rfl⟩
/-- Block `w` of the gathered rows. -/
abbrev xsRect (w : Fin 32) : Rect S5120x768 := Rect.part (s := S5120x768) (a₀ := 0) div_xs w
abbrev xsSet (w : Fin 32) : Finset S5120x768.Idx := ((oV).view.slice (xsRect w)).set

/-- What the call leaves: row `g` is the table's row number `rid g`. -/
def gathered {d : Dev nD} (fI : Buf (Elt F) (ridLoc d)) (fX : Buf (Elt F) (xLoc d)) : Buf (Elt F) (xsLoc d) :=
  fun j : S5120x768.Idx => fX (ValueIdx.ix2 (n0 := 2048) (n1 := 768)
    ⟨((fI (ValueIdx.ix1 (n := 5120) (j 0)) : BitVec 32)).toNat % 2048, Nat.mod_lt _ (by decide)⟩ (j 1))

section Tile

variable (d : Dev nD) (L : grid0.Coords)

abbrev cV (L : grid0.Coords) : Fin τ.nSC := (L 0).castLE hcore0
abbrev jV (L : grid0.Coords) : Fin τ.nSub := (L 1).castLE hsub0
abbrev wV (L : grid0.Coords) : Fin 32 := wid (Fin.cast (show grid0.bound 0 = 2 from rfl) (L 0)) (Fin.cast (show grid0.bound 1 = 16 from rfl) (L 1))

abbrev xsRectK (L : grid0.Coords) : Rect S5120x768 := Rect.unit (s := S5120x768) (k0_off2 L) S160x768.size (k0_off2_inb L)
abbrev xsK (L : grid0.Coords) : Memref sig .scVector .hbm S160x768 .f32 := (oV).slice (xsRectK L) (fun _ => rfl)

omit [FloatOps F] in
theorem xsRectK_eq : xsRectK L = xsRect (wV L) := by
  unfold xsRectK xsRect Rect.part Rect.block
  congr 1 <;> funext a
  · rw [k0_off2_eq]
    match a with
    | 0 => simp only [Shape.partIx, Shape.partSize, wid]; show 320 * (L 1).val + 160 * (L 0).val = (2 * (L 1).val + (L 0).val) * (5120 / 32); omega
    | 1 => simp [Shape.partIx, Shape.partSize]
  · match a with
    | 0 => simp [Shape.partSize]
    | 1 => simp [Shape.partSize]

omit [FloatOps F] in
theorem set_xsK : (xsK L).view.set = xsSet (wV L) := by
  show ((oV).view.slice (xsRectK L)).set = ((oV).view.slice (xsRect (wV L))).set
  exact xsRectK_eq L ▸ rfl

theorem sems_gather (d : Dev nD) (c : Fin τ.nSC) (i : Fin τ.nSub) : ∃ R : sProp 𝕄, (ownSems0 (V d c i) : sProp 𝕄)
    = iprop(semVal (V d c i, .dma cc0_scratch2.sem) 0 ∗ semVal (V d c i, .dma cc0_scoped0.sem) 0 ∗ semVal (V d c i, .dma cc0_scoped1.sem) 0 ∗ R) := by
  have h := ownSems0_take (F := F) d c i {cc0_scratch2.sem, cc0_scoped0.sem, cc0_scoped1.sem} (by decide)
  rw [bigSep_insert (by decide), bigSep_insert (by decide), bigSep_singleton] at h
  exact ⟨_, h.trans ((sep_assoc_eq _ _ _).trans (congrArg _ (sep_assoc_eq _ _ _)))⟩

theorem bufs_gather (d : Dev nD) (c : Fin τ.nSC) (i : Fin τ.nSub) : ∃ R : sProp 𝕄, (ownBufs (V d c i) : sProp 𝕄)
    = iprop((∃ f, (V d c i).loc cc0_scratch0 ↦{fullShare} f) ∗ (∃ f, (V d c i).loc cc0_scratch1 ↦{fullShare} f) ∗ R) := by
  have h := ownBufs_take (F := F) d c i {cc0_scratch0, cc0_scratch1} (fun b hb => by
    rcases Finset.mem_insert.mp hb with rfl | hb
    · rfl
    · rw [Finset.mem_singleton.mp hb]; rfl)
  rw [bigSep_insert (by decide), bigSep_singleton] at h
  exact ⟨_, h.trans (sep_assoc_eq _ _ _)⟩

/-- The columns the gather at `o` reads of the table, and those it fills. -/
abbrev colX (o : ℕ) (h : o + 128 ≤ 768) : Memref sig .scVector .hbm S2048x128 .f32 :=
  (xV).slice (Rect.unit (s := S2048x768) ![0, o] S2048x128.size (fun | 0 => Nat.le_of_eq (Nat.zero_add _) | 1 => h)) (fun _ => rfl)
abbrev colR (o : ℕ) (h : o + 128 ≤ 768) : Rect S160x768 :=
  Rect.unit (s := S160x768) ![0, o] S160x128.size (fun | 0 => Nat.le_of_eq (Nat.zero_add _) | 1 => h)

/-- One gather's piece: columns `o` to `o + 128` of the tile's rows. -/
theorem gather_piece (fI : Buf (Elt F) (ridLoc d)) (fX : Buf (Elt F) (xLoc d)) (hI : ∀ j : S5120.Idx, (fI j : BitVec 32).toNat < 2048)
    (o : ℕ) (h : o + 128 ≤ 768)
    (idxs : S160.Idx → Elt F .i32)
    (hidx : ∀ k : Fin 160, idxs (ValueIdx.ix1 k) = fI (ValueIdx.ix1 (n := 5120) ⟨320 * (L 1).val + 160 * (L 0).val + k.val, by
      have h1 : (L 1).val < 16 := (L 1).isLt; have h0 : (L 0).val < 2 := (L 0).isLt; have := k.isLt; omega⟩))
    (hn : S160.numel = S160x128.size gathers_S2048x128_S160x128.axis')
    (hin : ∀ x, (idxs x : BitVec 32).toNat < S2048x128.size gathers_S2048x128_S160x128.axis) (x : S160x128.Idx) :
    SparseCore.gatherPayload gathers_S2048x128_S160x128
        (View.read (Elt F) (colX o h).view fX)
        (SparseCore.rows idxs hn hin) x
      = gathered fI fX ((xsK L).view.emb ((colR o h).emb x)) := by
  rw [show SparseCore.gatherPayload gathers_S2048x128_S160x128
        (View.read (Elt F) (colX o h).view fX)
        (SparseCore.rows idxs hn hin) x = _ from payload_apply (N := 2048) (n := 160) (m := 128) gathers_S2048x128_S160x128 _ _ x]
  unfold gathered
  show fX _ = fX _
  congr 1
  have e := rows_val (F := F) (n := 160) (N := 2048) idxs hn hin (x 0)
  have e := e.trans (congrArg (fun z : BitVec 32 => z.toNat) (hidx (x 0)))
  have e2 : ∀ a, ((xsK L).view.emb ((colR o h).emb x) a).val = k0_off2 L a + (![0, o] a + (x a).val) := by
    intro a
    show k0_off2 L a + 1 * (![0, o] a + 1 * (x a).val) = _
    omega
  funext a
  apply Fin.ext
  match a with
  | 0 =>
    show 0 + 1 * (SparseCore.rows idxs hn hin (x 0)).val = (fI _ : BitVec 32).toNat % 2048
    rw [Nat.mod_eq_of_lt (hI _), Nat.one_mul, Nat.zero_add]
    refine e.trans ?_
    congr 3
    apply Fin.ext
    rw [e2, k0_off2_eq]
    show _ = 320 * (L 1).val + 160 * (L 0).val + (0 + (x 0).val)
    rw [Nat.zero_add]
  | 1 =>
    rw [show ((ValueIdx.ix2 _ _ : S2048x768.Idx) 1).val = ((xsK L).view.emb ((colR o h).emb x) 1).val from rfl, e2, k0_off2_eq]
    show o + 1 * (x 1).val = 0 + (o + (x 1).val)
    omega

/-- What one gather fills in. -/
def colPiece (fX : Buf (Elt F) (xLoc d)) (idxs : S160.Idx → Elt F .i32) (hn : S160.numel = S160x128.size gathers_S2048x128_S160x128.axis')
    (hin : ∀ x, (idxs x : BitVec 32).toNat < S2048x128.size gathers_S2048x128_S160x128.axis) (o : ℕ) (h : o + 128 ≤ 768) :
    View.Piece (Elt F) S160x768 .f32 :=
  ⟨colR o h, SparseCore.gatherPayload gathers_S2048x128_S160x128 (View.read (Elt F) (colX o h).view fX) (SparseCore.rows idxs hn hin)⟩

theorem gather_rows (fI : Buf (Elt F) (ridLoc d)) (fX : Buf (Elt F) (xLoc d)) (hI : ∀ j : S5120.Idx, (fI j : BitVec 32).toNat < 2048)
    (fr : Buf (Elt F) ((V d (cV L) (jV L)).loc cc0_scratch1))
    (idxs : S160.Idx → Elt F .i32)
    (hidx : ∀ k : Fin 160, idxs (ValueIdx.ix1 k) = fI (ValueIdx.ix1 (n := 5120) ⟨320 * (L 1).val + 160 * (L 0).val + k.val, by
      have h1 : (L 1).val < 16 := (L 1).isLt; have h0 : (L 0).val < 2 := (L 0).isLt; have := k.isLt; omega⟩))
    (hn : S160.numel = S160x128.size gathers_S2048x128_S160x128.axis')
    (hin : ∀ x, (idxs x : BitVec 32).toNat < S2048x128.size gathers_S2048x128_S160x128.axis) (x : S160x768.Idx) :
    View.read (Elt F) (rV).view ((rV).view.writes (Elt F) fr [colPiece d fX idxs hn hin 640 (by decide), colPiece d fX idxs hn hin 512 (by decide),
        colPiece d fX idxs hn hin 384 (by decide), colPiece d fX idxs hn hin 256 (by decide), colPiece d fX idxs hn hin 128 (by decide),
        colPiece d fX idxs hn hin 0 (by decide)]) x
      = gathered fI fX ((xsK L).view.emb x) := by
  refine View.read_writes_apply_of_pieces (rV).view _ (fun x => gathered fI fX ((xsK L).view.emb x)) _ ?_ x ?_
  · have hp : ∀ o h, ∀ x, (colPiece d fX idxs hn hin o h).2 x = gathered fI fX ((xsK L).view.emb ((colPiece d fX idxs hn hin o h).1.emb x)) :=
      fun o h x => gather_piece d L fI fX hI o h idxs hidx hn hin x
    exact List.forall_mem_cons.2 ⟨hp _ _, List.forall_mem_cons.2 ⟨hp _ _, List.forall_mem_cons.2 ⟨hp _ _, List.forall_mem_cons.2 ⟨hp _ _,
      List.forall_mem_cons.2 ⟨hp _ _, List.forall_mem_cons.2 ⟨hp _ _, fun _ h => absurd h List.not_mem_nil⟩⟩⟩⟩⟩⟩
  · have h1 : (x 1).val < 768 := (x 1).isLt
    have hm : ∀ o (h : o + 128 ≤ 768), o ≤ (x 1).val → (x 1).val < o + 128 → x ∈ (colPiece d fX idxs hn hin o h).1.set :=
      fun o h h0 h1 => mem_cols (fun | 0 => Nat.le_of_eq (Nat.zero_add _) | 1 => h) x h0 h1
    rcases (show (x 1).val < 128 ∨ (128 ≤ (x 1).val ∧ (x 1).val < 256) ∨ (256 ≤ (x 1).val ∧ (x 1).val < 384) ∨ (384 ≤ (x 1).val ∧ (x 1).val < 512)
      ∨ (512 ≤ (x 1).val ∧ (x 1).val < 640) ∨ 640 ≤ (x 1).val by omega) with h | h | h | h | h | h
    · exact ⟨_, .tail _ (.tail _ (.tail _ (.tail _ (.tail _ (.head _))))), hm _ _ (by omega) (by omega)⟩
    · exact ⟨_, .tail _ (.tail _ (.tail _ (.tail _ (.head _)))), hm _ _ (by omega) (by omega)⟩
    · exact ⟨_, .tail _ (.tail _ (.tail _ (.head _))), hm _ _ (by omega) (by omega)⟩
    · exact ⟨_, .tail _ (.tail _ (.head _)), hm _ _ (by omega) (by omega)⟩
    · exact ⟨_, .tail _ (.head _), hm _ _ (by omega) (by omega)⟩
    · exact ⟨_, .head _, hm _ _ (by omega) (by omega)⟩

theorem gather_idx (fI : Buf (Elt F) (ridLoc d)) (fs : Buf (Elt F) ((V d (cV L) (jV L)).loc cc0_scratch0)) (k : Fin 160) :
    (sV).view.read (Elt F) (View.write (Elt F) (sV).view fs (ReadAs.same.apply (View.read (Elt F) ((iV).slice (Rect.unit (s := S5120) (k0_off1 L) S160.size (k0_off1_inb L)) (fun _ => rfl)).view fI)) Finset.univ) (ValueIdx.ix1 k)
      = fI (ValueIdx.ix1 (n := 5120) ⟨320 * (L 1).val + 160 * (L 0).val + k.val, by
          have h1 : (L 1).val < 16 := (L 1).isLt; have h0 : (L 0).val < 2 := (L 0).isLt; have := k.isLt; omega⟩) := by
  rw [View.write_whole_univ]
  show fI _ = fI _
  congr 1
  funext a
  match a with
  | 0 =>
    apply Fin.ext
    show k0_off1 L 0 + 1 * k.val = _
    have e := congrFun (k0_off1_eq L) 0
    refine (congrArg (· + 1 * k.val) e).trans ?_
    show 320 * (L 1).val + 160 * (L 0).val + 1 * k.val = 320 * (L 1).val + 160 * (L 0).val + k.val
    rw [Nat.one_mul]

theorem gather_value (fO w : Buf (Elt F) (xsLoc d)) (v : S160x768.Idx → Elt F .f32) (hv : ∀ x, v x = w ((xsK L).view.emb x)) :
    ∀ y ∈ xsSet (wV L), (xsK L).view.writes (Elt F) fO [⟨Rect.whole S160x768, v⟩] y = w y := by
  intro y hy
  have hy' : y ∈ (xsK L).view.set := by rw [set_xsK]; exact hy
  obtain ⟨x, -, hx⟩ := Finset.mem_map.1 hy'
  subst hx
  have h := (xsK L).view.read_writes_cons_emb (Val := Elt F) (f := fO) (Rect.whole S160x768) v [] x
  rw [Rect.emb_whole_apply, View.read_apply, cast_eq] at h
  rw [← hv x]
  exact h

/-- What one tile takes and what it brings back. -/
abbrev gatherGo (d : Dev nD) (w : Fin 32) (fI : Buf (Elt F) (ridLoc d)) (fX : Buf (Elt F) (xLoc d)) (fO : Buf (Elt F) (xsLoc d)) : sProp 𝕄 :=
  iprop((ridLoc d ↦{rq w} fI) ∗ (xLoc d ↦{rq w} fX) ∗ xsLoc d ↦[xsSet w]{fullShare} fO)

set_option maxHeartbeats 4000000 in
theorem gather_body (hF : (K (F := F)).Facts) (fI : Buf (Elt F) (ridLoc d)) (fX : Buf (Elt F) (xLoc d)) (fO : Buf (Elt F) (xsLoc d))
    (hI : ∀ j : S5120.Idx, (fI j : BitVec 32).toNat < 2048)
    (O : CellTallies nD τ sig (HIx 2)) (W : Waits sig (HIx 2)) (hO : ∀ g, O g none = 0) :
    iprop(levAts (K (F := F)).L (K (F := F)).lev ∗ emp ∗ gatherGo d (wV L) fI fX fO
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L iV (Memref.isWhole_whole _) xV (Memref.isWhole_whole _) oV (Memref.isWhole_whole _)
            sV (Memref.isWhole_whole _) rV (Memref.isWhole_whole _) cc0_scratch2 cc0_scoped0 cc0_scoped1)
          fun _ => iprop(gatherGo d (wV L) fI fX (gathered fI fX)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [k0_part1_eq_skeleton]; unfold k0_part1_skel
  rw [(K (F := F)).scopedBufs_V hF d (cV L) (jV L), SparseCore.Cfg.scopedSems0_V (Val := Elt F) d (cV L) (jV L)]
  obtain ⟨RS, hRS⟩ := sems_gather (F := F) d (cV L) (jV L)
  obtain ⟨RB, hRB⟩ := bufs_gather (F := F) d (cV L) (jV L)
  rw [hRS, hRB]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 2) O from
    (K (F := F)).mayWaits_none (thr := V d (cV L) (jV L)) hO) $$ Hlv
  ihave Hi' := (show (ridLoc d ↦{rq (wV L)} fI : sProp 𝕄) ⊢ (iV).view.loc (V d (cV L) (jV L)) ↦{rq (wV L)} fI from Entails.rfl) $$ Hi
  ihave Hx' := (show (xLoc d ↦{rq (wV L)} fX : sProp 𝕄) ⊢ (xV).view.loc (V d (cV L) (jV L)) ↦{rq (wV L)} fX from Entails.rfl) $$ Hx
  ihave Ho' := (show (xsLoc d ↦[xsSet (wV L)]{fullShare} fO : sProp 𝕄) ⊢ (xsK L).view.loc (V d (cV L) (jV L)) ↦[(xsK L).view.set]{fullShare} fO from
    Entails.of_eq (by rw [set_xsK])) $$ Ho
  ihave Hs' := (show ((V d (cV L) (jV L)).loc cc0_scratch0 ↦{fullShare} fs : sProp 𝕄) ⊢ (sV).view.loc (V d (cV L) (jV L)) ↦{fullShare} fs from Entails.rfl) $$ Hs
  ihave Hr' := (show ((V d (cV L) (jV L)).loc cc0_scratch1 ↦{fullShare} fr : sProp 𝕄) ⊢ (rV).view.loc (V d (cV L) (jV L)) ↦{fullShare} fr from Entails.rfl) $$ Hr
  sl_exec
  have hin : ∀ x, ((sV).view.read (Elt F) (View.write (Elt F) (sV).view fs (gather_body.sl.dma0 d L fI) Finset.univ) x).toNat
      < S2048x128.size gathers_S2048x128_S160x128.axis := by
    intro x
    rw [View.write_whole_univ]
    exact hI _
  sl_exec
  have hval : ∀ y ∈ xsSet (wV L), (xsK L).view.writes (Elt F) fO [⟨Rect.whole S160x768, gather_body.sl.dma0_1 d L fI fX fs fr hin⟩] y
      = gathered fI fX y :=
    gather_value d L fO _ _ fun x => gather_rows d L fI fX hI fr _ (gather_idx d L fI fs) _ hin x
  sl_step
  isplitl [Hi' Hx' Ho']
  · isplitl [Hi']; · iexact Hi'
    isplitl [Hx']; · iexact Hx'
    iapply (show ((xsK L).view.loc (V d (cV L) (jV L)) ↦[(xsK L).view.set]{fullShare} (xsK L).view.writes (Elt F) fO [⟨Rect.whole S160x768, gather_body.sl.dma0_1 d L fI fX fs fr hin⟩] : sProp 𝕄)
        ⊢ xsLoc d ↦[xsSet (wV L)]{fullShare} gathered fI fX from Entails.of_eq (by rw [set_xsK]; exact pointsTo_congr hval))
    iexact Ho'
  isplitl [Hs' Hr' Hbufs]
  · isplitl [Hs']; · iexists _; iexact Hs'
    isplitl [Hr']; · iexists _; iexact Hr'
    iexact Hbufs
  isplitl [HsemA HsemB HsemC Hsems]
  · isplitl [HsemA]; · iexact HsemA
    isplitl [HsemB]; · iexact HsemB
    isplitl [HsemC]; · iexact HsemC
    iexact Hsems
  iexists _; isplitr [HO]
  rotate_left
  · iexact HO
  ipureintro; intro p hp
  repeat (rcases Finset.mem_insert.mp hp with hp | hp; exact .inr (hp ▸ rfl))
  exact .inl hp

end Tile

end Cert.Proof.Moe

end
-- ==== Proof.Trip.lean ====
/- The second SparseCore call's arithmetic: a trip adds sixteen lanes of two gathered rows to a row of the input. -/
module
public import proofs.«01_k».proof.Proof.Common
public import Idealize.ShloMosaic.Lib.ValueLayout

@[expose] public section

noncomputable section

namespace Cert.Proof.Moe

open Cert.KernelIdeal Cert.KernelIdeal.Gen
open Idealize.ShloMosaic
open Idealize.ShloMosaic.ValueIdx

variable {F : FTy → Type} [FloatOps F]

set_option maxRecDepth 100000 in
theorem off4_eq : ∀ k : Fin k2_t1_loop.trips, k2_off4 k = ![k.val / 48, 16 * (k.val % 48)] := by
  decide +kernel
set_option maxRecDepth 100000 in
theorem off6_eq : ∀ k : Fin k2_t1_loop.trips, k2_off6 k = ![32 + k.val / 48, 16 * (k.val % 48)] := by
  decide +kernel
theorem off5_eq : k2_off5 = k2_off4 := rfl
theorem off7_eq : k2_off7 = k2_off4 := rfl
theorem off8_eq : k2_off8 = k2_off4 := rfl
theorem off9_eq : k2_off9 = k2_off6 := rfl
theorem trips_eq : k2_t1_loop.trips = 1536 := by decide +kernel
theorem trips2_eq : k2_t2_loop.trips = 1536 := trips_eq

/-- Row `i` of the input plus rows `i` and `32 + i` of the gathered ones. -/
def sum3 (fE : S32x768.Idx → Elt F .f32) (fG : S64x768.Idx → Elt F .f32) : S32x768.Idx → Elt F .f32 := fun j =>
  FloatOps.addf (FloatOps.addf (fE j) (fG (ix2 (n0 := 64) (n1 := 768) ⟨(j 0).val, by have h : (j 0).val < 32 := (j 0).isLt; omega⟩ (j 1))))
    (fG (ix2 (n0 := 64) (n1 := 768) ⟨32 + (j 0).val, by have h : (j 0).val < 32 := (j 0).isLt; omega⟩ (j 1)))

/-- The rows after `k` trips: trip `k` does lanes `16 (k % 48)` on of row `k / 48`. -/
def stage (fE : S32x768.Idx → Elt F .f32) (fG : S64x768.Idx → Elt F .f32) (k : ℕ) : S32x768.Idx → Elt F .f32 := fun j =>
  if 48 * (j 0).val + (j 1).val / 16 < k then sum3 fE fG j else fE j

theorem stage_zero (fE : S32x768.Idx → Elt F .f32) (fG : S64x768.Idx → Elt F .f32) : stage fE fG 0 = fE :=
  funext fun _ => if_neg (Nat.not_lt_zero _)

theorem stage_last (fE : S32x768.Idx → Elt F .f32) (fG : S64x768.Idx → Elt F .f32) : stage fE fG 1536 = sum3 fE fG :=
  funext fun j => if_pos (by
    have h0 : (j 0).val < 32 := (j 0).isLt
    have h1 : (j 1).val < 768 := (j 1).isLt
    omega)

theorem pay_apply (a b c : Vec F S1x16 .f32) (x : S1x16.Idx) : k2_pay4 (k2_pay2 a b c) x = FloatOps.addf (FloatOps.addf (a x) (b x)) (c x) := by
  obtain ⟨u, i, rfl⟩ : ∃ u i, x = ix2 u i := ⟨x 0, x 1, eq_ix2 x⟩
  unfold k2_pay4 k2_pay2
  have hu : u = (0 : Fin 1) := Fin.ext (by omega)
  subst hu
  rw [shapeCast_a_1a_apply]
  show FloatOps.addf (FloatOps.addf (shapeCast S16 a _ (ix1 i)) (shapeCast S16 b _ (ix1 i))) (shapeCast S16 c _ (ix1 i)) = _
  rw [shapeCast_1a_a_apply, shapeCast_1a_a_apply, shapeCast_1a_a_apply]

local notation "gV" => (Memref.whole Cert.KernelIdeal.cc2_scratch1 : Memref Cert.KernelIdeal.sig Kind.scVector Space.vmem Cert.KernelIdeal.S64x768 EltTy.f32)
local notation "eV" => (Memref.whole Cert.KernelIdeal.cc2_scratch2 : Memref Cert.KernelIdeal.sig Kind.scVector Space.vmem Cert.KernelIdeal.S32x768 EltTy.f32)

theorem stage_succ (fE : S32x768.Idx → Elt F .f32) (fG : S64x768.Idx → Elt F .f32) (k : Fin k2_t1_loop.trips) :
    (eV).view.writes (Elt F) (stage fE fG k.val) [⟨Rect.unit (s := S32x768) (k2_off4 k) S1x16.size (k2_off4_inb k),
        k2_pay4 (k2_pay2 (View.readAt (Elt F) (eV).view (Rect.unit (s := S32x768) (k2_off4 k) S1x16.size (k2_off4_inb k)).toLoadRect (stage fE fG k.val))
          (View.readAt (Elt F) (gV).view (Rect.unit (s := S64x768) (k2_off5 k) S1x16.size (k2_off5_inb k)).toLoadRect fG)
          (View.readAt (Elt F) (gV).view (Rect.unit (s := S64x768) (k2_off6 k) S1x16.size (k2_off6_inb k)).toLoadRect fG))⟩]
      = stage fE fG (k.val + 1) := by
  have hk : k.val < 1536 := trips_eq ▸ k.isLt
  have e0 : k2_off4 k 0 = k.val / 48 := congrFun (off4_eq k) 0
  have e1 : k2_off4 k 1 = 16 * (k.val % 48) := congrFun (off4_eq k) 1
  have e50 : k2_off5 k 0 = k.val / 48 := congrFun (off4_eq k) 0
  have e51 : k2_off5 k 1 = 16 * (k.val % 48) := congrFun (off4_eq k) 1
  have e60 : k2_off6 k 0 = 32 + k.val / 48 := congrFun (off6_eq k) 0
  have e61 : k2_off6 k 1 = 16 * (k.val % 48) := congrFun (off6_eq k) 1
  generalize hP : k2_pay4 (k2_pay2 (View.readAt (Elt F) (eV).view (Rect.unit (s := S32x768) (k2_off4 k) S1x16.size (k2_off4_inb k)).toLoadRect (stage fE fG k.val))
          (View.readAt (Elt F) (gV).view (Rect.unit (s := S64x768) (k2_off5 k) S1x16.size (k2_off5_inb k)).toLoadRect fG)
          (View.readAt (Elt F) (gV).view (Rect.unit (s := S64x768) (k2_off6 k) S1x16.size (k2_off6_inb k)).toLoadRect fG)) = P
  funext y
  have h0 : (y 0).val < 32 := (y 0).isLt
  have h1 : (y 1).val < 768 := (y 1).isLt
  by_cases hy : 48 * (y 0).val + (y 1).val / 16 = k.val
  · have hm : y ∈ (Rect.unit (s := S32x768) (k2_off4 k) S1x16.size (k2_off4_inb k)).set := by
      rw [Rect.mem_set_unit]
      intro a
      match a with
      | 0 => rw [e0]; show _ ∧ (y 0).val < _ + 1; omega
      | 1 => rw [e1]; show _ ∧ (y 1).val < _ + 16; omega
    obtain ⟨x, rfl⟩ : ∃ x, (Rect.unit (s := S32x768) (k2_off4 k) S1x16.size (k2_off4_inb k)).emb x = y := (Rect.unit (s := S32x768) (k2_off4 k) S1x16.size (k2_off4_inb k)).exists_idx_of_mem hm
    have hr := (eV).view.read_writes_cons_emb (Val := Elt F) (f := stage fE fG k.val) (Rect.unit (s := S32x768) (k2_off4 k) S1x16.size (k2_off4_inb k)) P [] x
    rw [View.read_apply, cast_eq] at hr
    refine Eq.trans hr ?_
    rw [← hP, pay_apply]
    have v0 : ((Rect.unit (s := S32x768) (k2_off4 k) S1x16.size (k2_off4_inb k)).emb x 0).val = k2_off4 k 0 + 1 * (x 0).val := rfl
    have v1 : ((Rect.unit (s := S32x768) (k2_off4 k) S1x16.size (k2_off4_inb k)).emb x 1).val = k2_off4 k 1 + 1 * (x 1).val := rfl
    have w0 : (x 0).val < 1 := (x 0).isLt
    rw [stage, if_pos (by omega)]
    unfold sum3
    have hA : View.readAt (Elt F) (eV).view (Rect.unit (s := S32x768) (k2_off4 k) S1x16.size (k2_off4_inb k)).toLoadRect (stage fE fG k.val) x
        = fE ((Rect.unit (s := S32x768) (k2_off4 k) S1x16.size (k2_off4_inb k)).emb x) := by
      show stage fE fG k.val ((Rect.unit (s := S32x768) (k2_off4 k) S1x16.size (k2_off4_inb k)).emb x) = _
      rw [stage, if_neg (by omega)]
    rw [hA]
    congr 1
    · congr 1
      show fG _ = fG _
      congr 1
      funext a
      match a with
      | 0 => apply Fin.ext; show k2_off5 k 0 + 1 * (x 0).val = k2_off4 k 0 + 1 * (x 0).val; rw [e0, e50]
      | 1 => apply Fin.ext; show k2_off5 k 1 + 1 * (x 1).val = k2_off4 k 1 + 1 * (x 1).val; rw [e1, e51]
    · show fG _ = fG _
      congr 1
      funext a
      match a with
      | 0 => apply Fin.ext; show k2_off6 k 0 + 1 * (x 0).val = 32 + (k2_off4 k 0 + 1 * (x 0).val); rw [e0, e60, Nat.add_assoc]
      | 1 => apply Fin.ext; show k2_off6 k 1 + 1 * (x 1).val = k2_off4 k 1 + 1 * (x 1).val; rw [e1, e61]
  · have hm : y ∉ (Rect.unit (s := S32x768) (k2_off4 k) S1x16.size (k2_off4_inb k)).set := by
      rw [Rect.mem_set_unit]
      intro h
      have a0 := h 0
      have a1 := h 1
      rw [e0] at a0; rw [e1] at a1
      have b0 : (y 0).val < k.val / 48 + 1 := a0.2
      have b1 : (y 1).val < 16 * (k.val % 48) + 16 := a1.2
      omega
    have hr := (eV).view.read_writes_cons_miss (Val := Elt F) (stage fE fG k.val) ⟨Rect.unit (s := S32x768) (k2_off4 k) S1x16.size (k2_off4_inb k), P⟩ [] y hm
    rw [View.read_apply, cast_eq] at hr
    refine Eq.trans hr ?_
    show stage fE fG k.val y = stage fE fG (k.val + 1) y
    unfold stage
    by_cases hlt : 48 * (y 0).val + (y 1).val / 16 < k.val
    · rw [if_pos hlt, if_pos (by omega)]
    · rw [if_neg hlt, if_neg (by omega)]

end Cert.Proof.Moe
end
-- ==== Proof.Combine.lean ====
/- The second SparseCore call: each of thirty-two tiles takes two chunks of thirty-two tokens; for a chunk it fetches
   the tokens' two row numbers, gathers those rows, and adds them to the tokens' own rows. -/
module

public import proofs.«01_k».proof.Proof.Trip
public import proofs.«01_k».proof.Proof.Gather

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

abbrev posLoc (d : Dev nD) : Loc nD τ sig := (SparseCore.T d).loc main_v11
abbrev ysLoc (d : Dev nD) : Loc nD τ sig := (SparseCore.T d).loc main_v10
abbrev outLoc (d : Dev nD) : Loc nD τ sig := (SparseCore.T d).loc main_v12

local notation "pV" => (Memref.whole Cert.KernelIdeal.main_v11_scv : Memref Cert.KernelIdeal.sig Kind.scVector Space.hbm Cert.KernelIdeal.S4096 EltTy.i32)
local notation "xV" => (Memref.whole Cert.KernelIdeal.main_v0_scv : Memref Cert.KernelIdeal.sig Kind.scVector Space.hbm Cert.KernelIdeal.S2048x768 EltTy.f32)
local notation "yV" => (Memref.whole Cert.KernelIdeal.main_v10_scv : Memref Cert.KernelIdeal.sig Kind.scVector Space.hbm Cert.KernelIdeal.S5120x768 EltTy.f32)
local notation "oV" => (Memref.whole Cert.KernelIdeal.main_v12_scv : Memref Cert.KernelIdeal.sig Kind.scVector Space.hbm Cert.KernelIdeal.S2048x768 EltTy.f32)
local notation "sV" => (Memref.whole Cert.KernelIdeal.cc2_scratch0 : Memref Cert.KernelIdeal.sig Kind.scVector Space.vmem Cert.KernelIdeal.S64 EltTy.i32)
local notation "gV" => (Memref.whole Cert.KernelIdeal.cc2_scratch1 : Memref Cert.KernelIdeal.sig Kind.scVector Space.vmem Cert.KernelIdeal.S64x768 EltTy.f32)
local notation "eV" => (Memref.whole Cert.KernelIdeal.cc2_scratch2 : Memref Cert.KernelIdeal.sig Kind.scVector Space.vmem Cert.KernelIdeal.S32x768 EltTy.f32)

theorem div_out : 64 ∣ S2048x768.size 0 := ⟨32, rfl⟩
/-- Chunk `w` of the tokens. -/
abbrev outRect (w : Fin 64) : Rect S2048x768 := Rect.part (s := S2048x768) (a₀ := 0) div_out w
abbrev outSet (w : Fin 64) : Finset S2048x768.Idx := ((oV).view.slice (outRect w)).set

/-- What the call leaves: a token's row plus the rows its two positions name. -/
def combined {d : Dev nD} (fP : Buf (Elt F) (posLoc d)) (fX : Buf (Elt F) (xLoc d)) (fY : Buf (Elt F) (ysLoc d)) : Buf (Elt F) (outLoc d) :=
  fun j : S2048x768.Idx =>
    FloatOps.addf (FloatOps.addf (fX j)
      (fY (ValueIdx.ix2 (n0 := 5120) (n1 := 768) ⟨((fP (ValueIdx.ix1 (n := 4096) ⟨(j 0).val, by have h : (j 0).val < 2048 := (j 0).isLt; omega⟩) : BitVec 32)).toNat % 5120, Nat.mod_lt _ (by decide)⟩ (j 1))))
      (fY (ValueIdx.ix2 (n0 := 5120) (n1 := 768) ⟨((fP (ValueIdx.ix1 (n := 4096) ⟨2048 + (j 0).val, by have h : (j 0).val < 2048 := (j 0).isLt; omega⟩) : BitVec 32)).toNat % 5120, Nat.mod_lt _ (by decide)⟩ (j 1)))

section Tile

variable (d : Dev nD) (L : grid2.Coords)

abbrev c2V (L : grid2.Coords) : Fin τ.nSC := (L 0).castLE hcore2
abbrev j2V (L : grid2.Coords) : Fin τ.nSub := (L 1).castLE hsub2
abbrev w2V (L : grid2.Coords) : Fin 32 := wid (Fin.cast (show grid2.bound 0 = 2 from rfl) (L 0)) (Fin.cast (show grid2.bound 1 = 16 from rfl) (L 1))
/-- Chunk `r` of tile `w`. -/
abbrev chunk (w : Fin 32) (r : Fin 2) : Fin 64 := ⟨2 * w.val + r.val, by omega⟩

/-- The first token of the tile's chunk `r`. -/
abbrev base (L : grid2.Coords) (r : Fin 2) : ℕ := 128 * (L 1).val + 64 * (L 0).val + 32 * r.val
theorem base_lt (r : Fin 2) : base L r + 32 ≤ 2048 := by
  have h1 : (L 1).val < 16 := (L 1).isLt
  have h0 : (L 0).val < 2 := (L 0).isLt
  unfold base; omega

abbrev outR (o : Fin 2 → ℕ) (h : ∀ a, o a + S32x768.size a ≤ S2048x768.size a) : Rect S2048x768 := Rect.unit (s := S2048x768) o S32x768.size h
abbrev outK (o : Fin 2 → ℕ) (h : ∀ a, o a + S32x768.size a ≤ S2048x768.size a) : Memref sig .scVector .hbm S32x768 .f32 := (oV).slice (outR o h) (fun _ => rfl)
abbrev outK0 (L : grid2.Coords) : Memref sig .scVector .hbm S32x768 .f32 := outK (k2_off3 L 0#32) (k2_off3_inb L 0)
abbrev outK1 (L : grid2.Coords) : Memref sig .scVector .hbm S32x768 .f32 := outK (k2_off3 L 32#32) (k2_off3_inb L 1)

omit [FloatOps F] in
theorem outRectK_eq (r : Fin 2) : Rect.unit (s := S2048x768) (k2_off3 L (BitVec.ofNat 32 (32 * r.val))) S32x768.size (k2_off3_inb L r) = outRect (chunk (w2V L) r) := by
  unfold outRect Rect.part Rect.block
  congr 1 <;> funext a
  · rw [k2_off3_eq]
    match a with
    | 0 =>
      simp only [Shape.partIx, Shape.partSize, wid]
      show 128 * (L 1).val + 64 * (L 0).val + 32 * r.val = (2 * (2 * (L 1).val + (L 0).val) + r.val) * (2048 / 64)
      omega
    | 1 => simp [Shape.partIx, Shape.partSize]
  · match a with
    | 0 => simp [Shape.partSize]
    | 1 => simp [Shape.partSize]

omit [FloatOps F] in
theorem set_outK0 : (outK0 L).view.set = outSet (chunk (w2V L) 0) := by
  show ((oV).view.slice (outR (k2_off3 L 0#32) (k2_off3_inb L 0))).set = ((oV).view.slice (outRect (chunk (w2V L) 0))).set
  exact (show outR (k2_off3 L 0#32) (k2_off3_inb L 0) = outRect (chunk (w2V L) 0) from outRectK_eq L 0) ▸ rfl
omit [FloatOps F] in
theorem set_outK1 : (outK1 L).view.set = outSet (chunk (w2V L) 1) := by
  show ((oV).view.slice (outR (k2_off3 L 32#32) (k2_off3_inb L 1))).set = ((oV).view.slice (outRect (chunk (w2V L) 1))).set
  exact (show outR (k2_off3 L 32#32) (k2_off3_inb L 1) = outRect (chunk (w2V L) 1) from outRectK_eq L 1) ▸ rfl

/-! ### The values -/

/-- The row numbers of chunk `r`'s tokens: the first of each token, then the second of each. -/
def idxOf (fP : Buf (Elt F) (posLoc d)) (r : Fin 2) : S64.Idx → Elt F .i32 := fun k =>
  fP (ValueIdx.ix1 (n := 4096) ⟨if (k 0).val < 32 then base L r + (k 0).val else 2048 + base L r + ((k 0).val - 32), by
    have h : (k 0).val < 64 := (k 0).isLt
    have := base_lt L r
    split <;> omega⟩)

theorem idx_writes (fP : Buf (Elt F) (posLoc d)) (r : Fin 2) (f : Buf (Elt F) ((V d (c2V L) (j2V L)).loc cc2_scratch0)) :
    (sV).view.writes (Elt F) f
      [⟨Rect.unit (s := S64) ![32] S32.size inb_S64_S32_32,
        ReadAs.same.apply (View.read (Elt F) ((pV).slice (Rect.unit (s := S4096) (k2_off2 L (BitVec.ofNat 32 (32 * r.val))) S32.size (k2_off2_inb L r)) (fun _ => rfl)).view fP)⟩,
       ⟨Rect.unit (s := S64) ![0] S32.size inb_S64_S32_0,
        ReadAs.same.apply (View.read (Elt F) ((pV).slice (Rect.unit (s := S4096) (k2_off1 L (BitVec.ofNat 32 (32 * r.val))) S32.size (k2_off1_inb L r)) (fun _ => rfl)).view fP)⟩]
      = idxOf d L fP r := by
  funext y
  have hy : (y 0).val < 64 := (y 0).isLt
  have h := View.read_writes_apply_of_pieces (Val := Elt F) (sV).view f (idxOf d L fP r)
    [⟨Rect.unit (s := S64) ![32] S32.size inb_S64_S32_32,
        ReadAs.same.apply (View.read (Elt F) ((pV).slice (Rect.unit (s := S4096) (k2_off2 L (BitVec.ofNat 32 (32 * r.val))) S32.size (k2_off2_inb L r)) (fun _ => rfl)).view fP)⟩,
     ⟨Rect.unit (s := S64) ![0] S32.size inb_S64_S32_0,
        ReadAs.same.apply (View.read (Elt F) ((pV).slice (Rect.unit (s := S4096) (k2_off1 L (BitVec.ofNat 32 (32 * r.val))) S32.size (k2_off1_inb L r)) (fun _ => rfl)).view fP)⟩]
    ?_ y ?_
  · rw [View.read_apply, cast_eq] at h
    exact h
  · refine List.forall_mem_cons.2 ⟨fun x => ?_, List.forall_mem_cons.2 ⟨fun x => ?_, fun _ h => absurd h List.not_mem_nil⟩⟩
    · show fP _ = fP _
      congr 1
      funext a
      match a with
      | 0 =>
        apply Fin.ext
        have hx : (x 0).val < 32 := (x 0).isLt
        have e : k2_off2 L (BitVec.ofNat 32 (32 * r.val)) 0 = 128 * (L 1).val + 64 * (L 0).val + 32 * r.val + 2048 := congrFun (k2_off2_eq L r) 0
        show k2_off2 L (BitVec.ofNat 32 (32 * r.val)) 0 + 1 * (x 0).val = if 32 + 1 * (x 0).val < 32 then _ else 2048 + base L r + (32 + 1 * (x 0).val - 32)
        rw [if_neg (by omega), e]
        unfold base
        omega
    · show fP _ = fP _
      congr 1
      funext a
      match a with
      | 0 =>
        apply Fin.ext
        have hx : (x 0).val < 32 := (x 0).isLt
        have e : k2_off1 L (BitVec.ofNat 32 (32 * r.val)) 0 = 128 * (L 1).val + 64 * (L 0).val + 32 * r.val := congrFun (k2_off1_eq L r) 0
        show k2_off1 L (BitVec.ofNat 32 (32 * r.val)) 0 + 1 * (x 0).val = if 0 + 1 * (x 0).val < 32 then base L r + (0 + 1 * (x 0).val) else _
        rw [if_pos (by omega), e]
        unfold base
        omega
  · by_cases hlt : (y 0).val < 32
    · refine ⟨_, .tail _ (.head _), ?_⟩
      rw [Rect.mem_set_unit]
      intro a
      match a with
      | 0 => exact ⟨Nat.zero_le _, by show (y 0).val < 0 + 32; omega⟩
    · refine ⟨_, .head _, ?_⟩
      rw [Rect.mem_set_unit]
      intro a
      match a with
      | 0 => exact ⟨by show 32 ≤ (y 0).val; omega, by show (y 0).val < 32 + 32; omega⟩

/-- The columns the gather at `o` reads of the table, and those it fills. -/
abbrev colY (o : ℕ) (h : o + 128 ≤ 768) : Memref sig .scVector .hbm S5120x128 .f32 :=
  (yV).slice (Rect.unit (s := S5120x768) ![0, o] S5120x128.size (fun | 0 => Nat.le_of_eq (Nat.zero_add _) | 1 => h)) (fun _ => rfl)
abbrev colG (o : ℕ) (h : o + 128 ≤ 768) : Rect S64x768 :=
  Rect.unit (s := S64x768) ![0, o] S64x128.size (fun | 0 => Nat.le_of_eq (Nat.zero_add _) | 1 => h)

/-- The gathered rows. -/
def gRows (idxs : S64.Idx → Elt F .i32) (fY : Buf (Elt F) (ysLoc d)) : S64x768.Idx → Elt F .f32 := fun j =>
  fY (ValueIdx.ix2 (n0 := 5120) (n1 := 768) ⟨(idxs (ValueIdx.ix1 (n := 64) (j 0)) : BitVec 32).toNat % 5120, Nat.mod_lt _ (by decide)⟩ (j 1))

theorem gRow_piece (fY : Buf (Elt F) (ysLoc d)) (o : ℕ) (h : o + 128 ≤ 768) (idxs : S64.Idx → Elt F .i32)
    (hn : S64.numel = S64x128.size gathers_S5120x128_S64x128.axis')
    (hin : ∀ x, (idxs x : BitVec 32).toNat < S5120x128.size gathers_S5120x128_S64x128.axis) (x : S64x128.Idx) :
    SparseCore.gatherPayload gathers_S5120x128_S64x128 (View.read (Elt F) (colY o h).view fY) (SparseCore.rows idxs hn hin) x
      = gRows d idxs fY ((colG o h).emb x) := by
  rw [show SparseCore.gatherPayload gathers_S5120x128_S64x128 (View.read (Elt F) (colY o h).view fY) (SparseCore.rows idxs hn hin) x = _
    from payload_apply (N := 5120) (n := 64) (m := 128) gathers_S5120x128_S64x128 _ _ x]
  unfold gRows
  show fY _ = fY _
  congr 1
  have e := rows_val (F := F) (n := 64) (N := 5120) idxs hn hin (x 0)
  have hlt : (idxs (ValueIdx.ix1 (n := 64) (x 0)) : BitVec 32).toNat < 5120 := hin _
  funext a
  apply Fin.ext
  match a with
  | 0 =>
    have hx0 : ((colG o h).emb x 0) = (x 0 : Fin 64) := Fin.ext (by show 0 + 1 * (x 0).val = (x 0).val; omega)
    show 0 + 1 * (SparseCore.rows idxs hn hin (x 0)).val = (idxs (ValueIdx.ix1 (n := 64) ((colG o h).emb x 0)) : BitVec 32).toNat % 5120
    rw [hx0, Nat.mod_eq_of_lt hlt, Nat.one_mul, Nat.zero_add]
    exact e
  | 1 => rfl

/-- What one gather fills in. -/
def gPiece (fY : Buf (Elt F) (ysLoc d)) (idxs : S64.Idx → Elt F .i32) (hn : S64.numel = S64x128.size gathers_S5120x128_S64x128.axis')
    (hin : ∀ x, (idxs x : BitVec 32).toNat < S5120x128.size gathers_S5120x128_S64x128.axis) (o : ℕ) (h : o + 128 ≤ 768) :
    View.Piece (Elt F) S64x768 .f32 :=
  ⟨colG o h, SparseCore.gatherPayload gathers_S5120x128_S64x128 (View.read (Elt F) (colY o h).view fY) (SparseCore.rows idxs hn hin)⟩

theorem g_writes (fY : Buf (Elt F) (ysLoc d)) (f : Buf (Elt F) ((V d (c2V L) (j2V L)).loc cc2_scratch1)) (idxs : S64.Idx → Elt F .i32)
    (hn : S64.numel = S64x128.size gathers_S5120x128_S64x128.axis')
    (hin : ∀ x, (idxs x : BitVec 32).toNat < S5120x128.size gathers_S5120x128_S64x128.axis) :
    (gV).view.writes (Elt F) f [gPiece d fY idxs hn hin 640 (by decide), gPiece d fY idxs hn hin 512 (by decide),
        gPiece d fY idxs hn hin 384 (by decide), gPiece d fY idxs hn hin 256 (by decide), gPiece d fY idxs hn hin 128 (by decide),
        gPiece d fY idxs hn hin 0 (by decide)]
      = gRows d idxs fY := by
  funext x
  have hr := View.read_writes_apply_of_pieces (Val := Elt F) (gV).view f (gRows d idxs fY)
    [gPiece d fY idxs hn hin 640 (by decide), gPiece d fY idxs hn hin 512 (by decide),
        gPiece d fY idxs hn hin 384 (by decide), gPiece d fY idxs hn hin 256 (by decide), gPiece d fY idxs hn hin 128 (by decide),
        gPiece d fY idxs hn hin 0 (by decide)] ?_ x ?_
  · rw [View.read_apply, cast_eq] at hr
    exact hr
  · have hp : ∀ o h, ∀ x, (gPiece d fY idxs hn hin o h).2 x = gRows d idxs fY ((gPiece d fY idxs hn hin o h).1.emb x) :=
      fun o h x => gRow_piece d fY o h idxs hn hin x
    exact List.forall_mem_cons.2 ⟨hp _ _, List.forall_mem_cons.2 ⟨hp _ _, List.forall_mem_cons.2 ⟨hp _ _, List.forall_mem_cons.2 ⟨hp _ _,
      List.forall_mem_cons.2 ⟨hp _ _, List.forall_mem_cons.2 ⟨hp _ _, fun _ h => absurd h List.not_mem_nil⟩⟩⟩⟩⟩⟩
  · have h1 : (x 1).val < 768 := (x 1).isLt
    have hm : ∀ o (h : o + 128 ≤ 768), o ≤ (x 1).val → (x 1).val < o + 128 → x ∈ (gPiece d fY idxs hn hin o h).1.set :=
      fun o h h0 h1 => mem_cols (fun | 0 => Nat.le_of_eq (Nat.zero_add _) | 1 => h) x h0 h1
    rcases (show (x 1).val < 128 ∨ (128 ≤ (x 1).val ∧ (x 1).val < 256) ∨ (256 ≤ (x 1).val ∧ (x 1).val < 384) ∨ (384 ≤ (x 1).val ∧ (x 1).val < 512)
      ∨ (512 ≤ (x 1).val ∧ (x 1).val < 640) ∨ 640 ≤ (x 1).val by omega) with h | h | h | h | h | h
    · exact ⟨_, .tail _ (.tail _ (.tail _ (.tail _ (.tail _ (.head _))))), hm _ _ (by omega) (by omega)⟩
    · exact ⟨_, .tail _ (.tail _ (.tail _ (.tail _ (.head _)))), hm _ _ (by omega) (by omega)⟩
    · exact ⟨_, .tail _ (.tail _ (.tail _ (.head _))), hm _ _ (by omega) (by omega)⟩
    · exact ⟨_, .tail _ (.tail _ (.head _)), hm _ _ (by omega) (by omega)⟩
    · exact ⟨_, .tail _ (.head _), hm _ _ (by omega) (by omega)⟩
    · exact ⟨_, .head _, hm _ _ (by omega) (by omega)⟩

/-- The tokens' own rows of chunk `r`. -/
def eRows (fX : Buf (Elt F) (xLoc d)) (r : Fin 2) : S32x768.Idx → Elt F .f32 := fun j =>
  fX (ValueIdx.ix2 (n0 := 2048) (n1 := 768) ⟨base L r + (j 0).val, by
    have h : (j 0).val < 32 := (j 0).isLt
    have := base_lt L r
    omega⟩ (j 1))

theorem eRows_read (fX : Buf (Elt F) (xLoc d)) (r : Fin 2) :
    View.read (Elt F) ((xV).slice (Rect.unit (s := S2048x768) (k2_off3 L (BitVec.ofNat 32 (32 * r.val))) S32x768.size (k2_off3_inb L r)) (fun _ => rfl)).view fX
      = eRows d L fX r := by
  funext x
  show fX _ = fX _
  congr 1
  funext a
  apply Fin.ext
  match a with
  | 0 =>
    have e : k2_off3 L (BitVec.ofNat 32 (32 * r.val)) 0 = 128 * (L 1).val + 64 * (L 0).val + 32 * r.val := congrFun (k2_off3_eq L r) 0
    show k2_off3 L (BitVec.ofNat 32 (32 * r.val)) 0 + 1 * (x 0).val = base L r + (x 0).val
    rw [e]; unfold base; omega
  | 1 =>
    have e : k2_off3 L (BitVec.ofNat 32 (32 * r.val)) 1 = 0 := congrFun (k2_off3_eq L r) 1
    show k2_off3 L (BitVec.ofNat 32 (32 * r.val)) 1 + 1 * (x 1).val = (x 1).val
    rw [e]; omega

theorem sum3_eq (fP : Buf (Elt F) (posLoc d)) (fX : Buf (Elt F) (xLoc d)) (fY : Buf (Elt F) (ysLoc d)) (r : Fin 2) (x : S32x768.Idx) :
    sum3 (eRows d L fX r) (gRows d (idxOf d L fP r) fY) x
      = combined fP fX fY (((oV).slice (Rect.unit (s := S2048x768) (k2_off3 L (BitVec.ofNat 32 (32 * r.val))) S32x768.size (k2_off3_inb L r)) (fun _ => rfl)).view.emb x) := by
  have e0 : k2_off3 L (BitVec.ofNat 32 (32 * r.val)) 0 = 128 * (L 1).val + 64 * (L 0).val + 32 * r.val := congrFun (k2_off3_eq L r) 0
  have e1 : k2_off3 L (BitVec.ofNat 32 (32 * r.val)) 1 = 0 := congrFun (k2_off3_eq L r) 1
  generalize hz : (((oV).slice (Rect.unit (s := S2048x768) (k2_off3 L (BitVec.ofNat 32 (32 * r.val))) S32x768.size (k2_off3_inb L r)) (fun _ => rfl)).view.emb x) = z
  have z0 : (z 0).val = base L r + (x 0).val := by
    rw [← hz]
    show k2_off3 L (BitVec.ofNat 32 (32 * r.val)) 0 + 1 * (x 0).val = _
    rw [e0]; unfold base; omega
  have z1 : (z 1).val = (x 1).val := by
    rw [← hz]
    show k2_off3 L (BitVec.ofNat 32 (32 * r.val)) 1 + 1 * (x 1).val = _
    rw [e1]; omega
  have hx : (x 0).val < 32 := (x 0).isLt
  unfold sum3 combined eRows gRows idxOf
  congr 1
  · congr 1
    · congr 1
      funext a
      apply Fin.ext
      match a with
      | 0 => exact z0.symm
      | 1 => exact z1.symm
    · congr 1
      funext a
      apply Fin.ext
      match a with
      | 0 =>
        show (fP _ : BitVec 32).toNat % 5120 = (fP _ : BitVec 32).toNat % 5120
        congr 4
        apply Fin.ext
        show (if (x 0).val < 32 then base L r + (x 0).val else 2048 + base L r + ((x 0).val - 32)) = (z 0).val
        rw [if_pos hx, z0]
      | 1 => exact z1.symm
  · congr 1
    funext a
    apply Fin.ext
    match a with
    | 0 =>
      show (fP _ : BitVec 32).toNat % 5120 = (fP _ : BitVec 32).toNat % 5120
      congr 4
      apply Fin.ext
      show (if 32 + (x 0).val < 32 then base L r + (32 + (x 0).val) else 2048 + base L r + ((32 + (x 0).val) - 32)) = 2048 + (z 0).val
      rw [if_neg (by omega), z0]; omega
    | 1 => exact z1.symm

theorem out_value (o : Fin 2 → ℕ) (h : ∀ a, o a + S32x768.size a ≤ S2048x768.size a) (fO w : Buf (Elt F) (outLoc d)) (v : S32x768.Idx → Elt F .f32)
    (hv : ∀ x, v x = w ((outK o h).view.emb x)) :
    ∀ y ∈ (outK o h).view.set,
      (outK o h).view.writes (Elt F) fO [⟨Rect.whole S32x768, v⟩] y = w y := by
  intro y hy
  obtain ⟨(x : S32x768.Idx), -, rfl⟩ := Finset.mem_map.1 hy
  have hr := (outK o h).view.read_writes_cons_emb (Val := Elt F) (f := fO) (Rect.whole S32x768) v [] x
  rw [Rect.emb_whole_apply, View.read_apply, cast_eq] at hr
  rw [← hv x]
  exact hr

theorem idx_writes0 (fP : Buf (Elt F) (posLoc d)) (f : Buf (Elt F) ((V d (c2V L) (j2V L)).loc cc2_scratch0)) :
    ((sV).view.loc (V d (c2V L) (j2V L)) ↦{fullShare} (sV).view.writes (Elt F) f
      [⟨Rect.unit (s := S64) ![32] S32.size inb_S64_S32_32,
        ReadAs.same.apply (View.read (Elt F) ((pV).slice (Rect.unit (s := S4096) (k2_off2 L 0#32) S32.size (k2_off2_inb L 0)) (fun _ => rfl)).view fP)⟩,
       ⟨Rect.unit (s := S64) ![0] S32.size inb_S64_S32_0,
        ReadAs.same.apply (View.read (Elt F) ((pV).slice (Rect.unit (s := S4096) (k2_off1 L 0#32) S32.size (k2_off1_inb L 0)) (fun _ => rfl)).view fP)⟩] : sProp 𝕄)
      ⊢ (sV).view.loc (V d (c2V L) (j2V L)) ↦{fullShare} idxOf d L fP 0 :=
  Entails.of_eq (congrArg (fun f => ((sV).view.loc (V d (c2V L) (j2V L)) ↦{fullShare} f : sProp 𝕄)) (idx_writes d L fP 0 f))

theorem idx_writes1 (fP : Buf (Elt F) (posLoc d)) (f : Buf (Elt F) ((V d (c2V L) (j2V L)).loc cc2_scratch0)) :
    ((sV).view.loc (V d (c2V L) (j2V L)) ↦{fullShare} (sV).view.writes (Elt F) f
      [⟨Rect.unit (s := S64) ![32] S32.size inb_S64_S32_32,
        ReadAs.same.apply (View.read (Elt F) ((pV).slice (Rect.unit (s := S4096) (k2_off2 L 32#32) S32.size (k2_off2_inb L 1)) (fun _ => rfl)).view fP)⟩,
       ⟨Rect.unit (s := S64) ![0] S32.size inb_S64_S32_0,
        ReadAs.same.apply (View.read (Elt F) ((pV).slice (Rect.unit (s := S4096) (k2_off1 L 32#32) S32.size (k2_off1_inb L 1)) (fun _ => rfl)).view fP)⟩] : sProp 𝕄)
      ⊢ (sV).view.loc (V d (c2V L) (j2V L)) ↦{fullShare} idxOf d L fP 1 :=
  Entails.of_eq (congrArg (fun f => ((sV).view.loc (V d (c2V L) (j2V L)) ↦{fullShare} f : sProp 𝕄)) (idx_writes d L fP 1 f))

theorem sems_combine (d : Dev nD) (c : Fin τ.nSC) (i : Fin τ.nSub) : ∃ R : sProp 𝕄, (ownSems0 (V d c i) : sProp 𝕄)
    = iprop(semVal (V d c i, .dma cc2_scratch3.sem) 0 ∗ semVal (V d c i, .dma cc2_scoped0.sem) 0 ∗ semVal (V d c i, .dma cc2_scoped1.sem) 0
        ∗ semVal (V d c i, .dma cc2_scoped2.sem) 0 ∗ semVal (V d c i, .dma cc2_scoped3.sem) 0 ∗ semVal (V d c i, .dma cc2_scoped4.sem) 0
        ∗ semVal (V d c i, .dma cc2_scoped5.sem) 0 ∗ semVal (V d c i, .dma cc2_scoped6.sem) 0 ∗ semVal (V d c i, .dma cc2_scoped7.sem) 0 ∗ R) := by
  have h := ownSems0_take (F := F) d c i {cc2_scratch3.sem, cc2_scoped0.sem, cc2_scoped1.sem, cc2_scoped2.sem, cc2_scoped3.sem, cc2_scoped4.sem,
    cc2_scoped5.sem, cc2_scoped6.sem, cc2_scoped7.sem} (by decide)
  rw [bigSep_insert (by decide), bigSep_insert (by decide), bigSep_insert (by decide), bigSep_insert (by decide), bigSep_insert (by decide),
    bigSep_insert (by decide), bigSep_insert (by decide), bigSep_insert (by decide), bigSep_singleton] at h
  exact ⟨_, h.trans ((sep_assoc_eq _ _ _).trans (congrArg _ ((sep_assoc_eq _ _ _).trans (congrArg _ ((sep_assoc_eq _ _ _).trans (congrArg _ ((sep_assoc_eq _ _ _).trans (congrArg _ ((sep_assoc_eq _ _ _).trans (congrArg _ ((sep_assoc_eq _ _ _).trans (congrArg _ ((sep_assoc_eq _ _ _).trans (congrArg _ (sep_assoc_eq _ _ _)))))))))))))))⟩

theorem bufs_combine (d : Dev nD) (c : Fin τ.nSC) (i : Fin τ.nSub) : ∃ R : sProp 𝕄, (ownBufs (V d c i) : sProp 𝕄)
    = iprop((∃ f, (V d c i).loc cc2_scratch0 ↦{fullShare} f) ∗ (∃ f, (V d c i).loc cc2_scratch1 ↦{fullShare} f)
        ∗ (∃ f, (V d c i).loc cc2_scratch2 ↦{fullShare} f) ∗ R) := by
  have h := ownBufs_take (F := F) d c i {cc2_scratch0, cc2_scratch1, cc2_scratch2} (fun b hb => by
    rcases Finset.mem_insert.mp hb with rfl | hb
    · rfl
    rcases Finset.mem_insert.mp hb with rfl | hb
    · rfl
    · rw [Finset.mem_singleton.mp hb]; rfl)
  rw [bigSep_insert (by decide), bigSep_insert (by decide), bigSep_singleton] at h
  exact ⟨_, h.trans ((sep_assoc_eq _ _ _).trans (congrArg _ (sep_assoc_eq _ _ _)))⟩

/-- What one tile takes and what it brings back. -/
abbrev combineGo (d : Dev nD) (w : Fin 32) (fP : Buf (Elt F) (posLoc d)) (fX : Buf (Elt F) (xLoc d)) (fY : Buf (Elt F) (ysLoc d)) (fO : Buf (Elt F) (outLoc d)) : sProp 𝕄 :=
  iprop((posLoc d ↦{rq w} fP) ∗ (xLoc d ↦{rq w} fX) ∗ (ysLoc d ↦{rq w} fY) ∗ (outLoc d ↦[outSet (chunk w 0)]{fullShare} fO) ∗ outLoc d ↦[outSet (chunk w 1)]{fullShare} fO)

/-- The adding loop's invariant: after `k` trips. -/
abbrev tripInv (fE : S32x768.Idx → Elt F .f32) (fG : S64x768.Idx → Elt F .f32) (k : ℕ) (_ : BitVec 32) : sProp 𝕄 :=
  iprop(((gV).view.loc (V d (c2V L) (j2V L)) ↦{fullShare} fG) ∗ (eV).view.loc (V d (c2V L) (j2V L)) ↦{fullShare} stage fE fG k)

set_option maxHeartbeats 1000000 in
theorem trip1 (fE : S32x768.Idx → Elt F .f32) (fG : S64x768.Idx → Elt F .f32) (v1 : BitVec 32) (k : Fin k2_t1_loop.trips) (a : BitVec 32) :
    tripInv d L fE fG k.val a
      ⊢ wp frame (wpE (defs₀ (F := F)) 𝒱₀ (V d (c2V L) (j2V L)) none) Set.univ
          (k2_t1_body L pV (Memref.isWhole_whole _) xV (Memref.isWhole_whole _) yV (Memref.isWhole_whole _) oV (Memref.isWhole_whole _)
            sV (Memref.isWhole_whole _) gV (Memref.isWhole_whole _) eV (Memref.isWhole_whole _) cc2_scratch3
            cc2_scoped0 cc2_scoped1 cc2_scoped2 cc2_scoped3 cc2_scoped4 cc2_scoped5 cc2_scoped6 cc2_scoped7 v1 k a)
          fun a => tripInv d L fE fG (k.val + 1) a := by
  unfold k2_t1_body
  simp only [k2_part1_eq_skeleton]; unfold k2_part1_skel tripInv
  iintro ⟨Hg, He⟩
  sl_exec
  sl_step
  isplitl [Hg]; · iexact Hg
  iapply (show ((eV).view.loc (V d (c2V L) (j2V L)) ↦{fullShare} _ : sProp 𝕄) ⊢ (eV).view.loc (V d (c2V L) (j2V L)) ↦{fullShare} stage fE fG (k.val + 1) from
    Entails.of_eq (congrArg (fun f => ((eV).view.loc (V d (c2V L) (j2V L)) ↦{fullShare} f : sProp 𝕄)) (stage_succ fE fG k)))
  iexact He

set_option maxHeartbeats 1000000 in
theorem trip2 (fE : S32x768.Idx → Elt F .f32) (fG : S64x768.Idx → Elt F .f32) (k : Fin k2_t2_loop.trips) (a : BitVec 32) :
    tripInv d L fE fG k.val a
      ⊢ wp frame (wpE (defs₀ (F := F)) 𝒱₀ (V d (c2V L) (j2V L)) none) Set.univ
          (k2_t2_body L pV (Memref.isWhole_whole _) xV (Memref.isWhole_whole _) yV (Memref.isWhole_whole _) oV (Memref.isWhole_whole _)
            sV (Memref.isWhole_whole _) gV (Memref.isWhole_whole _) eV (Memref.isWhole_whole _) cc2_scratch3
            cc2_scoped0 cc2_scoped1 cc2_scoped2 cc2_scoped3 cc2_scoped4 cc2_scoped5 cc2_scoped6 cc2_scoped7 k a)
          fun a => tripInv d L fE fG (k.val + 1) a := by
  unfold k2_t2_body
  simp only [k2_part2_eq_skeleton]; unfold k2_part2_skel tripInv
  iintro ⟨Hg, He⟩
  sl_exec
  sl_step
  isplitl [Hg]; · iexact Hg
  iapply (show ((eV).view.loc (V d (c2V L) (j2V L)) ↦{fullShare} _ : sProp 𝕄) ⊢ (eV).view.loc (V d (c2V L) (j2V L)) ↦{fullShare} stage fE fG (k.val + 1) from
    Entails.of_eq (congrArg (fun f => ((eV).view.loc (V d (c2V L) (j2V L)) ↦{fullShare} f : sProp 𝕄)) (stage_succ fE fG k)))
  iexact He

set_option maxHeartbeats 4000000 in
theorem combine_body (hF : (K (F := F)).Facts) (fP : Buf (Elt F) (posLoc d)) (fX : Buf (Elt F) (xLoc d)) (fY : Buf (Elt F) (ysLoc d)) (fO : Buf (Elt F) (outLoc d))
    (hI : ∀ j : S4096.Idx, (fP j : BitVec 32).toNat < 5120)
    (O : CellTallies nD τ sig (HIx 2)) (W : Waits sig (HIx 2)) (hO : ∀ g, O g none = 0) :
    iprop(levAts (K (F := F)).L (K (F := F)).lev ∗ emp ∗ combineGo d (w2V L) fP fX fY fO
        ∗ scopedBufs (V d (c2V L) (j2V L)) ∗ scopedSems0 (V d (c2V L) (j2V L)) ∗ owes (V d (c2V L) (j2V L)) O W)
      ⊢ wp frame (wpE (defs₀ (F := F)) 𝒱₀ (V d (c2V L) (j2V L)) none) Set.univ
          (cc2__sc_combine_body L pV (Memref.isWhole_whole _) xV (Memref.isWhole_whole _) yV (Memref.isWhole_whole _) oV (Memref.isWhole_whole _)
            sV (Memref.isWhole_whole _) gV (Memref.isWhole_whole _) eV (Memref.isWhole_whole _) cc2_scratch3
            cc2_scoped0 cc2_scoped1 cc2_scoped2 cc2_scoped3 cc2_scoped4 cc2_scoped5 cc2_scoped6 cc2_scoped7)
          fun _ => iprop(combineGo d (w2V L) fP fX fY (combined fP fX fY)
            ∗ scopedBufs (V d (c2V L) (j2V L)) ∗ scopedSems0 (V d (c2V L) (j2V L))
            ∗ ∃ W', ⌜∀ p ∈ W', p ∈ W ∨ p.2 = none⌝ ∗ owes (V d (c2V L) (j2V L)) O W') := by
  simp only [cc2__sc_combine_body_eq_skeleton]; unfold cc2__sc_combine_body_skel
  simp only [k2_part3_eq_skeleton, k2_part4_eq_skeleton, k2_part5_eq_skeleton, k2_part6_eq_skeleton]
  unfold k2_part3_skel k2_part4_skel k2_part5_skel k2_part6_skel
  rw [(K (F := F)).scopedBufs_V hF d (c2V L) (j2V L), SparseCore.Cfg.scopedSems0_V (Val := Elt F) d (c2V L) (j2V L)]
  obtain ⟨RS, hRS⟩ := sems_combine (F := F) d (c2V L) (j2V L)
  obtain ⟨RB, hRB⟩ := bufs_combine (F := F) d (c2V L) (j2V L)
  rw [hRS, hRB]
  iintro ⟨#Hlv, -, ⟨Hp, Hx, Hy, Ho0, Ho1⟩, ⟨⟨%fs, Hs⟩, ⟨%fr, Hr⟩, ⟨%fe, He⟩, Hbufs⟩, ⟨Hz, Hz0, Hz1, Hz2, Hz3, Hz4, Hz5, Hz6, Hz7, Hsems⟩, HO⟩
  ihave Hmw := (show levAts (K (F := F)).L (K (F := F)).lev ⊢ Transfers.MayWaits (V d (c2V L) (j2V L)) (default : HIx 2) O from
    (K (F := F)).mayWaits_none (thr := V d (c2V L) (j2V L)) hO) $$ Hlv
  ihave Hp' := (show (posLoc d ↦{rq (w2V L)} fP : sProp 𝕄) ⊢ (pV).view.loc (V d (c2V L) (j2V L)) ↦{rq (w2V L)} fP from Entails.rfl) $$ Hp
  ihave Hx' := (show (xLoc d ↦{rq (w2V L)} fX : sProp 𝕄) ⊢ (xV).view.loc (V d (c2V L) (j2V L)) ↦{rq (w2V L)} fX from Entails.rfl) $$ Hx
  ihave Hy' := (show (ysLoc d ↦{rq (w2V L)} fY : sProp 𝕄) ⊢ (yV).view.loc (V d (c2V L) (j2V L)) ↦{rq (w2V L)} fY from Entails.rfl) $$ Hy
  ihave Ho0' := (show (outLoc d ↦[outSet (chunk (w2V L) 0)]{fullShare} fO : sProp 𝕄) ⊢ (outK0 L).view.loc (V d (c2V L) (j2V L)) ↦[(outK0 L).view.set]{fullShare} fO from
    Entails.of_eq (by rw [set_outK0])) $$ Ho0
  ihave Ho1' := (show (outLoc d ↦[outSet (chunk (w2V L) 1)]{fullShare} fO : sProp 𝕄) ⊢ (outK1 L).view.loc (V d (c2V L) (j2V L)) ↦[(outK1 L).view.set]{fullShare} fO from
    Entails.of_eq (by rw [set_outK1])) $$ Ho1
  ihave Hs' := (show ((V d (c2V L) (j2V L)).loc cc2_scratch0 ↦{fullShare} fs : sProp 𝕄) ⊢ (sV).view.loc (V d (c2V L) (j2V L)) ↦{fullShare} fs from Entails.rfl) $$ Hs
  ihave Hr' := (show ((V d (c2V L) (j2V L)).loc cc2_scratch1 ↦{fullShare} fr : sProp 𝕄) ⊢ (gV).view.loc (V d (c2V L) (j2V L)) ↦{fullShare} fr from Entails.rfl) $$ Hr
  ihave He' := (show ((V d (c2V L) (j2V L)).loc cc2_scratch2 ↦{fullShare} fe : sProp 𝕄) ⊢ (eV).view.loc (V d (c2V L) (j2V L)) ↦{fullShare} fe from Entails.rfl) $$ He
  sl_exec
  delta combine_body.sl.dma0 combine_body.sl.dma0_1
  ihave Hs' := (idx_writes0 d L fP _) $$ Hs'
  have hin0 : ∀ x, ((sV).view.read (Elt F) (idxOf d L fP 0) x : BitVec 32).toNat < S5120x128.size gathers_S5120x128_S64x128.axis := fun x => hI _
  sl_exec
  have hG0 : (gV).view.writes (Elt F) fr
      [⟨Rect.unit (s := S64x768) ![0, 640] S64x128.size inb_S64x768_S64x128_0_640, combine_body.sl.gather5 d L fP fY hin0⟩,
      ⟨Rect.unit (s := S64x768) ![0, 512] S64x128.size inb_S64x768_S64x128_0_512, combine_body.sl.gather4 d L fP fY hin0⟩,
      ⟨Rect.unit (s := S64x768) ![0, 384] S64x128.size inb_S64x768_S64x128_0_384, combine_body.sl.gather3 d L fP fY hin0⟩,
      ⟨Rect.unit (s := S64x768) ![0, 256] S64x128.size inb_S64x768_S64x128_0_256, combine_body.sl.gather2 d L fP fY hin0⟩,
      ⟨Rect.unit (s := S64x768) ![0, 128] S64x128.size inb_S64x768_S64x128_0_128, combine_body.sl.gather1 d L fP fY hin0⟩,
      ⟨Rect.unit (s := S64x768) ![0, 0] S64x128.size inb_S64x768_S64x128_0_0, combine_body.sl.gather0 d L fP fY hin0⟩]
      = gRows d (idxOf d L fP 0) fY := g_writes d L fY fr _ rfl hin0
  ihave Hr' := (show ((gV).view.loc (V d (c2V L) (j2V L)) ↦{fullShare} (gV).view.writes (Elt F) fr
      [⟨Rect.unit (s := S64x768) ![0, 640] S64x128.size inb_S64x768_S64x128_0_640, combine_body.sl.gather5 d L fP fY hin0⟩,
      ⟨Rect.unit (s := S64x768) ![0, 512] S64x128.size inb_S64x768_S64x128_0_512, combine_body.sl.gather4 d L fP fY hin0⟩,
      ⟨Rect.unit (s := S64x768) ![0, 384] S64x128.size inb_S64x768_S64x128_0_384, combine_body.sl.gather3 d L fP fY hin0⟩,
      ⟨Rect.unit (s := S64x768) ![0, 256] S64x128.size inb_S64x768_S64x128_0_256, combine_body.sl.gather2 d L fP fY hin0⟩,
      ⟨Rect.unit (s := S64x768) ![0, 128] S64x128.size inb_S64x768_S64x128_0_128, combine_body.sl.gather1 d L fP fY hin0⟩,
      ⟨Rect.unit (s := S64x768) ![0, 0] S64x128.size inb_S64x768_S64x128_0_0, combine_body.sl.gather0 d L fP fY hin0⟩] : sProp 𝕄)
      ⊢ (gV).view.loc (V d (c2V L) (j2V L)) ↦{fullShare} gRows d (idxOf d L fP 0) fY from
    Entails.of_eq (congrArg (fun f => ((gV).view.loc (V d (c2V L) (j2V L)) ↦{fullShare} f : sProp 𝕄)) hG0)) $$ Hr'
  have hE0 : View.write (Elt F) (eV).view fe (combine_body.sl.dma0_2 d L fX) Finset.univ = stage (eRows d L fX 0) (gRows d (idxOf d L fP 0) fY) 0 := by
    rw [View.write_whole_univ, stage_zero]
    exact eRows_read d L fX 0
  ihave He' := (show ((eV).view.loc (V d (c2V L) (j2V L)) ↦{fullShare} View.write (Elt F) (eV).view fe (combine_body.sl.dma0_2 d L fX) Finset.univ : sProp 𝕄)
      ⊢ (eV).view.loc (V d (c2V L) (j2V L)) ↦{fullShare} stage (eRows d L fX 0) (gRows d (idxOf d L fP 0) fY) 0 from
    Entails.of_eq (congrArg (fun f => ((eV).view.loc (V d (c2V L) (j2V L)) ↦{fullShare} f : sProp 𝕄)) hE0)) $$ He'
  irw [bind_assoc]
  sl_for (tripInv d L (eRows d L fX 0) (gRows d (idxOf d L fP 0) fY)) $$ [Hr' He']
  case region => exact fun k a => trip1 d L _ _ _ k a
  · isplitl [Hr']; · iexact Hr'
    iexact He'
  iintro %a1 ⟨Hr', He'⟩
  ihave He' := (show ((eV).view.loc (V d (c2V L) (j2V L)) ↦{fullShare} stage (eRows d L fX 0) (gRows d (idxOf d L fP 0) fY) k2_t1_loop.trips : sProp 𝕄)
      ⊢ (eV).view.loc (V d (c2V L) (j2V L)) ↦{fullShare} sum3 (eRows d L fX 0) (gRows d (idxOf d L fP 0) fY) from
    Entails.of_eq (by rw [trips_eq, stage_last])) $$ He'
  sl_exec
  delta combine_body.sl.dma0_4 combine_body.sl.dma0_5
  ihave Hs' := (idx_writes1 d L fP _) $$ Hs'
  have hin1 : ∀ x, ((sV).view.read (Elt F) (idxOf d L fP 1) x : BitVec 32).toNat < S5120x128.size gathers_S5120x128_S64x128.axis := fun x => hI _
  sl_exec
  have hG1 : (gV).view.writes (Elt F) (gV).view.junk
      [⟨Rect.unit (s := S64x768) ![0, 640] S64x128.size inb_S64x768_S64x128_0_640, combine_body.sl.gather5_1 d L fP fY hin1⟩,
      ⟨Rect.unit (s := S64x768) ![0, 512] S64x128.size inb_S64x768_S64x128_0_512, combine_body.sl.gather4_1 d L fP fY hin1⟩,
      ⟨Rect.unit (s := S64x768) ![0, 384] S64x128.size inb_S64x768_S64x128_0_384, combine_body.sl.gather3_1 d L fP fY hin1⟩,
      ⟨Rect.unit (s := S64x768) ![0, 256] S64x128.size inb_S64x768_S64x128_0_256, combine_body.sl.gather2_1 d L fP fY hin1⟩,
      ⟨Rect.unit (s := S64x768) ![0, 128] S64x128.size inb_S64x768_S64x128_0_128, combine_body.sl.gather1_1 d L fP fY hin1⟩,
      ⟨Rect.unit (s := S64x768) ![0, 0] S64x128.size inb_S64x768_S64x128_0_0, combine_body.sl.gather0_1 d L fP fY hin1⟩]
      = gRows d (idxOf d L fP 1) fY := g_writes d L fY _ _ rfl hin1
  ihave Hr' := (show ((gV).view.loc (V d (c2V L) (j2V L)) ↦{fullShare} (gV).view.writes (Elt F) (gV).view.junk
      [⟨Rect.unit (s := S64x768) ![0, 640] S64x128.size inb_S64x768_S64x128_0_640, combine_body.sl.gather5_1 d L fP fY hin1⟩,
      ⟨Rect.unit (s := S64x768) ![0, 512] S64x128.size inb_S64x768_S64x128_0_512, combine_body.sl.gather4_1 d L fP fY hin1⟩,
      ⟨Rect.unit (s := S64x768) ![0, 384] S64x128.size inb_S64x768_S64x128_0_384, combine_body.sl.gather3_1 d L fP fY hin1⟩,
      ⟨Rect.unit (s := S64x768) ![0, 256] S64x128.size inb_S64x768_S64x128_0_256, combine_body.sl.gather2_1 d L fP fY hin1⟩,
      ⟨Rect.unit (s := S64x768) ![0, 128] S64x128.size inb_S64x768_S64x128_0_128, combine_body.sl.gather1_1 d L fP fY hin1⟩,
      ⟨Rect.unit (s := S64x768) ![0, 0] S64x128.size inb_S64x768_S64x128_0_0, combine_body.sl.gather0_1 d L fP fY hin1⟩] : sProp 𝕄)
      ⊢ (gV).view.loc (V d (c2V L) (j2V L)) ↦{fullShare} gRows d (idxOf d L fP 1) fY from
    Entails.of_eq (congrArg (fun f => ((gV).view.loc (V d (c2V L) (j2V L)) ↦{fullShare} f : sProp 𝕄)) hG1)) $$ Hr'
  have hE1 : View.write (Elt F) (eV).view (sum3 (eRows d L fX 0) (gRows d (idxOf d L fP 0) fY)) (combine_body.sl.dma0_6 d L fX) Finset.univ
      = stage (eRows d L fX 1) (gRows d (idxOf d L fP 1) fY) 0 := by
    rw [View.write_whole_univ, stage_zero]
    exact eRows_read d L fX 1
  ihave He' := (show ((eV).view.loc (V d (c2V L) (j2V L)) ↦{fullShare}
        View.write (Elt F) (eV).view (sum3 (eRows d L fX 0) (gRows d (idxOf d L fP 0) fY)) (combine_body.sl.dma0_6 d L fX) Finset.univ : sProp 𝕄)
      ⊢ (eV).view.loc (V d (c2V L) (j2V L)) ↦{fullShare} stage (eRows d L fX 1) (gRows d (idxOf d L fP 1) fY) 0 from
    Entails.of_eq (congrArg (fun f => ((eV).view.loc (V d (c2V L) (j2V L)) ↦{fullShare} f : sProp 𝕄)) hE1)) $$ He'
  try irw [bind_assoc]
  sl_for (tripInv d L (eRows d L fX 1) (gRows d (idxOf d L fP 1) fY)) $$ [Hr' He']
  case region => exact fun k a => trip2 d L _ _ k a
  · isplitl [Hr']; · iexact Hr'
    iexact He'
  iintro %a2 ⟨Hr', He'⟩
  ihave He' := (show ((eV).view.loc (V d (c2V L) (j2V L)) ↦{fullShare} stage (eRows d L fX 1) (gRows d (idxOf d L fP 1) fY) k2_t2_loop.trips : sProp 𝕄)
      ⊢ (eV).view.loc (V d (c2V L) (j2V L)) ↦{fullShare} sum3 (eRows d L fX 1) (gRows d (idxOf d L fP 1) fY) from
    Entails.of_eq (by rw [trips2_eq, stage_last])) $$ He'
  sl_exec
  have hv0 : ∀ y ∈ (outK0 L).view.set, (outK0 L).view.writes (Elt F) (outK0 L).view.junk
      [⟨Rect.whole S32x768, combine_body.sl.dma0_3 d L fP fX fY⟩] y = combined fP fX fY y :=
    out_value d _ _ _ _ _ fun x => sum3_eq d L fP fX fY 0 x
  have hv1 : ∀ y ∈ (outK1 L).view.set, (outK1 L).view.writes (Elt F) fO
      [⟨Rect.whole S32x768, combine_body.sl.dma0_7 d L fP fX fY⟩] y = combined fP fX fY y :=
    out_value d _ _ _ _ _ fun x => sum3_eq d L fP fX fY 1 x
  sl_step
  isplitl [Hp' Hx' Hy' Ho0' Ho1']
  · isplitl [Hp']; · iexact Hp'
    isplitl [Hx']; · iexact Hx'
    isplitl [Hy']; · iexact Hy'
    isplitl [Ho0']
    · iapply (show ((outK0 L).view.loc (V d (c2V L) (j2V L)) ↦[(outK0 L).view.set]{fullShare} (outK0 L).view.writes (Elt F) (outK0 L).view.junk [⟨Rect.whole S32x768, combine_body.sl.dma0_3 d L fP fX fY⟩] : sProp 𝕄)
          ⊢ outLoc d ↦[outSet (chunk (w2V L) 0)]{fullShare} combined fP fX fY from
        Entails.of_eq (by rw [← set_outK0]; exact pointsTo_congr hv0))
      iexact Ho0'
    · iapply (show ((outK1 L).view.loc (V d (c2V L) (j2V L)) ↦[(outK1 L).view.set]{fullShare} (outK1 L).view.writes (Elt F) fO [⟨Rect.whole S32x768, combine_body.sl.dma0_7 d L fP fX fY⟩] : sProp 𝕄)
          ⊢ outLoc d ↦[outSet (chunk (w2V L) 1)]{fullShare} combined fP fX fY from
        Entails.of_eq (by rw [← set_outK1]; exact pointsTo_congr hv1))
      iexact Ho1'
  isplitl [Hs' Hr' He' Hbufs]
  · isplitl [Hs']; · iexists _; iexact Hs'
    isplitl [Hr']; · iexists _; iexact Hr'
    isplitl [He']; · iexists _; iexact He'
    iexact Hbufs
  isplitl [Hz Hz0 Hz1 Hz2 Hz3 Hz4 Hz5 Hz6 Hz7 Hsems]
  · isplitl [Hz]; · iexact Hz
    isplitl [Hz0]; · iexact Hz0
    isplitl [Hz1]; · iexact Hz1
    isplitl [Hz2]; · iexact Hz2
    isplitl [Hz3]; · iexact Hz3
    isplitl [Hz4]; · iexact Hz4
    isplitl [Hz5]; · iexact Hz5
    isplitl [Hz6]; · iexact Hz6
    isplitl [Hz7]; · iexact Hz7
    iexact Hsems
  iexists _; isplitr [HO]
  rotate_left
  · iexact HO
  ipureintro; intro p hp
  repeat (rcases Finset.mem_insert.mp hp with hp | hp; exact .inr (hp ▸ rfl))
  exact .inl hp

end Tile

end Cert.Proof.Moe

end
-- ==== Proof.Tasks.lean ====
/- What the two SparseCore calls carry, and the two obligations that each tile's task meets from it: the gather's tiles and
   the combine's tiles take their shares of the tables and their rows of the output, and bring them back. -/
module

public import proofs.«01_k».proof.Proof.Gather
public import proofs.«01_k».proof.Proof.Combine

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- The arrays the two calls find: the row numbers, the tokens and the first call's output; the slot numbers, the rows of
    the grouped product and the second call's output. -/
structure Arrays (F : FTy → Type) where
  I : (d : Dev nD) → Buf (Elt F) (ridLoc d)
  X : (d : Dev nD) → Buf (Elt F) (xLoc d)
  S : (d : Dev nD) → Buf (Elt F) (xsLoc d)
  P : (d : Dev nD) → Buf (Elt F) (posLoc d)
  Y : (d : Dev nD) → Buf (Elt F) (ysLoc d)
  O : (d : Dev nD) → Buf (Elt F) (outLoc d)

variable (A : Arrays F)

theorem nCore_0 : (K (F := F)).nCore 0 = 2 := rfl
theorem nCore_1 : (K (F := F)).nCore 1 = 2 := rfl
theorem nSub_0 : (K (F := F)).nSub 0 = 16 := rfl
theorem nSub_1 : (K (F := F)).nSub 1 = 16 := rfl

abbrev go0 (d : Dev nD) (w : Fin 32) : sProp 𝕄 := gatherGo d w (A.I d) (A.X d) (A.S d)
abbrev td0 (d : Dev nD) (w : Fin 32) : sProp 𝕄 := gatherGo d w (A.I d) (A.X d) (gathered (A.I d) (A.X d))
abbrev go1 (d : Dev nD) (w : Fin 32) : sProp 𝕄 := combineGo d w (A.P d) (A.X d) (A.Y d) (A.O d)
abbrev td1 (d : Dev nD) (w : Fin 32) : sProp 𝕄 := combineGo d w (A.P d) (A.X d) (A.Y d) (combined (A.P d) (A.X d) (A.Y d))

/-- What the handshakes carry: each SparseCore its tiles' shares, each tile its own. -/
def pay : (K (F := F)).Pay (nD := nD) (Val := Elt F) (Name := ℕ) (U := UU) where
  st := fun q d c => match q with
    | 0 => bigSep Finset.univ fun i : Fin ((K (F := F)).nSub 0) => go0 A d (wid (Fin.cast nCore_0 c) (Fin.cast nSub_0 i))
    | 1 => bigSep Finset.univ fun i : Fin ((K (F := F)).nSub 1) => go1 A d (wid (Fin.cast nCore_1 c) (Fin.cast nSub_1 i))
  dn := fun q d c => match q with
    | 0 => bigSep Finset.univ fun i : Fin ((K (F := F)).nSub 0) => td0 A d (wid (Fin.cast nCore_0 c) (Fin.cast nSub_0 i))
    | 1 => bigSep Finset.univ fun i : Fin ((K (F := F)).nSub 1) => td1 A d (wid (Fin.cast nCore_1 c) (Fin.cast nSub_1 i))
  go := fun q d c i => match q with
    | 0 => go0 A d (wid (Fin.cast nCore_0 c) (Fin.cast nSub_0 i))
    | 1 => go1 A d (wid (Fin.cast nCore_1 c) (Fin.cast nSub_1 i))
  td := fun q d c i => match q with
    | 0 => td0 A d (wid (Fin.cast nCore_0 c) (Fin.cast nSub_0 i))
    | 1 => td1 A d (wid (Fin.cast nCore_1 c) (Fin.cast nSub_1 i))
  x := fun _ _ => iprop(emp)

instance pay_storable : (pay A).IsStorable where
  st q d c := match q with
    | 0 => (inferInstance : BI.Storable (upEmb : UEmb _ 𝕄) (bigSep Finset.univ fun i : Fin ((K (F := F)).nSub 0) => go0 A d (wid (Fin.cast nCore_0 c) (Fin.cast nSub_0 i))))
    | 1 => (inferInstance : BI.Storable (upEmb : UEmb _ 𝕄) (bigSep Finset.univ fun i : Fin ((K (F := F)).nSub 1) => go1 A d (wid (Fin.cast nCore_1 c) (Fin.cast nSub_1 i))))
  dn q d c := match q with
    | 0 => (inferInstance : BI.Storable (upEmb : UEmb _ 𝕄) (bigSep Finset.univ fun i : Fin ((K (F := F)).nSub 0) => td0 A d (wid (Fin.cast nCore_0 c) (Fin.cast nSub_0 i))))
    | 1 => (inferInstance : BI.Storable (upEmb : UEmb _ 𝕄) (bigSep Finset.univ fun i : Fin ((K (F := F)).nSub 1) => td1 A d (wid (Fin.cast nCore_1 c) (Fin.cast nSub_1 i))))
  go q d c i := match q with
    | 0 => (inferInstance : BI.Storable (upEmb : UEmb _ 𝕄) (go0 A d (wid (Fin.cast nCore_0 c) (Fin.cast nSub_0 i))))
    | 1 => (inferInstance : BI.Storable (upEmb : UEmb _ 𝕄) (go1 A d (wid (Fin.cast nCore_1 c) (Fin.cast nSub_1 i))))
  td q d c i := match q with
    | 0 => (inferInstance : BI.Storable (upEmb : UEmb _ 𝕄) (td0 A d (wid (Fin.cast nCore_0 c) (Fin.cast nSub_0 i))))
    | 1 => (inferInstance : BI.Storable (upEmb : UEmb _ 𝕄) (td1 A d (wid (Fin.cast nCore_1 c) (Fin.cast nSub_1 i))))

/-! ## The tasks -/

def coords0 (c : Fin (grid0.bound 0)) (s : Fin (grid0.bound 1)) : grid0.Coords :=
  fun | 0 => c | 1 => s | ⟨_ + 2, h⟩ => absurd h (Nat.not_lt.2 (Nat.le_add_left _ _))
def coords2 (c : Fin (grid2.bound 0)) (s : Fin (grid2.bound 1)) : grid2.Coords :=
  fun | 0 => c | 1 => s | ⟨_ + 2, h⟩ => absurd h (Nat.not_lt.2 (Nat.le_add_left _ _))

theorem defs₀_gather (c : Fin τ.nSC) (s : Fin τ.nSub) :
    defs₀ (F := F) (.scVector c s) 0 ()
      = SparseCore.onTile hcore0 hsub0 (fun c s => cc0__sc_gather_body (coords0 c s) (Memref.whole main_v1_scv) (Memref.isWhole_whole _) (Memref.whole main_v0_scv) (Memref.isWhole_whole _) (Memref.whole main_v2_scv) (Memref.isWhole_whole _) (Memref.whole cc0_scratch0) (Memref.isWhole_whole _) (Memref.whole cc0_scratch1) (Memref.isWhole_whole _) cc0_scratch2 cc0_scoped0 cc0_scoped1) ⟨⟩ c s := rfl

theorem defs₀_combine (c : Fin τ.nSC) (s : Fin τ.nSub) :
    defs₀ (F := F) (.scVector c s) 2 ()
      = SparseCore.onTile hcore2 hsub2 (fun c s => cc2__sc_combine_body (coords2 c s) (Memref.whole main_v11_scv) (Memref.isWhole_whole _) (Memref.whole main_v0_scv) (Memref.isWhole_whole _) (Memref.whole main_v10_scv) (Memref.isWhole_whole _) (Memref.whole main_v12_scv) (Memref.isWhole_whole _) (Memref.whole cc2_scratch0) (Memref.isWhole_whole _) (Memref.whole cc2_scratch1) (Memref.isWhole_whole _) (Memref.whole cc2_scratch2) (Memref.isWhole_whole _) cc2_scratch3 cc2_scoped0 cc2_scoped1 cc2_scoped2 cc2_scoped3 cc2_scoped4 cc2_scoped5 cc2_scoped6 cc2_scoped7) ⟨⟩ c s := rfl

theorem obl_post {thr : Thread nD τ} {A B C : sProp 𝕄} {O : CellTallies nD τ sig (HIx 2)} {W : Waits sig (HIx 2)} {q : Fin 2} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
theorem tileObl0 (hF : (K (F := F)).Facts) (hI : ∀ d (j : S5120.Idx), (A.I d j : BitVec 32).toNat < 2048) :
    (K (F := F)).TileObl (D (F := F)) 𝒱 (pay A) v₀ 0 := by
  intro d c i O W hO _ _
  simp only [show (pay A).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_gather]; simp only [SparseCore.onTile, hci, and_self, ↓reduceDIte]
  exact (gather_body d (coords0 ⟨_, hci.1⟩ ⟨_, hci.2⟩) hF (A.I d) (A.X d) (A.S d) (hI d) O W hO).trans (wp_mono frame _ _ fun _ => obl_post)

set_option maxRecDepth 16384 in
theorem tileObl1 (hF : (K (F := F)).Facts) (hP : ∀ d (j : S4096.Idx), (A.P d j : BitVec 32).toNat < 5120) :
    (K (F := F)).TileObl (D (F := F)) 𝒱 (pay A) v₀ 1 := by
  intro d c i O W hO _ _
  simp only [show (pay A).ox = fun _ _ => 0 from rfl, add_zero]
  have hci : ((K (F := F)).core 1 c).val < grid2.bound 0 ∧ ((K (F := F)).sub 1 i).val < grid2.bound 1 := ⟨c.isLt, i.isLt⟩
  change _ ⊢ wp _ _ _ (Pipeline.liftProg (defs₀ (F := F) (.scVector ((K (F := F)).core 1 c) ((K (F := F)).sub 1 i)) 2 ())) _
  refine BI.Entails.trans ?_ (Pipeline.wp_liftProg (D (F := F)) (Pipeline.defs_kernel pcfgs defs₀) 𝒱₀ _ Set.univ none _ _)
  rw [defs₀_combine]; simp only [SparseCore.onTile, hci, and_self, ↓reduceDIte]
  exact (combine_body d (coords2 ⟨_, hci.1⟩ ⟨_, hci.2⟩) hF (A.P d) (A.X d) (A.Y d) (A.O d) (hP d) O W hO).trans (wp_mono frame _ _ fun _ => obl_post)

/-! ## A SparseCore's tiles' shares are what it was handed -/

theorem vecSplit0 : (K (F := F)).VecSplit' (pay A) 0 := by
  intro d c
  show (bigSep Finset.univ fun i : Fin ((K (F := F)).nSub 0) => go0 A d (wid (Fin.cast nCore_0 c) (Fin.cast nSub_0 i)))
    ⊢ |={Set.univ}=> iprop((bigSep Finset.univ fun i : Fin ((K (F := F)).nSub 0) => go0 A d (wid (Fin.cast nCore_0 c) (Fin.cast nSub_0 i)))
      ∗ ((bigSep Finset.univ fun i : Fin ((K (F := F)).nSub 0) => td0 A d (wid (Fin.cast nCore_0 c) (Fin.cast nSub_0 i)))
          -∗ bigSep Finset.univ fun i : Fin ((K (F := F)).nSub 0) => td0 A d (wid (Fin.cast nCore_0 c) (Fin.cast nSub_0 i))))
  iintro H; imodintro
  isplitl [H]; · iexact H
  iintro H; iexact H

theorem vecSplit1 : (K (F := F)).VecSplit' (pay A) 1 := by
  intro d c
  show (bigSep Finset.univ fun i : Fin ((K (F := F)).nSub 1) => go1 A d (wid (Fin.cast nCore_1 c) (Fin.cast nSub_1 i)))
    ⊢ |={Set.univ}=> iprop((bigSep Finset.univ fun i : Fin ((K (F := F)).nSub 1) => go1 A d (wid (Fin.cast nCore_1 c) (Fin.cast nSub_1 i)))
      ∗ ((bigSep Finset.univ fun i : Fin ((K (F := F)).nSub 1) => td1 A d (wid (Fin.cast nCore_1 c) (Fin.cast nSub_1 i)))
          -∗ bigSep Finset.univ fun i : Fin ((K (F := F)).nSub 1) => td1 A d (wid (Fin.cast nCore_1 c) (Fin.cast nSub_1 i))))
  iintro H; imodintro
  isplitl [H]; · iexact H
  iintro H; iexact H

/-! ## The TensorCore hands the arrays over whole and has them back whole -/

theorem xsSet_eq (w : Fin 32) : xsSet w = (xsRect w).set := by
  show ((View.whole (main_v2_scv : Ref sig .scVector)).slice (xsRect w)).set = _
  rw [View.set_slice]; exact Finset.map_refl
theorem outSet_eq (w : Fin 64) : outSet w = (outRect w).set := by
  show ((View.whole (main_v12_scv : Ref sig .scVector)).slice (outRect w)).set = _
  rw [View.set_slice]; exact Finset.map_refl

theorem xs_rows (d : Dev nD) (f : Buf (Elt F) (xsLoc d)) :
    (xsLoc d ↦{fullShare} f : sProp 𝕄) = bigSep Finset.univ fun w : Fin 32 => xsLoc d ↦[xsSet w]{fullShare} f := by
  rw [← pointsTo_biUnion Finset.univ (ℓ := xsLoc d) xsSet (fun i _ j _ h => by rw [xsSet_eq, xsSet_eq]; exact Rect.part_disjoint div_xs h),
    (Finset.biUnion_congr rfl fun i _ => xsSet_eq i).trans (Rect.biUnion_part div_xs)]

/-- The output's sixty-four chunks are two for each tile. -/
def chunkEquiv : Fin 32 × Fin 2 ≃ Fin 64 where
  toFun p := chunk p.1 p.2
  invFun w := (⟨w.val / 2, by omega⟩, ⟨w.val % 2, by omega⟩)
  left_inv p := by ext <;> simp [chunk] <;> omega
  right_inv w := by ext; simp [chunk]; omega

theorem out_rows (d : Dev nD) (f : Buf (Elt F) (outLoc d)) :
    (outLoc d ↦{fullShare} f : sProp 𝕄)
      = bigSep Finset.univ fun w : Fin 32 => (iprop((outLoc d ↦[outSet (chunk w 0)]{fullShare} f) ∗ (outLoc d ↦[outSet (chunk w 1)]{fullShare} f)) : sProp 𝕄) := by
  have h : (outLoc d ↦{fullShare} f : sProp 𝕄) = bigSep Finset.univ fun w : Fin 64 => outLoc d ↦[outSet w]{fullShare} f := by
    rw [← pointsTo_biUnion Finset.univ (ℓ := outLoc d) outSet (fun i _ j _ h => by rw [outSet_eq, outSet_eq]; exact Rect.part_disjoint div_out h),
      (Finset.biUnion_congr rfl fun i _ => outSet_eq i).trans (Rect.biUnion_part div_out)]
  rw [h, bigSep_univ_equiv chunkEquiv, bigSep_univ_prod]
  refine bigSep_congr fun w _ => ?_
  rw [bigSep_fin_succ]
  congr 1
  exact bigSep_univ_of_subsingleton (0 : Fin 1)

theorem st0_eq (d : Dev nD) : (bigSep Finset.univ fun c : Fin ((K (F := F)).nCore 0) => (pay A).st 0 d c)
    = iprop((ridLoc d ↦{fullShare} A.I d) ∗ (xLoc d ↦{fullShare} A.X d) ∗ xsLoc d ↦{fullShare} A.S d) := by
  rw [pointsTo_shares (A.I d), pointsTo_shares (A.X d), xs_rows, ← bigSep_sep', ← bigSep_sep', bigSep_tiles]
  rfl

theorem dn0_eq (d : Dev nD) : (bigSep Finset.univ fun c : Fin ((K (F := F)).nCore 0) => (pay A).dn 0 d c)
    = iprop((ridLoc d ↦{fullShare} A.I d) ∗ (xLoc d ↦{fullShare} A.X d) ∗ xsLoc d ↦{fullShare} gathered (A.I d) (A.X d)) := by
  rw [pointsTo_shares (A.I d), pointsTo_shares (A.X d), xs_rows, ← bigSep_sep', ← bigSep_sep', bigSep_tiles]
  rfl

theorem st1_eq (d : Dev nD) : (bigSep Finset.univ fun c : Fin ((K (F := F)).nCore 1) => (pay A).st 1 d c)
    = iprop((posLoc d ↦{fullShare} A.P d) ∗ (xLoc d ↦{fullShare} A.X d) ∗ (ysLoc d ↦{fullShare} A.Y d) ∗ outLoc d ↦{fullShare} A.O d) := by
  rw [pointsTo_shares (A.P d), pointsTo_shares (A.X d), pointsTo_shares (A.Y d), out_rows, ← bigSep_sep', ← bigSep_sep', ← bigSep_sep', bigSep_tiles]
  rfl

theorem dn1_eq (d : Dev nD) : (bigSep Finset.univ fun c : Fin ((K (F := F)).nCore 1) => (pay A).dn 1 d c)
    = iprop((posLoc d ↦{fullShare} A.P d) ∗ (xLoc d ↦{fullShare} A.X d) ∗ (ysLoc d ↦{fullShare} A.Y d)
        ∗ outLoc d ↦{fullShare} combined (A.P d) (A.X d) (A.Y d)) := by
  rw [pointsTo_shares (A.P d), pointsTo_shares (A.X d), pointsTo_shares (A.Y d), out_rows, ← bigSep_sep', ← bigSep_sep', ← bigSep_sep', bigSep_tiles]
  rfl

end Cert.Proof.Moe

end
-- ==== Proof.GemmBody.lean ====
/- The grouped matrix product's body on whole staging buffers: its inputs are left as they were and its output block ends
   at the body's value of them. -/
module

public import proofs.«01_k».proof.Proof.Common
public import Idealize.ShloMosaic.Lib.Pipeline.FrameBody
public import Idealize.ShloMosaic.Lib.VecWindow

@[expose] public section

noncomputable section

namespace Cert.Proof.Moe

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 2) (Elt F) ℕ UU ℕ

/-- A load of the whole of a memref's box reads its contents. -/
theorem readAt_all {κ : Kind} {sp : Space} {s : Shape} {e : EltTy} (M : Memref sig κ sp s e) (h : M.IsWhole) (x : Vec F s e)
    {off : Fin s.rank → ℕ} (inb : ∀ a, off a + s.size a ≤ s.size a) :
    M.view.readAt (Elt F) (Rect.unit off s.size inb).toLoadRect (h.unread (Val := Elt F) x) = x := by
  have h0 : off = fun _ => 0 := funext fun a => by have := inb a; omega
  subst h0
  funext y
  rw [View.readAt_apply, h.read_unread]
  congr 1
  funext a
  apply Fin.ext
  simp [Rect.toLoadRect, LoadRect.idx]

/-- A store over the whole of a memref's box leaves what was stored. -/
theorem read_store_all {κ : Kind} {sp : Space} {s : Shape} {e : EltTy} (v : View sig κ sp s e) (f : v.ty.Contents (Elt F))
    {off : Fin s.rank → ℕ} (inb : ∀ a, off a + s.size a ≤ s.size a) (w : (Rect.unit off s.size inb).shape.Idx → Elt F e) :
    v.read (Elt F) (v.writes (Elt F) f [⟨Rect.unit off s.size inb, w⟩]) = w := by
  have h0 : off = fun _ => 0 := funext fun a => by have := inb a; omega
  subst h0
  funext y
  have hr := View.read_writes_cons_emb (v := v) (f := f) (Rect.unit (fun _ => 0) s.size inb) w [] y
  have hy : (Rect.unit (fun _ => 0) s.size inb).emb y = y := by
    funext a
    refine Fin.ext ?_
    show ((Rect.unit (fun _ => 0) s.size inb).idx y a).val = (y a).val
    simp [LoadRect.idx]
  exact (congrArg _ hy.symm).trans hr

set_option maxHeartbeats 2000000 in
/-- The body's triple. -/
theorem gemm_triple (c : Dev nD) (i : grid1.Coords) (arg1 : Memref sig .tc .smem S40 .i32) (harg1 : arg1.IsWhole) (arg2 : Memref sig .tc .vmem S128x768 .bf16) (harg2 : arg2.IsWhole) (arg3 : Memref sig .tc .vmem S1x768x3072 .bf16) (harg3 : arg3.IsWhole) (arg4 : Memref sig .tc .vmem S1x1x3072 .f32) (harg4 : arg4.IsWhole) (arg5 : Memref sig .tc .vmem S1x3072x768 .bf16) (harg5 : arg5.IsWhole) (arg6 : Memref sig .tc .vmem S1x1x768 .f32) (harg6 : arg6.IsWhole) (arg7 : Memref sig .tc .vmem S128x1 .f32) (harg7 : arg7.IsWhole) (arg8 : Memref sig .tc .vmem S128x768 .f32) (harg8 : arg8.IsWhole)
    (x1 : Vec F S128x768 .bf16) (x2 : Vec F S1x768x3072 .bf16) (x3 : Vec F S1x1x3072 .f32) (x4 : Vec F S1x3072x768 .bf16) (x5 : Vec F S1x1x768 .f32) (x6 : Vec F S128x1 .f32)
    (E : Set ℕ) (Q : PUnit → sProp 𝕄) :
    iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d)
        ∗ (iprop(owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (k1_pay1 x1 x2 x3 x4 x5 x6)) -∗ Q ⟨⟩))
      ⊢ wp frame (wpE (defs₀ (F := F)) Variants.none c none) E (cc1__gemm_body i arg1 harg1 arg2 harg2 arg3 harg3 arg4 harg4 arg5 harg5 arg6 harg6 arg7 harg7 arg8 harg8) Q := by
  simp only [cc1__gemm_body_eq_skeleton]; unfold cc1__gemm_body_skel
  simp only [k1_part1_eq_skeleton]
  unfold k1_part1_skel owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  obtain rfl := harg2.eq_unread hf1; obtain rfl := harg3.eq_unread hf2; obtain rfl := harg4.eq_unread hf3; obtain rfl := harg5.eq_unread hf4; obtain rfl := harg6.eq_unread hf5; obtain rfl := harg7.eq_unread hf6
  sl_exec
  sl_step
  iapply Hk
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  iexists _; isplitr; swap; · iexact H7
  ipureintro

  refine (read_store_all _ _ _ _).trans ?_
  rw [readAt_all arg2 harg2, readAt_all arg3 harg3, readAt_all arg4 harg4, readAt_all arg5 harg5, readAt_all arg6 harg6, readAt_all arg7 harg7]

end Cert.Proof.Moe

end
-- ==== Proof.Gemm.lean ====
/- The grouped matrix product as a region of the program: its windows' contents point by point, what it owes while it
   runs, and the region's entry and exit over the buffers the program holds. -/
module

public import proofs.«01_k».proof.Proof.GemmBody
public import Idealize.ShloMosaic.Lib.Pipeline.RegionsLoop
public import Idealize.ShloMosaic.Lib.Pipeline.Value

@[expose] public section

noncomputable section

namespace Cert.Proof.Moe

open Cert.KernelIdeal Cert.KernelIdeal.Gen

open Idealize.ShloMosaic Idealize.ShloMosaic.TcCoe
open Idealize.ShloMosaic.SparseCore (S V T)
open Idealize.ShloMosaic.SparseCore.Cfg (HIx Blocks)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 2) (Elt F) ℕ UU ℕ

/-- The contents of a device's TensorCore buffers. -/
abbrev Vals (F : FTy → Type) : Type := (c : Dev nD) → (b : Ref sig .tc) → Buf (Elt F) ((c : Thread nD τ).loc b)

/-- The calls' stages. -/
abbrev Z : Blocks 2 2 := inferInstance

variable (a : (p : Fin 1) → (pcfgs (F := F) p).Adm) (W₀ : Vals F)

/-- Window `w`'s block at point `t`, of the array as the region finds it. -/
def iblk (c : Dev nD) (w : Fin 7) (t : Fin (cfg1 (a 0)).N) : ((cfg1 (a 0)).win w).block.Idx → Elt F ((cfg1 (a 0)).win w).elt :=
  (((cfg1 (a 0)).win w).blk t).view.read (Elt F) (W₀ c (Pipeline.arrRef spec1 w))

/-- The output block at point `t`: the body's value of the six input blocks. -/
def oblk (c : Dev nD) (t : Fin (cfg1 (a 0)).N) : Vec F S128x768 .f32 :=
  k1_pay1 (iblk a W₀ c 0 t) (iblk a W₀ c 1 t) (iblk a W₀ c 2 t) (iblk a W₀ c 3 t) (iblk a W₀ c 4 t) (iblk a W₀ c 5 t)

/-- The region's invariant: the prefetched table and the scoped buffers no window stages. -/
abbrev gemmΦ (c : Dev nD) : sProp 𝕄 :=
  iprop(Pipeline.prefHeld (pcfgs (F := F) 0).pre c (fun _ => fullShare) (a 0).1
    ∗ Pipeline.scopedRest (Ix := HIx 2) (Name := ℕ) (U := UU) (Lvl := ℕ) (Val := Elt F) spec1 c)

/-- The proof data: arrays as found, inputs' buffers at their blocks, the output's at the body's value; the core owes
    throughout what it owes between the first SparseCore call and the second. -/
def dat (c : Dev nD) : Dat τ (Elt F) (HIx 2) ℕ UU ℕ (cfg1 (a 0)) c where
  A w := W₀ c (Pipeline.arrRef spec1 w)
  after w t := match w with
    | ⟨0, _⟩ => iblk a W₀ c 0 t
    | ⟨1, _⟩ => iblk a W₀ c 1 t
    | ⟨2, _⟩ => iblk a W₀ c 2 t
    | ⟨3, _⟩ => iblk a W₀ c 3 t
    | ⟨4, _⟩ => iblk a W₀ c 4 t
    | ⟨5, _⟩ => iblk a W₀ c 5 t
    | ⟨6, _⟩ => oblk a W₀ c t
  Φ _ := gemmΦ a c
  q _ := fullShare
  owed _ := (K (F := F)).Otc c 1
  recorded _ := {p | (K (F := F)).lev (T c, p.1) p.2 ≤ 8 * Z.fst 1}

theorem dat_A (c : Dev nD) (w : Fin (cfg1 (a 0)).W) : (dat a W₀ c).A w = W₀ c (Pipeline.arrRef spec1 w) := by dsimp only [dat]

theorem after_0 (c : Dev nD) (t : Fin (cfg1 (a 0)).N) : (dat a W₀ c).after 0 t = iblk a W₀ c 0 t := by unfold dat; rfl
theorem after_1 (c : Dev nD) (t : Fin (cfg1 (a 0)).N) : (dat a W₀ c).after 1 t = iblk a W₀ c 1 t := by unfold dat; rfl
theorem after_2 (c : Dev nD) (t : Fin (cfg1 (a 0)).N) : (dat a W₀ c).after 2 t = iblk a W₀ c 2 t := by unfold dat; rfl
theorem after_3 (c : Dev nD) (t : Fin (cfg1 (a 0)).N) : (dat a W₀ c).after 3 t = iblk a W₀ c 3 t := by unfold dat; rfl
theorem after_4 (c : Dev nD) (t : Fin (cfg1 (a 0)).N) : (dat a W₀ c).after 4 t = iblk a W₀ c 4 t := by unfold dat; rfl
theorem after_5 (c : Dev nD) (t : Fin (cfg1 (a 0)).N) : (dat a W₀ c).after 5 t = iblk a W₀ c 5 t := by unfold dat; rfl
theorem after_6 (c : Dev nD) (t : Fin (cfg1 (a 0)).N) : (dat a W₀ c).after 6 t = oblk a W₀ c t := by unfold dat; rfl

theorem before_0 (c : Dev nD) (t : Fin (cfg1 (a 0)).N) (d) : (dat a W₀ c).before 0 t d = iblk a W₀ c 0 t :=
  ((dat a W₀ c).before_in_eq_fetched 0 rfl (fun _ => rfl) (fun _ _ _ => rfl)
    (fun t => by rw [after_0]; unfold Dat.blockOf iblk; rw [dat_A]; try rfl) t d).trans (by unfold Dat.fetched Dat.blockOf iblk; rw [dat_A]; try rfl)
theorem before_1 (c : Dev nD) (t : Fin (cfg1 (a 0)).N) (d) : (dat a W₀ c).before 1 t d = iblk a W₀ c 1 t :=
  ((dat a W₀ c).before_in_eq_fetched 1 rfl (fun _ => rfl) (fun _ _ _ => rfl)
    (fun t => by rw [after_1]; unfold Dat.blockOf iblk; rw [dat_A]; try rfl) t d).trans (by unfold Dat.fetched Dat.blockOf iblk; rw [dat_A]; try rfl)
theorem before_2 (c : Dev nD) (t : Fin (cfg1 (a 0)).N) (d) : (dat a W₀ c).before 2 t d = iblk a W₀ c 2 t :=
  ((dat a W₀ c).before_in_eq_fetched 2 rfl (fun _ => rfl) (fun _ _ _ => rfl)
    (fun t => by rw [after_2]; unfold Dat.blockOf iblk; rw [dat_A]; try rfl) t d).trans (by unfold Dat.fetched Dat.blockOf iblk; rw [dat_A]; try rfl)
theorem before_3 (c : Dev nD) (t : Fin (cfg1 (a 0)).N) (d) : (dat a W₀ c).before 3 t d = iblk a W₀ c 3 t :=
  ((dat a W₀ c).before_in_eq_fetched 3 rfl (fun _ => rfl) (fun _ _ _ => rfl)
    (fun t => by rw [after_3]; unfold Dat.blockOf iblk; rw [dat_A]; try rfl) t d).trans (by unfold Dat.fetched Dat.blockOf iblk; rw [dat_A]; try rfl)
theorem before_4 (c : Dev nD) (t : Fin (cfg1 (a 0)).N) (d) : (dat a W₀ c).before 4 t d = iblk a W₀ c 4 t :=
  ((dat a W₀ c).before_in_eq_fetched 4 rfl (fun _ => rfl) (fun _ _ _ => rfl)
    (fun t => by rw [after_4]; unfold Dat.blockOf iblk; rw [dat_A]; try rfl) t d).trans (by unfold Dat.fetched Dat.blockOf iblk; rw [dat_A]; try rfl)
theorem before_5 (c : Dev nD) (t : Fin (cfg1 (a 0)).N) (d) : (dat a W₀ c).before 5 t d = iblk a W₀ c 5 t :=
  ((dat a W₀ c).before_in_eq_fetched 5 rfl (fun _ => rfl) (fun _ _ _ => rfl)
    (fun t => by rw [after_5]; unfold Dat.blockOf iblk; rw [dat_A]; try rfl) t d).trans (by unfold Dat.fetched Dat.blockOf iblk; rw [dat_A]; try rfl)

/-! ## The body obligation -/

/-- Window `w`'s current staging memref at point `t`. -/
abbrev ms (w : Fin 7) (t : Fin (cfg1 (a 0)).N) := ((cfg1 (a 0)).win w).stage ((cfg1 (a 0)).slots t w)

/-- The body at point `t` on the staging memrefs the pipeline calls it with. -/
abbrev gemmAt (t : Fin (cfg1 (a 0)).N) : Prog (TpuEff nD τ sig (Elt F) Λ₀ .tc) PUnit :=
  cc1__gemm_body (grid1.coords t) (Memref.whole main_v4) (Memref.isWhole_whole _)
    (spec1_0.stage ((cfg1 (a 0)).slots t 0)) (hstage1_0 (((cfg1 (a 0)).slots t 0).cast nbuf1_0))
    (spec1_1.stage ((cfg1 (a 0)).slots t 1)) (hstage1_1 (((cfg1 (a 0)).slots t 1).cast nbuf1_1))
    (spec1_2.stage ((cfg1 (a 0)).slots t 2)) (hstage1_2 (((cfg1 (a 0)).slots t 2).cast nbuf1_2))
    (spec1_3.stage ((cfg1 (a 0)).slots t 3)) (hstage1_3 (((cfg1 (a 0)).slots t 3).cast nbuf1_3))
    (spec1_4.stage ((cfg1 (a 0)).slots t 4)) (hstage1_4 (((cfg1 (a 0)).slots t 4).cast nbuf1_4))
    (spec1_5.stage ((cfg1 (a 0)).slots t 5)) (hstage1_5 (((cfg1 (a 0)).slots t 5).cast nbuf1_5))
    (spec1_6.stage ((cfg1 (a 0)).slots t 6)) (hstage1_6 (((cfg1 (a 0)).slots t 6).cast nbuf1_6))

theorem defs₀_gemm (t : Fin (cfg1 (a 0)).N) :
    defs₀ (F := F) .tc (cfg1 (a 0)).body ((cfg1 (a 0)).bodyArgs t ((cfg1 (a 0)).slots t)) = gemmAt a t := rfl

def gemmPre (c : Dev nD) (t : Fin (cfg1 (a 0)).N) : sProp 𝕄 :=
  iprop((dat a W₀ c).Φ t.castSucc ∗ (dat a W₀ c).owesAt none t.castSucc
    ∗ (∃ d, owns (c : Thread nD τ) (ms a 0 t) fullShare ((dat a W₀ c).before 0 t d))
    ∗ (∃ d, owns (c : Thread nD τ) (ms a 1 t) fullShare ((dat a W₀ c).before 1 t d))
    ∗ (∃ d, owns (c : Thread nD τ) (ms a 2 t) fullShare ((dat a W₀ c).before 2 t d))
    ∗ (∃ d, owns (c : Thread nD τ) (ms a 3 t) fullShare ((dat a W₀ c).before 3 t d))
    ∗ (∃ d, owns (c : Thread nD τ) (ms a 4 t) fullShare ((dat a W₀ c).before 4 t d))
    ∗ (∃ d, owns (c : Thread nD τ) (ms a 5 t) fullShare ((dat a W₀ c).before 5 t d))
    ∗ (∃ d, owns (c : Thread nD τ) (ms a 6 t) fullShare ((dat a W₀ c).before 6 t d)))

def gemmPost (c : Dev nD) (t : Fin (cfg1 (a 0)).N) : sProp 𝕄 :=
  iprop((dat a W₀ c).Φ t.succ ∗ (dat a W₀ c).owesAt none t.succ
    ∗ owns (c : Thread nD τ) (ms a 0 t) fullShare ((dat a W₀ c).after 0 t)
    ∗ owns (c : Thread nD τ) (ms a 1 t) fullShare ((dat a W₀ c).after 1 t)
    ∗ owns (c : Thread nD τ) (ms a 2 t) fullShare ((dat a W₀ c).after 2 t)
    ∗ owns (c : Thread nD τ) (ms a 3 t) fullShare ((dat a W₀ c).after 3 t)
    ∗ owns (c : Thread nD τ) (ms a 4 t) fullShare ((dat a W₀ c).after 4 t)
    ∗ owns (c : Thread nD τ) (ms a 5 t) fullShare ((dat a W₀ c).after 5 t)
    ∗ owns (c : Thread nD τ) (ms a 6 t) fullShare ((dat a W₀ c).after 6 t))

set_option maxHeartbeats 1000000 in
theorem gemm_sound (c : Dev nD) (t : Fin (cfg1 (a 0)).N) :
    gemmPre a W₀ c t ⊢ wp frame (wpE (defs₀ (F := F)) Variants.none c none) Set.univ (gemmAt a t) (fun _ => gemmPost a W₀ c t) := by
  unfold gemmPre gemmPost gemmAt
  simp only [before_0, before_1, before_2, before_3, before_4, before_5]
  rw [show (dat a W₀ c).Φ t.succ = (dat a W₀ c).Φ t.castSucc from rfl,
    show (dat a W₀ c).owesAt none t.succ = (dat a W₀ c).owesAt none t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((gemm_triple c (grid1.coords t) _ _ _ _ _ _ _ _ _ _ _ _ _ _ _ _ (iblk a W₀ c 0 t) (iblk a W₀ c 1 t) (iblk a W₀ c 2 t) (iblk a W₀ c 3 t) (iblk a W₀ c 4 t) (iblk a W₀ c 5 t)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

set_option maxHeartbeats 1000000 in
theorem gemm_obligation (c : Dev nD) : BodyObligation (dat a W₀ c) (defs₀ (F := F)) Variants.none none Set.univ := fun t => by
  rw [bigSep_W1, bigSep_W1, defs₀_gemm]
  exact gemm_sound a W₀ c t

/-! ## The region -/

/-- The region's data, for every pipeline of the program (there is one). -/
def pdats : (p : Fin 1) → (c : Dev nD) → Dat τ (Elt F) (HIx 2) ℕ UU ℕ (Pipeline.pin (pcfgs (F := F)) a p) c
  | ⟨0, _⟩ => fun c => dat a W₀ c

/-- What the program's TensorCore thread owes between the first SparseCore call and the second, with what it has
    recorded. -/
def owing (c : Dev nD) : sProp 𝕄 := iprop(∃ W, ⌜(K (F := F)).WBelow (T c) W (8 * Z.fst 1)⌝ ∗ owes (T c) ((K (F := F)).Otc c 1) W)

theorem Otc_none (c : Dev nD) (n : ℕ) (g : GSem nD τ sig) : (K (F := F)).Otc c n g none = 0 := by
  by_contra h
  have := (K (F := F)).lev_of_Otc_pos (Nat.pos_of_ne_zero h)
  simp at this

variable (W₁ : Vals F)

set_option maxHeartbeats 1000000 in
set_option backward.isDefEq.respectTransparency.types false in
/-- The region over the program's buffers: entered at `W₀` with the table as admitted, left at `W₁`, which is `W₀` but for
    the output. -/
def reg (hT : ∀ c, (a 0).1 = fun k => W₀ c ((pcfgs (F := F) 0).pre.ref k)) (hout : ∀ c, W₁ c main_v10 = (dat a W₀ c).arrAt 6 (cfg1 (a 0)).N)
    (hne : ∀ c (b : Ref sig .tc), b ≠ main_v10 → W₁ c b = W₀ c b) :
    Pipeline.RegionSeg (pcfgs (F := F)) a (pdats a W₀) none defs₀ Variants.none (K (F := F)).L (K (F := F)).lev 0 where
  win := (launch1 (F := F)).win.to₀
  block_pos := (launch1 (F := F)).block_pos
  stage_whole := (launch1 (F := F)).stage_whole
  K := PEmpty
  osem k := k.elim
  ho := Pipeline.OwnSemFacts.none _
  hbody c := (gemm_obligation a W₀ c).loose
  hwaits c := Pipeline.cellsWaits_intro _ _ _ 0 c fun w s t => (K (F := F)).mayWait_none _ (Otc_none c 1)
  pre c := iprop(unscopedBufs c (W₀ c) ∗ owing c)
  post c := iprop(unscopedBufs c (W₁ c) ∗ owing c)
  X _ := BI.emp
  Y c := Pipeline.prefHeld (pcfgs (F := F) 0).pre c (fun _ => fullShare) (a 0).1
  Z c := Pipeline.unscopedRestP (Ix := HIx 2) (Name := ℕ) (U := UU) (Lvl := ℕ) pre1 spec1 c (W₀ c)
  hentry c := by
    rw [Pipeline.ownSems0_none]
    have hsplit := Pipeline.arrays_of_unscopedBufs (p := 0) (pcfgs (F := F)) a (pdats a W₀) (launch1 (F := F)).win (launch1 (F := F)).arr_whole c
      ((pdats a W₀ 0 c).share_full fun _ => rfl) (W₀ c) fun _ => rfl
    rw [Pipeline.unscopedRest_split (launch1 (F := F)).pre] at hsplit
    unfold owing
    iintro ⟨⟨Hub, ⟨%W, %hW, HO⟩⟩, -, -⟩
    ihave H := hsplit $$ Hub
    icases H with ⟨Ha, Hp, Hrest⟩
    imodintro
    isplitl [Ha]; · iexact Ha
    isplitl [Hp]; · rw [hT c]; iexact Hp
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats a W₀ 0 c).Φ 0 = gemmΦ a c from rfl]
    iintro ⟨-, Hp, Hr⟩
    isplitl [Hp]; · iexact Hp
    iexact Hr
  hout c := by
    rw [Pipeline.ownSems0_none, show (pdats a W₀ 0 c).Φ (Fin.last _) = gemmΦ a c from rfl]
    iintro ⟨Hp, Hr⟩
    isplitl [Hp]; · iexact Hp
    isplitr; · iempintro
    iexact Hr
  hexit c := by
    have hjoin := Pipeline.unscopedBufs_of_arrays (p := 0) (pcfgs (F := F)) a (Ix := HIx 2) (Name := ℕ) (U := UU) (Lvl := ℕ) (launch1 (F := F)).win (launch1 (F := F)).arr_whole c
      (pdats a W₀) ((pdats a W₀ 0 c).share_full fun _ => rfl) (W₀ c) (W₁ c) ((pdats a W₀ 0 c).arrAt · (cfg1 (a 0)).N)
      (fun w => by
        fin_cases w
        · exact ((pdats a W₀ 0 c).arrAt_in 0 rfl _).trans (hne c main_v5 (by decide)).symm
        · exact ((pdats a W₀ 0 c).arrAt_in 1 rfl _).trans (hne c main_v6 (by decide)).symm
        · exact ((pdats a W₀ 0 c).arrAt_in 2 rfl _).trans (hne c main_v7 (by decide)).symm
        · exact ((pdats a W₀ 0 c).arrAt_in 3 rfl _).trans (hne c main_v8 (by decide)).symm
        · exact ((pdats a W₀ 0 c).arrAt_in 4 rfl _).trans (hne c main_v9 (by decide)).symm
        · exact ((pdats a W₀ 0 c).arrAt_in 5 rfl _).trans (hne c main_arg3 (by decide)).symm
        · exact (hout c).symm)
      (fun b hb => hne c b fun h => hb (h ▸ Finset.mem_image.mpr ⟨6, Finset.mem_univ _, rfl⟩))
    rw [Pipeline.unscopedRest_split (launch1 (F := F)).pre] at hjoin
    iintro ⟨Ha, HO, Hp, Hrest⟩
    imodintro
    isplitl [Ha Hp Hrest]
    · iapply hjoin
      isplitl [Ha]; · iexact Ha
      isplitl [Hp]; · rw [hT c]; iexact Hp
      iexact Hrest
    unfold owing Pipeline.Dat.owesAt Pipeline.owesWithin
    icases HO with ⟨%W, %hW, HO⟩; iexists W
    isplitr
    · ipureintro
      intro p hp
      rcases hW hp with h | ⟨w, s, rfl⟩
      · exact h
      · simp
    iexact HO

end Cert.Proof.Moe

end
-- ==== Proof.States.lean ====
/- The contents of the TensorCore's arrays after each operation of the program, from the launch memory: the host's operations
   at their results, the two SparseCore calls' outputs and the grouped product's output replaced. -/
module

public import proofs.«01_k».proof.Proof.Tasks
public import proofs.«01_k».proof.Proof.Gemm

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_hlo_within)

variable {F : FTy → Type} [FloatOps F]

local notation "𝕄" => MT nD τ sig (HIx 2) (Elt F) ℕ UU ℕ

/-! ## A table of experts in range is admitted -/

/-- The table's word at a grid point. -/
abbrev expertAt (pf : pre1.Contents (Elt F)) (i : grid1.Coords) : BitVec 32 :=
  pf.at 0 (Rect.unit (s := S40) (k1_off1 i) S1.size (k1_off1_inb i)) numel1_S1

theorem transform_1 (pf : pre1.Contents (Elt F)) (i : grid1.Coords) :
    cc1_transform_1 k1_off1_inb numel1_S1 pf i = ![(expertAt pf i).toNat, 0, 0] := rfl
theorem transform_2 (pf : pre1.Contents (Elt F)) (i : grid1.Coords) :
    cc1_transform_2 k1_off1_inb numel1_S1 pf i = ![(expertAt pf i).toNat, 0, 0] := rfl
theorem transform_3 (pf : pre1.Contents (Elt F)) (i : grid1.Coords) :
    cc1_transform_3 k1_off1_inb numel1_S1 pf i = ![(expertAt pf i).toNat, 0, 0] := rfl
theorem transform_4 (pf : pre1.Contents (Elt F)) (i : grid1.Coords) :
    cc1_transform_4 k1_off1_inb numel1_S1 pf i = ![(expertAt pf i).toNat, 0, 0] := rfl

theorem ok_of_lt (pf : pre1.Contents (Elt F)) (h : ∀ i : grid1.Coords, (expertAt pf i).toNat < 8) : ok1 pf := by
  refine ⟨fun i => ⟨?_, .inr (Affine.block_words_dvd (of_decide_eq_true rfl) (by decide))⟩, fun i => ⟨?_, .inl rfl⟩,
    fun i => ⟨?_, .inr (Affine.block_words_dvd (of_decide_eq_true rfl) (by decide))⟩, fun i => ⟨?_, .inl rfl⟩⟩
  · intro a
    rw [transform_1]
    have := h i
    fin_cases a
    · show ((expertAt pf i).toNat + 1) * 1 ≤ 8; omega
    · show (0 + 1) * 768 ≤ 768; omega
    · show (0 + 1) * 3072 ≤ 3072; omega
  · intro a
    rw [transform_2]
    have := h i
    fin_cases a
    · show ((expertAt pf i).toNat + 1) * 1 ≤ 8; omega
    · show (0 + 1) * 1 ≤ 1; omega
    · show (0 + 1) * 3072 ≤ 3072; omega
  · intro a
    rw [transform_3]
    have := h i
    fin_cases a
    · show ((expertAt pf i).toNat + 1) * 1 ≤ 8; omega
    · show (0 + 1) * 3072 ≤ 3072; omega
    · show (0 + 1) * 768 ≤ 768; omega
  · intro a
    rw [transform_4]
    have := h i
    fin_cases a
    · show ((expertAt pf i).toNat + 1) * 1 ≤ 8; omega
    · show (0 + 1) * 1 ≤ 1; omega
    · show (0 + 1) * 768 ≤ 768; omega

/-! ## The host's operations -/

abbrev dr (b : Ref sig .tc) : DevRef τ sig := Proc.devRef .tc b

abbrev opX : HloOp τ sig (Elt F) := StableHlo.reshape main_arg0 main_v0 (rfl : (.f32 : EltTy) = .f32) shapeCasts_S1x2048x768_S2048x768
abbrev opRid : HloOp τ sig (Elt F) := StableHlo.reshape main_arg2 main_v1 (rfl : (.i32 : EltTy) = .i32) shapeCasts_S5120x1_S5120
abbrev opBe : HloOp τ sig (Elt F) := StableHlo.reshape main_arg4 main_v3 (rfl : (.i32 : EltTy) = .i32) shapeCasts_S128x1_S128
abbrev opTab : HloOp τ sig (Elt F) := StableHlo.unary main_v3 main_v4 ((extractStridedSlice S40 ![0] · slices_S128_S40_0) : (⟨S128, .i32⟩ : BufTy).Contents (Elt F) → (⟨S40, .i32⟩ : BufTy).Contents (Elt F))
abbrev opXs : HloOp τ sig (Elt F) := StableHlo.unary main_v2 main_v5 ((truncf .bf16 · bitsLt_bf16_f32) : (⟨S5120x768, .f32⟩ : BufTy).Contents (Elt F) → (⟨S5120x768, .bf16⟩ : BufTy).Contents (Elt F))
abbrev opW1 : HloOp τ sig (Elt F) := StableHlo.unary main_arg5 main_v6 ((truncf .bf16 · bitsLt_bf16_f32) : (⟨S8x768x3072, .f32⟩ : BufTy).Contents (Elt F) → (⟨S8x768x3072, .bf16⟩ : BufTy).Contents (Elt F))
abbrev opB1 : HloOp τ sig (Elt F) := StableHlo.reshape main_arg6 main_v7 (rfl : (.f32 : EltTy) = .f32) shapeCasts_S8x3072_S8x1x3072
abbrev opW2 : HloOp τ sig (Elt F) := StableHlo.unary main_arg7 main_v8 ((truncf .bf16 · bitsLt_bf16_f32) : (⟨S8x3072x768, .f32⟩ : BufTy).Contents (Elt F) → (⟨S8x3072x768, .bf16⟩ : BufTy).Contents (Elt F))
abbrev opB2 : HloOp τ sig (Elt F) := StableHlo.reshape main_arg8 main_v9 (rfl : (.f32 : EltTy) = .f32) shapeCasts_S8x768_S8x1x768
abbrev opPos : HloOp τ sig (Elt F) := StableHlo.reshape main_arg1 main_v11 (rfl : (.i32 : EltTy) = .i32) shapeCasts_S4096x1_S4096
abbrev opOut : HloOp τ sig (Elt F) := StableHlo.reshape main_v12 main_v13 (rfl : (.f32 : EltTy) = .f32) shapeCasts_S2048x768_S1x2048x768

/-! ## The contents after each -/

variable (m : (ℓ : Loc nD τ sig) → Buf (Elt F) ℓ)

def V0 (d : Dev nD) : Valuation τ sig (Elt F) := fun b => m (d, b)
/-- Before the gather. -/
def V2 (d : Dev nD) : Valuation τ sig (Elt F) := opRid.result (opX.result (V0 m d))
/-- After it. -/
def V3 (d : Dev nD) : Valuation τ sig (Elt F) :=
  Function.update (V2 m d) (dr main_v2) (gathered (d := d) (V2 m d (dr main_v1)) (V2 m d (dr main_v0)))
/-- Before the grouped product. -/
def V10 (d : Dev nD) : Valuation τ sig (Elt F) :=
  opB2.result (opW2.result (opB1.result (opW1.result (opXs.result (opTab.result (opBe.result (V3 m d)))))))

/-- What the grouped product finds, as its region reads it. -/
def W10 : Vals F := fun c b => V10 m c (dr b)

/-- The table as the region reads it. -/
def tbl : pre1.Contents (Elt F) := fun k => W10 m 0 (pre1.ref k)

/-- The admission of a table in range. -/
def adm (h : ok1 (tbl m)) : (p : Fin 1) → (pcfgs (F := F) p).Adm
  | ⟨0, _⟩ => ⟨tbl m, h⟩

variable (h : ok1 (tbl m))

/-- The grouped product's output: every block at its point's value. -/
def ysOut (d : Dev nD) : Buf (Elt F) (ysLoc d) := (dat (adm m h) (W10 m) d).arrAt 6 (cfg1 (adm m h 0)).N

/-- After the grouped product. -/
def V11 (d : Dev nD) : Valuation τ sig (Elt F) :=
  Function.update (V10 m d) (dr main_v10) (ysOut m h d)
def W11 : Vals F := fun c b => V11 m h c (dr b)
/-- Before the second SparseCore call. -/
def V12 (d : Dev nD) : Valuation τ sig (Elt F) := opPos.result (V11 m h d)
/-- After it. -/
def V13 (d : Dev nD) : Valuation τ sig (Elt F) :=
  Function.update (V12 m h d) (dr main_v12) (combined (d := d) (V12 m h d (dr main_v11)) (V12 m h d (dr main_v0)) (V12 m h d (dr main_v10)))
/-- At the end. -/
def V14 (d : Dev nD) : Valuation τ sig (Elt F) := opOut.result (V13 m h d)

/-! ## What the arrays hold -/

theorem V2_rid (d : Dev nD) : V2 m d (dr main_v1) = shapeCast S5120 (m (d, dr main_arg2)) shapeCasts_S5120x1_S5120 := by
  unfold V2
  rw [StableHlo.reshape_result',
    StableHlo.reshape_result_ne _ _ _ _ _ _ _ (show main_arg2 ≠ main_v0 by decide)]
  rfl
theorem V2_x (d : Dev nD) : V2 m d (dr main_v0) = shapeCast S2048x768 (m (d, dr main_arg0)) shapeCasts_S1x2048x768_S2048x768 := by
  unfold V2
  rw [StableHlo.reshape_result_ne _ _ _ _ _ _ _ (show main_v0 ≠ main_v1 by decide),
    StableHlo.reshape_result']
  rfl
theorem V2_ne (d : Dev nD) (b : Ref sig .tc) (h0 : b ≠ main_v0) (h1 : b ≠ main_v1) : V2 m d (dr b) = m (d, dr b) := by
  unfold V2
  rw [StableHlo.reshape_result_ne _ _ _ _ _ _ _ h1, StableHlo.reshape_result_ne _ _ _ _ _ _ _ h0]
  rfl
theorem V3_ne (d : Dev nD) (b : Ref sig .tc) (h2 : b ≠ main_v2) : V3 m d (dr b) = V2 m d (dr b) := by
  unfold V3
  rw [Function.update_of_ne (StableHlo.devRef_ne_of_ne h2)]
theorem V3_xs (d : Dev nD) : V3 m d (dr main_v2) = gathered (d := d) (V2 m d (dr main_v1)) (V2 m d (dr main_v0)) := Function.update_self _ _ _

theorem V10_ne (d : Dev nD) (b : Ref sig .tc) (h3 : b ≠ main_v3) (h4 : b ≠ main_v4) (h5 : b ≠ main_v5) (h6 : b ≠ main_v6)
    (h7 : b ≠ main_v7) (h8 : b ≠ main_v8) (h9 : b ≠ main_v9) : V10 m d (dr b) = V3 m d (dr b) := by
  unfold V10
  rw [StableHlo.reshape_result_ne _ _ _ _ _ _ _ h9, StableHlo.unary_result_ne _ _ _ _ _ _ h8, StableHlo.reshape_result_ne _ _ _ _ _ _ _ h7,
    StableHlo.unary_result_ne _ _ _ _ _ _ h6, StableHlo.unary_result_ne _ _ _ _ _ _ h5, StableHlo.unary_result_ne _ _ _ _ _ _ h4,
    StableHlo.reshape_result_ne _ _ _ _ _ _ _ h3]

theorem V10_table (d : Dev nD) : V10 m d (dr main_v4)
    = extractStridedSlice S40 ![0] (shapeCast S128 (m (d, dr main_arg4)) shapeCasts_S128x1_S128) slices_S128_S40_0 := by
  unfold V10
  rw [StableHlo.reshape_result_ne _ _ _ _ _ _ _ (show main_v4 ≠ main_v9 by decide),
    StableHlo.unary_result_ne _ _ _ _ _ _ (show main_v4 ≠ main_v8 by decide),
    StableHlo.reshape_result_ne _ _ _ _ _ _ _ (show main_v4 ≠ main_v7 by decide),
    StableHlo.unary_result_ne _ _ _ _ _ _ (show main_v4 ≠ main_v6 by decide),
    StableHlo.unary_result_ne _ _ _ _ _ _ (show main_v4 ≠ main_v5 by decide),
    StableHlo.unary_result',
    StableHlo.reshape_result',
    V3_ne m d _ (by decide),
    V2_ne m d _ (by decide) (by decide)]
  rfl
theorem V10_xs (d : Dev nD) : V10 m d (dr main_v5) = truncf .bf16 (V3 m d (dr main_v2) : FVec F S5120x768 .f32) bitsLt_bf16_f32 := by
  unfold V10
  rw [StableHlo.reshape_result_ne _ _ _ _ _ _ _ (show main_v5 ≠ main_v9 by decide),
    StableHlo.unary_result_ne _ _ _ _ _ _ (show main_v5 ≠ main_v8 by decide),
    StableHlo.reshape_result_ne _ _ _ _ _ _ _ (show main_v5 ≠ main_v7 by decide),
    StableHlo.unary_result_ne _ _ _ _ _ _ (show main_v5 ≠ main_v6 by decide),
    StableHlo.unary_result',
    StableHlo.unary_result_ne _ _ _ _ _ _ (show main_v2 ≠ main_v4 by decide),
    StableHlo.reshape_result_ne _ _ _ _ _ _ _ (show main_v2 ≠ main_v3 by decide)]
theorem V10_w1 (d : Dev nD) : V10 m d (dr main_v6) = truncf .bf16 (m (d, dr main_arg5) : FVec F S8x768x3072 .f32) bitsLt_bf16_f32 := by
  unfold V10
  rw [StableHlo.reshape_result_ne _ _ _ _ _ _ _ (show main_v6 ≠ main_v9 by decide),
    StableHlo.unary_result_ne _ _ _ _ _ _ (show main_v6 ≠ main_v8 by decide),
    StableHlo.reshape_result_ne _ _ _ _ _ _ _ (show main_v6 ≠ main_v7 by decide),
    StableHlo.unary_result',
    StableHlo.unary_result_ne _ _ _ _ _ _ (show main_arg5 ≠ main_v5 by decide),
    StableHlo.unary_result_ne _ _ _ _ _ _ (show main_arg5 ≠ main_v4 by decide),
    StableHlo.reshape_result_ne _ _ _ _ _ _ _ (show main_arg5 ≠ main_v3 by decide),
    V3_ne m d _ (by decide),
    V2_ne m d _ (by decide) (by decide)]
theorem V10_b1 (d : Dev nD) : V10 m d (dr main_v7) = shapeCast S8x1x3072 (m (d, dr main_arg6)) shapeCasts_S8x3072_S8x1x3072 := by
  unfold V10
  rw [StableHlo.reshape_result_ne _ _ _ _ _ _ _ (show main_v7 ≠ main_v9 by decide),
    StableHlo.unary_result_ne _ _ _ _ _ _ (show main_v7 ≠ main_v8 by decide),
    StableHlo.reshape_result',
    StableHlo.unary_result_ne _ _ _ _ _ _ (show main_arg6 ≠ main_v6 by decide),
    StableHlo.unary_result_ne _ _ _ _ _ _ (show main_arg6 ≠ main_v5 by decide),
    StableHlo.unary_result_ne _ _ _ _ _ _ (show main_arg6 ≠ main_v4 by decide),
    StableHlo.reshape_result_ne _ _ _ _ _ _ _ (show main_arg6 ≠ main_v3 by decide),
    V3_ne m d _ (by decide),
    V2_ne m d _ (by decide) (by decide)]
  rfl
theorem V10_w2 (d : Dev nD) : V10 m d (dr main_v8) = truncf .bf16 (m (d, dr main_arg7) : FVec F S8x3072x768 .f32) bitsLt_bf16_f32 := by
  unfold V10
  rw [StableHlo.reshape_result_ne _ _ _ _ _ _ _ (show main_v8 ≠ main_v9 by decide),
    StableHlo.unary_result',
    StableHlo.reshape_result_ne _ _ _ _ _ _ _ (show main_arg7 ≠ main_v7 by decide),
    StableHlo.unary_result_ne _ _ _ _ _ _ (show main_arg7 ≠ main_v6 by decide),
    StableHlo.unary_result_ne _ _ _ _ _ _ (show main_arg7 ≠ main_v5 by decide),
    StableHlo.unary_result_ne _ _ _ _ _ _ (show main_arg7 ≠ main_v4 by decide),
    StableHlo.reshape_result_ne _ _ _ _ _ _ _ (show main_arg7 ≠ main_v3 by decide),
    V3_ne m d _ (by decide),
    V2_ne m d _ (by decide) (by decide)]
theorem V10_b2 (d : Dev nD) : V10 m d (dr main_v9) = shapeCast S8x1x768 (m (d, dr main_arg8)) shapeCasts_S8x768_S8x1x768 := by
  unfold V10
  rw [StableHlo.reshape_result',
    StableHlo.unary_result_ne _ _ _ _ _ _ (show main_arg8 ≠ main_v8 by decide),
    StableHlo.reshape_result_ne _ _ _ _ _ _ _ (show main_arg8 ≠ main_v7 by decide),
    StableHlo.unary_result_ne _ _ _ _ _ _ (show main_arg8 ≠ main_v6 by decide),
    StableHlo.unary_result_ne _ _ _ _ _ _ (show main_arg8 ≠ main_v5 by decide),
    StableHlo.unary_result_ne _ _ _ _ _ _ (show main_arg8 ≠ main_v4 by decide),
    StableHlo.reshape_result_ne _ _ _ _ _ _ _ (show main_arg8 ≠ main_v3 by decide),
    V3_ne m d _ (by decide),
    V2_ne m d _ (by decide) (by decide)]
  rfl
theorem V10_wsl (d : Dev nD) : V10 m d (dr main_arg3) = m (d, dr main_arg3) := by
  rw [V10_ne m d _ (by decide) (by decide) (by decide) (by decide) (by decide) (by decide) (by decide), V3_ne m d _ (by decide), V2_ne m d _ (by decide) (by decide)]

theorem V11_ne (d : Dev nD) (b : Ref sig .tc) (h10 : b ≠ main_v10) : V11 m h d (dr b) = V10 m d (dr b) := by
  unfold V11
  rw [Function.update_of_ne (StableHlo.devRef_ne_of_ne h10)]
theorem V11_ys (d : Dev nD) : V11 m h d (dr main_v10) = ysOut m h d := Function.update_self _ _ _
theorem V12_ne (d : Dev nD) (b : Ref sig .tc) (h11 : b ≠ main_v11) : V12 m h d (dr b) = V11 m h d (dr b) := by
  unfold V12
  rw [StableHlo.reshape_result_ne _ _ _ _ _ _ _ h11]
theorem V12_x (d : Dev nD) : V12 m h d (dr main_v0) = V2 m d (dr main_v0) := by
  rw [V12_ne m h d _ (by decide), V11_ne m h d _ (by decide),
    V10_ne m d _ (by decide) (by decide) (by decide) (by decide) (by decide) (by decide) (by decide), V3_ne m d _ (by decide)]
theorem V12_pos (d : Dev nD) : V12 m h d (dr main_v11) = shapeCast S4096 (m (d, dr main_arg1)) shapeCasts_S4096x1_S4096 := by
  unfold V12
  simp only [StableHlo.reshape_result']
  rw [V11_ne m h d _ (by decide), V10_ne m d _ (by decide) (by decide) (by decide) (by decide) (by decide) (by decide) (by decide),
    V3_ne m d _ (by decide), V2_ne m d _ (by decide) (by decide)]
  rfl
theorem V12_ys (d : Dev nD) : V12 m h d (dr main_v10) = ysOut m h d := by
  rw [V12_ne m h d _ (by decide), V11_ys]
theorem V13_out (d : Dev nD) : V13 m h d (dr main_v12) = combined (d := d) (V12 m h d (dr main_v11)) (V12 m h d (dr main_v0)) (V12 m h d (dr main_v10)) :=
  Function.update_self _ _ _
theorem V14_out (d : Dev nD) : V14 m h d (dr main_v13)
    = shapeCast S1x2048x768 (combined (d := d) (V12 m h d (dr main_v11)) (V12 m h d (dr main_v0)) (V12 m h d (dr main_v10))) shapeCasts_S2048x768_S1x2048x768 := by
  unfold V14
  simp only [StableHlo.reshape_result']
  rw [V13_out]
  rfl

/-- An array no operation writes holds what it held at the launch. -/
theorem V14_ne (d : Dev nD) (b : Ref sig .tc) (hb : b ∉ [main_v0, main_v1, main_v2, main_v3, main_v4, main_v5, main_v6, main_v7, main_v8, main_v9,
    main_v10, main_v11, main_v12, main_v13]) : V14 m h d (dr b) = m (d, dr b) := by
  simp only [List.mem_cons, List.not_mem_nil, _root_.or_false, not_or] at hb
  obtain ⟨h0, h1, h2, h3, h4, h5, h6, h7, h8, h9, h10, h11, h12, h13⟩ := hb
  unfold V14 V13
  rw [StableHlo.reshape_result_ne _ _ _ _ _ _ _ h13, Function.update_of_ne (StableHlo.devRef_ne_of_ne h12), V12_ne m h d b h11, V11_ne m h d b h10,
    V10_ne m d b h3 h4 h5 h6 h7 h8 h9, V3_ne m d b h2, V2_ne m d b h0 h1]

/-- The words of the table are the block experts'. -/
theorem tbl_lt (hbe : ∀ d (j : S128x1.Idx), (m (d, dr main_arg4) j : BitVec 32).toNat < 8) (i : grid1.Coords) : (expertAt (tbl m) i).toNat < 8 := by
  have h0 : tbl m 0 = V10 m 0 (dr main_v4) := rfl
  unfold expertAt Pipeline.Prefetch.Contents.at
  show (tbl m 0 _ : BitVec 32).toNat < 8
  rw [h0, V10_table]
  exact hbe 0 _

/-- The arrays the SparseCore calls find. -/
def arrays : Arrays F where
  I d := V2 m d (dr main_v1)
  X d := V2 m d (dr main_v0)
  S d := V2 m d (dr main_v2)
  P d := V12 m h d (dr main_v11)
  Y d := V12 m h d (dr main_v10)
  O d := V12 m h d (dr main_v12)

theorem rid_lt (hrid : ∀ d (j : S5120x1.Idx), (m (d, dr main_arg2) j : BitVec 32).toNat < 2048) (d : Dev nD) (j : S5120.Idx) :
    ((arrays m h).I d j : BitVec 32).toNat < 2048 := by
  show (V2 m d (dr main_v1) j : BitVec 32).toNat < 2048
  rw [V2_rid]
  exact hrid d _
theorem pos_lt (hpos : ∀ d (j : S4096x1.Idx), (m (d, dr main_arg1) j : BitVec 32).toNat < 5120) (d : Dev nD) (j : S4096.Idx) :
    ((arrays m h).P d j : BitVec 32).toNat < 5120 := by
  show (V12 m h d (dr main_v11) j : BitVec 32).toNat < 5120
  rw [V12_pos]
  exact hpos d _

end Cert.Proof.Moe

end
-- ==== Proof.Main.lean ====
/- The program's run: the launch's ghost state, the TensorCore's thread from the launch to its end, and what every array holds
   there. -/
module

public import proofs.«01_k».proof.Proof.States

@[expose] public section

noncomputable section

namespace Cert.Proof.Moe

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_sub_split held_congr wp_hlo_within)

variable {F : FTy → Type} [FloatOps F]

local notation "𝕄" => MT nD τ sig (HIx 2) (Elt F) ℕ UU ℕ

variable (m : (ℓ : Loc nD τ sig) → Buf (Elt F) ℓ) (ρ : Dev nD → PrngReg) (h : ok1 (tbl m))

instance EP_landsIn : (EP : Emb UP 𝕄).LandsIn (upEmb : UEmb _ 𝕄) := by unfold EP; infer_instance

/-! ## The ghost state -/

abbrev pins (a : (p : Fin 1) → (pcfgs (F := F) p).Adm) := Pipeline.pin (pcfgs (F := F)) a

/-- A pipeline's ghost state on a device. -/
def ghost (a : (p : Fin 1) → (pcfgs (F := F) p).Adm) (d : Dev nD) : sProp 𝕄 :=
  iprop(Pipeline.cellsGhost (pins a) EP 0 d ∗ Pipeline.toksInit (pins a) EP 0 d)

def u₀ (a : (p : Fin 1) → (pcfgs (F := F) p).Adm) : UU :=
  (initOf (K (F := F)).hsCells (K (F := F)).hsToks,
    (initOf (Pipeline.cells (pins a) (cellOf_inj a)) (Pipeline.launchToks (pins a) (cellOf_inj a)), 1))

theorem bigSep_emp' {I : Type} (s : Finset I) : (bigSep s fun _ => iprop(emp)) = (iprop(emp) : sProp 𝕄) := bigSep_emp_const s

theorem cells_one (a : (p : Fin 1) → (pcfgs (F := F) p).Adm) :
    (bigSep Finset.univ fun d : Dev nD => bigSep Finset.univ fun p => (Pipeline.cellsGhost (pins a) EP p d : sProp 𝕄))
      = bigSep Finset.univ fun d : Dev nD => Pipeline.cellsGhost (pins a) EP 0 d :=
  bigSep_congr fun _ _ => bigSep_univ_of_subsingleton (0 : Fin 1)
theorem toks_one (a : (p : Fin 1) → (pcfgs (F := F) p).Adm) :
    (bigSep Finset.univ fun d : Dev nD => bigSep Finset.univ fun p => (Pipeline.toksInit (pins a) EP p d : sProp 𝕄))
      = bigSep Finset.univ fun d : Dev nD => Pipeline.toksInit (pins a) EP 0 d :=
  bigSep_congr fun _ _ => bigSep_univ_of_subsingleton (0 : Fin 1)

theorem hu₀ (a : (p : Fin 1) → (pcfgs (F := F) p).Adm) (A : Arrays F) : (ownU (u₀ a) : sProp 𝕄)
    ⊢ |={Set.univ}=> iprop(BI.own (EH (initOf (K (F := F)).hsCells (K (F := F)).hsToks)) ∗ (bigSep Finset.univ fun d : Dev nD => ghost a d)
        ∗ bigSep Finset.univ fun thr : Thread nD τ => bigSep Finset.univ fun q : Fin 2 => (pay A).x q thr) := by
  unfold u₀
  iintro Hu
  ihave H := (ownU_pair _ _) $$ Hu
  icases H with ⟨HH, HR⟩
  ihave H := (own_pair_emb embR _ _) $$ HR
  icases H with ⟨HP, -⟩
  imod (Pipeline.fund_ghost (pins a) EP (cellOf_inj a)) $$ HP with ⟨Hg, Ht⟩
  ihave Hg := (Entails.of_eq (cells_one a)) $$ Hg
  ihave Ht := (Entails.of_eq (toks_one a)) $$ Ht
  imodintro
  isplitl [HH]; · iexact HH
  isplitl [Hg Ht]
  · unfold ghost
    rw [bigSep_sep']
    isplitl [Hg]; · iexact Hg
    iexact Ht
  rw [show (bigSep Finset.univ fun thr : Thread nD τ => bigSep Finset.univ fun q : Fin 2 => (pay A).x q thr) = bigSep Finset.univ fun _ => iprop(emp) from
    bigSep_congr fun _ _ => bigSep_emp' _, bigSep_emp']
  iempintro

/-! ## The arrays the TensorCore holds -/

/-- The unscoped arrays. -/
def ucRefs : Finset (DevRef τ sig) := (StableHlo.tcRefs τ sig).filter (¬ ·.isScoped)

theorem unscopedBufs_held (d : Dev nD) (W : Valuation τ sig (Elt F)) :
    (unscopedBufs d (fun b => W (dr b)) : sProp 𝕄) = held (T d) ucRefs W := by
  unfold unscopedBufs held ucRefs StableHlo.tcRefs
  rw [Finset.filter_map, bigSep_map]; rfl

/-- The first call's operands, and the second's. -/
abbrev R0 : Finset (DevRef τ sig) := {dr main_v1, dr main_v0, dr main_v2}
abbrev R1 : Finset (DevRef τ sig) := {dr main_v11, dr main_v0, dr main_v10, dr main_v12}

theorem R0_sub : R0 ⊆ ucRefs := by decide
theorem R1_sub : R1 ⊆ ucRefs := by decide

theorem held_R0 (d : Dev nD) (W : Valuation τ sig (Elt F)) :
    (held (T d) R0 W : sProp 𝕄)
      = iprop((ridLoc d ↦{fullShare} W (dr main_v1)) ∗ (xLoc d ↦{fullShare} W (dr main_v0)) ∗ xsLoc d ↦{fullShare} W (dr main_v2)) := by
  unfold held R0
  rw [SparseCore.bigSep_insert' (by decide), SparseCore.bigSep_insert' (by decide), bigSep_singleton]
theorem held_R1 (d : Dev nD) (W : Valuation τ sig (Elt F)) :
    (held (T d) R1 W : sProp 𝕄)
      = iprop((posLoc d ↦{fullShare} W (dr main_v11)) ∗ (xLoc d ↦{fullShare} W (dr main_v0)) ∗ (ysLoc d ↦{fullShare} W (dr main_v10))
          ∗ outLoc d ↦{fullShare} W (dr main_v12)) := by
  unfold held R1
  rw [SparseCore.bigSep_insert' (by decide), SparseCore.bigSep_insert' (by decide), SparseCore.bigSep_insert' (by decide), bigSep_singleton]

theorem arrays_I (d : Dev nD) : (arrays m h).I d = V2 m d (dr main_v1) := by dsimp only [arrays]
theorem arrays_X (d : Dev nD) : (arrays m h).X d = V2 m d (dr main_v0) := by dsimp only [arrays]
theorem arrays_S (d : Dev nD) : (arrays m h).S d = V2 m d (dr main_v2) := by dsimp only [arrays]
theorem arrays_P (d : Dev nD) : (arrays m h).P d = V12 m h d (dr main_v11) := by dsimp only [arrays]
theorem arrays_X' (d : Dev nD) : (arrays m h).X d = V12 m h d (dr main_v0) := (V12_x m h d).symm
theorem arrays_Y (d : Dev nD) : (arrays m h).Y d = V12 m h d (dr main_v10) := by dsimp only [arrays]
theorem arrays_O (d : Dev nD) : (arrays m h).O d = V12 m h d (dr main_v12) := by dsimp only [arrays]

theorem held_V2 (d : Dev nD) : (held (T d) ucRefs (V2 m d) : sProp 𝕄)
    = iprop((bigSep Finset.univ fun c : Fin ((K (F := F)).nCore 0) => (pay (arrays m h)).st 0 d c) ∗ held (T d) (ucRefs \ R0) (V2 m d)) := by
  rw [held_sub_split (T d) R0_sub, held_R0, st0_eq]; rfl
theorem held_V3 (d : Dev nD) : (held (T d) ucRefs (V3 m d) : sProp 𝕄)
    = iprop((bigSep Finset.univ fun c : Fin ((K (F := F)).nCore 0) => (pay (arrays m h)).dn 0 d c) ∗ held (T d) (ucRefs \ R0) (V2 m d)) := by
  rw [held_sub_split (T d) R0_sub, held_R0, dn0_eq, V3_xs, V3_ne m d _ (by decide), V3_ne m d _ (by decide),
    held_congr (T d) (S := ucRefs \ R0) (V := V3 m d) (V' := V2 m d) fun b hb => by
      unfold V3
      exact Function.update_of_ne (fun e => (Finset.mem_sdiff.mp hb).2 (by rw [e]; decide)) _ _]
  rfl
theorem held_V12 (d : Dev nD) : (held (T d) ucRefs (V12 m h d) : sProp 𝕄)
    = iprop((bigSep Finset.univ fun c : Fin ((K (F := F)).nCore 1) => (pay (arrays m h)).st 1 d c) ∗ held (T d) (ucRefs \ R1) (V12 m h d)) := by
  rw [held_sub_split (T d) R1_sub, held_R1, st1_eq, arrays_P, arrays_X', arrays_Y, arrays_O]
theorem V13_ne (d : Dev nD) (b : DevRef τ sig) (hb : b ≠ dr main_v12) : V13 m h d b = V12 m h d b := by
  unfold V13
  exact Function.update_of_ne hb _ _
theorem held_V13 (d : Dev nD) : (held (T d) ucRefs (V13 m h d) : sProp 𝕄)
    = iprop((bigSep Finset.univ fun c : Fin ((K (F := F)).nCore 1) => (pay (arrays m h)).dn 1 d c) ∗ held (T d) (ucRefs \ R1) (V12 m h d)) := by
  rw [held_sub_split (T d) R1_sub, held_R1, dn1_eq, arrays_P, arrays_X', arrays_Y, V13_out, V13_ne m h d (dr main_v11) (by decide), V13_ne m h d (dr main_v0) (by decide),
    V13_ne m h d (dr main_v10) (by decide),
    held_congr (T d) (S := ucRefs \ R1) (V := V13 m h d) (V' := V12 m h d) fun b hb =>
      V13_ne m h d b (fun e => (Finset.mem_sdiff.mp hb).2 (by rw [e]; decide))]

/-! ## The grouped product inside the program -/

theorem W11_out (d : Dev nD) : W11 m h d main_v10 = (dat (adm m h) (W10 m) d).arrAt 6 (cfg1 (adm m h 0)).N := V11_ys m h d
theorem W11_ne (d : Dev nD) (b : Ref sig .tc) (hb : b ≠ main_v10) : W11 m h d b = W10 m d b := V11_ne m h d b hb
theorem adm_eq (d : Dev nD) : (adm m h 0).1 = fun k => W10 m d ((pcfgs (F := F) 0).pre.ref k) := by
  rw [Subsingleton.elim d 0]; rfl

/-- The grouped product's region over the program's contents. -/
def region := reg (adm m h) (W10 m) (W11 m h) (adm_eq m h) (W11_out m h) (W11_ne m h)

theorem region_pre (d : Dev nD) : (region m h).pre d = iprop(unscopedBufs d (W10 m d) ∗ owing d) := by dsimp only [region, reg]
theorem region_post (d : Dev nD) : (region m h).post d = iprop(unscopedBufs d (W11 m h d) ∗ owing d) := by dsimp only [region, reg]

set_option maxHeartbeats 400000 in
/-- The region's call as the pipelines' own program runs it. -/
theorem region_wp [∀ e, Nonempty (Elt F e)] (d : Dev nD) (Q : PUnit → sProp 𝕄) :
    iprop((iprop(boundary (T d) ∗ (region m h).post d) -∗ wp frame (wpE (D (F := F)) 𝒱 (T d) none) Set.univ (.ret ⟨⟩) Q)
        ∗ boundary (T d) ∗ (region m h).pre d ∗ levAts (K (F := F)).L (K (F := F)).lev
        ∗ Pipeline.cellsGhost (pins (adm m h)) EP 0 d ∗ Pipeline.toksInit (pins (adm m h)) EP 0 d)
      ⊢ wp frame (wpE (D (F := F)) 𝒱 (T d) none) Set.univ (.op (.customCall (Pipeline.entry 0) ()) .ret) Q :=
  Pipeline.RegionSeg.wp (pcfgs (F := F)) (adm m h) (pdats (adm m h) (W10 m)) none (cellOf_inj (adm m h)) EP defs₀ Variants.none
    (K (F := F)).L (K (F := F)).lev (region m h) d none (fun u hu => nomatch hu) .ret Q

theorem region_frame (d : Dev nD) (Q : PUnit → sProp 𝕄) :
    iprop((iprop(boundary (T d) ∗ unscopedBufs d (W11 m h d) ∗ owing d) -∗ Q ⟨⟩)
        ∗ boundary (T d) ∗ iprop(unscopedBufs d (W10 m d) ∗ owing d) ∗ levAts (K (F := F)).L (K (F := F)).lev ∗ ghost (adm m h) d)
      ⊢ iprop((iprop(boundary (T d) ∗ iprop(unscopedBufs d (W11 m h d) ∗ owing d)) -∗ |={Set.univ}=> Q ⟨⟩)
        ∗ boundary (T d) ∗ iprop(unscopedBufs d (W10 m d) ∗ owing d) ∗ levAts (K (F := F)).L (K (F := F)).lev
        ∗ Pipeline.cellsGhost (pins (adm m h)) EP 0 d ∗ Pipeline.toksInit (pins (adm m h)) EP 0 d) := by
  unfold ghost
  iintro ⟨Hk, Hb, Hpre, Hl, Hg, Ht⟩
  isplitl [Hk]
  · iintro H
    imodintro
    iapply Hk; iexact H
  isplitl [Hb]; · iexact Hb
  isplitl [Hpre]; · iexact Hpre
  isplitl [Hl]; · iexact Hl
  isplitl [Hg]; · iexact Hg
  iexact Ht

/-- The region's call as the program runs it. -/
theorem region_step [∀ e, Nonempty (Elt F e)] (d : Dev nD) (Q : PUnit → sProp 𝕄) :
    iprop((iprop(boundary (T d) ∗ unscopedBufs d (W11 m h d) ∗ owing d) -∗ Q ⟨⟩)
        ∗ boundary (T d) ∗ iprop(unscopedBufs d (W10 m d) ∗ owing d) ∗ levAts (K (F := F)).L (K (F := F)).lev ∗ ghost (adm m h) d)
      ⊢ wp frame (wpE ((K (F := F)).defs (D (F := F))) 𝒱 (T d) none) Set.univ
          (Prog.lift (.customCall (SparseCore.inner (Pipeline.entry 0)) ())) Q := by
  refine BI.Entails.trans (region_frame m h d Q) ?_
  rw [← region_pre m h d, ← region_post m h d]
  exact (region_wp m h d Q).trans ((K (F := F)).wp_liftProg (D (F := F)) 𝒱 (T d) Set.univ none (.op (.customCall (Pipeline.entry 0) ()) .ret) Q)

/-! ## @main on the TensorCore -/

theorem opX_sub : (opX (F := F)).bufs ⊆ ucRefs := show ({dr main_arg0, dr main_v0} : Finset (DevRef τ sig)) ⊆ ucRefs by decide
theorem opRid_sub : (opRid (F := F)).bufs ⊆ ucRefs := show ({dr main_arg2, dr main_v1} : Finset (DevRef τ sig)) ⊆ ucRefs by decide
theorem opBe_sub : (opBe (F := F)).bufs ⊆ ucRefs := show ({dr main_arg4, dr main_v3} : Finset (DevRef τ sig)) ⊆ ucRefs by decide
theorem opTab_sub : (opTab (F := F)).bufs ⊆ ucRefs := show ({dr main_v3, dr main_v4} : Finset (DevRef τ sig)) ⊆ ucRefs by decide
theorem opXs_sub : (opXs (F := F)).bufs ⊆ ucRefs := show ({dr main_v2, dr main_v5} : Finset (DevRef τ sig)) ⊆ ucRefs by decide
theorem opW1_sub : (opW1 (F := F)).bufs ⊆ ucRefs := show ({dr main_arg5, dr main_v6} : Finset (DevRef τ sig)) ⊆ ucRefs by decide
theorem opB1_sub : (opB1 (F := F)).bufs ⊆ ucRefs := show ({dr main_arg6, dr main_v7} : Finset (DevRef τ sig)) ⊆ ucRefs by decide
theorem opW2_sub : (opW2 (F := F)).bufs ⊆ ucRefs := show ({dr main_arg7, dr main_v8} : Finset (DevRef τ sig)) ⊆ ucRefs by decide
theorem opB2_sub : (opB2 (F := F)).bufs ⊆ ucRefs := show ({dr main_arg8, dr main_v9} : Finset (DevRef τ sig)) ⊆ ucRefs by decide
theorem opPos_sub : (opPos (F := F)).bufs ⊆ ucRefs := show ({dr main_arg1, dr main_v11} : Finset (DevRef τ sig)) ⊆ ucRefs by decide
theorem opOut_sub : (opOut (F := F)).bufs ⊆ ucRefs := show ({dr main_v12, dr main_v13} : Finset (DevRef τ sig)) ⊆ ucRefs by decide

/-- What the TensorCore's thread ends with: every array at its last contents. -/
abbrev FIN (d : Dev nD) : sProp 𝕄 := held (T d) ucRefs (V14 m h d)

theorem tcSt_owing (d : Dev nD) : ∃ R : sProp 𝕄, (K (F := F)).tcSt EH d 1 = iprop(owing d ∗ R) := by
  unfold SparseCore.Cfg.tcSt owing
  exact ⟨_, rfl⟩

theorem unscoped_V0 (d : Dev nD) : (unscopedBufs d (fun b => m ((SparseCore.T d).loc b)) : sProp 𝕄) = held (T d) ucRefs (V0 m d) := by
  have e := unscopedBufs_held d (V0 m d)
  unfold V0 at e
  exact e

theorem result_V2 (d : Dev nD) : (held (T d) ucRefs (opRid.result (opX.result (V0 m d))) : sProp 𝕄) = held (T d) ucRefs (V2 m d) := by unfold V2; rfl
theorem result_V10 (d : Dev nD) :
    (held (T d) ucRefs (opB2.result (opW2.result (opB1.result (opW1.result (opXs.result (opTab.result (opBe.result (V3 m d)))))))) : sProp 𝕄)
      = held (T d) ucRefs (V10 m d) := by unfold V10; rfl
theorem result_V12 (d : Dev nD) : (held (T d) ucRefs (opPos.result (V11 m h d)) : sProp 𝕄) = held (T d) ucRefs (V12 m h d) := by unfold V12; rfl
theorem result_V14 (d : Dev nD) : (held (T d) ucRefs (opOut.result (V13 m h d)) : sProp 𝕄) = held (T d) ucRefs (V14 m h d) := by unfold V14; rfl

set_option maxHeartbeats 1000000 in
theorem hmain [∀ e, Nonempty (Elt F e)] (κ : GSem nD τ sig → ℕ) (d : Dev nD) :
    iprop((K (F := F)).ctx EH (pay (arrays m h)) κ ∗ (K (F := F)).tcSt EH d 0 ∗ (K (F := F)).tcRes m ρ d ∗ ghost (adm m h) d)
      ⊢ wp frame (wpE ((K (F := F)).defs (D (F := F))) 𝒱 (T d) none) Set.univ (main d)
          fun _ => iprop((K (F := F)).tcSt EH d 2 ∗ FIN m h d ∗ (K (F := F)).tcEnd d) := by
  obtain ⟨R, hR⟩ := tcSt_owing (F := F) d
  unfold SparseCore.Cfg.tcRes SparseCore.Cfg.tcEnd
  rw [unscoped_V0]
  simp only [main, wp_bind, wp_pure]
  iintro ⟨#Hctx, Hst, ⟨Hb, Hheld, Hts, -⟩, HG⟩
  ihave #Hlev := (SparseCore.Cfg.ctx_levAts κ) $$ Hctx
  iapply (wp_hlo_within 𝒱 (T d) none Set.univ (op := opX) (S := ucRefs) opX_sub (V := V0 m d)) $$ [Hb Hheld]
  · isplitl [Hb] <;> iassumption
  iintro ⟨Hb, Hheld⟩
  rw [wp_ret]; imodintro
  iapply (wp_hlo_within 𝒱 (T d) none Set.univ (op := opRid) (S := ucRefs) opRid_sub (V := opX.result (V0 m d))) $$ [Hb Hheld]
  · isplitl [Hb] <;> iassumption
  iintro ⟨Hb, Hheld⟩
  rw [wp_ret]; imodintro
  -- the gather
  ihave Hheld := (Entails.of_eq (result_V2 m d)) $$ Hheld
  ihave Hh := (Entails.of_eq (held_V2 m h d)) $$ Hheld
  icases Hh with ⟨Hop, Hrest⟩
  iapply ((K (F := F)).wp_run (D (F := F)) 𝒱 (EH := EH) (P := pay (arrays m h)) κ d 0) $$ [Hst Hop Hb Hrest Hts HG]
  isplitr; · iexact Hctx
  isplitl [Hst]; · iexact Hst
  isplitl [Hop]; · iexact Hop
  iintro ⟨Hst, Hdn⟩
  ihave Hheld := (Entails.of_eq (held_V3 m h d).symm) $$ [Hdn Hrest]
  · isplitl [Hdn] <;> iassumption
  -- the host's operations up to the grouped product
  iapply (wp_hlo_within 𝒱 (T d) none Set.univ (op := opBe) (S := ucRefs) opBe_sub (V := V3 m d)) $$ [Hb Hheld]
  · isplitl [Hb] <;> iassumption
  iintro ⟨Hb, Hheld⟩
  rw [wp_ret]; imodintro
  iapply (wp_hlo_within 𝒱 (T d) none Set.univ (op := opTab) (S := ucRefs) opTab_sub (V := opBe.result (V3 m d))) $$ [Hb Hheld]
  · isplitl [Hb] <;> iassumption
  iintro ⟨Hb, Hheld⟩
  rw [wp_ret]; imodintro
  iapply (wp_hlo_within 𝒱 (T d) none Set.univ (op := opXs) (S := ucRefs) opXs_sub (V := opTab.result (opBe.result (V3 m d)))) $$ [Hb Hheld]
  · isplitl [Hb] <;> iassumption
  iintro ⟨Hb, Hheld⟩
  rw [wp_ret]; imodintro
  iapply (wp_hlo_within 𝒱 (T d) none Set.univ (op := opW1) (S := ucRefs) opW1_sub (V := opXs.result (opTab.result (opBe.result (V3 m d))))) $$ [Hb Hheld]
  · isplitl [Hb] <;> iassumption
  iintro ⟨Hb, Hheld⟩
  rw [wp_ret]; imodintro
  iapply (wp_hlo_within 𝒱 (T d) none Set.univ (op := opB1) (S := ucRefs) opB1_sub (V := opW1.result (opXs.result (opTab.result (opBe.result (V3 m d)))))) $$ [Hb Hheld]
  · isplitl [Hb] <;> iassumption
  iintro ⟨Hb, Hheld⟩
  rw [wp_ret]; imodintro
  iapply (wp_hlo_within 𝒱 (T d) none Set.univ (op := opW2) (S := ucRefs) opW2_sub
    (V := opB1.result (opW1.result (opXs.result (opTab.result (opBe.result (V3 m d))))))) $$ [Hb Hheld]
  · isplitl [Hb] <;> iassumption
  iintro ⟨Hb, Hheld⟩
  rw [wp_ret]; imodintro
  iapply (wp_hlo_within 𝒱 (T d) none Set.univ (op := opB2) (S := ucRefs) opB2_sub
    (V := opW2.result (opB1.result (opW1.result (opXs.result (opTab.result (opBe.result (V3 m d)))))))) $$ [Hb Hheld]
  · isplitl [Hb] <;> iassumption
  iintro ⟨Hb, Hheld⟩
  rw [wp_ret]; imodintro
  -- the grouped product
  ihave Hheld := (Entails.of_eq (result_V10 m d)) $$ Hheld
  ihave Hub := (Entails.of_eq (unscopedBufs_held d (V10 m d)).symm) $$ Hheld
  ihave Hst' := (show (K (F := F)).tcSt EH d ((0 : Fin 2).val + 1) ⊢ iprop(owing d ∗ R) from Entails.of_eq hR) $$ Hst
  icases Hst' with ⟨Ho, HR⟩
  iapply (region_step m h d _)
  isplitr [Hb Hub Ho HG]
  · iintro ⟨Hb, Hub, Ho⟩
    ihave Hheld := (show (unscopedBufs d (W11 m h d) : sProp 𝕄) ⊢ held (T d) ucRefs (V11 m h d) from Entails.of_eq (unscopedBufs_held d (V11 m h d))) $$ Hub
    ihave Hst := (Entails.of_eq hR.symm) $$ [Ho HR]
    · isplitl [Ho] <;> iassumption
    iapply (wp_hlo_within 𝒱 (T d) none Set.univ (op := opPos) (S := ucRefs) opPos_sub (V := V11 m h d)) $$ [Hb Hheld]
    · isplitl [Hb] <;> iassumption
    iintro ⟨Hb, Hheld⟩
    rw [wp_ret]; imodintro
    -- the combine
    ihave Hheld := (Entails.of_eq (result_V12 m h d)) $$ Hheld
    ihave Hh := (Entails.of_eq (held_V12 m h d)) $$ Hheld
    icases Hh with ⟨Hop, Hrest⟩
    iapply ((K (F := F)).wp_run (D (F := F)) 𝒱 (EH := EH) (P := pay (arrays m h)) κ d 1) $$ [Hst Hop Hb Hrest Hts]
    isplitr; · iexact Hctx
    isplitl [Hst]; · iexact Hst
    isplitl [Hop]; · iexact Hop
    iintro ⟨Hst, Hdn⟩
    ihave Hheld := (Entails.of_eq (held_V13 m h d).symm) $$ [Hdn Hrest]
    · isplitl [Hdn] <;> iassumption
    iapply (wp_hlo_within 𝒱 (T d) none Set.univ (op := opOut) (S := ucRefs) opOut_sub (V := V13 m h d)) $$ [Hb Hheld]
    · isplitl [Hb] <;> iassumption
    iintro ⟨Hb, Hheld⟩
    ihave Hheld := (Entails.of_eq (result_V14 m h d)) $$ Hheld
    rw [wp_ret]; imodintro; imodintro
    isplitl [Hst]; · iexact Hst
    isplitl [Hheld]; · iexact Hheld
    isplitl [Hb] <;> iassumption
  isplitl [Hb]; · iexact Hb
  isplitl [Hub Ho]
  · isplitl [Hub]; · iexact Hub
    iexact Ho
  isplitr; · iexact Hlev
  iexact HG

/-! ## What the final state holds -/

def fq (d : Dev nD) (s' : Phys nD τ sig (Elt F)) : Prop := ∀ b ∈ ucRefs, s'.mem.mem (d, b) = V14 m h d b

theorem hfin (d : Dev nD) (s' : Phys nD τ sig (Elt F)) : iprop(FIN m h d ∗ SI s') ⊢ (⌜fq m h d s'⌝ : sProp 𝕄) := by
  have one (b : DevRef τ sig) (hb : b ∈ ucRefs) : iprop(FIN m h d ∗ SI s') ⊢ (⌜s'.mem.mem (d, b) = V14 m h d b⌝ : sProp 𝕄) := by
    refine (sep_mono (bigSep_elim hb) .rfl).trans ?_
    refine (sep_comm.1.trans (SI_pointsTo_agree (st := s') (ℓ := (d, b)) (I := Finset.univ) (q := fullShare) (f := V14 m h d b))).trans ?_
    exact BI.pure_mono fun e => funext fun i => e i (Finset.mem_univ i)
  exact fun x hx b hb => one b hb x hx

def QC : PUnit × MemSt nD τ sig (Elt F) → Prop := fun r =>
  (∀ (d : Dev nD), ∀ b ∈ ucRefs, r.2.mem (d, b) = V14 m h d b) ∧ r.2.sem = fun _ => 0

/-- The program runs from any launch memory whose index arrays are in range; it ends with every array at its contents of the
    last valuation and every semaphore at zero. -/
theorem run_main [∀ e, Nonempty (Elt F e)] (hpos : ∀ d (j : S4096x1.Idx), (m (d, dr main_arg1) j : BitVec 32).toNat < 5120)
    (hrid : ∀ d (j : S5120x1.Idx), (m (d, dr main_arg2) j : BitVec 32).toNat < 2048) :
    θ_run (Cert.KernelIdeal.defs (F := F)) (Cert.KernelIdeal.threads (F := F)) ⟨m, fun _ => 0, ρ⟩ (QC m h) :=
  SparseCore.Cfg.θ_run_sc_quiescent (K := K (F := F)) (D := D (F := F)) (𝒱 := 𝒱) (EH := EH) (P := pay (arrays m h)) (A := ∅) facts v₀
    (fun q hq => match q with | 0 => nomatch hq | 1 => nomatch hq)
    (fun q _ => match q with | 0 => tileObl0 (arrays m h) facts (rid_lt m h hrid) | 1 => tileObl1 (arrays m h) facts (pos_lt m h hpos))
    (fun q _ => match q with | 0 => SparseCore.Cfg.VecSplit.of_plain (vecSplit0 (arrays m h)) | 1 => SparseCore.Cfg.VecSplit.of_plain (vecSplit1 (arrays m h)))
    m ρ main (ghost (adm m h)) (FIN m h) (u₀ (adm m h)) (sep_elim_left.trans (hu₀ (adm m h) (arrays m h))) (hmain m ρ h) (fq m h) (hfin m h) (QC m h)
    (fun _ hq hz => ⟨hq, hz⟩)

end Cert.Proof.Moe

end
-- ==== Proof.Range.lean ====
/- What the precondition gives. -/
module

public import proofs.«01_k».proof.Proof.Gen.Pre_in_range
public import Idealize.ShloMosaic.Lib.ReduceAll

@[expose] public section

noncomputable section

namespace Cert.Proof.Range

open Idealize.ShloMosaic

variable {F : FTy → Type} [FloatOps F]

theorem andi_ofBool (p q : Bool) : IntOp.andi (BitVec.ofBool p) (BitVec.ofBool q) = BitVec.ofBool (p && q) := by cases p <;> cases q <;> decide
theorem ofBool_eq_one (p : Bool) : (BitVec.ofBool p = 1#1) ↔ p = true := by cases p <;> decide

/-- A one-bit "and" is one when both sides are. -/
theorem andi_one {p q : BitVec 1} (e : IntOp.andi p q = 1#1) : p = 1#1 ∧ q = 1#1 := by
  revert p q; decide

/-- A word at or above zero and below a small bound, both read signed, is below the bound unsigned. -/
theorem lt_of_range (n : ℕ) (hn : n < 2 ^ 31) (v : BitVec 32)
    (e : IntOp.andi (IntOp.cmpi .sge v 0#32) (IntOp.cmpi .slt v (BitVec.ofNat 32 n)) = 1#1) : v.toNat < n := by
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  rw [Nat.mod_eq_of_lt (by omega)] at e
  have := v.isLt
  split at e <;> split at e <;> omega

/-- What the precondition's function says: the positions, the row ids and the block experts are in range. -/
theorem range_of_fn (a0 : FVec F Cert.Pre_in_range.S1x2048x768 .f32) (a1 : IVec Cert.Pre_in_range.S4096x1 32) (a2 : IVec Cert.Pre_in_range.S5120x1 32)
    (a3 : FVec F Cert.Pre_in_range.S5120x1 .f32) (a4 : IVec Cert.Pre_in_range.S128x1 32) (a5 : FVec F Cert.Pre_in_range.S8x768x3072 .f32)
    (a6 : FVec F Cert.Pre_in_range.S8x3072 .f32) (a7 : FVec F Cert.Pre_in_range.S8x3072x768 .f32) (a8 : FVec F Cert.Pre_in_range.S8x768 .f32)
    (j : Cert.Pre_in_range.S_.Idx) (e : Cert.Pre_in_range.fn (F := F) a0 a1 a2 a3 a4 a5 a6 a7 a8 j = 1#1) :
    (∀ i, (a1 i).toNat < 5120) ∧ (∀ i, (a2 i).toNat < 2048) ∧ (∀ i, (a4 i).toNat < 8) := by
  haveI : Subsingleton Cert.Pre_in_range.S_.Idx := inferInstanceAs (Subsingleton ((a : Fin 0) → _))
  unfold Cert.Pre_in_range.fn Cert.Pre_in_range.fn_part1 at e
  dsimp only at e
  obtain ⟨e12, e4⟩ := andi_one e
  obtain ⟨e1, e2⟩ := andi_one e12
  refine ⟨fun i => ?_, fun i => ?_, fun i => ?_⟩
  · exact lt_of_range 5120 (by decide) _ (Host.reduce_andi_all _ _ _ _ j e1 i)
  · exact lt_of_range 2048 (by decide) _ (Host.reduce_andi_all _ _ _ _ j e2 i)
  · exact lt_of_range 8 (by decide) _ (Host.reduce_andi_all _ _ _ _ j e4 i)

end Cert.Proof.Range

end
-- ==== Proof.Frames.lean ====
/- The program's frame. -/
module

public import proofs.«01_k».proof.Proof.Main
public import proofs.«01_k».proof.Proof.Range

@[expose] public section

noncomputable section

namespace Cert.Proof.Moe

open Cert.KernelIdeal Cert.KernelIdeal.Gen

open Idealize.ShloMosaic
open Idealize.SL.Sem

theorem frame_kernelIdeal : Cert.quiescent_KernelIdeal := by
  intro m ρ hp
  have hr := fun c => Range.range_of_fn _ _ _ _ _ _ _ _ _ _ (congrFun (hp c) (fun a => a.elim0))
  have hbe : ∀ d (j : S128x1.Idx), (m (d, dr main_arg4) j : BitVec 32).toNat < 8 := fun d => (hr d).2.2
  refine (θ_run Cert.KernelIdeal.defs _ _).mono (fun r h => ⟨fun c => ?_, h.2⟩)
    (run_main (F := Ideal) m ρ (ok_of_lt _ (tbl_lt m hbe)) (fun d => (hr d).1) (fun d => (hr d).2.1))
  have key : ∀ b, dr b ∈ ucRefs → b ∉ _ → r.2.mem (c, dr b) = m (c, dr b) := fun b hb hn => (h.1 c (dr b) hb).trans (V14_ne m _ c b hn)
  exact ⟨key main_arg0 (by decide) (by decide), key main_arg1 (by decide) (by decide), key main_arg2 (by decide) (by decide),
    key main_arg3 (by decide) (by decide), key main_arg4 (by decide) (by decide), key main_arg5 (by decide) (by decide),
    key main_arg6 (by decide) (by decide), key main_arg7 (by decide) (by decide), key main_arg8 (by decide) (by decide)⟩

end Cert.Proof.Moe

end
-- ==== Proof.K.Frames.lean ====
/- The program's frame. -/
module

public import proofs.«01_k».proof.Proof.K.Main
public import proofs.«01_k».proof.Proof.Range

@[expose] public section

noncomputable section

namespace Cert.Proof.MoeK

open Cert.Kernel Cert.Kernel.Gen

open Idealize.ShloMosaic
open Idealize.SL.Sem

theorem frame_kernel : Cert.quiescent_Kernel := by
  intro m ρ hp
  have hr := fun c => Range.range_of_fn _ _ _ _ _ _ _ _ _ _ (congrFun (hp c) (fun a => a.elim0))
  have hbe : ∀ d (j : S128x1.Idx), (m (d, dr main_arg4) j : BitVec 32).toNat < 8 := fun d => (hr d).2.2
  refine (θ_run Cert.Kernel.defs _ _).mono (fun r h => ⟨fun c => ?_, h.2⟩)
    (run_main (F := Bits) m ρ (ok_of_lt _ (tbl_lt m hbe)) (fun d => (hr d).1) (fun d => (hr d).2.1))
  have key : ∀ b, dr b ∈ ucRefs → b ∉ _ → r.2.mem (c, dr b) = m (c, dr b) := fun b hb hn => (h.1 c (dr b) hb).trans (V14_ne m _ c b hn)
  exact ⟨key main_arg0 (by decide) (by decide), key main_arg1 (by decide) (by decide), key main_arg2 (by decide) (by decide),
    key main_arg3 (by decide) (by decide), key main_arg4 (by decide) (by decide), key main_arg5 (by decide) (by decide),
    key main_arg6 (by decide) (by decide), key main_arg7 (by decide) (by decide), key main_arg8 (by decide) (by decide)⟩

end Cert.Proof.MoeK

end
-- ==== Proof.Spec.lean ====
/- The mathematics both programs compute, and how the operations of either read at an index. -/
module

public import Idealize.ShloMosaic.Lib.StackMember
public import Idealize.ShloMosaic.Lib.MatmulPlain
public import Idealize.ShloMosaic.Lib.ValueLayout
public import Idealize.ShloMosaic.Lib.ValueLayoutCasts
public import Idealize.ShloMosaic.Lib.ValueIdx
public import Idealize.ShloMosaic.Lib.IdealHost

@[expose] public section

noncomputable section

namespace Cert.Proof.Spec

open Idealize.ShloMosaic Idealize.ShloMosaic.ValueIdx

/-! ## One row through one expert -/

/-- The expert's hidden layer before its activation. -/
def preact (X : Fin 768 → EReal) (W : (⟨3, ![8, 768, 3072]⟩ : Shape).Idx → EReal) (B : (⟨2, ![8, 3072]⟩ : Shape).Idx → EReal)
    (e : Fin 8) (f : Fin 3072) : EReal :=
  (∑ k : Fin 768, X k * W (ix3 e k f)) + B (ix2 e f)

/-- The activation: the hyperbolic-tangent form of the Gaussian error linear unit. -/
def gel (u : EReal) : EReal :=
  u * (Ideal.ofBits .f32 0x3F000000#32 * (Ideal.ofBits .f32 0x3F800000#32
    + FloatOps.tanh (F := Ideal) (φ := .f32) (Ideal.ofBits .f32 0x3F4C422A#32 * (u + Ideal.ofBits .f32 0x3D372713#32 * (u * u * u)))))

/-- The expert's output row, scaled. -/
def expertRow (X : Fin 768 → EReal) (W1 : (⟨3, ![8, 768, 3072]⟩ : Shape).Idx → EReal) (B1 : (⟨2, ![8, 3072]⟩ : Shape).Idx → EReal)
    (W2 : (⟨3, ![8, 3072, 768]⟩ : Shape).Idx → EReal) (B2 : (⟨2, ![8, 768]⟩ : Shape).Idx → EReal) (e : Fin 8) (s : EReal) (h : Fin 768) : EReal :=
  ((∑ f : Fin 3072, gel (preact X W1 B1 e f) * W2 (ix3 e f h)) + B2 (ix2 e h)) * s

/-! ## Operations read at an index -/

section Ops

variable {α : Type}

/-- Rows of a matrix picked by a column of row numbers, each read signed and clamped into the matrix. -/
theorem gather_rows_apply {N C B w : Nat} (hN : 0 < N)
    (wf : GatherDims.WF ⟨2, ![N, C]⟩ ⟨2, ![B, 1]⟩ ⟨2, ![B, C]⟩ [1] [0] [] [0] [] 1 ![1, C])
    (x : (⟨2, ![N, C]⟩ : Shape).Idx → α) (idx : IVec ⟨2, ![B, 1]⟩ w) (b : Fin B) (c : Fin C) :
    Host.gather (⟨[1], [0], [], [], [0], 1, ![1, C], wf⟩ : GatherDims ⟨2, ![N, C]⟩ ⟨2, ![B, 1]⟩ ⟨2, ![B, C]⟩) x idx (ix2 b c)
      = x (ix2 ⟨min (idx (ix2 b (0 : Fin 1))).toInt.toNat (N - 1), by omega⟩ c) := by
  unfold Host.gather
  congr 1
  funext a
  refine Fin.ext ?_
  generalize hD : (⟨[1], [0], [], [], [0], 1, ![1, C], wf⟩ : GatherDims ⟨2, ![N, C]⟩ ⟨2, ![B, 1]⟩ ⟨2, ![B, C]⟩) = D
  show D.start (ix2 b c) idx a + D.batchCoord (ix2 b c) a + D.offCoord (ix2 b c) a = _
  subst hD
  have h01 : a = 0 ∨ a = 1 := by
    match a with
    | ⟨0, _⟩ => exact Or.inl rfl
    | ⟨1, _⟩ => exact Or.inr rfl
  rcases h01 with rfl | rfl
  · rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine congrArg (fun z : BitVec w => min z.toInt.toNat (N - 1)) (congrArg idx ?_)
    funext q; refine Fin.ext ?_
    match q with
    | ⟨0, _⟩ => rfl
    | ⟨1, _⟩ => rfl
  · rw [GatherDims.batchCoord_eq_zero _ _ _ List.not_mem_nil]
    unfold GatherDims.start
    rw [dif_neg (by simp)]
    simp only [Nat.zero_add]
    rfl

/-- A vector laid out as a column, read at a place. -/
theorem bid_col_apply {n : Nat} (h : (⟨1, ![n]⟩ : Shape).BroadcastsInDim ⟨2, ![n, 1]⟩ ![0]) (x : (⟨1, ![n]⟩ : Shape).Idx → α) (i : Fin n) (u : Fin 1) :
    broadcastInDim ⟨2, ![n, 1]⟩ ![0] h x (ix2 i u) = x (ix1 i) :=
  broadcastInDim_apply _ h x _ _ fun a => by
    match a with
    | ⟨0, _⟩ =>
      show i.val = if n = 1 then 0 else i.val
      split
      · have := i.isLt; omega
      · rfl

/-- A vector laid out as a row, read at a place. -/
theorem bid_row_apply {n : Nat} (h : (⟨1, ![n]⟩ : Shape).BroadcastsInDim ⟨2, ![1, n]⟩ ![1]) (x : (⟨1, ![n]⟩ : Shape).Idx → α) (u : Fin 1) (i : Fin n) :
    broadcastInDim ⟨2, ![1, n]⟩ ![1] h x (ix2 u i) = x (ix1 i) :=
  broadcastInDim_apply _ h x _ _ fun a => by
    match a with
    | ⟨0, _⟩ =>
      show i.val = if n = 1 then 0 else i.val
      split
      · have := i.isLt; omega
      · rfl

/-- One row repeated down the rows, read at a place. -/
theorem bid_rows_apply {m n : Nat} (h : (⟨2, ![1, n]⟩ : Shape).BroadcastsInDim ⟨2, ![m, n]⟩ ![0, 1]) (x : (⟨2, ![1, n]⟩ : Shape).Idx → α) (i : Fin m) (j : Fin n) :
    broadcastInDim ⟨2, ![m, n]⟩ ![0, 1] h x (ix2 i j) = x (ix2 (0 : Fin 1) j) :=
  broadcastInDim_apply _ h x _ _ fun a => by
    match a with
    | ⟨0, _⟩ => rfl
    | ⟨1, _⟩ =>
      show j.val = if n = 1 then 0 else j.val
      split
      · have := j.isLt; omega
      · rfl

/-- One column repeated along the columns, read at a place. -/
theorem bid_cols_apply {m n : Nat} (h : (⟨2, ![m, 1]⟩ : Shape).BroadcastsInDim ⟨2, ![m, n]⟩ ![0, 1]) (x : (⟨2, ![m, 1]⟩ : Shape).Idx → α) (i : Fin m) (j : Fin n) :
    broadcastInDim ⟨2, ![m, n]⟩ ![0, 1] h x (ix2 i j) = x (ix2 i (0 : Fin 1)) :=
  broadcastInDim_apply _ h x _ _ fun a => by
    match a with
    | ⟨0, _⟩ =>
      show i.val = if m = 1 then 0 else i.val
      split
      · have := i.isLt; omega
      · rfl
    | ⟨1, _⟩ => rfl

/-- A column repeated along the columns by the kernel's broadcast, read at a place. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector repeated entry by entry into rows, read at a place. -/
theorem bid_rep_apply {m n : Nat} (h : (⟨1, ![m]⟩ : Shape).BroadcastsInDim ⟨2, ![m, n]⟩ ![0]) (x : (⟨1, ![m]⟩ : Shape).Idx → α) (i : Fin m) (j : Fin n) :
    broadcastInDim ⟨2, ![m, n]⟩ ![0] h x (ix2 i j) = x (ix1 i) :=
  broadcastInDim_apply _ h x _ _ fun a => by
    match a with
    | ⟨0, _⟩ =>
      show i.val = if m = 1 then 0 else i.val
      split
      · have := i.isLt; omega
      · rfl

/-- A column read as a vector. -/
theorem shapeCast_a1_a_apply {a : ℕ} (x : (⟨2, ![a, 1]⟩ : Shape).Idx → α) (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A slab of a stack of matrices cut out and read. -/
theorem slab_apply {g a b o : ℕ} (x : (⟨3, ![g, a, b]⟩ : Shape).Idx → α) (hs : (⟨3, ![g, a, b]⟩ : Shape).Slices ![o, 0, 0] ⟨3, ![1, a, b]⟩)
    (hc : (⟨3, ![1, a, b]⟩ : Shape).ShapeCasts ⟨2, ![a, b]⟩) (e : Fin g) (he : e.val = o) (i : Fin a) (j : Fin b) :
    shapeCast ⟨2, ![a, b]⟩ (extractStridedSlice ⟨3, ![1, a, b]⟩ ![o, 0, 0] x hs) hc (ix2 i j) = x (ix3 e i j) := by
  rw [shapeCast_1ab_ab_apply]
  refine extractStridedSlice_apply _ _ _ _ _ fun ax => ?_
  match ax with
  | ⟨0, _⟩ => exact he
  | ⟨1, _⟩ => exact (Nat.zero_add _).symm
  | ⟨2, _⟩ => exact (Nat.zero_add _).symm

/-- A row of a matrix cut out and read. -/
theorem line_apply {g b o : ℕ} (x : (⟨2, ![g, b]⟩ : Shape).Idx → α) (hs : (⟨2, ![g, b]⟩ : Shape).Slices ![o, 0] ⟨2, ![1, b]⟩)
    (hc : (⟨2, ![1, b]⟩ : Shape).ShapeCasts ⟨1, ![b]⟩) (e : Fin g) (he : e.val = o) (j : Fin b) :
    shapeCast ⟨1, ![b]⟩ (extractStridedSlice ⟨2, ![1, b]⟩ ![o, 0] x hs) hc (ix1 j) = x (ix2 e j) := by
  rw [shapeCast_1a_a_apply]
  exact slice2_axis0_apply o x hs (0 : Fin 1) j e (by rw [he]; rfl)

/-- A matrix with a unit axis put between its two, read at a place. -/
theorem shapeCast_mid_apply {a b : ℕ} (x : (⟨2, ![a, b]⟩ : Shape).Idx → α) (h : (⟨2, ![a, b]⟩ : Shape).ShapeCasts ⟨3, ![a, 1, b]⟩) (i : Fin a) (j : Fin b) :
    shapeCast ⟨3, ![a, 1, b]⟩ x h (ix3 i (0 : Fin 1) j) = x (ix2 i j) :=
  shapeCast_apply x h _ _ (by
    rw [Shape.rowMajor_val_three, Shape.rowMajor_val_two]
    show i.val * b + j.val = (i.val * 1 + 0) * b + j.val
    rw [Nat.mul_one, Nat.add_zero])

end Ops

/-- A word below eight picks its own branch of the chain of choices. -/
theorem chain (v : BitVec 32) (hv : v.toNat < 8) (g : Fin 8 → EReal) (z : EReal) :
    Scalar.select (IntOp.cmpi .eq v 7#32) (g 7) (Scalar.select (IntOp.cmpi .eq v 6#32) (g 6) (Scalar.select (IntOp.cmpi .eq v 5#32) (g 5)
      (Scalar.select (IntOp.cmpi .eq v 4#32) (g 4) (Scalar.select (IntOp.cmpi .eq v 3#32) (g 3) (Scalar.select (IntOp.cmpi .eq v 2#32) (g 2)
        (Scalar.select (IntOp.cmpi .eq v 1#32) (g 1) (Scalar.select (IntOp.cmpi .eq v 0#32) (g 0) z))))))) = g ⟨v.toNat, hv⟩ := by
  obtain ⟨n, rfl⟩ : ∃ n : Fin 8, v = BitVec.ofNat 32 n.val := ⟨⟨v.toNat, hv⟩, by simp⟩
  have e : (⟨(BitVec.ofNat 32 n.val).toNat, hv⟩ : Fin 8) = n := Fin.ext (by simp; omega)
  rw [e]
  fin_cases n <;> rfl

end Cert.Proof.Spec

end
-- ==== Proof.KerValue.lean ====
/- What the kernel's arrays hold, entry by entry. -/
module

public import proofs.«01_k».proof.Proof.Spec
public import proofs.«01_k».proof.Proof.States

@[expose] public section

noncomputable section

namespace Cert.Proof.Moe

open Cert.KernelIdeal Cert.KernelIdeal.Gen
open Idealize.ShloMosaic Idealize.ShloMosaic.TcCoe Idealize.SL.Sem
open Idealize.ShloMosaic.ValueIdx (ix2 ix3)
open Idealize.ShloMosaic.Pipeline (Dat Cfg Window)
open Cert.Proof.Spec (gel preact expertRow)

/-! ## The body's value -/

theorem gemm_pay_apply (v0 : Vec Ideal S128x768 .bf16) (v2 : Vec Ideal S1x768x3072 .bf16) (v5 : Vec Ideal S1x1x3072 .f32) (v23 : Vec Ideal S1x3072x768 .bf16)
    (v26 : Vec Ideal S1x1x768 .f32) (v30 : Vec Ideal S128x1 .f32) (W1 : (⟨3, ![8, 768, 3072]⟩ : Shape).Idx → EReal) (B1 : (⟨2, ![8, 3072]⟩ : Shape).Idx → EReal)
    (W2 : (⟨3, ![8, 3072, 768]⟩ : Shape).Idx → EReal) (B2 : (⟨2, ![8, 768]⟩ : Shape).Idx → EReal) (X : Fin 768 → EReal) (s : EReal) (e : Fin 8)
    (q : Fin 128) (h : Fin 768)
    (hX : ∀ k, v0 (ix2 q k) = X k) (hW1 : ∀ k f, v2 (ix3 (0 : Fin 1) k f) = W1 (ix3 e k f)) (hB1 : ∀ f, v5 (ix3 (0 : Fin 1) (0 : Fin 1) f) = B1 (ix2 e f))
    (hW2 : ∀ f k, v23 (ix3 (0 : Fin 1) f k) = W2 (ix3 e f k)) (hB2 : ∀ k, v26 (ix3 (0 : Fin 1) (0 : Fin 1) k) = B2 (ix2 e k)) (hs : v30 (ix2 q (0 : Fin 1)) = s) :
    k1_pay1 v0 v2 v5 v23 v26 v30 (ix2 q h) = expertRow X W1 B1 W2 B2 e s h := by
  unfold k1_pay1 expertRow
  rw [ValueIdx.mulf_apply, ValueIdx.addf_apply]
  have zero : ∀ (S : Shape) (i : S.Idx) (z : EReal), constant (F := Ideal) S .f32 0x00000000#32 i + z = z := by
    intro S i z
    rw [ValueIdx.constant_apply]
    rw [show Ideal.ofBits .f32 0x00000000#32 = 0 from Ideal.ofBits_zero_f32, zero_add]
  refine congrArg₂ (· * ·) (congrArg₂ (· + ·) ((Ideal.matmul_plain_apply (M := 128) (K := 3072) (N := 768) none _ _ _ q h).trans ?_) ?_) ?_
  · refine (zero _ _ _).trans (Finset.sum_congr rfl fun f _ => ?_)
    refine congrArg₂ (fun a b : EReal => a * b) ?_ ((ValueIdx.shapeCast_1ab_ab_apply _ _ f h).trans (hW2 f h))
    rw [ValueIdx.truncf_apply]
    generalize hU : addf (F := Ideal) _ _ = U
    have hu : U (ix2 q f) = preact X W1 B1 e f := by
      rw [← hU, ValueIdx.addf_apply]
      unfold preact
      refine congrArg₂ (· + ·) ((Ideal.matmul_plain_apply (M := 128) (K := 768) (N := 3072) none _ _ _ q f).trans ?_) ?_
      · refine (zero _ _ _).trans (Finset.sum_congr rfl fun k _ => ?_)
        refine congrArg₂ (fun a b : EReal => a * b) ?_ ((ValueIdx.shapeCast_1ab_ab_apply _ _ k f).trans (hW1 k f))
        exact (shapeCast_apply _ _ _ _ rfl).trans (hX k)
      · exact (ValueIdx.broadcastTo_1b_ab_apply _ _ q f).trans ((ValueIdx.shapeCast_1ab_ab_apply _ _ 0 f).trans (hB1 f))
    rw [← hu]
    unfold gel
    rw [mul_comm (U (ix2 q f) * U (ix2 q f)) (U (ix2 q f))]
    rfl
  · exact (ValueIdx.broadcastTo_1b_ab_apply _ _ q h).trans ((ValueIdx.shapeCast_1ab_ab_apply _ _ 0 h).trans (hB2 h))
  · exact (Spec.broadcastTo_a1_ab_apply _ _ q h).trans hs

/-! ## The blocks a grid point reads -/

section Blocks

variable (m : (ℓ : Loc nD τ sig) → Buf (Elt Ideal) ℓ) (h : ok1 (tbl m))

theorem N_eq : (cfg1 (F := Ideal) (adm m h 0)).N = 40 := N_1

theorem coords_val : ∀ t : Fin grid1.N, (grid1.coords t 0).val = t.val := by decide

theorem t0_eq (t : Fin grid1.N) : cc1_transform_0 (grid1.coords t) = ![t.val, 0] := by revert t; decide
theorem t5_eq (t : Fin grid1.N) : cc1_transform_5 (grid1.coords t) = ![t.val, 0] := by revert t; decide
theorem t6_eq (t : Fin grid1.N) : cc1_transform_6 (grid1.coords t) = ![t.val, 0] := by revert t; decide

/-- The expert of grid point `t`. -/
theorem expertAt_eq (t : Fin grid1.N) (ht : t.val < 128) :
    expertAt (tbl m) (grid1.coords t) = (m (0, dr main_arg4) (ix2 (n0 := 128) (n1 := 1) ⟨t.val, ht⟩ 0) : BitVec 32) := by
  have h0 : tbl m 0 = V10 m 0 (dr main_v4) := rfl
  unfold expertAt Pipeline.Prefetch.Contents.at
  show (tbl m 0 _ : BitVec 32) = _
  rw [h0, V10_table]
  refine (extractStridedSlice_apply (s := S128) (t := S40) _ _ _ _ (ValueIdx.ix1 (n := 128) ⟨t.val, ht⟩) ?_).trans ?_
  · intro a
    match a with
    | ⟨0, _⟩ =>
      refine Eq.trans ?_ (Nat.zero_add _).symm
      show t.val = k1_off1 (grid1.coords t) 0 + 1 * 0
      rw [k1_off1_eq]
      exact (coords_val t).symm
  · exact Spec.shapeCast_a1_a_apply _ _ _

theorem iblk_0 (d : Dev nD) (t : Fin grid1.N) (q : Fin 128) (k : Fin 768) (r : Fin 5120) (hr : r.val = t.val * 128 + q.val) :
    (iblk (adm m h) (W10 m) d 0 t : Vec Ideal S128x768 .bf16) (ix2 q k) = (V10 m d (dr main_v5) : Vec Ideal S5120x768 .bf16) (ix2 r k) := by
  unfold iblk
  rw [View.read_apply]
  refine (cast_eq _ _).trans ?_
  show V10 m d (dr main_v5) _ = _
  refine congrArg (V10 m d (dr main_v5)) (funext fun a => Fin.ext ?_)
  refine (((cfg1 (adm m h 0)).win 0).rect_emb_val t (ix2 q k) a rfl).trans ?_
  show cc1_transform_0 (grid1.coords t) a * S128x768.size a + (ix2 q k a).val = _
  rw [t0_eq]
  match a with
  | ⟨0, _⟩ => exact hr.symm
  | ⟨1, _⟩ => exact Nat.zero_add _

theorem iblk_5 (d : Dev nD) (t : Fin grid1.N) (q : Fin 128) (r : Fin 5120) (hr : r.val = t.val * 128 + q.val) :
    (iblk (adm m h) (W10 m) d 5 t : Vec Ideal S128x1 .f32) (ix2 q (0 : Fin 1)) = (V10 m d (dr main_arg3) : Vec Ideal S5120x1 .f32) (ix2 r (0 : Fin 1)) := by
  unfold iblk
  rw [View.read_apply]
  refine (cast_eq _ _).trans ?_
  show V10 m d (dr main_arg3) _ = _
  refine congrArg (V10 m d (dr main_arg3)) (funext fun a => Fin.ext ?_)
  refine (((cfg1 (adm m h 0)).win 5).rect_emb_val t (ix2 q (0 : Fin 1)) a rfl).trans ?_
  show cc1_transform_5 (grid1.coords t) a * S128x1.size a + (ix2 q (0 : Fin 1) a).val = _
  rw [t5_eq]
  match a with
  | ⟨0, _⟩ => exact hr.symm
  | ⟨1, _⟩ => rfl

theorem iblk_1 (d : Dev nD) (t : Fin grid1.N) (e : Fin 8) (he : e.val = (expertAt (tbl m) (grid1.coords t)).toNat) (k : Fin 768) (f : Fin 3072) :
    (iblk (adm m h) (W10 m) d 1 t : Vec Ideal S1x768x3072 .bf16) (ix3 (0 : Fin 1) k f) = (V10 m d (dr main_v6) : Vec Ideal S8x768x3072 .bf16) (ix3 e k f) := by
  unfold iblk
  rw [View.read_apply]
  refine (cast_eq _ _).trans ?_
  show V10 m d (dr main_v6) _ = _
  refine congrArg (V10 m d (dr main_v6)) (funext fun a => Fin.ext ?_)
  refine (((cfg1 (adm m h 0)).win 1).rect_emb_val t (ix3 (0 : Fin 1) k f) a rfl).trans ?_
  show cc1_transform_1 k1_off1_inb numel1_S1 (tbl m) (grid1.coords t) a * S1x768x3072.size a + (ix3 (0 : Fin 1) k f a).val = _
  rw [transform_1]
  match a with
  | ⟨0, _⟩ => exact (Nat.mul_one _).trans he.symm
  | ⟨1, _⟩ => exact (congrArg (· + k.val) (Nat.zero_mul 768)).trans (Nat.zero_add _)
  | ⟨2, _⟩ => exact (congrArg (· + f.val) (Nat.zero_mul 3072)).trans (Nat.zero_add _)

theorem iblk_2 (d : Dev nD) (t : Fin grid1.N) (e : Fin 8) (he : e.val = (expertAt (tbl m) (grid1.coords t)).toNat) (f : Fin 3072) :
    (iblk (adm m h) (W10 m) d 2 t : Vec Ideal S1x1x3072 .f32) (ix3 (0 : Fin 1) (0 : Fin 1) f) = (V10 m d (dr main_v7) : Vec Ideal S8x1x3072 .f32) (ix3 e (0 : Fin 1) f) := by
  unfold iblk
  rw [View.read_apply]
  refine (cast_eq _ _).trans ?_
  show V10 m d (dr main_v7) _ = _
  refine congrArg (V10 m d (dr main_v7)) (funext fun a => Fin.ext ?_)
  refine (((cfg1 (adm m h 0)).win 2).rect_emb_val t (ix3 (0 : Fin 1) (0 : Fin 1) f) a rfl).trans ?_
  show cc1_transform_2 k1_off1_inb numel1_S1 (tbl m) (grid1.coords t) a * S1x1x3072.size a + (ix3 (0 : Fin 1) (0 : Fin 1) f a).val = _
  rw [transform_2]
  match a with
  | ⟨0, _⟩ => exact (Nat.mul_one _).trans he.symm
  | ⟨1, _⟩ => rfl
  | ⟨2, _⟩ => exact (congrArg (· + f.val) (Nat.zero_mul 3072)).trans (Nat.zero_add _)

theorem iblk_3 (d : Dev nD) (t : Fin grid1.N) (e : Fin 8) (he : e.val = (expertAt (tbl m) (grid1.coords t)).toNat) (f : Fin 3072) (k : Fin 768) :
    (iblk (adm m h) (W10 m) d 3 t : Vec Ideal S1x3072x768 .bf16) (ix3 (0 : Fin 1) f k) = (V10 m d (dr main_v8) : Vec Ideal S8x3072x768 .bf16) (ix3 e f k) := by
  unfold iblk
  rw [View.read_apply]
  refine (cast_eq _ _).trans ?_
  show V10 m d (dr main_v8) _ = _
  refine congrArg (V10 m d (dr main_v8)) (funext fun a => Fin.ext ?_)
  refine (((cfg1 (adm m h 0)).win 3).rect_emb_val t (ix3 (0 : Fin 1) f k) a rfl).trans ?_
  show cc1_transform_3 k1_off1_inb numel1_S1 (tbl m) (grid1.coords t) a * S1x3072x768.size a + (ix3 (0 : Fin 1) f k a).val = _
  rw [transform_3]
  match a with
  | ⟨0, _⟩ => exact (Nat.mul_one _).trans he.symm
  | ⟨1, _⟩ => exact (congrArg (· + f.val) (Nat.zero_mul 3072)).trans (Nat.zero_add _)
  | ⟨2, _⟩ => exact (congrArg (· + k.val) (Nat.zero_mul 768)).trans (Nat.zero_add _)

theorem iblk_4 (d : Dev nD) (t : Fin grid1.N) (e : Fin 8) (he : e.val = (expertAt (tbl m) (grid1.coords t)).toNat) (k : Fin 768) :
    (iblk (adm m h) (W10 m) d 4 t : Vec Ideal S1x1x768 .f32) (ix3 (0 : Fin 1) (0 : Fin 1) k) = (V10 m d (dr main_v9) : Vec Ideal S8x1x768 .f32) (ix3 e (0 : Fin 1) k) := by
  unfold iblk
  rw [View.read_apply]
  refine (cast_eq _ _).trans ?_
  show V10 m d (dr main_v9) _ = _
  refine congrArg (V10 m d (dr main_v9)) (funext fun a => Fin.ext ?_)
  refine (((cfg1 (adm m h 0)).win 4).rect_emb_val t (ix3 (0 : Fin 1) (0 : Fin 1) k) a rfl).trans ?_
  show cc1_transform_4 k1_off1_inb numel1_S1 (tbl m) (grid1.coords t) a * S1x1x768.size a + (ix3 (0 : Fin 1) (0 : Fin 1) k a).val = _
  rw [transform_4]
  match a with
  | ⟨0, _⟩ => exact (Nat.mul_one _).trans he.symm
  | ⟨1, _⟩ => rfl
  | ⟨2, _⟩ => exact (congrArg (· + k.val) (Nat.zero_mul 768)).trans (Nat.zero_add _)

/-! ## The experts' output -/

theorem flush_6 (t : Fin grid1.N) : ((cfg1 (F := Ideal) (adm m h 0)).win 6).flush t = true :=
  (Window.flush_reads ((cfg1 (F := Ideal) (adm m h 0)).win 6) rfl 0 (show 1 < grid1.bound 0 by decide)
    (show grid1.fixedAfter (fun _ => true) 0 = true by decide)
    (Window.sep_of_coord cc1_transform_6 0 0 (fun _ => rfl) (by decide)) (P := 1) (m := 0) (show grid1.stride 0 = 1 by decide) rfl t).mpr (Nat.mod_one _)

theorem disj_6 (t t' : Fin grid1.N) (ht : t ≠ t') :
    Disjoint (((cfg1 (F := Ideal) (adm m h 0)).win 6).blk t).view.set (((cfg1 (F := Ideal) (adm m h 0)).win 6).blk t').view.set := by
  refine Window.disjoint_blk _ (fun e => ht (Fin.ext ?_)) rfl
  have e0 : cc1_transform_6 (grid1.coords t) 0 = cc1_transform_6 (grid1.coords t') 0 := congrFun e (0 : Fin 2)
  rw [t6_eq, t6_eq] at e0
  exact e0

/-- The output array at a row, at its block's value. -/
theorem ysOut_block (d : Dev nD) (t : Fin grid1.N) (q : Fin 128) (k : Fin 768) (r : Fin 5120) (hr : r.val = t.val * 128 + q.val) :
    (ysOut m h d : Vec Ideal S5120x768 .f32) (ix2 r k) = oblk (adm m h) (W10 m) d t (ix2 q k) := by
  have key := (dat (adm m h) (W10 m) d).arrAt_emb_eq_flushed 6 (fun t t' _ _ ht => disj_6 m h t t' ht) t (flush_6 m h t) (ix2 q k)
  have hemb : (((cfg1 (F := Ideal) (adm m h 0)).win 6).blk t).view.emb (ix2 q k) = (ix2 r k : S5120x768.Idx) := by
    refine funext fun a => Fin.ext ?_
    refine (((cfg1 (adm m h 0)).win 6).rect_emb_val t (ix2 q k) a rfl).trans ?_
    show cc1_transform_6 (grid1.coords t) a * S128x768.size a + (ix2 q k a).val = _
    rw [t6_eq]
    match a with
    | ⟨0, _⟩ => exact hr.symm
    | ⟨1, _⟩ => exact Nat.zero_add _
  refine Eq.trans (congrArg ((dat (adm m h) (W10 m) d).arrAt 6 (cfg1 (adm m h 0)).N) hemb.symm) (key.trans ?_)
  refine (cast_eq _ _).trans ?_
  show (dat (adm m h) (W10 m) d).after 6 t (ix2 q k) = _
  rw [after_6]

/-- A row of the experts' output, from the launch's arrays. -/
theorem ysOut_apply (d : Dev nD) (r : Fin 5120) (k : Fin 768)
    (hr : (m (d, dr main_arg2) (ix2 (n0 := 5120) (n1 := 1) r 0) : BitVec 32).toNat < 2048)
    (hb : (m (d, dr main_arg4) (ix2 (n0 := 128) (n1 := 1) ⟨r.val / 128, by have := r.isLt; omega⟩ 0) : BitVec 32).toNat < 8) :
    (ysOut m h d : Vec Ideal S5120x768 .f32) (ix2 r k)
      = expertRow (fun j => (shapeCast S2048x768 (m (d, dr main_arg0)) shapeCasts_S1x2048x768_S2048x768 : Vec Ideal S2048x768 .f32) (ix2 ⟨_, hr⟩ j))
          (m (d, dr main_arg5)) (m (d, dr main_arg6)) (m (d, dr main_arg7)) (m (d, dr main_arg8)) ⟨_, hb⟩ (m (d, dr main_arg3) (ix2 (n0 := 5120) (n1 := 1) r 0)) k := by
  obtain rfl : d = 0 := Subsingleton.elim _ _
  have hrl := r.isLt
  have htN : r.val / 128 < grid1.N := by rw [N_1]; omega
  have hq : r.val % 128 < 128 := Nat.mod_lt _ (by decide)
  have hrq : r.val = (⟨r.val / 128, htN⟩ : Fin grid1.N).val * 128 + (⟨r.val % 128, hq⟩ : Fin 128).val := by
    show r.val = r.val / 128 * 128 + r.val % 128; omega
  rw [ysOut_block m h 0 ⟨r.val / 128, htN⟩ ⟨r.val % 128, hq⟩ k r hrq]
  have he := expertAt_eq m ⟨r.val / 128, htN⟩ (by show r.val / 128 < 128; omega)
  have hev := (congrArg BitVec.toNat he).symm
  unfold oblk
  refine gemm_pay_apply _ _ _ _ _ _ _ _ _ _ _ _ ⟨_, hb⟩ _ k ?_ ?_ ?_ ?_ ?_ ?_
  · intro j
    rw [iblk_0 m h 0 _ _ j r hrq, V10_xs]
    rw [ValueIdx.truncf_apply, V3_xs]
    unfold gathered
    rw [V2_rid, V2_x]
    have e1 : (shapeCast S5120 (m (0, dr main_arg2)) shapeCasts_S5120x1_S5120 : IVec S5120 32) (ValueIdx.ix1 r) = m (0, dr main_arg2) (ix2 (n0 := 5120) (n1 := 1) r 0) :=
      Spec.shapeCast_a1_a_apply _ _ _
    refine congrArg (shapeCast S2048x768 (m (0, dr main_arg0)) shapeCasts_S1x2048x768_S2048x768) (congrArg (fun z => ix2 (n0 := 2048) z j) (Fin.ext ?_))
    refine Eq.trans (congrArg (fun z : BitVec 32 => z.toNat % 2048) e1) ?_
    exact Nat.mod_eq_of_lt hr
  · intro j f
    rw [iblk_1 m h 0 _ ⟨_, hb⟩ hev j f, V10_w1]
    rfl
  · intro f
    rw [iblk_2 m h 0 _ ⟨_, hb⟩ hev f, V10_b1]
    exact Spec.shapeCast_mid_apply _ _ _ _
  · intro f j
    rw [iblk_3 m h 0 _ ⟨_, hb⟩ hev f j, V10_w2]
    rfl
  · intro j
    rw [iblk_4 m h 0 _ ⟨_, hb⟩ hev j, V10_b2]
    exact Spec.shapeCast_mid_apply _ _ _ _
  · rw [iblk_5 m h 0 _ _ r hrq, V10_wsl]

end Blocks

end Cert.Proof.Moe

end
-- ==== Proof.RefValue.lean ====
/- What the reference's arrays hold, entry by entry. -/
module

public import proofs.«01_k».proof.Proof.Spec
public import proofs.«01_k».proof.Proof.Gen.ReferenceIdeal.Run

@[expose] public section

noncomputable section

namespace Cert.Proof.Ref

open Cert.ReferenceIdeal Cert.ReferenceIdeal.Gen Cert.ReferenceIdeal.Value
open Idealize.ShloMosaic Idealize.ShloMosaic.ValueIdx Idealize.SL.Sem Cert.Proof.Spec

variable (V : Valuation τ sig (Elt Ideal))

abbrev x0 : FVec Ideal S1x2048x768 .f32 := V (Proc.devRef .tc main_arg0)
abbrev pos : IVec S4096x1 32 := V (Proc.devRef .tc main_arg1)
abbrev rid : IVec S5120x1 32 := V (Proc.devRef .tc main_arg2)
abbrev wsl : FVec Ideal S5120x1 .f32 := V (Proc.devRef .tc main_arg3)
abbrev be : IVec S128x1 32 := V (Proc.devRef .tc main_arg4)
abbrev w1 : FVec Ideal S8x768x3072 .f32 := V (Proc.devRef .tc main_arg5)
abbrev b1 : FVec Ideal S8x3072 .f32 := V (Proc.devRef .tc main_arg6)
abbrev w2 : FVec Ideal S8x3072x768 .f32 := V (Proc.devRef .tc main_arg7)
abbrev b2 : FVec Ideal S8x768 .f32 := V (Proc.devRef .tc main_arg8)

theorem toNat_of_lt (v : BitVec 32) (n : ℕ) (hn : n < 2 ^ 31) (h : v.toNat < n) : v.toInt.toNat = v.toNat := by
  rw [BitVec.toInt_eq_toNat_cond, if_pos (by omega)]; exact Int.toNat_natCast _

/-- Row `r` of the gathered rows. -/
theorem v2_apply (r : Fin 5120) (k : Fin 768) (hr : (rid V (ix2 r (0 : Fin 1))).toNat < 2048) :
    (res_main_v2 V : FVec Ideal S5120x768 .f32) (ix2 r k) = res_main_v0 V (ix2 (n0 := 2048) ⟨(rid V (ix2 r (0 : Fin 1))).toNat, hr⟩ k) := by
  unfold res_main_v2
  refine (gather_rows_apply (N := 2048) (C := 768) (B := 5120) (by decide) _ _ _ r k).trans ?_
  refine congrArg (res_main_v0 V) (congrArg (fun z => ix2 (n0 := 2048) z k) (Fin.ext ?_))
  have e : (broadcastInDim S5120x1 ![0] bcast_S5120_S5120x1_0 (shapeCast _ (V (Proc.devRef .tc main_arg2)) shapeCasts_S5120x1_S5120) : IVec S5120x1 32) (ix2 r (0 : Fin 1))
      = rid V (ix2 r (0 : Fin 1)) := (bid_col_apply _ _ r 0).trans (shapeCast_a1_a_apply _ _ r)
  show min _ 2047 = _
  rw [e, toNat_of_lt _ 2048 (by decide) hr]
  exact Nat.min_eq_left (by omega)

/-- The expert of row `r` is its block's. -/
theorem v7_apply (r : Fin 5120) :
    (res_main_v7 V : IVec S5120x1 32) (ix2 r (0 : Fin 1)) = be V (ix2 (n0 := 128) (n1 := 1) ⟨r.val / 128, by have := r.isLt; omega⟩ 0) := by
  unfold res_main_v7
  refine (shapeCast_a_a1_apply _ _ r 0).trans ?_
  have hr := r.isLt
  refine (shapeCast_apply (s := S40x128) (t := S5120) _ _ (ix1 r) (ix2 (n0 := 40) (n1 := 128) ⟨r.val / 128, by omega⟩ ⟨r.val % 128, by omega⟩) ?_).trans ?_
  · rw [Shape.rowMajor_val_two, Shape.rowMajor_val_one]
    show r.val / 128 * 128 + r.val % 128 = r.val
    omega
  refine (bid_rep_apply _ _ _ _).trans ?_
  refine (extractStridedSlice_apply (s := S128) (t := S40) _ _ _ _ (ix1 (n := 128) ⟨r.val / 128, by omega⟩) ?_).trans ?_
  · intro a
    match a with
    | ⟨0, _⟩ => exact (Nat.zero_add _).symm
  exact shapeCast_a1_a_apply _ _ _

/-! ## One expert's layer, for all rows -/

/-- The hidden layer of expert `o` before its activation. -/
def hidT (o : ℕ) (h1 : S8x768x3072.Slices ![o, 0, 0] S1x768x3072) (h2 : S8x3072.Slices ![o, 0] S1x3072) : FVec Ideal S5120x3072 .f32 :=
  addf (Host.dotGeneral (φ₁ := .f32) (φ₂ := .f32) dot_S5120x768_S768x3072_S5120x3072_1_0_0_1_n_n none (res_main_v2 V) (shapeCast _ (extractStridedSlice S1x768x3072 ![o, 0, 0] (w1 V) h1) shapeCasts_S1x768x3072_S768x3072)) (broadcastInDim S5120x3072 ![0, 1] bcast_S1x3072_S5120x3072_0_1 (broadcastInDim S1x3072 ![1] bcast_S3072_S1x3072_1 (shapeCast _ (extractStridedSlice S1x3072 ![o, 0] (b1 V) h2) shapeCasts_S1x3072_S3072)))

theorem hidT_apply (o : ℕ) (h1 : S8x768x3072.Slices ![o, 0, 0] S1x768x3072) (h2 : S8x3072.Slices ![o, 0] S1x3072) (e : Fin 8) (he : e.val = o)
    (r : Fin 5120) (f : Fin 3072) :
    hidT V o h1 h2 (ix2 r f) = preact (fun k => (res_main_v2 V : FVec Ideal S5120x768 .f32) (ix2 r k)) (w1 V) (b1 V) e f := by
  unfold hidT
  rw [addf_apply]
  refine congrArg₂ (· + ·) ((StackMember.dotGeneral_plain_apply (m := 5120) (n := 3072) (k := 768) none _ _ r f).trans ?_) ?_
  · refine Finset.sum_congr rfl fun k _ => ?_
    exact congrArg₂ (fun a b : EReal => a * b) rfl (slab_apply (w1 V) h1 _ e he k f)
  · refine (bid_rows_apply _ _ r f).trans ((bid_row_apply _ _ 0 f).trans ?_)
    exact line_apply (b1 V) h2 _ e he f

/-- The output of expert `o`, scaled, from its hidden layer `U`. -/
def layT (o : ℕ) (h1 : S8x3072x768.Slices ![o, 0, 0] S1x3072x768) (h2 : S8x768.Slices ![o, 0] S1x768) (U : FVec Ideal S5120x3072 .f32) : FVec Ideal S5120x768 .f32 :=
  mulf (addf (Host.dotGeneral (φ₁ := .f32) (φ₂ := .f32) dot_S5120x3072_S3072x768_S5120x768_1_0_0_1_n_n none (mulf U (mulf (broadcastInDim S5120x3072 ![] bcast_S_S5120x3072 (constant S_ .f32 0x3F000000#32)) (addf (broadcastInDim S5120x3072 ![] bcast_S_S5120x3072 (constant S_ .f32 0x3F800000#32)) (Host.tanh (mulf (broadcastInDim S5120x3072 ![] bcast_S_S5120x3072 (constant S_ .f32 0x3F4C422A#32)) (addf U (mulf (broadcastInDim S5120x3072 ![] bcast_S_S5120x3072 (constant S_ .f32 0x3D372713#32)) (mulf (mulf U U) U)))))))) (shapeCast _ (extractStridedSlice S1x3072x768 ![o, 0, 0] (w2 V) h1) shapeCasts_S1x3072x768_S3072x768)) (broadcastInDim S5120x768 ![0, 1] bcast_S1x768_S5120x768_0_1 (broadcastInDim S1x768 ![1] bcast_S768_S1x768_1 (shapeCast _ (extractStridedSlice S1x768 ![o, 0] (b2 V) h2) shapeCasts_S1x768_S768)))) (broadcastInDim S5120x768 ![0, 1] bcast_S5120x1_S5120x768_0_1 (wsl V))

theorem layT_apply (o : ℕ) (h1 : S8x3072x768.Slices ![o, 0, 0] S1x3072x768) (h2 : S8x768.Slices ![o, 0] S1x768) (U : FVec Ideal S5120x3072 .f32) (e : Fin 8) (he : e.val = o)
    (r : Fin 5120) (h : Fin 768) :
    layT V o h1 h2 U (ix2 r h) = ((∑ f : Fin 3072, gel (U (ix2 r f)) * w2 V (ix3 e f h)) + b2 V (ix2 e h)) * wsl V (ix2 r (0 : Fin 1)) := by
  unfold layT
  rw [mulf_apply, addf_apply]
  refine congrArg₂ (· * ·) (congrArg₂ (· + ·) ((StackMember.dotGeneral_plain_apply (m := 5120) (n := 768) (k := 3072) none _ _ r h).trans ?_) ?_) ?_
  · refine Finset.sum_congr rfl fun f _ => ?_
    refine congrArg₂ (· * ·) ?_ (slab_apply (w2 V) h1 _ e he f h)
    rfl
  · refine (bid_rows_apply _ _ r h).trans ((bid_row_apply _ _ 0 h).trans ?_)
    exact line_apply (b2 V) h2 _ e he h
  · exact bid_cols_apply _ _ r h

/-- The choice at a row. -/
theorem pick_apply (o : BitVec 32) (A B : FVec Ideal S5120x768 .f32) (r : Fin 5120) (h : Fin 768) :
    select (broadcastInDim S5120x768 ![0, 1] bcast_S5120x1_S5120x768_0_1 (cmpi .eq (res_main_v7 V) (broadcastInDim S5120x1 ![] bcast_S_S5120x1 (constantI S_ 32 o)))) A B (ix2 r h)
      = Scalar.select (IntOp.cmpi .eq ((res_main_v7 V : IVec S5120x1 32) (ix2 r (0 : Fin 1))) o) (A (ix2 r h)) (B (ix2 r h)) := by
  rw [select_apply]
  refine congrArg (fun z => Scalar.select z _ _) ?_
  exact bid_cols_apply _ _ r h

/-- What each row of the experts' output holds. -/
def ysAt (r : Fin 5120) (hr : (rid V (ix2 r (0 : Fin 1))).toNat < 2048)
    (hb : (be V (ix2 (n0 := 128) (n1 := 1) ⟨r.val / 128, by have := r.isLt; omega⟩ 0)).toNat < 8) (h : Fin 768) : EReal :=
  expertRow (fun k => (res_main_v0 V : FVec Ideal S2048x768 .f32) (ix2 ⟨(rid V (ix2 r (0 : Fin 1))).toNat, hr⟩ k)) (w1 V) (b1 V) (w2 V) (b2 V) ⟨_, hb⟩ (wsl V (ix2 r (0 : Fin 1))) h

theorem v280_apply (r : Fin 5120) (hr) (hb) (h : Fin 768) :
    (res_main_v280 V : FVec Ideal S5120x768 .f32) (ix2 r h) = ysAt V r hr hb h := by
  let g : Fin 8 → EReal := fun e => expertRow (fun k => (res_main_v2 V : FVec Ideal S5120x768 .f32) (ix2 r k)) (w1 V) (b1 V) (w2 V) (b2 V) e (wsl V (ix2 r (0 : Fin 1))) h
  have lay : ∀ (o : ℕ) (a1 a2 c1 c2) (e : Fin 8) (he : e.val = o), layT V o c1 c2 (hidT V o a1 a2) (ix2 r h) = g e := by
    intro o a1 a2 c1 c2 e he
    rw [layT_apply V o c1 c2 _ e he r h]
    show _ = expertRow _ _ _ _ _ e _ h
    unfold expertRow
    refine congrArg (fun z => (z + _) * _) (Finset.sum_congr rfl fun f _ => ?_)
    rw [hidT_apply V o a1 a2 e he r f]
  have hv : ((res_main_v7 V : IVec S5120x1 32) (ix2 r (0 : Fin 1))).toNat < 8 := by rw [v7_apply]; exact hb
  have key := chain ((res_main_v7 V : IVec S5120x1 32) (ix2 r (0 : Fin 1))) hv g
    ((broadcastInDim S5120x768 ![] bcast_S_S5120x768 (constant (F := Ideal) S_ .f32 0x00000000#32)) (ix2 r h))
  have hg : g ⟨_, hv⟩ = ysAt V r hr hb h := by
    show expertRow _ _ _ _ _ _ _ h = _
    unfold ysAt
    congr 1
    · funext k; exact v2_apply V r k hr
    · refine Fin.ext ?_
      show BitVec.toNat _ = BitVec.toNat _
      rw [v7_apply]
  refine Eq.trans ?_ (key.trans hg)
  unfold res_main_v280
  refine (pick_apply V _ _ _ r h).trans (congrArg₂ (Scalar.select _) (lay 7 _ _ _ _ 7 rfl) ?_)
  refine (pick_apply V _ _ _ r h).trans (congrArg₂ (Scalar.select _) (lay 6 _ _ _ _ 6 rfl) ?_)
  refine (pick_apply V _ _ _ r h).trans (congrArg₂ (Scalar.select _) (lay 5 _ _ _ _ 5 rfl) ?_)
  refine (pick_apply V _ _ _ r h).trans (congrArg₂ (Scalar.select _) (lay 4 _ _ _ _ 4 rfl) ?_)
  unfold res_main_v144
  refine (pick_apply V _ _ _ r h).trans (congrArg₂ (Scalar.select _) (lay 3 _ _ _ _ 3 rfl) ?_)
  refine (pick_apply V _ _ _ r h).trans (congrArg₂ (Scalar.select _) (lay 2 _ _ _ _ 2 rfl) ?_)
  refine (pick_apply V _ _ _ r h).trans (congrArg₂ (Scalar.select _) (lay 1 _ _ _ _ 1 rfl) ?_)
  exact (pick_apply V _ _ _ r h).trans (congrArg₂ (Scalar.select _) (lay 0 _ _ _ _ 0 rfl) rfl)

end Cert.Proof.Ref

end
-- ==== Proof.Algebraic.lean ====
/- The program's result equals the reference's. -/
module

public import proofs.«01_k».proof.Proof.KerValue
public import proofs.«01_k».proof.Proof.RefValue
public import proofs.«01_k».proof.Proof.Frames
public import Idealize.ShloMosaic.Lib.Quiescent

@[expose] public section

noncomputable section

namespace Cert.Proof

open Idealize.ShloMosaic Idealize.ShloMosaic.ValueIdx Idealize.SL.Sem Cert.Proof.Spec

/-! ## The layer's output, entry by entry -/

namespace Spec

variable (X : (⟨2, ![2048, 768]⟩ : Shape).Idx → EReal) (P : (⟨2, ![4096, 1]⟩ : Shape).Idx → BitVec 32) (R : (⟨2, ![5120, 1]⟩ : Shape).Idx → BitVec 32)
  (S : (⟨2, ![5120, 1]⟩ : Shape).Idx → EReal) (B : (⟨2, ![128, 1]⟩ : Shape).Idx → BitVec 32)
  (W1 : (⟨3, ![8, 768, 3072]⟩ : Shape).Idx → EReal) (B1 : (⟨2, ![8, 3072]⟩ : Shape).Idx → EReal)
  (W2 : (⟨3, ![8, 3072, 768]⟩ : Shape).Idx → EReal) (B2 : (⟨2, ![8, 768]⟩ : Shape).Idx → EReal)
  (hP : ∀ i, (P i).toNat < 5120) (hR : ∀ i, (R i).toNat < 2048) (hB : ∀ i, (B i).toNat < 8)

/-- Row `r` of the experts' output. -/
def rowAt (r : Fin 5120) (k : Fin 768) : EReal :=
  expertRow (fun j => X (ix2 ⟨(R (ix2 r 0)).toNat, hR _⟩ j)) W1 B1 W2 B2
    ⟨(B (ix2 (n0 := 128) (n1 := 1) ⟨r.val / 128, by have := r.isLt; omega⟩ 0)).toNat, hB _⟩ (S (ix2 r 0)) k

/-- A token's output: its row plus the two rows of its slots. -/
def outAt (t : Fin 2048) (k : Fin 768) : EReal :=
  X (ix2 t k)
    + rowAt X R S B W1 B1 W2 B2 hR hB ⟨(P (ix2 (n0 := 4096) (n1 := 1) ⟨t.val, by have := t.isLt; omega⟩ 0)).toNat, hP _⟩ k
    + rowAt X R S B W1 B1 W2 B2 hR hB ⟨(P (ix2 (n0 := 4096) (n1 := 1) ⟨2048 + t.val, by have := t.isLt; omega⟩ 0)).toNat, hP _⟩ k

end Spec

/-! ## The reference -/

namespace Ref

open Cert.ReferenceIdeal Cert.ReferenceIdeal.Gen Cert.ReferenceIdeal.Value

variable (V : Valuation τ sig (Elt Ideal))

/-- The indices the reference takes rows at: row `o` of the positions. -/
abbrev slotT (o : ℕ) (h : S2x2048.Slices ![o, 0] S1x2048) : IVec S2048x1 32 :=
  broadcastInDim S2048x1 ![0] bcast_S2048_S2048x1_0 (shapeCast _ (extractStridedSlice S1x2048 ![o, 0] (res_main_v281 V) h) shapeCasts_S1x2048_S2048)

theorem slotT_apply (o : ℕ) (h : S2x2048.Slices ![o, 0] S1x2048) (ho : o < 2) (t : Fin 2048) :
    slotT V o h (ix2 t (0 : Fin 1)) = pos V (ix2 (n0 := 4096) (n1 := 1) ⟨o * 2048 + t.val, by have := t.isLt; omega⟩ 0) := by
  refine (bid_col_apply _ _ t 0).trans ?_
  refine (shapeCast_apply (s := S1x2048) (t := S2048) _ _ (ix1 t) (ix2 (n0 := 1) (n1 := 2048) 0 t) ?_).trans ?_
  · rw [Shape.rowMajor_val_two, Shape.rowMajor_val_one]
    show 0 * 2048 + t.val = t.val
    omega
  refine (extractStridedSlice_apply (s := S2x2048) (t := S1x2048) _ _ _ _ (ix2 (n0 := 2) (n1 := 2048) ⟨o, ho⟩ t) ?_).trans ?_
  · intro a
    match a with
    | ⟨0, _⟩ => rfl
    | ⟨1, _⟩ => exact (Nat.zero_add _).symm
  unfold res_main_v281
  refine shapeCast_apply (s := S4096x1) (t := S2x2048) _ _ _ _ ?_
  rw [Shape.rowMajor_val_two, Shape.rowMajor_val_two]
  show (o * 2048 + t.val) * 1 + 0 = o * 2048 + t.val
  omega

theorem take_apply (o : ℕ) (h : S2x2048.Slices ![o, 0] S1x2048) (ho : o < 2) (hP : ∀ i, (pos V i).toNat < 5120) (Y : FVec Ideal S5120x768 .f32)
    (t : Fin 2048) (k : Fin 768) :
    Host.gather gather_S5120x768_S2048x1_S2048x768_1_0_n_n_0_1_1768 Y (slotT V o h) (ix2 t k)
      = Y (ix2 ⟨(pos V (ix2 (n0 := 4096) (n1 := 1) ⟨o * 2048 + t.val, by have := t.isLt; omega⟩ 0)).toNat, hP _⟩ k) := by
  refine (gather_rows_apply (N := 5120) (C := 768) (B := 2048) (by decide) _ _ _ t k).trans ?_
  refine congrArg Y (congrArg (fun z => ix2 (n0 := 5120) z k) (Fin.ext ?_))
  have hp := hP (ix2 (n0 := 4096) (n1 := 1) ⟨o * 2048 + t.val, by have := t.isLt; omega⟩ 0)
  show min _ 5119 = _
  rw [slotT_apply V o h ho t, toNat_of_lt _ 5120 (by decide) hp]
  exact Nat.min_eq_left (by omega)

/-- The reference's result before its last reshape. -/
abbrev outT : FVec Ideal S2048x768 .f32 :=
  addf (addf (res_main_v0 V) (Host.gather gather_S5120x768_S2048x1_S2048x768_1_0_n_n_0_1_1768 (res_main_v280 V) (slotT V 0 slices_S2x2048_S1x2048_0_0)))
    (Host.gather gather_S5120x768_S2048x1_S2048x768_1_0_n_n_0_1_1768 (res_main_v280 V) (slotT V 1 slices_S2x2048_S1x2048_1_0))

theorem outT_apply (hP : ∀ i, (pos V i).toNat < 5120) (hR : ∀ i, (rid V i).toNat < 2048) (hB : ∀ i, (be V i).toNat < 8) (t : Fin 2048) (k : Fin 768) :
    outT V (ix2 t k) = outAt (shapeCast S2048x768 (x0 V) shapeCasts_S1x2048x768_S2048x768) (pos V) (rid V) (wsl V) (be V) (w1 V) (b1 V) (w2 V) (b2 V) hP hR hB t k := by
  have e0 := (take_apply V 0 slices_S2x2048_S1x2048_0_0 (by decide) hP (res_main_v280 V) t k).trans (v280_apply V _ (hR _) (hB _) k)
  have e1 := (take_apply V 1 slices_S2x2048_S1x2048_1_0 (by decide) hP (res_main_v280 V) t k).trans (v280_apply V _ (hR _) (hB _) k)
  refine (congrArg₂ (fun a b : EReal => a + b) (congrArg₂ (fun a b : EReal => a + b) rfl e0) e1).trans ?_
  unfold outAt
  have h0 : (⟨0 * 2048 + t.val, by have := t.isLt; omega⟩ : Fin 4096) = ⟨t.val, by have := t.isLt; omega⟩ := Fin.ext (by show 0 * 2048 + t.val = t.val; omega)
  have h1 : (⟨1 * 2048 + t.val, by have := t.isLt; omega⟩ : Fin 4096) = ⟨2048 + t.val, by have := t.isLt; omega⟩ := Fin.ext (by show 1 * 2048 + t.val = 2048 + t.val; omega)
  simp only [h0, h1]
  rfl

end Ref

/-! ## The kernel -/

namespace Moe

open Cert.KernelIdeal Cert.KernelIdeal.Gen

variable (m : (ℓ : Loc nD τ sig) → Buf (Elt Ideal) ℓ) (h : ok1 (tbl m))

theorem combined_apply (d : Dev nD)
    (hP : ∀ i : S4096x1.Idx, (m (d, dr main_arg1) i : BitVec 32).toNat < 5120) (hR : ∀ i : S5120x1.Idx, (m (d, dr main_arg2) i : BitVec 32).toNat < 2048)
    (hB : ∀ i : S128x1.Idx, (m (d, dr main_arg4) i : BitVec 32).toNat < 8) (t : Fin 2048) (k : Fin 768) :
    (combined (d := d) (V12 m h d (dr main_v11)) (V12 m h d (dr main_v0)) (V12 m h d (dr main_v10)) : Vec Ideal S2048x768 .f32) (ix2 t k)
      = outAt (shapeCast S2048x768 (m (d, dr main_arg0)) shapeCasts_S1x2048x768_S2048x768) (m (d, dr main_arg1)) (m (d, dr main_arg2)) (m (d, dr main_arg3))
          (m (d, dr main_arg4)) (m (d, dr main_arg5)) (m (d, dr main_arg6)) (m (d, dr main_arg7)) (m (d, dr main_arg8)) hP hR hB t k := by
  rw [V12_pos, V12_x, V2_x, V12_ys]
  unfold combined outAt
  have hp : ∀ i : Fin 4096, (shapeCast S4096 (m (d, dr main_arg1)) shapeCasts_S4096x1_S4096 : IVec S4096 32) (ValueIdx.ix1 i) = m (d, dr main_arg1) (ix2 (n0 := 4096) (n1 := 1) i 0) :=
    fun i => Spec.shapeCast_a1_a_apply _ _ _
  have hrow : ∀ i : Fin 4096, (ysOut m h d : Vec Ideal S5120x768 .f32)
      (ix2 (n0 := 5120) (n1 := 768) ⟨((shapeCast S4096 (m (d, dr main_arg1)) shapeCasts_S4096x1_S4096 : IVec S4096 32) (ValueIdx.ix1 i)).toNat % 5120, Nat.mod_lt _ (by decide)⟩ k)
      = rowAt (shapeCast S2048x768 (m (d, dr main_arg0)) shapeCasts_S1x2048x768_S2048x768) (m (d, dr main_arg2)) (m (d, dr main_arg3))
          (m (d, dr main_arg4)) (m (d, dr main_arg5)) (m (d, dr main_arg6)) (m (d, dr main_arg7)) (m (d, dr main_arg8)) hR hB
          ⟨(m (d, dr main_arg1) (ix2 (n0 := 4096) (n1 := 1) i 0) : BitVec 32).toNat, hP _⟩ k := by
    intro i
    refine Eq.trans (congrArg (fun z => (ysOut m h d : Vec Ideal S5120x768 .f32) (ix2 (n0 := 5120) (n1 := 768) z k)) (Fin.ext ?_)) (ysOut_apply m h d _ k (hR _) (hB _))
    show (BitVec.toNat _) % 5120 = _
    rw [hp]
    exact Nat.mod_eq_of_lt (hP _)
  exact congrArg₂ (fun a b : EReal => a + b) (congrArg₂ (fun a b : EReal => a + b) rfl (hrow ⟨t.val, by have := t.isLt; omega⟩)) (hrow ⟨2048 + t.val, by have := t.isLt; omega⟩)

end Moe

/-! ## The claims -/

theorem frame_reference : Cert.quiescent_ReferenceIdeal := by
  intro m ρ _
  exact (θ_run Cert.ReferenceIdeal.defs _ _).mono (fun r hr => ⟨fun c => (hr c).2, sem_eq_zero_of_no_sems rfl _⟩) (Cert.ReferenceIdeal.Value.run (F := Ideal) m ρ)

open Cert.KernelIdeal Cert.KernelIdeal.Gen Moe in
theorem algebraic : Cert.algebraic_KernelIdeal_ReferenceIdeal := by
  intro m ρ m' ρ' hp heq
  have hr := fun c => Range.range_of_fn _ _ _ _ _ _ _ _ _ _ (congrFun (hp c) (fun a => a.elim0))
  have hbe : ∀ d (j : S128x1.Idx), (m (d, dr main_arg4) j : BitVec 32).toNat < 8 := fun d => (hr d).2.2
  have hok := ok_of_lt _ (tbl_lt m hbe)
  refine ⟨fun c => V14 m hok c (dr main_v13), ?_, ?_⟩
  · refine (θ_run Cert.KernelIdeal.defs _ _).mono (fun r h c => ?_)
      (run_main (F := Ideal) m ρ hok (fun d => (hr d).1) (fun d => (hr d).2.1))
    have key : ∀ b, dr b ∈ ucRefs → b ∉ _ → r.2.mem (c, dr b) = m (c, dr b) := fun b hb hn => (h.1 c (dr b) hb).trans (V14_ne m _ c b hn)
    exact ⟨h.1 c (dr main_v13) (by decide), key main_arg0 (by decide) (by decide), key main_arg1 (by decide) (by decide), key main_arg2 (by decide) (by decide),
      key main_arg3 (by decide) (by decide), key main_arg4 (by decide) (by decide), key main_arg5 (by decide) (by decide),
      key main_arg6 (by decide) (by decide), key main_arg7 (by decide) (by decide), key main_arg8 (by decide) (by decide)⟩
  · refine (θ_run Cert.ReferenceIdeal.defs _ _).mono (fun r h c => ⟨(h c).1.trans ?_, (h c).2⟩) (Cert.ReferenceIdeal.Value.run (F := Ideal) m' ρ')
    obtain ⟨e0, e1, e2, e3, e4, e5, e6, e7, e8⟩ := heq c
    refine Eq.trans ?_ (V14_out m hok c).symm
    refine congrArg (fun z => shapeCast S1x2048x768 z shapeCasts_S2048x768_S1x2048x768) (funext fun j => ?_)
    obtain ⟨t, k, rfl⟩ : ∃ (t : Fin 2048) (k : Fin 768), j = ix2 t k := ⟨j 0, j 1, eq_ix2 j⟩
    refine Eq.trans ?_ (combined_apply m hok c (hr c).1 (hr c).2.1 (hr c).2.2 t k).symm
    have a1 : Ref.pos (StableHlo.launchContents m' c) = m (c, dr main_arg1) := e1
    have a2 : Ref.rid (StableHlo.launchContents m' c) = m (c, dr main_arg2) := e2
    have a4 : Ref.be (StableHlo.launchContents m' c) = m (c, dr main_arg4) := e4
    refine (Ref.outT_apply (StableHlo.launchContents m' c) (fun i => by rw [a1]; exact (hr c).1 i) (fun i => by rw [a2]; exact (hr c).2.1 i) (fun i => by rw [a4]; exact (hr c).2.2 i) t k).trans ?_
    have a0 : Ref.x0 (StableHlo.launchContents m' c) = m (c, dr main_arg0) := e0
    have a3 : Ref.wsl (StableHlo.launchContents m' c) = m (c, dr main_arg3) := e3
    have a5 : Ref.w1 (StableHlo.launchContents m' c) = m (c, dr main_arg5) := e5
    have a6 : Ref.b1 (StableHlo.launchContents m' c) = m (c, dr main_arg6) := e6
    have a7 : Ref.w2 (StableHlo.launchContents m' c) = m (c, dr main_arg7) := e7
    have a8 : Ref.b2 (StableHlo.launchContents m' c) = m (c, dr main_arg8) := e8
    simp only [a0, a1, a2, a3, a4, a5, a6, a7, a8]

end Cert.Proof

end
-- ==== Proof.R.Top.lean ====
/- The two greatest of eight: the order that takes the greater value first and, between equal values, the smaller
   position; the pair it puts in front; and that a stable sort finds that pair. -/
module

public import Idealize.ShloMosaic.Lib.SortFacts
public import Idealize.ShloMosaic.PureOps.Ideal.Laws

@[expose] public section

noncomputable section

namespace Cert.Proof.MoeR

open Idealize.ShloMosaic

/-- Position `a` comes before position `b`: a greater value, or an equal one at a smaller position. -/
def Before {n : Nat} (p : Fin n → EReal) (a b : Fin n) : Prop := p b < p a ∨ (p a = p b ∧ a < b)

theorem Before.asymm {n : Nat} {p : Fin n → EReal} {a b : Fin n} (h : Before p a b) : ¬Before p b a := by
  rintro (h' | ⟨h', h''⟩)
  · rcases h with h | ⟨h, _⟩
    · exact lt_asymm h h'
    · exact absurd h' (by rw [h]; exact lt_irrefl _)
  · rcases h with h | ⟨_, h⟩
    · exact absurd h (by rw [h']; exact lt_irrefl _)
    · exact lt_asymm h h''

theorem before_total {n : Nat} {p : Fin n → EReal} {a b : Fin n} (h : a ≠ b) (hn : ¬Before p b a) : Before p a b := by
  rcases lt_trichotomy (p a) (p b) with h1 | h1 | h1
  · exact absurd (Or.inl h1) hn
  · rcases lt_trichotomy a b with h2 | h2 | h2
    · exact Or.inr ⟨h1, h2⟩
    · exact absurd h2 h
    · exact absurd (Or.inr ⟨h1.symm, h2⟩) hn
  · exact Or.inl h1

/-- `a` is in front of all, `b` in front of all but `a`. -/
def Top2 {n : Nat} (p : Fin n → EReal) (a b : Fin n) : Prop :=
  a ≠ b ∧ (∀ e, e ≠ a → Before p a e) ∧ ∀ e, e ≠ a → e ≠ b → Before p b e

theorem Top2.unique {n : Nat} {p : Fin n → EReal} {a b a' b' : Fin n} (h : Top2 p a b) (h' : Top2 p a' b') : a = a' ∧ b = b' := by
  have ha : a = a' := by
    by_contra hne
    exact (h.2.1 a' (Ne.symm hne)).asymm (h'.2.1 a hne)
  subst ha
  refine ⟨rfl, ?_⟩
  by_contra hne
  exact (h.2.2 b' h'.1.symm (Ne.symm hne)).asymm (h'.2.2 b h.1.symm hne)

/-! ## The stable sort -/

open Classical in
/-- The order as a test. -/
def beforeB {n : Nat} (p : Fin n → EReal) (a b : Fin n) : Bool := decide (Before p a b)

theorem beforeB_true {n : Nat} {p : Fin n → EReal} {a b : Fin n} : beforeB p a b = true ↔ Before p a b := by
  classical
  unfold beforeB
  exact decide_eq_true_iff

theorem beforeB_false {n : Nat} {p : Fin n → EReal} {a b : Fin n} : beforeB p a b = false ↔ ¬Before p a b := by
  rw [← beforeB_true, Bool.not_eq_true]

theorem stableSort_eq {n : Nat} (p : Fin n → EReal) (R : Fin n → Fin n → Bool) (hR : ∀ a b, R a b = true ↔ p b < p a)
    (l : List (Fin n)) (hl : l.Pairwise (· < ·)) : stableSort R l = stableSort (beforeB p) l := by
  induction l with
  | nil => rfl
  | cons a l ih =>
    rw [List.pairwise_cons] at hl
    unfold stableSort
    rw [ih hl.2]
    refine insertBefore_congr _ _ _ _ fun b hb => ?_
    have hab : a < b := hl.1 b ((perm_stableSort _ _).mem_iff.1 hb)
    rw [Bool.eq_iff_iff, hR, beforeB_true]
    constructor
    · exact Or.inl
    · rintro (h | ⟨_, h⟩)
      · exact h
      · exact absurd h (lt_asymm hab)

theorem sortedFrom_before {n : Nat} (p : Fin n → EReal) (R : Fin n → Fin n → Bool) (hR : ∀ a b, R a b = true ↔ p b < p a)
    (i j : Fin n) (hij : i < j) : Before p (sortedFrom R i) (sortedFrom R j) := by
  have hs : sortPositions n R = sortPositions n (beforeB p) :=
    stableSort_eq p R hR _ (List.pairwise_lt_finRange n)
  have hf : sortedFrom R = sortedFrom (beforeB p) := by
    funext k
    unfold sortedFrom
    rw [List.get_of_eq hs]
    rfl
  have hne : sortedFrom R i ≠ sortedFrom R j := fun h => hij.ne (sortedFrom_injective R h)
  refine before_total hne ?_
  rw [hf]
  have h := sortedFrom_noInversion (beforeB p) (beforeB p)
    (fun a b h => beforeB_false.2 (beforeB_true.1 h).asymm)
    (fun _ _ h => h)
    (fun a b c hab hbc => by
      rw [beforeB_false] at hab hbc ⊢
      by_cases e1 : a = b
      · exact e1 ▸ hbc
      by_cases e2 : b = c
      · exact e2 ▸ hab
      have h1 : Before p b a := before_total (Ne.symm e1) hab
      have h2 : Before p c b := before_total (Ne.symm e2) hbc
      intro h3
      rcases h1 with h1 | ⟨h1, h1'⟩ <;> rcases h2 with h2 | ⟨h2, h2'⟩ <;> rcases h3 with h3 | ⟨h3, h3'⟩
      all_goals order)
    i j hij
  exact beforeB_false.1 h

/-- A stable sort, the greater first, puts the two in front at places 0 and 1. -/
theorem top2_sorted (p : Fin 8 → EReal) (R : Fin 8 → Fin 8 → Bool) (hR : ∀ a b, R a b = true ↔ p b < p a) :
    Top2 p (sortedFrom R 0) (sortedFrom R 1) := by
  refine ⟨fun h => absurd (sortedFrom_injective R h) (by decide), fun e he => ?_, fun e he he' => ?_⟩
  · obtain ⟨k, rfl⟩ := sortedFrom_surjective R e
    exact sortedFrom_before p R hR 0 k (Nat.pos_of_ne_zero fun h => he (congrArg _ (Fin.ext h)))
  · obtain ⟨k, rfl⟩ := sortedFrom_surjective R e
    refine sortedFrom_before p R hR 1 k ?_
    have h0 : k.val ≠ 0 := fun h => he (congrArg _ (Fin.ext h))
    have h1 : k.val ≠ 1 := fun h => he' (congrArg _ (Fin.ext h))
    show 1 < k.val
    omega

/-! ## The two rounds of a masked maximum -/

/-- Lane `a` is the first at which `q` takes its greatest value. -/
def First {n : Nat} (q : Fin n → EReal) (a : Fin n) : Prop := (∀ j, q j ≤ q a) ∧ ∀ j, q j = q a → a ≤ j

/-- Eight values that are not negative, followed by zeros: the first greatest, and the first greatest once that one is
    put below zero, are the two in front. -/
theorem top2_masked (p : Fin 8 → EReal) (q : Fin 128 → EReal) (hp : ∀ e, 0 ≤ p e)
    (hq : ∀ e : Fin 8, q (e.castLE (by decide)) = p e) (hz : ∀ j : Fin 128, 8 ≤ j.val → q j = 0)
    (a b : Fin 128) (ha : First q a) (hb : First (fun j => if j = a then -1 else q j) b) :
    ∃ (a' b' : Fin 8), Top2 p a' b' ∧ a = a'.castLE (by decide) ∧ b = b'.castLE (by decide) := by
  have hq0 : ∀ j, 0 ≤ q j := fun j => by
    by_cases h : j.val < 8
    · rw [← show (⟨j.val, h⟩ : Fin 8).castLE (by decide) = j from rfl, hq]; exact hp _
    · rw [hz j (by omega)]
  have ha8 : a.val < 8 := by
    by_contra h
    have h0 : q a = 0 := hz a (by omega)
    have h1 := ha.1 ((0 : Fin 8).castLE (by decide))
    have h2 := ha.2 ((0 : Fin 8).castLE (by decide)) (le_antisymm h1 (h0.symm ▸ hq0 _))
    have : a.val ≤ 0 := h2
    omega
  have hneg : (-1 : EReal) < 0 := by
    rw [show (-1 : EReal) = ((-1 : ℝ) : EReal) from by norm_num, ← EReal.coe_zero, EReal.coe_lt_coe_iff]; norm_num
  have hba : b ≠ a := by
    intro h
    obtain ⟨c, hc⟩ : ∃ c : Fin 128, c ≠ a := ⟨⟨8, by decide⟩, fun h => by have := congrArg Fin.val h; simp at this; omega⟩
    have h1 := hb.1 c
    simp only [if_neg hc, h, if_true] at h1
    exact absurd (lt_of_le_of_lt (hq0 c) (lt_of_le_of_lt h1 hneg)) (lt_irrefl _)
  have hb1 : ∀ j, j ≠ a → q j ≤ q b := fun j hj => by
    have h1 := hb.1 j
    simpa only [if_neg hj, if_neg hba] using h1
  have hb2 : ∀ j, j ≠ a → q j = q b → b ≤ j := fun j hj h => hb.2 j (by simpa only [if_neg hj, if_neg hba] using h)
  have hb8 : b.val < 8 := by
    by_contra h
    have h0 : q b = 0 := hz b (by omega)
    obtain ⟨c, hc, hc8⟩ : ∃ c : Fin 128, c ≠ a ∧ c.val < 8 := by
      by_cases e : a.val = 0
      · exact ⟨⟨1, by decide⟩, fun h => by have := congrArg Fin.val h; simp at this; omega, by decide⟩
      · exact ⟨⟨0, by decide⟩, fun h => by have := congrArg Fin.val h; simp at this; omega, by decide⟩
    have h1 := hb2 c hc (le_antisymm (hb1 c hc) (h0.symm ▸ hq0 _))
    have : b.val ≤ c.val := h1
    omega
  have hqa : q a = p ⟨a.val, ha8⟩ := hq ⟨a.val, ha8⟩
  have hqb : q b = p ⟨b.val, hb8⟩ := hq ⟨b.val, hb8⟩
  have hne : ∀ (e : Fin 8) (c : Fin 128) (hc : c.val < 8), e ≠ ⟨c.val, hc⟩ → e.castLE (by decide : 8 ≤ 128) ≠ c :=
    fun e c hc he h => he (Fin.ext (by have := congrArg Fin.val h; exact this))
  refine ⟨⟨a.val, ha8⟩, ⟨b.val, hb8⟩, ⟨fun h => hba (Fin.ext (congrArg Fin.val h).symm), fun e he => ?_, fun e he he' => ?_⟩, rfl, rfl⟩
  · have h1 := ha.1 (e.castLE (by decide))
    rw [hq, hqa] at h1
    rcases lt_or_eq_of_le h1 with h | h
    · exact Or.inl h
    · refine Or.inr ⟨h.symm, lt_of_le_of_ne ?_ (Ne.symm he)⟩
      exact ha.2 (e.castLE (by decide)) (by rw [hq, hqa, h])
  · have hca := hne e a ha8 he
    have h1 := hb1 (e.castLE (by decide)) hca
    rw [hq, hqb] at h1
    rcases lt_or_eq_of_le h1 with h | h
    · exact Or.inl h
    · refine Or.inr ⟨h.symm, lt_of_le_of_ne ?_ (Ne.symm he')⟩
      exact hb2 (e.castLE (by decide)) hca (by rw [hq, hqb, h])

end Cert.Proof.MoeR
-- ==== Proof.R.Soft.lean ====
/- The softmax of eight extended reals, plain and over 128 lanes of which all but eight are masked; and the balance
   loss as a sum over eight lanes and over 128. -/
module

public import proofs.«01_k».proof.Proof.R.Top

@[expose] public section

noncomputable section

namespace Cert.Proof.MoeR

open Idealize.ShloMosaic

/-! ## The literals -/

theorem lit_bot : Ideal.ofBits .f32 0xFF800000#32 = ⊥ := by
  simp [Ideal.ofBits, Ideal.ieee]
theorem lit_low : ∃ r : ℝ, Ideal.ofBits .f32 0xF149F2CA#32 = (r : EReal) := by
  unfold Ideal.ofBits Ideal.ieee
  dsimp only
  rw [if_neg (by decide), if_neg (by decide)]
  exact ⟨_, rfl⟩
theorem lit_2048 : Ideal.ofBits .f32 0x45000000#32 = ((2048 : ℝ) : EReal) := by
  simp [Ideal.ofBits, Ideal.ieee]
  rw [← EReal.coe_mul]
  norm_num
theorem lit_4096 : Ideal.ofBits .f32 0x45800000#32 = ((4096 : ℝ) : EReal) := by
  simp [Ideal.ofBits, Ideal.ieee]
  rw [← EReal.coe_mul]
  norm_num
theorem lit_2 : Ideal.ofBits .f32 0x40000000#32 = ((2 : ℝ) : EReal) := by
  simp [Ideal.ofBits, Ideal.ieee]
  rw [← EReal.coe_mul]
  norm_num
theorem lit_1 : Ideal.ofBits .f32 0x3F800000#32 = ((1 : ℝ) : EReal) := by
  simp [Ideal.ofBits, Ideal.ieee]
  rw [← EReal.coe_mul]
  norm_num
theorem lit_neg1 : Ideal.ofBits .f32 0xBF800000#32 = -1 := by
  simp [Ideal.ofBits, Ideal.ieee]
  rw [← EReal.coe_mul]
  norm_num

/-! ## Quotients -/

theorem div_coe (x y : ℝ) (hy : y ≠ 0) : Ideal.div (x : EReal) (y : EReal) = ((x / y : ℝ) : EReal) := by
  unfold Ideal.div
  rw [if_neg (by rw [← EReal.coe_zero, EReal.coe_eq_coe_iff]; exact hy), ← EReal.coe_inv, ← EReal.coe_mul, div_eq_mul_inv]

theorem div_zero_zero : Ideal.div 0 0 = ⊥ := by
  unfold Ideal.div
  rw [if_pos rfl, if_neg (lt_irrefl _)]

theorem div_zero_coe (y : ℝ) (hy : y ≠ 0) : Ideal.div 0 (y : EReal) = 0 := by
  rw [← EReal.coe_zero, div_coe _ _ hy, zero_div]

theorem div_bot_coe (y : ℝ) (hy : 0 < y) : Ideal.div ⊥ (y : EReal) = ⊥ := by
  unfold Ideal.div
  rw [if_neg (by rw [← EReal.coe_zero, EReal.coe_eq_coe_iff]; exact hy.ne'), ← EReal.coe_inv]
  exact EReal.bot_mul_coe_of_pos (inv_pos.2 hy)

/-! ## A sum over 128 lanes of which all but eight are zero -/

/-- Lane `e` of the 128. -/
abbrev lane (e : Fin 8) : Fin 128 := e.castLE (by decide)

theorem sum_lanes (f : Fin 128 → EReal) (h : ∀ j : Fin 128, 8 ≤ j.val → f j = 0) : ∑ j, f j = ∑ e : Fin 8, f (lane e) := by
  have e1 : ∑ j : Fin 128, f j = ∑ e : Fin 8, f (Fin.castAdd 120 e) + ∑ k : Fin 120, f (Fin.natAdd 8 k) :=
    Fin.sum_univ_add (a := 8) (b := 120) f
  have e2 : ∑ k : Fin 120, f (Fin.natAdd 8 k) = 0 := Finset.sum_eq_zero fun k _ => h (Fin.natAdd 8 k) (Nat.le_add_right 8 k.val)
  rw [e1, e2, add_zero]
  rfl

/-! ## The softmax -/

/-- The exponential as a real, zero at the infinities. -/
def wexp (x : EReal) : ℝ := if x = ⊥ then 0 else Real.exp x.toReal

theorem wexp_nonneg (x : EReal) : 0 ≤ wexp x := by
  unfold wexp
  split
  · exact le_refl _
  · exact (Real.exp_pos _).le

theorem exp_sub_coe {x : EReal} (hx : x ≠ ⊤) (μ : ℝ) : Ideal.exp (x - (μ : EReal)) = ((wexp x * Real.exp (-μ) : ℝ) : EReal) := by
  induction x with
  | bot =>
    rw [EReal.bot_sub]
    unfold wexp
    rw [if_pos rfl, zero_mul]
    rfl
  | coe r =>
    rw [← EReal.coe_sub]
    unfold wexp
    rw [if_neg (EReal.coe_ne_bot r), EReal.toReal_coe, ← Real.exp_add, ← sub_eq_add_neg]
    rfl
  | top => exact absurd rfl hx

theorem exp_sub_top (x : EReal) : Ideal.exp (x - ⊤) = 0 := by
  rw [sub_eq_add_neg, EReal.neg_top, EReal.add_bot]
  rfl

/-- The greatest of a row. -/
def mx {n : Nat} (l : Fin n → EReal) : EReal := Finset.univ.sup l

theorem le_mx {n : Nat} (l : Fin n → EReal) (e : Fin n) : l e ≤ mx l := Finset.le_sup (f := l) (Finset.mem_univ e)

theorem mx_mem {n : Nat} [NeZero n] (l : Fin n → EReal) : ∃ e, l e = mx l := by
  obtain ⟨e, _, he⟩ := Finset.exists_mem_eq_sup (Finset.univ : Finset (Fin n)) ⟨0, Finset.mem_univ _⟩ l
  exact ⟨e, he.symm⟩

theorem fold_max_eq_mx {n : Nat} (l : Fin n → EReal) : (Finset.univ : Finset (Fin n)).fold max ⊥ l = mx l := rfl

/-- The softmax of eight values. -/
def soft (l : Fin 8 → EReal) (e : Fin 8) : EReal :=
  Ideal.div (Ideal.exp (l e - mx l)) (∑ e', Ideal.exp (l e' - mx l))

/-- A row of 128 whose lanes from the eighth on hold `c`. -/
def maskRow (c : EReal) (g : Fin 128 → EReal) (j : Fin 128) : EReal := if j.val < 8 then g j else c

/-- Its exponentials, the masked ones zero. -/
def maskExp (c : EReal) (g : Fin 128 → EReal) (j : Fin 128) : EReal :=
  if j.val < 8 then Ideal.exp (maskRow c g j - mx (maskRow c g)) else 0

/-- The masked softmax. -/
def maskSoft (c : EReal) (g : Fin 128 → EReal) (j : Fin 128) : EReal :=
  Ideal.div (maskExp c g j) (∑ j', maskExp c g j')

section Row

variable (c : ℝ) (g : Fin 128 → EReal)

theorem mx_mask : mx (maskRow c g) = max (mx fun e => g (lane e)) c := by
  apply le_antisymm
  · refine Finset.sup_le fun j _ => ?_
    unfold maskRow
    split
    · next h => exact le_max_of_le_left (le_mx (fun e => g (lane e)) ⟨j.val, h⟩)
    · exact le_max_right _ _
  · refine max_le (Finset.sup_le fun e _ => ?_) ?_
    · have h := le_mx (maskRow c g) (lane e)
      unfold maskRow at h
      rwa [if_pos (show (lane e).val < 8 from e.isLt)] at h
    · have h := le_mx (maskRow c g) ⟨8, by decide⟩
      unfold maskRow at h
      rwa [if_neg (by decide)] at h

theorem maskExp_lane (e : Fin 8) : maskExp c g (lane e) = Ideal.exp (g (lane e) - mx (maskRow c g)) := by
  unfold maskExp
  rw [if_pos (show (lane e).val < 8 from e.isLt)]
  unfold maskRow
  rw [if_pos (show (lane e).val < 8 from e.isLt)]

theorem maskExp_pad (j : Fin 128) (h : 8 ≤ j.val) : maskExp c g j = 0 := by
  unfold maskExp
  rw [if_neg (by omega)]

theorem sum_maskExp : ∑ j, maskExp c g j = ∑ e : Fin 8, Ideal.exp (g (lane e) - mx (maskRow c g)) := by
  rw [sum_lanes _ (maskExp_pad c g)]
  exact Finset.sum_congr rfl fun e _ => maskExp_lane c g e

/-- A row whose greatest value is real: the two agree, are not negative, and the masked lanes are zero. -/
theorem soft_good (μ : ℝ) (hμ : mx (fun e => g (lane e)) = μ) :
    (∀ e, 0 ≤ soft (fun e => g (lane e)) e) ∧ (∀ e, maskSoft c g (lane e) = soft (fun e => g (lane e)) e)
      ∧ ∀ j : Fin 128, 8 ≤ j.val → maskSoft c g j = 0 := by
  have ht : ∀ e, g (lane e) ≠ ⊤ := fun e h => by
    have h1 := le_mx (fun e => g (lane e)) e
    rw [hμ] at h1
    simp only [h, top_le_iff] at h1
    exact EReal.coe_ne_top _ h1
  obtain ⟨e0, he0⟩ := mx_mem fun e => g (lane e)
  have hw : 0 < ∑ e : Fin 8, wexp (g (lane e)) := by
    refine Finset.sum_pos' (fun e _ => wexp_nonneg _) ⟨e0, Finset.mem_univ _, ?_⟩
    have h0 : g (lane e0) = (μ : EReal) := he0.trans hμ
    rw [h0]
    unfold wexp
    rw [if_neg (EReal.coe_ne_bot _)]
    exact Real.exp_pos _
  have key : ∀ ν : ℝ, (∑ e : Fin 8, Ideal.exp (g (lane e) - (ν : EReal))) = ((∑ e : Fin 8, wexp (g (lane e))) * Real.exp (-ν) : ℝ) := fun ν => by
    rw [Finset.sum_congr rfl fun e _ => exp_sub_coe (ht e) ν, Finset.sum_mul]
    exact (map_sum (⟨⟨fun r : ℝ => (r : EReal), EReal.coe_zero⟩, EReal.coe_add⟩ : ℝ →+ EReal) _ _).symm
  have quot : ∀ (ν : ℝ) (e : Fin 8), Ideal.div (Ideal.exp (g (lane e) - (ν : EReal))) (∑ e : Fin 8, Ideal.exp (g (lane e) - (ν : EReal)))
      = ((wexp (g (lane e)) / ∑ e : Fin 8, wexp (g (lane e)) : ℝ) : EReal) := fun ν e => by
    rw [key, exp_sub_coe (ht e), div_coe _ _ (mul_pos hw (Real.exp_pos _)).ne', mul_div_mul_right _ _ (Real.exp_pos _).ne']
  have hM : mx (maskRow c g) = ((max μ c : ℝ) : EReal) := by
    rw [mx_mask, hμ]
    exact (EReal.coe_strictMono.monotone.map_max).symm
  have hs : ∀ e, soft (fun e => g (lane e)) e = ((wexp (g (lane e)) / ∑ e : Fin 8, wexp (g (lane e)) : ℝ) : EReal) := fun e => by
    unfold soft
    rw [hμ]
    exact quot μ e
  refine ⟨fun e => ?_, fun e => ?_, fun j hj => ?_⟩
  · rw [hs, ← EReal.coe_zero, EReal.coe_le_coe_iff]
    exact div_nonneg (wexp_nonneg _) hw.le
  · unfold maskSoft
    rw [hs, sum_maskExp, maskExp_lane, hM]
    exact quot _ e
  · unfold maskSoft
    rw [sum_maskExp, maskExp_pad c g j hj, hM, key]
    exact div_zero_coe _ (mul_pos hw (Real.exp_pos _)).ne'

/-- A row whose greatest value is infinite: every quotient is zero by zero. -/
theorem soft_bad (h : mx (fun e => g (lane e)) = ⊤ ∨ mx (fun e => g (lane e)) = ⊥) :
    (∀ e, soft (fun e => g (lane e)) e = ⊥) ∧ ∀ j, maskSoft c g j = ⊥ := by
  have h1 : ∀ e : Fin 8, Ideal.exp (g (lane e) - mx fun e => g (lane e)) = 0 := fun e => by
    rcases h with h | h
    · rw [h]; exact exp_sub_top _
    · have h2 := le_mx (fun e => g (lane e)) e
      rw [h] at h2
      rw [h, le_bot_iff.1 h2, EReal.bot_sub]
      rfl
  have h2 : ∀ e : Fin 8, Ideal.exp (g (lane e) - mx (maskRow c g)) = 0 := fun e => by
    rw [mx_mask]
    rcases h with h | h
    · rw [h, max_eq_left le_top]; exact exp_sub_top _
    · have h2 := le_mx (fun e => g (lane e)) e
      rw [h] at h2
      rw [h, max_eq_right bot_le, le_bot_iff.1 h2, EReal.bot_sub]
      rfl
  refine ⟨fun e => ?_, fun j => ?_⟩
  · unfold soft
    rw [Finset.sum_eq_zero fun e _ => h1 e, h1 e]
    exact div_zero_zero
  · unfold maskSoft
    rw [sum_maskExp, Finset.sum_eq_zero fun e _ => h2 e]
    have : maskExp c g j = 0 := by
      by_cases hj : j.val < 8
      · exact (maskExp_lane c g ⟨j.val, hj⟩).trans (h2 _)
      · exact maskExp_pad c g j (by omega)
    rw [this]
    exact div_zero_zero

end Row

/-! ## The loss -/

theorem sum_eq_bot {ι : Type} [Fintype ι] (f : ι → EReal) (i : ι) (h : f i = ⊥) : ∑ i, f i = ⊥ := by
  classical
  rw [← Finset.add_sum_erase _ _ (Finset.mem_univ i), h, EReal.bot_add]

theorem div_count (x : ℝ) : Ideal.div (Ideal.div (x : EReal) ((2048 : ℝ) : EReal)) ((2 : ℝ) : EReal) = Ideal.div (x : EReal) ((4096 : ℝ) : EReal) := by
  rw [div_coe _ _ (by norm_num), div_coe _ _ (by norm_num), div_coe _ _ (by norm_num), div_div]
  norm_num

section Loss

variable (P : Fin 2048 → Fin 8 → EReal) (Q : Fin 2048 → Fin 128 → EReal) (n : Fin 8 → ℝ) (n' : Fin 128 → ℝ)

/-- The loss over eight lanes, up to its factor. -/
def lossRef : EReal :=
  ∑ e : Fin 8, Ideal.div (Ideal.div (n e : EReal) ((2048 : ℝ) : EReal)) ((2 : ℝ) : EReal) * Ideal.div (∑ t, P t e) ((2048 : ℝ) : EReal)

/-- The loss over 128 lanes, up to its factor. -/
def lossKer : EReal :=
  ∑ j : Fin 128, Ideal.div (n' j : EReal) ((4096 : ℝ) : EReal) * Ideal.div (∑ t, Q t j) ((2048 : ℝ) : EReal)

theorem loss_good (h1 : ∀ t e, Q t (lane e) = P t e) (h2 : ∀ t (j : Fin 128), 8 ≤ j.val → Q t j = 0) (h3 : ∀ e, n' (lane e) = n e) :
    lossKer Q n' = lossRef P n := by
  unfold lossKer lossRef
  rw [sum_lanes _ fun j hj => by
    rw [Finset.sum_eq_zero fun t _ => h2 t j hj, div_zero_coe _ (by norm_num), mul_zero]]
  refine Finset.sum_congr rfl fun e _ => ?_
  rw [div_count, h3, Finset.sum_congr rfl fun t _ => h1 t e]

theorem term_bot (x y : ℝ) (hx : 0 < x) (hy : 0 < y) (s : EReal) (hs : s = ⊥) :
    Ideal.div (x : EReal) (y : EReal) * Ideal.div s ((2048 : ℝ) : EReal) = ⊥ := by
  rw [hs, div_bot_coe _ (by norm_num), div_coe _ _ hy.ne']
  exact EReal.coe_mul_bot_of_pos (div_pos hx hy)

theorem loss_bad (t0 : Fin 2048) (h1 : ∀ e, P t0 e = ⊥) (h2 : ∀ j, Q t0 j = ⊥) (h3 : ∃ e, 0 < n e) (h4 : ∃ j, 0 < n' j) :
    lossKer Q n' = lossRef P n := by
  obtain ⟨e, he⟩ := h3
  obtain ⟨j, hj⟩ := h4
  unfold lossKer lossRef
  rw [sum_eq_bot _ j (term_bot _ _ hj (by norm_num) _ (sum_eq_bot _ t0 (h2 j)))]
  refine (sum_eq_bot _ e ?_).symm
  rw [div_count]
  exact term_bot _ _ he (by norm_num) _ (sum_eq_bot _ t0 (h1 e))

end Loss

/-- How often position `j` occurs among the pairs. -/
def cnt {n : Nat} (a b : Fin 2048 → Fin n) (j : Fin n) : ℝ := ∑ t, ((if a t = j then (1 : ℝ) else 0) + if b t = j then (1 : ℝ) else 0)

theorem cnt_pos {n : Nat} (a b : Fin 2048 → Fin n) : ∃ j, 0 < cnt a b j := by
  refine ⟨a 0, ?_⟩
  have h0 : ∀ (p : Prop) [Decidable p], (0 : ℝ) ≤ if p then 1 else 0 := fun p _ => by split <;> norm_num
  refine Finset.sum_pos' (fun t _ => add_nonneg (h0 _) (h0 _)) ⟨0, Finset.mem_univ _, ?_⟩
  rw [if_pos rfl]
  exact add_pos_of_pos_of_nonneg one_pos (h0 _)

/-- The loss of the masked rows is the loss of the rows, whichever values the logits take. -/
theorem loss_eq (c : ℝ) (g : Fin 2048 → Fin 128 → EReal) (a b : Fin 2048 → Fin 8) (a' b' : Fin 2048 → Fin 128)
    (h : ∀ t, Top2 (soft fun e => g t (lane e)) (a t) (b t))
    (ha : ∀ t, First (maskSoft c (g t)) (a' t)) (hb : ∀ t, First (fun j => if j = a' t then -1 else maskSoft c (g t) j) (b' t)) :
    lossKer (fun t => maskSoft c (g t)) (cnt a' b') = lossRef (fun t => soft fun e => g t (lane e)) (cnt a b) := by
  by_cases hbad : ∃ t0, mx (fun e => g t0 (lane e)) = ⊤ ∨ mx (fun e => g t0 (lane e)) = ⊥
  · obtain ⟨t0, h0⟩ := hbad
    exact loss_bad _ _ _ _ t0 (soft_bad c (g t0) h0).1 (soft_bad c (g t0) h0).2 (cnt_pos a b) (cnt_pos a' b')
  · have hg : ∀ t, ∃ μ : ℝ, mx (fun e => g t (lane e)) = μ := fun t => by
      have ht : ¬(mx (fun e => g t (lane e)) = ⊤ ∨ mx (fun e => g t (lane e)) = ⊥) := fun h => hbad ⟨t, h⟩
      rw [not_or] at ht
      exact ⟨_, (EReal.coe_toReal ht.1 ht.2).symm⟩
    choose μ hμ using hg
    have hgood := fun t => soft_good c (g t) (μ t) (hμ t)
    refine loss_good _ _ _ _ (fun t => (hgood t).2.1) (fun t => (hgood t).2.2) fun e => ?_
    unfold cnt
    refine Finset.sum_congr rfl fun t _ => ?_
    obtain ⟨x, y, hxy, hx, hy⟩ := top2_masked _ _ (hgood t).1 (hgood t).2.1 (hgood t).2.2 (a' t) (b' t) (ha t) (hb t)
    obtain ⟨rfl, rfl⟩ := hxy.unique (h t)
    have hl : ∀ x : Fin 8, (lane x = lane e) = (x = e) := fun x => propext (Fin.castLE_inj)
    rw [hx, hy]
    simp only [hl]

end Cert.Proof.MoeR
-- ==== Proof.R.Ker.lean ====
/- What the router's kernel stores as its loss, entry by entry. -/
module

public import proofs.«01_k».proof.Proof.R.Soft
public import proofs.«01_k».proof.Proof.Gen.RouterIdeal.Value
public import Idealize.ShloMosaic.Lib.MatmulPlain
public import Idealize.ShloMosaic.Lib.SortNet.Extract
public import Idealize.ShloMosaic.Lib.ValueIdx

@[expose] public section

noncomputable section

namespace Cert.Proof.MoeR

open Cert.RouterIdeal Cert.RouterIdeal.Gen
open Idealize.ShloMosaic Idealize.ShloMosaic.TcCoe Idealize.SL.Sem
open Idealize.ShloMosaic.ValueIdx (ix1 ix2 ix3 eq_ix2)

/-! ## The least word of a set -/

theorem fold_minsi_spec {ι : Type} [DecidableEq ι] (f : ι → BitVec 32) (b : BitVec 32) (s : Finset ι) :
    (∀ i ∈ s, (s.fold IntOp.minsi b f).toInt ≤ (f i).toInt) ∧ (s.fold IntOp.minsi b f).toInt ≤ b.toInt
      ∧ (s.fold IntOp.minsi b f = b ∨ ∃ i ∈ s, s.fold IntOp.minsi b f = f i) := by
  induction s using Finset.induction with
  | empty => exact ⟨fun i hi => absurd hi (Finset.notMem_empty i), le_refl _, Or.inl rfl⟩
  | insert a s ha ih =>
    rw [Finset.fold_insert ha]
    obtain ⟨h1, h2, h3⟩ := ih
    refine ⟨fun i hi => ?_, ?_, ?_⟩
    · rw [SortNet.toInt_minsi]
      rcases Finset.mem_insert.1 hi with rfl | hi
      · exact min_le_left _ _
      · exact (min_le_right _ _).trans (h1 i hi)
    · rw [SortNet.toInt_minsi]
      exact (min_le_right _ _).trans h2
    · show (if (f a).slt _ then f a else _) = b ∨ ∃ i ∈ insert a s, (if (f a).slt _ then f a else _) = f i
      split
      · exact Or.inr ⟨a, Finset.mem_insert_self _ _, rfl⟩
      · rcases h3 with h3 | ⟨i, hi, h3⟩
        · exact Or.inl h3
        · exact Or.inr ⟨i, Finset.mem_insert_of_mem hi, h3⟩

theorem select_ofBool {α : Type} (p : Bool) (x y : α) : Scalar.select (BitVec.ofBool p) x y = if p = true then x else y := by
  cases p <;> rfl

theorem select_decide {α : Type} (p : Prop) [Decidable p] (x y : α) : Scalar.select (BitVec.ofBool (decide p)) x y = if p then x else y := by
  rw [select_ofBool]
  simp only [decide_eq_true_eq]

theorem toInt_lane (j : Fin 128) : (BitVec.ofNat 32 j.val).toInt = j.val := by
  revert j
  decide

/-- The least lane that holds the greatest value, as the least of the words that name such lanes. -/
theorem exists_first (q : Fin 128 → EReal) :
    ∃ a, First q a ∧ (Finset.univ : Finset (Fin 128)).fold IntOp.minsi 2147483647#32
      (fun j => Scalar.select (Ideal.cmp .oeq (q j) (mx q)) (BitVec.ofNat 32 j.val) 128#32) = BitVec.ofNat 32 a.val := by
  set f : Fin 128 → BitVec 32 := fun j => Scalar.select (Ideal.cmp .oeq (q j) (mx q)) (BitVec.ofNat 32 j.val) 128#32 with hf
  have f1 : ∀ j, q j = mx q → f j = BitVec.ofNat 32 j.val := fun j h => by
    rw [hf]
    show Scalar.select (BitVec.ofBool (decide (q j = mx q))) _ _ = _
    rw [select_decide, if_pos h]
  have f2 : ∀ j, q j ≠ mx q → f j = 128#32 := fun j h => by
    rw [hf]
    show Scalar.select (BitVec.ofBool (decide (q j = mx q))) _ _ = _
    rw [select_decide, if_neg h]
  obtain ⟨h1, h2, h3⟩ := fold_minsi_spec f 2147483647#32 Finset.univ
  obtain ⟨e, he⟩ := mx_mem q
  have hle : ((Finset.univ : Finset (Fin 128)).fold IntOp.minsi 2147483647#32 f).toInt ≤ 127 := by
    have h4 := h1 e (Finset.mem_univ _)
    rw [f1 e he, toInt_lane] at h4
    have := e.isLt
    omega
  have hb : (2147483647#32 : BitVec 32).toInt = 2147483647 := by decide
  have h128 : (128#32 : BitVec 32).toInt = 128 := by decide
  rcases h3 with h3 | ⟨a, -, h3⟩
  · rw [h3, hb] at hle
    omega
  · have hqa : q a = mx q := by
      by_contra hn
      rw [h3, f2 a hn, h128] at hle
      omega
    refine ⟨a, ⟨fun j => hqa ▸ le_mx q j, fun j hj => ?_⟩, h3.trans (f1 a hqa)⟩
    have h4 := h1 j (Finset.mem_univ _)
    rw [h3, f1 a hqa, f1 j (hj.trans hqa), toInt_lane, toInt_lane] at h4
    exact Fin.mk_le_mk.2 (by omega)

/-! ## Rows and columns -/

theorem max_row (x : FVec Ideal S2048x128 .f32) (t : Fin 2048) :
    multiReduction .maximumf [1] S2048 x 0xFF800000#32 reduces_S2048x128_S2048 (.inl rfl) rfl (ix1 t) = mx fun j => x (ix2 t j) := by
  refine (Ideal.multiReduction_maximumf_single x _ reduces_S2048x128_S2048 _ _ (ix1 t)).trans ?_
  show Finset.fold max (Ideal.ofBits .f32 0xFF800000#32) _ _ = _
  rw [lit_bot]
  exact congrArg (fun g => (Finset.univ : Finset (Fin 128)).fold max ⊥ g) (funext fun j => congrArg x (funext fun a => by fin_cases a <;> rfl))

theorem sum_row (x : FVec Ideal S2048x128 .f32) (t : Fin 2048) :
    multiReduction .add [1] S2048 x 0x00000000#32 reduces_S2048x128_S2048 (.inl rfl) rfl (ix1 t) = ∑ j : Fin 128, x (ix2 t j) := by
  refine (Ideal.multiReduction_add_single x _ reduces_S2048x128_S2048 _ _ (ix1 t)).trans ?_
  exact Finset.sum_congr rfl fun j _ => congrArg x (funext fun a => by fin_cases a <;> rfl)

theorem sum_col (x : FVec Ideal S2048x128 .f32) (j : Fin 128) :
    multiReduction .add [0] S128 x 0x00000000#32 reduces_S2048x128_S128 (.inl rfl) rfl (ix1 j) = ∑ t : Fin 2048, x (ix2 t j) := by
  refine (Ideal.multiReduction_add_single x _ reduces_S2048x128_S128 _ _ (ix1 j)).trans ?_
  exact Finset.sum_congr rfl fun t _ => congrArg x (funext fun a => by fin_cases a <;> rfl)

theorem sum_col2 (x : FVec Ideal S4096x128 .f32) (j : Fin 128) :
    multiReduction .add [0] S128 x 0x00000000#32 reduces_S4096x128_S128 (.inl rfl) rfl (ix1 j) = ∑ t : Fin 4096, x (ix2 t j) := by
  refine (Ideal.multiReduction_add_single x _ reduces_S4096x128_S128 _ _ (ix1 j)).trans ?_
  exact Finset.sum_congr rfl fun t _ => congrArg x (funext fun a => by fin_cases a <;> rfl)

theorem min_row (x : IVec S2048x128 32) (t : Fin 2048) :
    multiReductionI .minsi [1] S2048 x 2147483647#32 reduces_S2048x128_S2048 rfl (ix1 t)
      = (Finset.univ : Finset (Fin 128)).fold IntOp.minsi 2147483647#32 fun j => x (ix2 t j) := by
  refine ((multiReductionI_eq_fold .minsi x _ reduces_S2048x128_S2048 _ (ix1 t)).trans (reduces_S2048x128_S2048.fold_filter_drop_single _ _ x (ix1 t))).trans ?_
  exact congrArg (fun g => (Finset.univ : Finset (Fin 128)).fold IntOp.minsi 2147483647#32 g)
    (funext fun j => congrArg x (funext fun a => by fin_cases a <;> rfl))

theorem up_row {α : Type} (v : S2048.Idx → α) (t : Fin 2048) : shapeCast S2048x1 v shapeCasts_S2048_S2048x1 (ix2 t (0 : Fin 1)) = v (ix1 t) :=
  shapeCast_apply v _ _ _ (by rw [Shape.rowMajor_val_one, Shape.rowMajor_val_two]; show t.val = t.val * 1 + 0; omega)

theorem along_row {α : Type} (v : S2048x1.Idx → α) (t : Fin 2048) (j : Fin 128) :
    broadcastTo S2048x128 v broadcasts_S2048x1_S2048x128 (ix2 t j) = v (ix2 t (0 : Fin 1)) :=
  broadcastTo_apply _ _ _ _ fun a => by fin_cases a <;> rfl

theorem along_col {α : Type} (v : S1x128.Idx → α) (t : Fin 2048) (j : Fin 128) :
    broadcastTo S2048x128 v broadcasts_S1x128_S2048x128 (ix2 t j) = v (ix2 (0 : Fin 1) j) :=
  broadcastTo_apply _ _ _ _ fun a => by fin_cases a <;> rfl

theorem up_col {α : Type} (v : S128.Idx → α) (j : Fin 128) : shapeCast S1x128 v shapeCasts_S128_S1x128 (ix2 (0 : Fin 1) j) = v (ix1 j) :=
  shapeCast_apply v _ _ _ (by rw [Shape.rowMajor_val_one, Shape.rowMajor_val_two]; show j.val = 0 * 128 + j.val; omega)

theorem iota_lane (t : Fin 2048) (j : Fin 128) : iota .tc S2048x128 32 [1] iota_S2048x128_d1_w32 (ix2 t j) = BitVec.ofNat 32 j.val :=
  iota_single_apply _ _ _ _ _ _

theorem lane_lt (j : Fin 128) : IntOp.cmpi .slt (BitVec.ofNat 32 j.val) 8#32 = BitVec.ofBool (decide (j.val < 8)) := by
  revert j
  decide

/-! ## The probabilities -/

/-- The logits of the padded product. -/
def logitK (x0 : Vec Ideal S2048x768 .f32) (x1 : Vec Ideal S768x128 .f32) (x2 : Vec Ideal S1x128 .f32) (t : Fin 2048) (j : Fin 128) : EReal :=
  (∑ k : Fin 768, x0 (ix2 t k) * x1 (ix2 k j)) + x2 (ix2 (0 : Fin 1) j)

/-- What the padded lanes are filled with. -/
def low : EReal := Ideal.ofBits .f32 0xF149F2CA#32

variable (x0 : Vec Ideal S2048x768 .f32) (x1 : Vec Ideal S768x128 .f32) (x2 : Vec Ideal S1x128 .f32)

/-- The filled logits. -/
def filled : FVec Ideal S2048x128 .f32 :=
  select (cmpi .slt (iota .tc S2048x128 32 [1] iota_S2048x128_d1_w32) (broadcast S2048x128 8#32))
    (addf (matmul dot_S2048x768_S768x128_S2048x128_1_0_0_1_n_n none (shapeCast S2048x768 x0 shapeCasts_S2048x768_S2048x768 : FVec Ideal S2048x768 .f32)
        (shapeCast S768x128 x1 shapeCasts_S768x128_S768x128 : FVec Ideal S768x128 .f32) (constant S2048x128 .f32 0x00000000#32))
      (broadcastTo S2048x128 (shapeCast S1x128 x2 shapeCasts_S1x128_S1x128) broadcasts_S1x128_S2048x128))
    (broadcast S2048x128 (Scalar.ofBits .f32 0xF149F2CA#32))

theorem filled_apply (t : Fin 2048) (j : Fin 128) : filled x0 x1 x2 (ix2 t j) = maskRow low (logitK x0 x1 x2 t) j := by
  unfold filled maskRow
  rw [ValueIdx.select_apply]
  have h : cmpi .slt (iota .tc S2048x128 32 [1] iota_S2048x128_d1_w32) (broadcast S2048x128 8#32) (ix2 t j) = BitVec.ofBool (decide (j.val < 8)) := by
    show IntOp.cmpi .slt (iota .tc S2048x128 32 [1] iota_S2048x128_d1_w32 (ix2 t j)) 8#32 = _
    rw [iota_lane, lane_lt]
  rw [h, select_decide]
  split
  · unfold logitK
    rw [ValueIdx.addf_apply]
    refine congrArg₂ (fun a b : EReal => a + b) ((Ideal.matmul_plain_apply (M := 2048) (K := 768) (N := 128) none _ _ _ t j).trans ?_) ?_
    · rw [ValueIdx.constant_apply, show Ideal.ofBits .f32 0x00000000#32 = 0 from Ideal.ofBits_zero_f32, zero_add, shapeCast_self, shapeCast_self]
    · rw [along_col, shapeCast_self]
  · rfl

/-- The exponentials. -/
def exped : FVec Ideal S2048x128 .f32 :=
  select (cmpi .slt (iota .tc S2048x128 32 [1] iota_S2048x128_d1_w32) (broadcast S2048x128 8#32))
    (exp (subf (filled x0 x1 x2) (broadcastTo S2048x128 (shapeCast S2048x1
      (multiReduction .maximumf [1] S2048 (filled x0 x1 x2) 0xFF800000#32 reduces_S2048x128_S2048 (.inl rfl) rfl) shapeCasts_S2048_S2048x1)
      broadcasts_S2048x1_S2048x128)))
    (broadcast S2048x128 (Scalar.ofBits .f32 0x00000000#32))

theorem exped_apply (t : Fin 2048) (j : Fin 128) : exped x0 x1 x2 (ix2 t j) = maskExp low (logitK x0 x1 x2 t) j := by
  unfold exped maskExp
  rw [ValueIdx.select_apply]
  have h : cmpi .slt (iota .tc S2048x128 32 [1] iota_S2048x128_d1_w32) (broadcast S2048x128 8#32) (ix2 t j) = BitVec.ofBool (decide (j.val < 8)) := by
    show IntOp.cmpi .slt (iota .tc S2048x128 32 [1] iota_S2048x128_d1_w32 (ix2 t j)) 8#32 = _
    rw [iota_lane, lane_lt]
  rw [h, select_decide]
  refine congrArg₂ (fun a b : EReal => if j.val < 8 then a else b) ?_ Ideal.ofBits_zero_f32
  refine congrArg Ideal.exp (congrArg₂ (fun a b : EReal => a - b) (filled_apply x0 x1 x2 t j) ?_)
  rw [along_row, up_row, max_row]
  exact congrArg mx (funext fun j => filled_apply x0 x1 x2 t j)

theorem pay4_apply (t : Fin 2048) (j : Fin 128) : k0_pay4 x0 x1 x2 (ix2 t j) = maskSoft low (logitK x0 x1 x2 t) j := by
  have e : k0_pay4 x0 x1 x2 = divf (exped x0 x1 x2) (broadcastTo S2048x128 (shapeCast S2048x1
      (multiReduction .add [1] S2048 (exped x0 x1 x2) 0x00000000#32 reduces_S2048x128_S2048 (.inl rfl) rfl) shapeCasts_S2048_S2048x1)
      broadcasts_S2048x1_S2048x128) := rfl
  rw [e]
  unfold maskSoft
  refine congrArg₂ Ideal.div (exped_apply x0 x1 x2 t j) ?_
  rw [along_row, up_row, sum_row]
  exact Finset.sum_congr rfl fun j _ => exped_apply x0 x1 x2 t j

end Cert.Proof.MoeR
-- ==== Proof.R.KerLoss.lean ====
/- The two experts of a row and the loss, as the router's kernel computes them. -/
module

public import proofs.«01_k».proof.Proof.R.Ker
public import Idealize.ShloMosaic.Lib.Pipeline.ValueKit.Basic

@[expose] public section

noncomputable section

namespace Cert.Proof.MoeR

open Cert.RouterIdeal Cert.RouterIdeal.Gen
open Idealize.ShloMosaic Idealize.ShloMosaic.TcCoe Idealize.SL.Sem
open Idealize.ShloMosaic.ValueIdx (ix1 ix2 ix3 eq_ix2)

variable (x0 : Vec Ideal S2048x768 .f32) (x1 : Vec Ideal S768x128 .f32) (x2 : Vec Ideal S1x128 .f32)

/-- The padded probabilities of a row. -/
def probK (t : Fin 2048) : Fin 128 → EReal := maskSoft low (logitK x0 x1 x2 t)

/-- The first lane of the greatest probability. -/
def firstK (t : Fin 2048) : Fin 128 := (exists_first (probK x0 x1 x2 t)).choose

/-- The probabilities without it. -/
def restK (t : Fin 2048) (j : Fin 128) : EReal := if j = firstK x0 x1 x2 t then -1 else probK x0 x1 x2 t j

/-- The first lane of the greatest of those. -/
def secondK (t : Fin 2048) : Fin 128 := (exists_first (restK x0 x1 x2 t)).choose

theorem firstK_spec (t : Fin 2048) : First (probK x0 x1 x2 t) (firstK x0 x1 x2 t) := (exists_first (probK x0 x1 x2 t)).choose_spec.1

theorem secondK_spec (t : Fin 2048) : First (restK x0 x1 x2 t) (secondK x0 x1 x2 t) := (exists_first (restK x0 x1 x2 t)).choose_spec.1

theorem pay4_prob (t : Fin 2048) (j : Fin 128) : k0_pay4 x0 x1 x2 (ix2 t j) = probK x0 x1 x2 t j := pay4_apply x0 x1 x2 t j

theorem pay6_apply (t : Fin 2048) : k0_pay6 x0 x1 x2 (ix2 t (0 : Fin 1)) = BitVec.ofNat 32 (firstK x0 x1 x2 t).val := by
  refine Eq.trans ?_ (exists_first (probK x0 x1 x2 t)).choose_spec.2
  unfold k0_pay6
  refine (up_row _ t).trans ((min_row _ t).trans ?_)
  refine congrArg (fun g => (Finset.univ : Finset (Fin 128)).fold IntOp.minsi 2147483647#32 g) (funext fun j => ?_)
  rw [ValueIdx.select_apply, iota_lane]
  refine congrArg (fun b => Scalar.select b (BitVec.ofNat 32 j.val) 128#32) ?_
  refine congrArg₂ (Ideal.cmp .oeq) (pay4_prob x0 x1 x2 t j) ?_
  rw [along_row]
  unfold k0_pay5
  refine (up_row _ t).trans ((max_row _ t).trans ?_)
  exact congrArg mx (funext fun j => pay4_prob x0 x1 x2 t j)

theorem cmpi_lane (a j : Fin 128) : IntOp.cmpi .eq (BitVec.ofNat 32 j.val) (BitVec.ofNat 32 a.val) = BitVec.ofBool (decide (j = a)) := by
  refine congrArg BitVec.ofBool ?_
  show (BitVec.ofNat 32 j.val == BitVec.ofNat 32 a.val) = _
  by_cases h : j = a
  · subst h
    rw [decide_eq_true rfl, beq_self_eq_true]
  · rw [decide_eq_false h]
    refine beq_eq_false_iff_ne.2 fun e => h (Fin.ext ?_)
    have := congrArg BitVec.toInt e
    rw [toInt_lane, toInt_lane] at this
    omega

theorem pay7_apply (t : Fin 2048) (j : Fin 128) : k0_pay7 x0 x1 x2 (ix2 t j) = restK x0 x1 x2 t j := by
  unfold k0_pay7 restK
  refine (ValueIdx.select_apply _ _ _ _).trans ?_
  have h : cmpi .eq (iota .tc S2048x128 32 [1] iota_S2048x128_d1_w32) (broadcastTo S2048x128 (k0_pay6 x0 x1 x2) broadcasts_S2048x1_S2048x128) (ix2 t j)
      = BitVec.ofBool (decide (j = firstK x0 x1 x2 t)) := by
    show IntOp.cmpi .eq (iota .tc S2048x128 32 [1] iota_S2048x128_d1_w32 (ix2 t j)) (broadcastTo S2048x128 (k0_pay6 x0 x1 x2) broadcasts_S2048x1_S2048x128 (ix2 t j)) = _
    rw [iota_lane, along_row, pay6_apply, cmpi_lane]
  rw [h, select_decide]
  show (if j = firstK x0 x1 x2 t then Ideal.ofBits .f32 0xBF800000#32 else k0_pay4 x0 x1 x2 (ix2 t j)) = _
  rw [lit_neg1, pay4_prob]

theorem pay9_apply (t : Fin 2048) (j : Fin 128) :
    k0_pay9 x0 x1 x2 (ix2 t j) = Ideal.cmp .oeq (restK x0 x1 x2 t j) (mx (restK x0 x1 x2 t)) := by
  have e : k0_pay9 x0 x1 x2 (ix2 t j) = Ideal.cmp .oeq (k0_pay7 x0 x1 x2 (ix2 t j))
      (broadcastTo S2048x128 (k0_pay8 x0 x1 x2) broadcasts_S2048x1_S2048x128 (ix2 t j)) := by
    have g : ∀ p q : FVec Ideal S2048x128 .f32, cmpf .oeq p q (ix2 t j) = Ideal.cmp .oeq (p (ix2 t j)) (q (ix2 t j)) := fun _ _ => rfl
    unfold k0_pay9
    exact g _ _
  rw [e, pay7_apply]
  refine congrArg (Ideal.cmp .oeq _) ((along_row _ t j).trans ?_)
  unfold k0_pay8
  refine (up_row _ t).trans ((max_row _ t).trans ?_)
  exact congrArg mx (funext fun j => pay7_apply x0 x1 x2 t j)

/-- The words of the second lanes. -/
def word2 : IVec S2048x1 32 :=
  shapeCast S2048x1 (multiReductionI .minsi [1] S2048 (select (k0_pay9 x0 x1 x2) (iota .tc S2048x128 32 [1] iota_S2048x128_d1_w32) k0_pay10)
    2147483647#32 reduces_S2048x128_S2048 rfl) shapeCasts_S2048_S2048x1

theorem word2_apply (t : Fin 2048) : word2 x0 x1 x2 (ix2 t (0 : Fin 1)) = BitVec.ofNat 32 (secondK x0 x1 x2 t).val := by
  refine Eq.trans ?_ (exists_first (restK x0 x1 x2 t)).choose_spec.2
  unfold word2
  refine (up_row _ t).trans ((min_row _ t).trans ?_)
  refine congrArg (fun g => (Finset.univ : Finset (Fin 128)).fold IntOp.minsi 2147483647#32 g) (funext fun j => ?_)
  rw [ValueIdx.select_apply, iota_lane]
  exact congrArg (fun b => Scalar.select b (BitVec.ofNat 32 j.val) 128#32) (pay9_apply x0 x1 x2 t j)

/-- One where a lane is the row's, zero elsewhere. -/
def hot (w : IVec S2048x1 32) : FVec Ideal S2048x128 .f32 :=
  sitofp .f32 (extui 32 (cmpi .eq (iota .tc S2048x128 32 [1] iota_S2048x128_d1_w32) (broadcastTo S2048x128 w broadcasts_S2048x1_S2048x128)) natLt_1_32)

theorem hot_apply (w : IVec S2048x1 32) (t : Fin 2048) (j a : Fin 128) (h : w (ix2 t (0 : Fin 1)) = BitVec.ofNat 32 a.val) :
    hot w (ix2 t j) = ((if a = j then (1 : ℝ) else 0 : ℝ) : EReal) := by
  have e : hot w (ix2 t j) = ((((IntOp.cmpi .eq (iota .tc S2048x128 32 [1] iota_S2048x128_d1_w32 (ix2 t j))
      (broadcastTo S2048x128 w broadcasts_S2048x1_S2048x128 (ix2 t j))).setWidth 32).toInt : ℝ) : EReal) := rfl
  rw [e, iota_lane, along_row, h, cmpi_lane]
  by_cases hj : a = j
  · rw [if_pos hj, decide_eq_true hj.symm]
    have : ((BitVec.ofBool true).setWidth 32).toInt = 1 := by decide
    rw [this, Int.cast_one]
  · rw [if_neg hj, decide_eq_false fun h => hj h.symm]
    have : ((BitVec.ofBool false).setWidth 32).toInt = 0 := by decide
    rw [this, Int.cast_zero]

/-- The real numbers as extended ones, as a map of sums. -/
theorem coe_sum {ι : Type} (s : Finset ι) (f : ι → ℝ) : ((∑ i ∈ s, f i : ℝ) : EReal) = ∑ i ∈ s, (f i : EReal) :=
  map_sum (⟨⟨fun r : ℝ => (r : EReal), EReal.coe_zero⟩, EReal.coe_add⟩ : ℝ →+ EReal) _ _

theorem pay15_apply (j : Fin 128) :
    k0_pay15 (F := Ideal) (iota .tc S2048x128 32 [1] iota_S2048x128_d1_w32) (k0_pay6 x0 x1 x2) (k0_pay9 x0 x1 x2) k0_pay10 (ix2 (0 : Fin 1) j)
      = (cnt (firstK x0 x1 x2) (secondK x0 x1 x2) j : EReal) := by
  unfold k0_pay15
  refine (up_col _ j).trans ((sum_col2 _ j).trans ?_)
  have e : k0_pay14 (F := Ideal) (iota .tc S2048x128 32 [1] iota_S2048x128_d1_w32) (k0_pay6 x0 x1 x2) (k0_pay9 x0 x1 x2) k0_pay10
      = concatenate S4096x128 0 [⟨S2048x128, hot (k0_pay6 x0 x1 x2)⟩, ⟨S2048x128, hot (word2 x0 x1 x2)⟩] concatenates_S2048x128_S2048x128_S4096x128_d0 := rfl
  rw [e]
  have s1 : ∀ f : Fin 4096 → EReal, ∑ r, f r = ∑ t : Fin 2048, f (Fin.castAdd 2048 t) + ∑ t : Fin 2048, f (Fin.natAdd 2048 t) :=
    fun f => Fin.sum_univ_add (a := 2048) (b := 2048) f
  refine (s1 _).trans ?_
  unfold cnt
  rw [Finset.sum_add_distrib, EReal.coe_add, coe_sum, coe_sum]
  refine congrArg₂ (fun a b : EReal => a + b) (Finset.sum_congr rfl fun t _ => ?_) (Finset.sum_congr rfl fun t _ => ?_)
  · refine (concatenate_pair_apply_left (s₁ := S2048x128) (s₂ := S2048x128) (0 : Fin S4096x128.rank) _ _ _ (ix2 (Fin.castAdd 2048 t) j) rfl (ix2 t j) fun b => ?_).trans (hot_apply _ t j _ (pay6_apply x0 x1 x2 t))
    fin_cases b <;> rfl
  · refine (concatenate_pair_apply_right (s₁ := S2048x128) (s₂ := S2048x128) (0 : Fin S4096x128.rank) _ _ _ (ix2 (Fin.natAdd 2048 t) j) rfl rfl (ix2 t j) (fun b hb => ?_) ?_).trans (hot_apply _ t j _ (word2_apply x0 x1 x2 t))
    · fin_cases b
      · exact absurd rfl hb
      · rfl
    · show t.val + 2048 = 2048 + t.val
      omega

theorem pay16_apply (i : S1x1.Idx) :
    k0_pay16 (F := Ideal) (iota .tc S2048x128 32 [1] iota_S2048x128_d1_w32) (k0_pay4 x0 x1 x2) (k0_pay6 x0 x1 x2) (k0_pay9 x0 x1 x2) k0_pay10 i
      = Ideal.ofBits .f32 0x3DA3D70A#32 * lossKer (probK x0 x1 x2) (cnt (firstK x0 x1 x2) (secondK x0 x1 x2)) := by
  unfold k0_pay16
  refine congrArg (fun z : EReal => Ideal.ofBits .f32 0x3DA3D70A#32 * z) ?_
  refine (Ideal.multiReduction_add_total _ 0x00000000#32 reduces_S1x1x128_S1 (by decide) (.inl rfl) rfl _).trans ?_
  refine (Equiv.sum_comp (Shape.reshapeEquiv (s := S1x128) (s' := S1x1x128) shapeCasts_S1x128_S1x1x128) _).trans ?_
  rw [ValueIdx.sum_idx2, Fin.sum_univ_one]
  unfold lossKer
  refine Finset.sum_congr rfl fun j _ => ?_
  refine congrArg₂ (fun a b : EReal => a * b) (congrArg₂ Ideal.div (pay15_apply x0 x1 x2 j) lit_4096) (congrArg₂ Ideal.div ?_ lit_2048)
  refine (up_col _ j).trans ((sum_col _ j).trans ?_)
  exact Finset.sum_congr rfl fun t _ => pay4_prob x0 x1 x2 t j

/-- What the body leaves in the loss's buffer. -/
theorem out7_apply (i : S1x1.Idx) :
    out0_7 x0 x1 x2 i = Ideal.ofBits .f32 0x3DA3D70A#32 * lossKer (probK x0 x1 x2) (cnt (firstK x0 x1 x2) (secondK x0 x1 x2)) := by
  have l0 : View.ld x0 r0_0 = x0 := View.ld_unit_lit _ _ (by decide)
  have l1 : View.ld x1 r0_1 = x1 := View.ld_unit_lit _ _ (by decide)
  have l2 : View.ld x2 r0_2 = x2 := View.ld_unit_lit _ _ (by decide)
  have e : out0_7 x0 x1 x2 = k0_pay16 (F := Ideal) (iota .tc S2048x128 32 [1] iota_S2048x128_d1_w32) (k0_pay4 (View.ld x0 r0_0) (View.ld x1 r0_1) (View.ld x2 r0_2))
      (k0_pay6 (View.ld x0 r0_0) (View.ld x1 r0_1) (View.ld x2 r0_2)) (k0_pay9 (View.ld x0 r0_0) (View.ld x1 r0_1) (View.ld x2 r0_2)) k0_pay10 := by
    unfold_out out0_7
    exact View.canon_cons_unit_lit _ _ _ (by decide)
  rw [e, l0, l1, l2]
  exact pay16_apply x0 x1 x2 i

end Cert.Proof.MoeR
-- ==== Proof.R.KerRun.lean ====
/- The router's kernel run: its loss, from the launch's arrays. -/
module

public import proofs.«01_k».proof.Proof.R.KerLoss
public import Idealize.ShloMosaic.Lib.StableHlo.RunRead
public import Idealize.ShloMosaic.Lib.Routing.OpsSet
public import Idealize.ShloMosaic.Lib.Routing.OpsPair
public import Idealize.ShloMosaic.Lib.ValueLayout

@[expose] public section

noncomputable section

namespace Cert.Proof.MoeR

open Cert.RouterIdeal Cert.RouterIdeal.Gen
open Idealize.ShloMosaic Idealize.ShloMosaic.TcCoe Idealize.SL.Sem
open Idealize.ShloMosaic.ValueIdx (ix1 ix2 ix3 eq_ix2)

/-! ## The padded weights -/

theorem window1 (k : Fin 768) (e : Fin 8) : scatter_S768x128_S1_S768x8_01_n_1_0.window (ix2 k e) 0 = k.val
    ∧ scatter_S768x128_S1_S768x8_01_n_1_0.window (ix2 k e) 1 = e.val := ⟨rfl, rfl⟩

theorem start1 (j : S768x8.Idx) (a : Fin 2) : scatter_S768x128_S1_S768x8_01_n_1_0.start j (fun _ => 0#32) a = 0 := by
  unfold ScatterDims.start
  split <;> rfl

theorem pad_weights (z : S768x128.Idx → EReal) (u : S768x8.Idx → EReal) (k : Fin 768) (e : Fin 8) :
    Host.scatter scatter_S768x128_S1_S768x8_01_n_1_0 (fun _ b => b) z (fun _ => 0#32) u (ix2 k (lane e)) = u (ix2 k e) := by
  have h : ∀ (k' : Fin 768) (e' : Fin 8), scatter_S768x128_S1_S768x8_01_n_1_0.resultIdx? (ix2 k' e') (fun _ => 0#32) = some (ix2 k (lane e)) ↔ k' = k ∧ e' = e := by
    intro k' e'
    refine (Routing.resultIdx?_ix2 (R := 768) (C := 128) _ _ _ k (lane e)).trans ?_
    rw [start1, start1, (window1 k' e').1, (window1 k' e').2]
    refine and_congr ⟨fun h => Fin.ext ?_, fun h => ?_⟩ ⟨fun h => Fin.ext ?_, fun h => ?_⟩
    · omega
    · rw [h]; omega
    · have : ((lane e).val : Int) = e.val := rfl
      omega
    · have : ((lane e).val : Int) = e.val := rfl
      rw [h]; omega
  refine Routing.scatter_set_hit _ z _ u _ _ (fun j hj => ?_) (ix2 k e) ((h k e).2 ⟨rfl, rfl⟩)
  rw [eq_ix2 j] at hj ⊢
  obtain ⟨h1, h2⟩ := (h _ _).1 hj
  exact congrArg u (congrArg₂ ix2 h1 h2)

theorem window2 (e : Fin 8) : scatter_S1x128_S2_S8_0_0_01_0.window (ix1 e) 0 = 0 ∧ scatter_S1x128_S2_S8_0_0_01_0.window (ix1 e) 1 = e.val := ⟨rfl, rfl⟩

theorem start2 (j : S8.Idx) (a : Fin 2) (w : S2.Idx → BitVec 32) (hw : ∀ i, w i = 0#32) : scatter_S1x128_S2_S8_0_0_01_0.start j w a = 0 := by
  unfold ScatterDims.start
  split
  · rw [hw]; rfl
  · rfl

theorem pad_bias (z : S1x128.Idx → EReal) (w : S2.Idx → BitVec 32) (hw : ∀ i, w i = 0#32) (u : S8.Idx → EReal) (e : Fin 8) :
    Host.scatter scatter_S1x128_S2_S8_0_0_01_0 (fun _ b => b) z w u (ix2 (0 : Fin 1) (lane e)) = u (ix1 e) := by
  have h : ∀ e' : Fin 8, scatter_S1x128_S2_S8_0_0_01_0.resultIdx? (ix1 e') w = some (ix2 (0 : Fin 1) (lane e)) ↔ e' = e := by
    intro e'
    refine (Routing.resultIdx?_ix2 (R := 1) (C := 128) _ _ _ (0 : Fin 1) (lane e)).trans ?_
    rw [start2 _ _ w hw, start2 _ _ w hw, (window2 e').1, (window2 e').2]
    have : ((lane e).val : Int) = e.val := rfl
    refine ⟨fun h => Fin.ext ?_, fun h => ⟨rfl, ?_⟩⟩
    · have := h.2
      omega
    · rw [h]; omega
  refine Routing.scatter_set_hit _ z _ u _ _ (fun j hj => ?_) (ix1 e) ((h e).2 rfl)
  have hj' : j = ix1 (j 0) := by funext a; fin_cases a; rfl
  rw [hj'] at hj ⊢
  exact congrArg (fun a => u (ix1 a)) ((h _).1 hj)

/-! ## What the region reads -/

variable (m : (ℓ : Loc nD τ sig) → Buf (Elt Ideal) ℓ) (c : Dev nD)

theorem V_v0 : V m c main_v0 = (shapeCast S2048x768 (m ((c : Thread nD τ).loc main_arg0)) shapeCasts_S1x2048x768_S2048x768 : Vec Ideal S2048x768 .f32) := by
  after_reads_simp
  rfl

theorem V_v3 : ∃ z : Vec Ideal S768x128 .f32, V m c main_v3
    = (Host.scatter scatter_S768x128_S1_S768x8_01_n_1_0 (fun _ b => b) z (fun _ => 0#32) (m ((c : Thread nD τ).loc main_arg1)) : Vec Ideal S768x128 .f32) := by
  refine ⟨fun _ => Ideal.ofBits .f32 0x00000000#32, ?_⟩
  after_reads_simp
  rfl

theorem V_v8 : ∃ (z : Vec Ideal S1x128 .f32) (w : S2.Idx → BitVec 32), (∀ i, w i = 0#32) ∧ V m c main_v8
    = (Host.scatter scatter_S1x128_S2_S8_0_0_01_0 (fun _ b => b) z w (m ((c : Thread nD τ).loc main_arg2)) : Vec Ideal S1x128 .f32) := by
  refine ⟨fun _ => Ideal.ofBits .f32 0x00000000#32, concatenate S2 0 [⟨S1, fun _ => 0#32⟩, ⟨S1, fun _ => 0#32⟩] concatenates_S1_S1_S2_d0, fun i => ?_, ?_⟩
  · have hi : i = ix1 (i 0) := by funext a; fin_cases a; rfl
    rw [hi]
    generalize i 0 = q
    fin_cases q <;> rfl
  · after_reads_simp
    rfl

theorem iblk0 (t : Fin cfg0.N) (i : S2048x768.Idx) : (iblk m c 0 t : Vec Ideal S2048x768 .f32) i = (V m c main_v0 : Vec Ideal S2048x768 .f32) i := by
  unfold iblk
  rw [View.read_apply]
  refine (cast_eq _ _).trans ?_
  show V m c main_v0 _ = _
  refine congrArg (V m c main_v0) (funext fun a => Fin.ext ?_)
  exact (cfg0.win 0).rect_emb_val_of_index_zero t a rfl i

theorem iblk1 (t : Fin cfg0.N) (i : S768x128.Idx) : (iblk m c 1 t : Vec Ideal S768x128 .f32) i = (V m c main_v3 : Vec Ideal S768x128 .f32) i := by
  unfold iblk
  rw [View.read_apply]
  refine (cast_eq _ _).trans ?_
  show V m c main_v3 _ = _
  refine congrArg (V m c main_v3) (funext fun a => Fin.ext ?_)
  exact (cfg0.win 1).rect_emb_val_of_index_zero t a rfl i

theorem iblk2 (t : Fin cfg0.N) (i : S1x128.Idx) : (iblk m c 2 t : Vec Ideal S1x128 .f32) i = (V m c main_v8 : Vec Ideal S1x128 .f32) i := by
  unfold iblk
  rw [View.read_apply]
  refine (cast_eq _ _).trans ?_
  show V m c main_v8 _ = _
  refine congrArg (V m c main_v8) (funext fun a => Fin.ext ?_)
  exact (cfg0.win 2).rect_emb_val_of_index_zero t a rfl i

theorem lossArr (i : S1x1.Idx) : ((dats m 0 c).arrAt 7 cfg0.N : Vec Ideal S1x1 .f32) i
    = out0_7 (V m c main_v0 : Vec Ideal S2048x768 .f32) (V m c main_v3 : Vec Ideal S768x128 .f32) (V m c main_v8 : Vec Ideal S1x128 .f32) i := by
  have h0 : (iblk m c 0 (0 : Fin 1) : Vec Ideal S2048x768 .f32) = (V m c main_v0 : Vec Ideal S2048x768 .f32) := funext (iblk0 m c (0 : Fin 1))
  have h1 : (iblk m c 1 (0 : Fin 1) : Vec Ideal S768x128 .f32) = (V m c main_v3 : Vec Ideal S768x128 .f32) := funext (iblk1 m c (0 : Fin 1))
  have h2 : (iblk m c 2 (0 : Fin 1) : Vec Ideal S1x128 .f32) = (V m c main_v8 : Vec Ideal S1x128 .f32) := funext (iblk2 m c (0 : Fin 1))
  have key := (dats m 0 c).arrAt_emb_eq_flushed 7 (Cert.RouterIdeal.Value.disjoint7) (0 : Fin 1) (by decide) i
  have hemb : ((cfg0.win 7).blk (0 : Fin 1)).view.emb i = (i : S1x1.Idx) :=
    funext fun a => Fin.ext ((cfg0.win 7).rect_emb_val_of_index_zero (0 : Fin 1) a rfl i)
  refine Eq.trans (congrArg ((dats m 0 c).arrAt 7 cfg0.N) hemb.symm) (key.trans ?_)
  refine (cast_eq _ _).trans ?_
  refine (congrFun (Cert.RouterIdeal.Value.flushed7 m c (0 : Fin 1)) i).trans ?_
  show out0_7 (iblk m c 0 (0 : Fin 1)) (iblk m c 1 (0 : Fin 1)) (iblk m c 2 (0 : Fin 1)) i = _
  exact congrFun (congr (congr (congrArg out0_7 h0) h1) h2) i

/-- The router's logit of an expert, from the launch's arrays. -/
def logit (x : FVec Ideal S1x2048x768 .f32) (w : FVec Ideal S768x8 .f32) (b : FVec Ideal S8 .f32) (t : Fin 2048) (e : Fin 8) : EReal :=
  (∑ k : Fin 768, x (ix3 (0 : Fin 1) t k) * w (ix2 k e)) + b (ix1 e)

theorem logitK_lane (t : Fin 2048) (e : Fin 8) :
    logitK (V m c main_v0 : Vec Ideal S2048x768 .f32) (V m c main_v3 : Vec Ideal S768x128 .f32) (V m c main_v8 : Vec Ideal S1x128 .f32) t (lane e)
      = logit (m ((c : Thread nD τ).loc main_arg0)) (m ((c : Thread nD τ).loc main_arg1)) (m ((c : Thread nD τ).loc main_arg2)) t e := by
  obtain ⟨z, h3⟩ := V_v3 m c
  obtain ⟨z', w, hw, h8⟩ := V_v8 m c
  rw [V_v0, h3, h8]
  unfold logitK logit
  refine congrArg₂ (· + ·) (Finset.sum_congr rfl fun k _ => congrArg₂ (· * ·) ?_ ?_) ?_
  · exact ValueIdx.shapeCast_1ab_ab_apply _ _ t k
  · exact pad_weights z _ k e
  · exact pad_bias z' w hw _ e

end Cert.Proof.MoeR
-- ==== Proof.R.Ref.lean ====
/- The reference's balance loss, read from its operands. -/
module

public import proofs.«01_k».proof.Proof.R.KerRun
public import proofs.«01_k».proof.Proof.Gen.BalanceIdeal.Run
public import proofs.«01_k».proof.Proof.Gen.BalanceIdeal.Read
public import Idealize.ShloMosaic.Lib.Routing.OpsPair
public import Idealize.ShloMosaic.PureOps.Ideal.Laws

@[expose] public section

noncomputable section

namespace Cert.Proof.MoeR

open Cert.BalanceIdeal Cert.BalanceIdeal.Gen Cert.BalanceIdeal.Read
open Idealize.ShloMosaic Idealize.ShloMosaic.TcCoe Idealize.SL.Sem
open Idealize.ShloMosaic.ValueIdx (ix1 ix2 ix3 eq_ix2)

section topk

variable (x : S2048x8.Idx → EReal) (gt : EReal → EReal → BitVec 1)

theorem topk_idx (h : S2048x8.Slices (fun _ => 0) S2048x2) (t : Fin 2048) (q : Fin 2) :
    (Host.topK S2048x2 1 gt x h).2 (ix2 t q)
      = BitVec.ofNat 32 (sortedFrom (fun k k' => gt (x (ix2 t k)) (x (ix2 t k')) == 1#1) (q.castLE (by decide : 2 ≤ 8))).val := by
  have hal : ∀ (j : S2048x8.Idx) (k : Fin 8), j 0 = t → j.along 1 k = ix2 t k := fun j k hj => by
    funext a
    fin_cases a
    · exact hj
    · rfl
  have key : ∀ j : S2048x8.Idx, j 0 = t → j 1 = q.castLE (by decide : 2 ≤ 8) →
      (Host.sort2 S2048x8 1 (fun l r => gt l.1 r.1) x (iotaInDim S2048x8 32 1)).2 j
        = BitVec.ofNat 32 (sortedFrom (fun k k' => gt (x (ix2 t k)) (x (ix2 t k')) == 1#1) (q.castLE (by decide : 2 ≤ 8))).val := by
    intro j h0 h1
    have hs : (fun k k' : Fin 8 => gt (x (j.along 1 k)) (x (j.along 1 k')) == 1#1) = fun k k' : Fin 8 => gt (x (ix2 t k)) (x (ix2 t k')) == 1#1 := by
      funext k k'
      rw [hal j k h0, hal j k' h0]
    show BitVec.ofNat 32 (sortedFrom (fun k k' : Fin 8 => gt (x (j.along 1 k)) (x (j.along 1 k')) == 1#1) (j 1)).val = _
    rw [hs, h1]
  refine key _ (Fin.ext ?_) (Fin.ext ?_)
  · exact Nat.zero_add _
  · exact Nat.zero_add _

end topk

variable (x0 : FVec Ideal S1x2048x768 .f32) (x1 : FVec Ideal S768x8 .f32) (x2 : FVec Ideal S8 .f32)

theorem v4_apply (t : Fin 2048) (e : Fin 8) : val_main_v4 (F := Ideal) x0 x1 x2 (ix2 t e) = logit x0 x1 x2 t e := by
  rw [val_main_v4_apply, val_main_v1_apply, val_main_v3_apply, val_main_v2_apply]
  unfold logit
  refine congrArg₂ (· + ·) (Finset.sum_congr rfl fun k _ => congrArg₂ (· * ·) ?_ (congrArg x1 ?_)) (congrArg x2 ?_)
  · rw [val_main_v0_apply]
    refine congrArg x0 (funext fun a => Fin.ext ?_)
    have := k.isLt
    have := t.isLt
    match a with
    | ⟨0, _⟩ => rfl
    | ⟨1, _⟩ => show (t.val * 768 + k.val) / 768 % 2048 = t.val; omega
    | ⟨2, _⟩ => show (t.val * 768 + k.val) % 768 = k.val; omega
  · funext a
    fin_cases a <;> rfl
  · funext a
    fin_cases a
    rfl

theorem v5_apply (t : Fin 2048) : val_main_v5 (F := Ideal) x0 x1 x2 (ix1 t) = mx (logit x0 x1 x2 t) := by
  unfold val_main_v5
  refine (Host.reduce_eq_fold_single (FloatOps.maximumf (F := Ideal) (φ := .f32)) _ _ reducesTo_S2048x8_S2048_d1 (by decide) h_S_ (ix1 t)).trans ?_
  have hb : val_main_cst (F := Ideal) (Shape.Idx.first h_S_) = (⊥ : EReal) := lit_bot
  rw [hb]
  refine Eq.trans ?_ (fold_max_eq_mx (logit x0 x1 x2 t))
  refine Finset.fold_congr fun k _ => ?_
  refine Eq.trans ?_ (v4_apply x0 x1 x2 t k)
  refine congrArg (val_main_v4 (F := Ideal) x0 x1 x2) (funext fun a => Fin.ext ?_)
  match a with
  | ⟨0, _⟩ => rfl
  | ⟨1, _⟩ => rfl

theorem v11_apply (t : Fin 2048) (e : Fin 8) :
    val_main_v11 (F := Ideal) x0 x1 x2 (ix2 t e) = Ideal.exp (logit x0 x1 x2 t e - mx (logit x0 x1 x2 t)) := by
  rw [val_main_v11_apply, val_main_v10_apply, v4_apply, val_main_v9_apply, val_main_v8_apply, val_main_v7_apply, val_main_v6_apply]
  have h1 : idx_main_v8 (idx_main_v9 (ix2 t e)) = ix1 t := by funext a; fin_cases a; rfl
  rw [h1, v5_apply]
  have hb : val_main_cst_0 (F := Ideal) (idx_main_v6 (ix1 t)) = (⊥ : EReal) := lit_bot
  rw [hb]
  show Ideal.exp (logit x0 x1 x2 t e - max ⊥ (mx (logit x0 x1 x2 t))) = _
  rw [max_eq_right bot_le]

theorem v15_apply (t : Fin 2048) (e : Fin 8) : val_main_v15 (F := Ideal) x0 x1 x2 (ix2 t e) = soft (logit x0 x1 x2 t) e := by
  rw [val_main_v15_apply, v11_apply, val_main_v14_apply, val_main_v13_apply]
  have h1 : idx_main_v13 (idx_main_v14 (ix2 t e)) = ix1 t := by funext a; fin_cases a; rfl
  rw [h1, val_main_v12_apply]
  have hz : val_main_cst_1 (F := Ideal) (Shape.Idx.first h_S_) = (0 : EReal) := Ideal.ofBits_zero_f32
  rw [hz, zero_add]
  unfold soft
  refine congrArg (Ideal.div _) (Finset.sum_congr rfl fun k _ => ?_)
  refine Eq.trans (congrArg (val_main_v11 (F := Ideal) x0 x1 x2) ?_) (v11_apply x0 x1 x2 t k)
  funext a
  fin_cases a <;> rfl

/-- The order in which the reference's selection takes a token's experts. -/
def before (t : Fin 2048) (k k' : Fin 8) : Bool :=
  FloatOps.cmpfTotal (F := Ideal) (φ := .f32) .gt (val_main_v15 (F := Ideal) x0 x1 x2 (ix2 t k)) (val_main_v15 (F := Ideal) x0 x1 x2 (ix2 t k')) == 1#1

theorem before_iff (t : Fin 2048) (k k' : Fin 8) :
    before x0 x1 x2 t k k' = true ↔ soft (logit x0 x1 x2 t) k' < soft (logit x0 x1 x2 t) k := by
  unfold before
  rw [v15_apply, v15_apply]
  generalize soft (logit x0 x1 x2 t) k' = p
  generalize soft (logit x0 x1 x2 t) k = q
  show (BitVec.ofBool (decide (p < q)) == 1#1) = true ↔ p < q
  by_cases h : p < q <;> simp [h]

/-- The two experts of a token. -/
def pick (q : Fin 2) (t : Fin 2048) : Fin 8 := sortedFrom (before x0 x1 x2 t) (q.castLE (by decide : 2 ≤ 8))

theorem pick_top2 (t : Fin 2048) : Top2 (soft (logit x0 x1 x2 t)) (pick x0 x1 x2 0 t) (pick x0 x1 x2 1 t) :=
  top2_sorted _ _ (before_iff x0 x1 x2 t)

theorem indices_apply (t : Fin 2048) (q : Fin 2) : val_main_indices (F := Ideal) x0 x1 x2 (ix2 t q) = BitVec.ofNat 32 (pick x0 x1 x2 q t).val :=
  topk_idx _ _ _ t q

theorem toInt_small (n : Nat) (h : n < 2048) : (BitVec.ofNat 32 n).toInt = n := by
  rw [BitVec.toInt_eq_toNat_of_lt] <;> rw [BitVec.toNat_ofNat] <;> omega

theorem row_word (t : Fin 2048) (q : Fin 2) : (val_main_v33 (F := Ideal) x0 x1 x2 (ix3 t q (0 : Fin 2))).toInt = t.val := by
  have h : val_main_v33 (F := Ideal) x0 x1 x2 (ix3 t q (0 : Fin 2)) = BitVec.ofNat 32 t.val := by
    unfold val_main_v33
    refine (concatenate_pair_apply_left (s₁ := S2048x2x1) (s₂ := S2048x2x1) 2 _ _ _ (ix3 t q (0 : Fin 2)) rfl (ix3 t q (0 : Fin 1)) (fun b => ?_)).trans ?_
    · match b with
      | ⟨0, _⟩ => rfl
      | ⟨1, _⟩ => rfl
      | ⟨2, _⟩ => rfl
    · rw [val_main_v31_apply, val_main_v30_apply, val_main_v24_apply, val_main_v21_apply, val_main_v20_apply]
      have hw : val_main_v17 (F := Ideal) (idx_main_v30 (idx_main_v31 (ix3 t q (0 : Fin 1)))) = BitVec.ofNat 32 t.val := by
        rw [val_main_v17_apply]
        rfl
      rw [hw]
      refine Routing.wrap_of_lt _ _ ?_
      have := t.isLt
      rw [BitVec.toNat_ofNat]
      omega
  rw [h]
  exact toInt_small _ t.isLt

theorem expert_word (t : Fin 2048) (q : Fin 2) : (val_main_v33 (F := Ideal) x0 x1 x2 (ix3 t q (1 : Fin 2))).toInt = (pick x0 x1 x2 q t).val := by
  have hlt := (pick x0 x1 x2 q t).isLt
  have h : val_main_v33 (F := Ideal) x0 x1 x2 (ix3 t q (1 : Fin 2)) = BitVec.ofNat 32 (pick x0 x1 x2 q t).val := by
    unfold val_main_v33
    refine (concatenate_pair_apply_right (s₁ := S2048x2x1) (s₂ := S2048x2x1) 2 _ _ _ (ix3 t q (1 : Fin 2)) rfl rfl (ix3 t q (0 : Fin 1)) (fun b hb => ?_) rfl).trans ?_
    · match b with
      | ⟨0, _⟩ => rfl
      | ⟨1, _⟩ => rfl
      | ⟨2, _⟩ => exact absurd rfl hb
    · rw [val_main_v32_apply, val_main_v29_apply, val_main_v26_apply, val_main_v25_apply]
      have hi : idx_main_v32 (ix3 t q (0 : Fin 1)) = ix2 t q := by funext a; fin_cases a <;> rfl
      rw [hi, indices_apply]
      refine Routing.wrap_of_lt _ _ ?_
      rw [BitVec.toNat_ofNat]
      omega
  rw [h]
  exact toInt_small _ (by omega)

/-- How often a token picks an expert. -/
theorem v34_apply (t : Fin 2048) (e : Fin 8) : val_main_v34 (F := Ideal) x0 x1 x2 (ix2 t e)
    = ((((if pick x0 x1 x2 0 t = e then 1 else 0) + if pick x0 x1 x2 1 t = e then 1 else 0 : ℝ)) : EReal) := by
  unfold val_main_v34
  have h18 : val_main_v18 (F := Ideal) (ix2 t e) = (0 : EReal) := by
    rw [val_main_v18_apply]
    exact Ideal.ofBits_zero_f32
  have h19 : ∀ j, val_main_v19 (F := Ideal) j = (1 : EReal) := fun j => by
    rw [val_main_v19_apply]
    exact lit_1
  show val_main_v18 (F := Ideal) (ix2 t e) + ∑ j ∈ Finset.univ.filter (fun j => scatter_S2048x8_S2048x2x2_S2048x2_n_01_01_2.resultIdx? j (val_main_v33 (F := Ideal) x0 x1 x2) = some (ix2 t e)),
    val_main_v19 (F := Ideal) j = _
  rw [h18, zero_add, Finset.sum_filter]
  simp only [h19]
  have hl : ∀ (t' : Fin 2048) (q : Fin 2), scatter_S2048x8_S2048x2x2_S2048x2_n_01_01_2.resultIdx? (ix2 t' q) (val_main_v33 (F := Ideal) x0 x1 x2) = some (ix2 t e)
      ↔ t' = t ∧ pick x0 x1 x2 q t' = e := by
    intro t' q
    refine (Routing.scatter_lands2 _ rfl rfl rfl _ t' q t e).trans ?_
    have h0 := row_word x0 x1 x2 t' q
    have h1 := expert_word x0 x1 x2 t' q
    refine and_congr ?_ ?_
    · refine (Eq.congr_left h0).trans ?_
      rw [Nat.cast_inj, Fin.val_inj]
    · refine (Eq.congr_left h1).trans ?_
      rw [Nat.cast_inj, Fin.val_inj]
  rw [ValueIdx.sum_idx2]
  simp only [hl]
  rw [Finset.sum_eq_single t]
  · rw [Fin.sum_univ_two]
    by_cases h0 : pick x0 x1 x2 0 t = e <;> by_cases h1 : pick x0 x1 x2 1 t = e <;> simp [h0, h1]
  · intro t' _ hne
    refine Finset.sum_eq_zero fun q _ => if_neg fun h => hne h.1
  · exact fun h => absurd (Finset.mem_univ t) h

theorem v39_apply (e : Fin 8) : val_main_v39 (F := Ideal) x0 x1 x2 (ix1 e)
    = Ideal.div (Ideal.div ((cnt (pick x0 x1 x2 0) (pick x0 x1 x2 1) e : ℝ) : EReal) ((2048 : ℝ) : EReal)) ((2 : ℝ) : EReal) := by
  rw [val_main_v39_apply, val_main_v37_apply, val_main_v35_apply, val_main_v36_apply, val_main_v38_apply]
  have hz : val_main_cst_7 (F := Ideal) (Shape.Idx.first h_S_) = (0 : EReal) := Ideal.ofBits_zero_f32
  have ha : val_main_cst_8 (F := Ideal) (idx_main_v36 (ix1 e)) = ((2048 : ℝ) : EReal) := lit_2048
  have hb : val_main_cst_9 (F := Ideal) (idx_main_v38 (ix1 e)) = ((2 : ℝ) : EReal) := lit_2
  have hs : ∑ k : Fin 2048, val_main_v34 (F := Ideal) x0 x1 x2 (idx_main_v35 (ix1 e) k) = ((cnt (pick x0 x1 x2 0) (pick x0 x1 x2 1) e : ℝ) : EReal) := by
    unfold cnt
    rw [coe_sum]
    refine Finset.sum_congr rfl fun t _ => ?_
    refine Eq.trans (congrArg (val_main_v34 (F := Ideal) x0 x1 x2) ?_) (v34_apply x0 x1 x2 t e)
    funext a
    fin_cases a <;> rfl
  rw [hz, ha, hb, zero_add, hs]
  rfl

theorem v42_apply (e : Fin 8) : val_main_v42 (F := Ideal) x0 x1 x2 (ix1 e)
    = Ideal.div (∑ t, soft (logit x0 x1 x2 t) e) ((2048 : ℝ) : EReal) := by
  rw [val_main_v42_apply, val_main_v40_apply, val_main_v41_apply]
  have hz : val_main_cst_10 (F := Ideal) (Shape.Idx.first h_S_) = (0 : EReal) := Ideal.ofBits_zero_f32
  have ha : val_main_cst_11 (F := Ideal) (idx_main_v41 (ix1 e)) = ((2048 : ℝ) : EReal) := lit_2048
  have hs : ∑ k : Fin 2048, val_main_v15 (F := Ideal) x0 x1 x2 (idx_main_v40 (ix1 e) k) = ∑ t, soft (logit x0 x1 x2 t) e := by
    refine Finset.sum_congr rfl fun t _ => ?_
    refine Eq.trans (congrArg (val_main_v15 (F := Ideal) x0 x1 x2) ?_) (v15_apply x0 x1 x2 t e)
    funext a
    fin_cases a <;> rfl
  rw [hz, ha, zero_add, hs]
  rfl

/-- The reference's loss. -/
theorem v46_apply (i : S1x1.Idx) : val_main_v46 (F := Ideal) x0 x1 x2 i
    = Ideal.ofBits .f32 0x3DA3D70A#32 * lossRef (fun t => soft (logit x0 x1 x2 t)) (cnt (pick x0 x1 x2 0) (pick x0 x1 x2 1)) := by
  unfold val_main_v46 shapeCast
  rw [val_main_v45_apply, val_main_v44_apply]
  have hz : val_main_cst_12 (F := Ideal) (Shape.Idx.first h_S_) = (0 : EReal) := Ideal.ofBits_zero_f32
  rw [hz, zero_add]
  refine congrArg (Ideal.ofBits .f32 0x3DA3D70A#32 * ·) ?_
  unfold lossRef
  let E : Fin 8 ≃ S8.Idx := ⟨fun e => ix1 e, fun i => i 0, fun _ => rfl, fun i => by funext a; fin_cases a; rfl⟩
  rw [← Equiv.sum_comp E]
  refine Finset.sum_congr rfl fun e _ => ?_
  show val_main_v43 (F := Ideal) x0 x1 x2 (ix1 e) = _
  rw [val_main_v43_apply, v39_apply, v42_apply]
  rfl

end Cert.Proof.MoeR
-- ==== Proof.R.Loss.lean ====
/- The router's loss equals the reference's. -/
module

public import proofs.«01_k».proof.Defs
public import proofs.«01_k».proof.Proof.R.Ref
public import proofs.«01_k».proof.Proof.Gen.Router.Frame
public import Idealize.ShloMosaic.Lib.Quiescent

@[expose] public section

noncomputable section

namespace Cert.Proof

open Idealize.ShloMosaic Idealize.ShloMosaic.TcCoe Idealize.SL.Sem Cert.Proof.MoeR

theorem frame_router : Cert.quiescent_Router := fun m ρ _ => Cert.Router.Gen.frame m ρ

theorem frame_routerIdeal : Cert.quiescent_RouterIdeal := fun m ρ _ => Cert.RouterIdeal.Gen.frame m ρ

theorem frame_balance : Cert.quiescent_BalanceIdeal := by
  intro m ρ _
  exact (θ_run Cert.BalanceIdeal.defs _ _).mono (fun r hr => ⟨fun c => (hr c).2, sem_eq_zero_of_no_sems rfl _⟩) (Cert.BalanceIdeal.Value.run (F := Ideal) m ρ)

section value

open Cert.RouterIdeal Cert.RouterIdeal.Gen

variable (m : (ℓ : Loc nD τ sig) → Buf (Elt Ideal) ℓ) (c : Dev nD)

/-- The kernel's loss is the reference's loss of the same three arrays. -/
theorem loss_value (i : S1x1.Idx) : ((dats m 0 c).arrAt 7 cfg0.N : Vec Ideal S1x1 .f32) i
    = Cert.BalanceIdeal.Read.val_main_v46 (F := Ideal) (m ((c : Thread nD τ).loc main_arg0)) (m ((c : Thread nD τ).loc main_arg1)) (m ((c : Thread nD τ).loc main_arg2)) i := by
  rw [lossArr, out7_apply, v46_apply]
  refine congrArg (Ideal.ofBits .f32 0x3DA3D70A#32 * ·) ?_
  obtain ⟨r, hr⟩ := lit_low
  have hl := logitK_lane m c
  have key := loss_eq r (logitK (V m c main_v0 : Vec Ideal S2048x768 .f32) (V m c main_v3 : Vec Ideal S768x128 .f32) (V m c main_v8 : Vec Ideal S1x128 .f32))
    (pick (m ((c : Thread nD τ).loc main_arg0)) (m ((c : Thread nD τ).loc main_arg1)) (m ((c : Thread nD τ).loc main_arg2)) 0)
    (pick (m ((c : Thread nD τ).loc main_arg0)) (m ((c : Thread nD τ).loc main_arg1)) (m ((c : Thread nD τ).loc main_arg2)) 1)
    (firstK (V m c main_v0 : Vec Ideal S2048x768 .f32) (V m c main_v3 : Vec Ideal S768x128 .f32) (V m c main_v8 : Vec Ideal S1x128 .f32))
    (secondK (V m c main_v0 : Vec Ideal S2048x768 .f32) (V m c main_v3 : Vec Ideal S768x128 .f32) (V m c main_v8 : Vec Ideal S1x128 .f32))
  simp only [hl] at key
  have hp : ∀ t, probK (V m c main_v0 : Vec Ideal S2048x768 .f32) (V m c main_v3 : Vec Ideal S768x128 .f32) (V m c main_v8 : Vec Ideal S1x128 .f32) t
      = maskSoft (r : EReal) (logitK (V m c main_v0 : Vec Ideal S2048x768 .f32) (V m c main_v3 : Vec Ideal S768x128 .f32) (V m c main_v8 : Vec Ideal S1x128 .f32) t) := fun t => by
    unfold probK low
    rw [hr]
  have hq := funext hp
  refine Eq.trans (congrArg (fun Q => lossKer Q _) hq) (key (fun t => pick_top2 _ _ _ t) (fun t => ?_) (fun t => ?_))
  · rw [← hp]
    exact firstK_spec _ _ _ t
  · rw [← hp]
    exact secondK_spec _ _ _ t

end value

open Cert.RouterIdeal Cert.RouterIdeal.Gen in
theorem algebraic_loss : Cert.algebraic_RouterIdeal_BalanceIdeal := by
  intro m ρ m' ρ' _ heq
  refine ⟨fun c => (dats m 0 c).arrAt 7 cfg0.N, ?_, ?_⟩
  · exact (θ_run Cert.RouterIdeal.defs _ _).mono (fun r h c => (h c).2.2.2.2) (Cert.RouterIdeal.Value.run_blocks (F := Ideal) m ρ)
  · refine (θ_run Cert.BalanceIdeal.defs _ _).mono (fun r h c => ⟨(h c).1.trans ?_, (h c).2⟩) (Cert.BalanceIdeal.Value.run (F := Ideal) m' ρ')
    rw [Cert.BalanceIdeal.Read.val_main_v46_eq, (heq c).1, (heq c).2.1, (heq c).2.2]
    exact (funext (loss_value m c)).symm

end Cert.Proof

end
-- ==== Proof.S.Chunks.lean ====
/- The router's ranks and slots, chunk by chunk. -/
module

public import proofs.«01_k».proof.Proof.R.KerLoss

@[expose] public section

noncomputable section

namespace Cert.Proof.MoeS

open Cert.RouterIdeal Cert.RouterIdeal.Gen
open Idealize.ShloMosaic Idealize.ShloMosaic.TcCoe Idealize.SL.Sem
open Idealize.ShloMosaic.ValueIdx (ix1 ix2 ix3 eq_ix2)

theorem slice_rows (c : Fin 32) : S4096x128.Slices ![128 * c.val, 0] S128x128 := by
  revert c
  decide

theorem slice_base (c : Fin 32) : S32x128.Slices ![c.val, 0] S1x128 := by
  revert c
  decide

/-- The one-hot rows of a chunk of 128 choices. -/
def chunk (P : FVec Ideal S4096x128 .f32) (c : Fin 32) : FVec Ideal S128x128 .f32 := extractStridedSlice S128x128 ![128 * c.val, 0] P (slice_rows c)

/-- How many choices of a chunk fall on each lane. -/
def total (P : FVec Ideal S4096x128 .f32) (c : Fin 32) : FVec Ideal S1x128 .f32 :=
  shapeCast S1x128 (multiReduction .add [0] S128 (chunk P c) 0x00000000#32 reduces_S128x128_S128 (.inl rfl) rfl) shapeCasts_S128_S1x128

theorem cat_totals : Shape.Concatenates (List.replicate 32 S1x128) S32x128 0 := by decide

theorem cat_ranks : Shape.Concatenates (List.replicate 32 S128x1) S4096x1 0 := by decide

/-- The totals of every chunk. -/
def totals (P : FVec Ideal S4096x128 .f32) : FVec Ideal S32x128 .f32 :=
  concatenate S32x128 0 (List.ofFn fun c : Fin 32 => (⟨S1x128, total P c⟩ : (s : Shape) × (s.Idx → Ideal .f32))) cat_totals

/-- How many choices of the chunks before fall on each lane. -/
def base (P : FVec Ideal S4096x128 .f32) : FVec Ideal S32x128 .f32 :=
  matmul dot_S32x32_S32x128_S32x128_1_0_0_1_n_n none (k0_pay18 (F := Ideal)) (totals P) (constant S32x128 .f32 0x00000000#32)

/-- The ranks of a chunk's choices. -/
def rankC (P : FVec Ideal S4096x128 .f32) (c : Fin 32) : FVec Ideal S128x1 .f32 :=
  shapeCast S128x1 (multiReduction .add [1] S128
    (mulf (chunk P c) (addf (matmul dot_S128x128_S128x128_S128x128_1_0_0_1_n_n none (k0_pay17 (F := Ideal)) (chunk P c) (constant S128x128 .f32 0x00000000#32))
      (broadcastTo S128x128 (extractStridedSlice S1x128 ![c.val, 0] (base P) (slice_base c)) broadcasts_S1x128_S128x128)))
    0x00000000#32 reduces_S128x128_S128_2 (.inl rfl) rfl) shapeCasts_S128_S128x1

/-- The ranks of every choice. -/
def ranks (P : FVec Ideal S4096x128 .f32) : FVec Ideal S4096x1 .f32 :=
  concatenate S4096x1 0 (List.ofFn fun c : Fin 32 => (⟨S128x1, rankC P c⟩ : (s : Shape) × (s.Idx → Ideal .f32))) cat_ranks

variable (x0 : Vec Ideal S2048x768 .f32) (x1 : Vec Ideal S768x128 .f32) (x2 : Vec Ideal S1x128 .f32)

theorem pay338_eq : k0_pay338 x0 x1 x2 = base (k0_pay303 x0 x1 x2) := rfl

theorem pay341_eq : k0_pay341 x0 x1 x2 = ranks (k0_pay303 x0 x1 x2) := rfl

end Cert.Proof.MoeS

end
-- ==== Proof.S.Count.lean ====
/- Counting choices: natural numbers, the real numbers and words that hold them. -/
module

public import proofs.«01_k».proof.Proof.R.KerLoss
public import Idealize.ShloMosaic.Lib.Routing.Words
public import Idealize.ShloMosaic.Lib.Routing.Ops
public import Idealize.ShloMosaic.Lib.Routing.OpsPair

@[expose] public section

noncomputable section

namespace Cert.Proof.MoeS

open Idealize.ShloMosaic Idealize.ShloMosaic.TcCoe Idealize.SL.Sem
open Idealize.ShloMosaic.ValueIdx (ix1 ix2 ix3 eq_ix2)

/-! ## Natural numbers as extended reals -/

/-- A natural number as an extended real. -/
def nr (n : ℕ) : EReal := ((n : ℝ) : EReal)

theorem nr_zero : nr 0 = 0 := by unfold nr; simp

theorem nr_add (a b : ℕ) : nr a + nr b = nr (a + b) := by unfold nr; rw [← EReal.coe_add, Nat.cast_add]

theorem nr_mul (a b : ℕ) : nr a * nr b = nr (a * b) := by unfold nr; rw [← EReal.coe_mul, Nat.cast_mul]

theorem nr_sum {ι : Type} (s : Finset ι) (f : ι → ℕ) : ∑ i ∈ s, nr (f i) = nr (∑ i ∈ s, f i) := by
  unfold nr
  rw [← MoeR.coe_sum, Nat.cast_sum]

theorem nr_le (a b : ℕ) : nr a ≤ nr b ↔ a ≤ b := by
  unfold nr
  rw [EReal.coe_le_coe_iff, Nat.cast_le]

theorem fptosi_nr (n : ℕ) (h : n < 2 ^ 31) : Ideal.fptosi 32 (nr n) = BitVec.ofNat 32 n := by
  have e : ∀ lo hi : ℤ, lo ≤ n → (n : ℤ) ≤ hi → Ideal.toIntClamped lo hi (nr n) = (n : ℤ) := fun lo hi h1 h2 => by
    show max lo (min hi (if (0 : ℝ) ≤ (n : ℝ) then ⌊(n : ℝ)⌋ else ⌈(n : ℝ)⌉)) = n
    rw [if_pos (Nat.cast_nonneg n), Int.floor_natCast, min_eq_right h2, max_eq_right h1]
  unfold Ideal.fptosi
  rw [e _ _ (by norm_num) (by norm_num; omega)]
  exact BitVec.ofInt_natCast 32 n

theorem toInt_word (n : ℕ) (h : n < 2 ^ 31) : (BitVec.ofNat 32 n).toInt = n := by
  rw [BitVec.toInt_eq_toNat_of_lt] <;> rw [BitVec.toNat_ofNat] <;> omega

theorem real_word (n : ℕ) (h : n < 2 ^ 31) : (((BitVec.ofNat 32 n).toInt : ℝ) : EReal) = nr n := by
  rw [toInt_word n h]
  rfl

theorem real_bit (p : Prop) [Decidable p] : ((((BitVec.ofBool (decide p)).setWidth 32).toInt : ℝ) : EReal) = nr (if p then 1 else 0) := by
  rw [Routing.setWidth_ofBool]
  exact real_word _ (by split <;> decide)

theorem slt_word (a b : ℕ) (ha : a < 2 ^ 31) (hb : b < 2 ^ 31) :
    IntOp.cmpi .slt (BitVec.ofNat 32 a) (BitVec.ofNat 32 b) = BitVec.ofBool (decide (a < b)) := by
  refine congrArg BitVec.ofBool ?_
  show (BitVec.ofNat 32 a).slt (BitVec.ofNat 32 b) = _
  unfold BitVec.slt
  rw [toInt_word a ha, toInt_word b hb]
  simp only [Nat.cast_lt]

theorem sgt_word (a b : ℕ) (ha : a < 2 ^ 31) (hb : b < 2 ^ 31) :
    IntOp.cmpi .sgt (BitVec.ofNat 32 a) (BitVec.ofNat 32 b) = BitVec.ofBool (decide (b < a)) := slt_word b a hb ha

theorem eq_word (a b : ℕ) (ha : a < 2 ^ 31) (hb : b < 2 ^ 31) :
    IntOp.cmpi .eq (BitVec.ofNat 32 a) (BitVec.ofNat 32 b) = BitVec.ofBool (decide (a = b)) := by
  refine congrArg BitVec.ofBool ?_
  show (BitVec.ofNat 32 a == BitVec.ofNat 32 b) = _
  by_cases h : a = b
  · subst h
    rw [decide_eq_true rfl, beq_self_eq_true]
  · rw [decide_eq_false h]
    refine beq_eq_false_iff_ne.2 fun e => h ?_
    have := congrArg BitVec.toInt e
    rw [toInt_word a ha, toInt_word b hb] at this
    omega

theorem ne_word (a b : ℕ) (ha : a < 2 ^ 31) (hb : b < 2 ^ 31) :
    IntOp.cmpi .ne (BitVec.ofNat 32 a) (BitVec.ofNat 32 b) = BitVec.ofBool (decide (a ≠ b)) := by
  refine congrArg BitVec.ofBool ?_
  show (BitVec.ofNat 32 a != BitVec.ofNat 32 b) = _
  by_cases h : a = b
  · subst h
    simp
  · rw [decide_eq_true h]
    refine bne_iff_ne.2 fun e => h ?_
    have := congrArg BitVec.toInt e
    rw [toInt_word a ha, toInt_word b hb] at this
    omega

theorem addi_word (a b : ℕ) : IntOp.addi (BitVec.ofNat 32 a) (BitVec.ofNat 32 b) = BitVec.ofNat 32 (a + b) := (BitVec.ofNat_add a b).symm

theorem muli_word (a b : ℕ) : IntOp.muli (BitVec.ofNat 32 a) (BitVec.ofNat 32 b) = BitVec.ofNat 32 (a * b) := (BitVec.ofNat_mul a b).symm

/-- The vector unit's division rounded down, of a word that is not negative. -/
theorem floor_word (a d : ℕ) (ha : a < 2 ^ 31) (h0 : 0 < d) (hd : d < 2 ^ 31) :
    Scalar.select (IntOp.andi
        (IntOp.cmpi .ne (IntOp.subi ((IntOp.cmpi .sgt (BitVec.ofNat 32 a) (BitVec.ofNat 32 0)).setWidth 32)
          ((IntOp.cmpi .slt (BitVec.ofNat 32 a) (BitVec.ofNat 32 0)).setWidth 32)) 1#32)
        (IntOp.cmpi .ne (IntOp.remsi .vector (BitVec.ofNat 32 a) (BitVec.ofNat 32 d)) (BitVec.ofNat 32 0)))
      (IntOp.subi (IntOp.divsi .vector (BitVec.ofNat 32 a) (BitVec.ofNat 32 d)) 1#32)
      (IntOp.divsi .vector (BitVec.ofNat 32 a) (BitVec.ofNat 32 d)) = BitVec.ofNat 32 (a / d) := by
  have hm : a % d < 2 ^ 31 := lt_of_le_of_lt (Nat.mod_le a d) ha
  rw [Routing.remsi_word .vector ha h0 hd, Routing.divsi_word .vector ha h0 hd, sgt_word a 0 ha (by decide), slt_word a 0 ha (by decide),
    ne_word _ 0 hm (by decide)]
  rcases Nat.eq_zero_or_pos a with h | h
  · subst h
    rw [Nat.zero_mod, Nat.zero_div]
    decide
  · have e1 : decide (0 < a) = true := decide_eq_true h
    have e2 : decide (a < 0) = false := decide_eq_false (by omega)
    rw [e1, e2]
    have e3 : IntOp.cmpi .ne (IntOp.subi ((BitVec.ofBool true).setWidth 32) ((BitVec.ofBool false).setWidth 32)) 1#32 = 0#1 := by decide
    rw [e3]
    have e4 : ∀ y : BitVec 1, IntOp.andi 0#1 y = 0#1 := by decide
    rw [e4]
    rfl

/-- A remainder that is not negative needs no mending. -/
theorem mend_word (a : ℕ) (ha : a < 2 ^ 31) (y : BitVec 32) :
    Scalar.select (IntOp.andi (IntOp.xori (IntOp.cmpi .slt (BitVec.ofNat 32 a) (BitVec.ofNat 32 0)) 0#1)
      (IntOp.cmpi .ne (BitVec.ofNat 32 a) (BitVec.ofNat 32 0))) y (BitVec.ofNat 32 a) = BitVec.ofNat 32 a := by
  rw [slt_word a 0 ha (by decide), ne_word a 0 ha (by decide)]
  have e2 : decide (a < 0) = false := decide_eq_false (by omega)
  rw [e2]
  have e4 : ∀ y : BitVec 1, IntOp.andi (IntOp.xori (BitVec.ofBool false) 0#1) y = 0#1 := by decide
  rw [e4]
  rfl

/-- A fold of word additions over words of naturals. -/
theorem fold_words {ι : Type} [DecidableEq ι] (s : Finset ι) (f : ι → BitVec 32) (g : ι → ℕ) (h : ∀ i ∈ s, f i = BitVec.ofNat 32 (g i)) :
    s.fold IntOp.addi 0#32 f = BitVec.ofNat 32 (∑ i ∈ s, g i) := by
  induction s using Finset.induction with
  | empty => rfl
  | insert a s ha ih =>
    rw [Finset.fold_insert ha, Finset.sum_insert ha, h a (Finset.mem_insert_self a s), ih fun i hi => h i (Finset.mem_insert_of_mem hi), addi_word]

/-! ## Ranks, counts and positions -/

section spec

variable {n : ℕ} (a : Fin 4096 → Fin n)

/-- How many earlier choices fall where a choice does. -/
def rankN (s : Fin 4096) : ℕ := ∑ s', if s' < s ∧ a s' = a s then 1 else 0

/-- How many choices fall on an expert. -/
def cntN (j : Fin n) : ℕ := ∑ s, if a s = j then 1 else 0

/-- How many blocks of 128 slots an expert has. -/
def blkN (j : Fin n) : ℕ := (cntN a j + 127) / 128

/-- How many blocks the experts before have. -/
def exclN (j : Fin n) : ℕ := ∑ i, if i < j then blkN a i else 0

/-- The slot of a choice. -/
def posN (s : Fin 4096) : ℕ := 128 * exclN a (a s) + rankN a s

theorem rankN_le (s : Fin 4096) : rankN a s ≤ 4096 := by
  unfold rankN
  refine (Finset.sum_le_card_nsmul _ _ 1 fun i _ => by split <;> omega).trans ?_
  simp

theorem cntN_le (j : Fin n) : cntN a j ≤ 4096 := by
  unfold cntN
  refine (Finset.sum_le_card_nsmul _ _ 1 fun i _ => by split <;> omega).trans ?_
  simp

theorem blkN_le (j : Fin n) : blkN a j ≤ 32 := by
  have := cntN_le a j
  unfold blkN
  omega

theorem exclN_le (j : Fin n) : exclN a j ≤ n * 32 := by
  unfold exclN
  refine (Finset.sum_le_card_nsmul _ _ 32 fun i _ => ?_).trans ?_
  · have := blkN_le a i
    split <;> omega
  · simp

theorem posN_le (s : Fin 4096) : posN a s ≤ 128 * (n * 32) + 4096 := by
  have := exclN_le a (a s)
  have := rankN_le a s
  unfold posN
  omega

end spec

/-- How many of the eight experts start at or before a block. -/
def beN (ex : Fin 4096 → Fin 8) (b : ℕ) : ℕ := ∑ j, if exclN ex j ≤ b then 1 else 0

/-! ## Lanes -/

/-- An expert's lane. -/
def lane8 (e : Fin 8) : Fin 128 := Fin.castLE (by decide) e

theorem sum_lane8 (f : Fin 128 → ℕ) (h : ∀ j : Fin 128, 8 ≤ j.val → f j = 0) : ∑ j, f j = ∑ e, f (lane8 e) := by
  have e := Fin.sum_univ_add (a := 8) (b := 120) f
  have z : ∑ i : Fin 120, f (Fin.natAdd 8 i) = 0 := Finset.sum_eq_zero fun i _ => h _ (by show 8 ≤ 8 + i.val; omega)
  rw [z, add_zero] at e
  exact e

theorem lane8_inj (e e' : Fin 8) : lane8 e = lane8 e' ↔ e = e' := by
  unfold lane8
  exact Fin.castLE_inj

section lanes

variable (ex : Fin 4096 → Fin 8)

theorem rankN_lane (s : Fin 4096) : rankN (fun s => lane8 (ex s)) s = rankN ex s := by
  unfold rankN
  simp only [lane8_inj]

theorem cntN_lane (e : Fin 8) : cntN (fun s => lane8 (ex s)) (lane8 e) = cntN ex e := by
  unfold cntN
  simp only [lane8_inj]

theorem blkN_lane (e : Fin 8) : blkN (fun s => lane8 (ex s)) (lane8 e) = blkN ex e := by
  unfold blkN
  rw [cntN_lane]

theorem blkN_high (j : Fin 128) (h : 8 ≤ j.val) : blkN (fun s => lane8 (ex s)) j = 0 := by
  have : cntN (fun s => lane8 (ex s)) j = 0 := by
    unfold cntN
    refine Finset.sum_eq_zero fun s _ => if_neg fun e => ?_
    have h1 : (ex s).val = j.val := congrArg Fin.val e
    have := (ex s).isLt
    omega
  unfold blkN
  rw [this]

theorem exclN_lane (e : Fin 8) : exclN (fun s => lane8 (ex s)) (lane8 e) = exclN ex e := by
  unfold exclN
  rw [sum_lane8 _ fun j hj => by rw [blkN_high ex j hj]; split <;> rfl]
  refine Finset.sum_congr rfl fun i _ => ?_
  rw [blkN_lane]
  rfl

theorem posN_lane (s : Fin 4096) : posN (fun s => lane8 (ex s)) s = posN ex s := by
  unfold posN
  rw [rankN_lane, exclN_lane]

theorem beN_lane (b : ℕ) : (∑ j : Fin 128, if j.val < 8 ∧ exclN (fun s => lane8 (ex s)) j ≤ b then 1 else 0) = beN ex b := by
  unfold beN
  rw [sum_lane8 _ fun j hj => if_neg (by omega)]
  refine Finset.sum_congr rfl fun i _ => ?_
  have hi : (lane8 i).val < 8 := i.isLt
  rw [exclN_lane]
  simp only [hi, true_and]

end lanes

/-! ## Chunks -/

/-- Row `r` of chunk `c`. -/
def rowOf (c : Fin 32) (r : Fin 128) : Fin 4096 := ⟨128 * c.val + r.val, by omega⟩

theorem sum_rows {M : Type} [AddCommMonoid M] (f : Fin 4096 → M) : ∑ s, f s = ∑ c : Fin 32, ∑ r : Fin 128, f (rowOf c r) := by
  rw [← Fintype.sum_prod_type']
  refine (Fintype.sum_equiv (finProdFinEquiv (m := 32) (n := 128)) _ _ fun p => ?_).symm
  refine congrArg f (Fin.ext ?_)
  show 128 * p.1.val + p.2.val = p.2.val + 128 * p.1.val
  omega

theorem rowOf_lt (c c' : Fin 32) (r r' : Fin 128) : rowOf c' r' < rowOf c r ↔ c' < c ∨ c' = c ∧ r' < r := by
  show 128 * c'.val + r'.val < 128 * c.val + r.val ↔ c'.val < c.val ∨ c' = c ∧ r'.val < r.val
  rw [← Fin.val_inj]
  have := r.isLt
  have := r'.isLt
  omega

theorem rankN_rows {n : ℕ} (a : Fin 4096 → Fin n) (c : Fin 32) (r : Fin 128) : rankN a (rowOf c r)
    = (∑ r', if r' < r ∧ a (rowOf c r') = a (rowOf c r) then 1 else 0)
      + ∑ c' : Fin 32, if c' < c then ∑ r', (if a (rowOf c' r') = a (rowOf c r) then 1 else 0) else 0 := by
  unfold rankN
  rw [sum_rows]
  have h : ∀ c' : Fin 32, (∑ r', if rowOf c' r' < rowOf c r ∧ a (rowOf c' r') = a (rowOf c r) then 1 else 0)
      = (if c' = c then (∑ r', if r' < r ∧ a (rowOf c r') = a (rowOf c r) then 1 else 0) else 0)
        + if c' < c then ∑ r', (if a (rowOf c' r') = a (rowOf c r) then 1 else 0) else 0 := by
    intro c'
    simp only [rowOf_lt]
    by_cases h1 : c' = c
    · subst h1
      simp
    · by_cases h2 : c' < c
      · simp [h1, h2]
      · simp [h1, h2]
  rw [Finset.sum_congr rfl fun c' _ => h c', Finset.sum_add_distrib, Finset.sum_ite_eq' Finset.univ c]
  simp

end Cert.Proof.MoeS

end
-- ==== Proof.S.Rank.lean ====
/- The router's ranks, as counts of earlier choices. -/
module

public import proofs.«01_k».proof.Proof.S.Chunks
public import proofs.«01_k».proof.Proof.S.Count

@[expose] public section

noncomputable section

namespace Cert.Proof.MoeS

open Cert.RouterIdeal Cert.RouterIdeal.Gen
open Idealize.ShloMosaic Idealize.ShloMosaic.TcCoe Idealize.SL.Sem
open Idealize.ShloMosaic.ValueIdx (ix1 ix2 ix3 eq_ix2)

/-! ## Reading the operations -/

theorem sum_rows128 (x : FVec Ideal S128x128 .f32) (j : Fin 128) :
    multiReduction .add [0] S128 x 0x00000000#32 reduces_S128x128_S128 (.inl rfl) rfl (ix1 j) = ∑ t : Fin 128, x (ix2 t j) := by
  refine (Ideal.multiReduction_add_single x _ reduces_S128x128_S128 _ _ (ix1 j)).trans ?_
  exact Finset.sum_congr rfl fun t _ => congrArg x (funext fun a => by fin_cases a <;> rfl)

theorem sum_lanes128 (x : FVec Ideal S128x128 .f32) (t : Fin 128) :
    multiReduction .add [1] S128 x 0x00000000#32 reduces_S128x128_S128_2 (.inl rfl) rfl (ix1 t) = ∑ j : Fin 128, x (ix2 t j) := by
  refine (Ideal.multiReduction_add_single x _ reduces_S128x128_S128_2 _ _ (ix1 t)).trans ?_
  exact Finset.sum_congr rfl fun t _ => congrArg x (funext fun a => by fin_cases a <;> rfl)

theorem up_row128 {α : Type} (v : S128.Idx → α) (t : Fin 128) : shapeCast S128x1 v shapeCasts_S128_S128x1 (ix2 t (0 : Fin 1)) = v (ix1 t) :=
  shapeCast_apply v _ _ _ (by rw [Shape.rowMajor_val_one, Shape.rowMajor_val_two]; show t.val = t.val * 1 + 0; omega)

theorem along_col128 {α : Type} (v : S1x128.Idx → α) (t : Fin 128) (j : Fin 128) :
    broadcastTo S128x128 v broadcasts_S1x128_S128x128 (ix2 t j) = v (ix2 (0 : Fin 1) j) :=
  broadcastTo_apply _ _ _ _ fun a => by fin_cases a <;> rfl

theorem pay17_apply (r k : Fin 128) : k0_pay17 (F := Ideal) (ix2 r k) = nr (if k < r then 1 else 0) := by
  have e : k0_pay17 (F := Ideal) (ix2 r k) = ((((IntOp.cmpi .sgt (iota .tc S128x128 32 [0] iota_S128x128_d0_w32 (ix2 r k))
      (iota .tc S128x128 32 [1] iota_S128x128_d1_w32 (ix2 r k))).setWidth 32).toInt : ℝ) : EReal) := rfl
  rw [e, iota_single_apply, iota_single_apply]
  have hr := r.isLt
  have hk := k.isLt
  rw [show ((ix2 r k : S128x128.Idx) 0).val = r.val from rfl, show ((ix2 r k : S128x128.Idx) 1).val = k.val from rfl,
    sgt_word r.val k.val (by omega) (by omega), real_bit]
  rfl

theorem pay18_apply (r k : Fin 32) : k0_pay18 (F := Ideal) (ix2 r k) = nr (if k < r then 1 else 0) := by
  have e : k0_pay18 (F := Ideal) (ix2 r k) = ((((IntOp.cmpi .sgt (iota .tc S32x32 32 [0] iota_S32x32_d0_w32 (ix2 r k))
      (iota .tc S32x32 32 [1] iota_S32x32_d1_w32 (ix2 r k))).setWidth 32).toInt : ℝ) : EReal) := rfl
  rw [e, iota_single_apply, iota_single_apply]
  have hr := r.isLt
  have hk := k.isLt
  rw [show ((ix2 r k : S32x32.Idx) 0).val = r.val from rfl, show ((ix2 r k : S32x32.Idx) 1).val = k.val from rfl,
    sgt_word r.val k.val (by omega) (by omega), real_bit]
  rfl

theorem mm128 (x y : FVec Ideal S128x128 .f32) (r j : Fin 128) :
    matmul dot_S128x128_S128x128_S128x128_1_0_0_1_n_n none x y (constant S128x128 .f32 0x00000000#32) (ix2 r j)
      = ∑ k : Fin 128, x (ix2 r k) * y (ix2 k j) := by
  refine (Ideal.matmul_plain_apply (M := 128) (K := 128) (N := 128) none (x : FVec Ideal S128x128 .f32) (y : FVec Ideal S128x128 .f32)
    (constant S128x128 .f32 0x00000000#32) r j).trans ?_
  have hz : constant (F := Ideal) S128x128 .f32 0x00000000#32 (ix2 r j) = (0 : EReal) := Ideal.ofBits_zero_f32
  rw [hz, zero_add]

theorem mm32 (x : FVec Ideal S32x32 .f32) (y : FVec Ideal S32x128 .f32) (r : Fin 32) (j : Fin 128) :
    matmul dot_S32x32_S32x128_S32x128_1_0_0_1_n_n none x y (constant S32x128 .f32 0x00000000#32) (ix2 r j)
      = ∑ k : Fin 32, x (ix2 r k) * y (ix2 k j) := by
  refine (Ideal.matmul_plain_apply (M := 32) (K := 32) (N := 128) none (x : FVec Ideal S32x32 .f32) (y : FVec Ideal S32x128 .f32)
    (constant S32x128 .f32 0x00000000#32) r j).trans ?_
  have hz : constant (F := Ideal) S32x128 .f32 0x00000000#32 (ix2 r j) = (0 : EReal) := Ideal.ofBits_zero_f32
  rw [hz, zero_add]

/-! ## The ranks -/

section

variable (P : FVec Ideal S4096x128 .f32) (a : Fin 4096 → Fin 128) (hP : ∀ s j, P (ix2 s j) = nr (if a s = j then 1 else 0))
include hP

theorem chunk_apply (c : Fin 32) (r j : Fin 128) : chunk P c (ix2 r j) = nr (if a (rowOf c r) = j then 1 else 0) := by
  rw [← hP]
  unfold chunk
  refine extractStridedSlice_apply _ _ _ _ _ fun b => ?_
  fin_cases b
  · show 128 * c.val + r.val = 128 * c.val + r.val
    rfl
  · show j.val = 0 + j.val
    omega

theorem total_apply (c : Fin 32) (j : Fin 128) : total P c (ix2 (0 : Fin 1) j) = nr (∑ r, if a (rowOf c r) = j then 1 else 0) := by
  unfold total
  refine (MoeR.up_col _ j).trans ((sum_rows128 _ j).trans ?_)
  rw [← nr_sum]
  exact Finset.sum_congr rfl fun r _ => chunk_apply P a hP c r j

theorem totals_apply (c : Fin 32) (j : Fin 128) : totals P (ix2 c j) = nr (∑ r, if a (rowOf c r) = j then 1 else 0) := by
  rw [← total_apply P a hP]
  unfold totals
  refine concatenate_ofFn_unit_apply (t := S32x128) (s₁ := S1x128) 0 (fun c : Fin 32 => total P c) cat_totals rfl rfl (ix2 c j) c rfl (ix2 (0 : Fin 1) j) fun b hb => ?_
  fin_cases b
  · exact absurd rfl hb
  · rfl

theorem base_apply (c : Fin 32) (j : Fin 128) :
    base P (ix2 c j) = nr (∑ c' : Fin 32, if c' < c then ∑ r, (if a (rowOf c' r) = j then 1 else 0) else 0) := by
  unfold base
  refine (mm32 _ _ c j).trans ?_
  rw [← nr_sum]
  refine Finset.sum_congr rfl fun c' _ => ?_
  rw [pay18_apply, totals_apply P a hP, nr_mul]
  simp only [ite_mul, one_mul, zero_mul]

theorem rankC_apply (c : Fin 32) (r : Fin 128) : rankC P c (ix2 r (0 : Fin 1)) = nr (rankN a (rowOf c r)) := by
  unfold rankC
  refine (up_row128 _ r).trans ((sum_lanes128 _ r).trans ?_)
  have h : ∀ j : Fin 128, mulf (chunk P c) (addf (matmul dot_S128x128_S128x128_S128x128_1_0_0_1_n_n none (k0_pay17 (F := Ideal)) (chunk P c) (constant S128x128 .f32 0x00000000#32))
      (broadcastTo S128x128 (extractStridedSlice S1x128 ![c.val, 0] (base P) (slice_base c)) broadcasts_S1x128_S128x128)) (ix2 r j)
      = nr (if a (rowOf c r) = j then ((∑ k, if k < r ∧ a (rowOf c k) = j then 1 else 0)
        + ∑ c' : Fin 32, if c' < c then ∑ r, (if a (rowOf c' r) = j then 1 else 0) else 0) else 0) := by
    intro j
    have g : ∀ p q s : FVec Ideal S128x128 .f32, mulf p (addf q s) (ix2 r j) = (p (ix2 r j) * (q (ix2 r j) + s (ix2 r j)) : EReal) := fun _ _ _ => rfl
    rw [g, chunk_apply P a hP, mm128, along_col128]
    have hb : extractStridedSlice S1x128 ![c.val, 0] (base P) (slice_base c) (ix2 (0 : Fin 1) j) = base P (ix2 c j) := by
      refine extractStridedSlice_apply _ _ _ _ _ fun b => ?_
      fin_cases b
      · rfl
      · show j.val = 0 + j.val
        omega
    rw [hb, base_apply P a hP]
    have hm : (∑ k : Fin 128, k0_pay17 (F := Ideal) (ix2 r k) * chunk P c (ix2 k j)) = nr (∑ k, if k < r ∧ a (rowOf c k) = j then 1 else 0) := by
      rw [← nr_sum]
      refine Finset.sum_congr rfl fun k _ => ?_
      rw [pay17_apply, chunk_apply P a hP, nr_mul]
      congr 1
      by_cases h1 : k < r <;> by_cases h2 : a (rowOf c k) = j <;> simp [h1, h2]
    rw [hm, nr_add, nr_mul]
    simp only [ite_mul, one_mul, zero_mul]
  rw [Finset.sum_congr rfl fun j _ => h j, nr_sum, Finset.sum_ite_eq Finset.univ (a (rowOf c r)), if_pos (Finset.mem_univ _), rankN_rows]

theorem ranks_apply (s : Fin 4096) : ranks P (ix2 s (0 : Fin 1)) = nr (rankN a s) := by
  have hs := s.isLt
  have e : s = rowOf ⟨s.val / 128, by omega⟩ ⟨s.val % 128, by omega⟩ := Fin.ext (by show s.val = 128 * (s.val / 128) + s.val % 128; omega)
  have h := rankC_apply P a hP ⟨s.val / 128, by omega⟩ ⟨s.val % 128, by omega⟩
  rw [← e] at h
  rw [← h]
  unfold ranks
  refine concatenate_ofFn_apply (t := S4096x1) (s₁ := S128x1) 0 (fun c : Fin 32 => rankC P c) cat_ranks rfl 128 rfl (ix2 s (0 : Fin 1)) _ rfl _ rfl fun b hb => ?_
  fin_cases b
  · exact absurd rfl hb
  · rfl

end

end Cert.Proof.MoeS

end
-- ==== Proof.S.Pos.lean ====
/- The router's slots and block owners, as the counts name them. -/
module

public import proofs.«01_k».proof.Proof.S.Rank

@[expose] public section

noncomputable section

namespace Cert.Proof.MoeS

open Cert.RouterIdeal Cert.RouterIdeal.Gen
open Cert.Proof.MoeR
open Idealize.ShloMosaic Idealize.ShloMosaic.TcCoe Idealize.SL.Sem
open Idealize.ShloMosaic.ValueIdx (ix1 ix2 ix3 eq_ix2)

/-! ## Reading the operations -/

theorem sum_lanes4096 (x : FVec Ideal S4096x128 .f32) (t : Fin 4096) :
    multiReduction .add [1] S4096 x 0x00000000#32 reduces_S4096x128_S4096 (.inl rfl) rfl (ix1 t) = ∑ j : Fin 128, x (ix2 t j) := by
  refine (Ideal.multiReduction_add_single x _ reduces_S4096x128_S4096 _ _ (ix1 t)).trans ?_
  exact Finset.sum_congr rfl fun t _ => congrArg x (funext fun a => by fin_cases a <;> rfl)

theorem addI_lanes128 (x : IVec S128x128 32) (t : Fin 128) :
    multiReductionI .add [1] S128 x 0#32 reduces_S128x128_S128_2 rfl (ix1 t)
      = (Finset.univ : Finset (Fin 128)).fold IntOp.addi 0#32 fun j => x (ix2 t j) := by
  refine ((multiReductionI_eq_fold .add x _ reduces_S128x128_S128_2 _ (ix1 t)).trans (reduces_S128x128_S128_2.fold_filter_drop_single _ _ x (ix1 t))).trans ?_
  exact congrArg (fun g => (Finset.univ : Finset (Fin 128)).fold IntOp.addi 0#32 g)
    (funext fun j => congrArg x (funext fun a => by fin_cases a <;> rfl))

theorem up_row4096 {α : Type} (v : S4096.Idx → α) (t : Fin 4096) : shapeCast S4096x1 v shapeCasts_S4096_S4096x1 (ix2 t (0 : Fin 1)) = v (ix1 t) :=
  shapeCast_apply v _ _ _ (by rw [Shape.rowMajor_val_one, Shape.rowMajor_val_two]; show t.val = t.val * 1 + 0; omega)

theorem along_col4096 {α : Type} (v : S1x128.Idx → α) (t : Fin 4096) (j : Fin 128) :
    broadcastTo S4096x128 v broadcasts_S1x128_S4096x128 (ix2 t j) = v (ix2 (0 : Fin 1) j) :=
  broadcastTo_apply _ _ _ _ fun a => by fin_cases a <;> rfl

theorem mm1 (x : FVec Ideal S1x128 .f32) (y : FVec Ideal S128x128 .f32) (j : Fin 128) :
    matmul dot_S1x128_S128x128_S1x128_1_0_0_1_n_n none x y (constant S1x128 .f32 0x00000000#32) (ix2 (0 : Fin 1) j)
      = ∑ k : Fin 128, x (ix2 (0 : Fin 1) k) * y (ix2 k j) := by
  refine (Ideal.matmul_plain_apply (M := 1) (K := 128) (N := 128) none (x : FVec Ideal S1x128 .f32) (y : FVec Ideal S128x128 .f32)
    (constant S1x128 .f32 0x00000000#32) (0 : Fin 1) j).trans ?_
  have hz : constant (F := Ideal) S1x128 .f32 0x00000000#32 (ix2 (0 : Fin 1) j) = (0 : EReal) := Ideal.ofBits_zero_f32
  rw [hz, zero_add]

/-! ## The choices -/

variable (x0 : Vec Ideal S2048x768 .f32) (x1 : Vec Ideal S768x128 .f32) (x2 : Vec Ideal S1x128 .f32)

theorem ld0 : View.ld x0 r0_0 = x0 := View.ld_unit_lit _ _ (by decide)

theorem ld1 : View.ld x1 r0_1 = x1 := View.ld_unit_lit _ _ (by decide)

theorem ld2 : View.ld x2 r0_2 = x2 := View.ld_unit_lit _ _ (by decide)

/-- A function of the 2048 first choices and one of the second, as one of all 4096. -/
def both {α : Type} (f g : Fin 2048 → α) (s : Fin 4096) : α := Fin.addCases (m := 2048) (n := 2048) f g s

theorem both_left {α : Type} (f g : Fin 2048 → α) (t : Fin 2048) : both f g (Fin.castAdd 2048 t) = f t := Fin.addCases_left t

theorem both_right {α : Type} (f g : Fin 2048 → α) (t : Fin 2048) : both f g (Fin.natAdd 2048 t) = g t := Fin.addCases_right t

theorem both_ind {q : Fin 4096 → Prop} (h1 : ∀ t : Fin 2048, q (Fin.castAdd 2048 t)) (h2 : ∀ t : Fin 2048, q (Fin.natAdd 2048 t)) (s : Fin 4096) : q s :=
  Fin.addCases (m := 2048) (n := 2048) h1 h2 s

/-- The lane of a choice. -/
def choiceK : Fin 4096 → Fin 128 := both (firstK x0 x1 x2) (secondK x0 x1 x2)

theorem hots_apply (s : Fin 4096) (j : Fin 128) : k0_pay303 x0 x1 x2 (ix2 s j) = nr (if choiceK x0 x1 x2 s = j then 1 else 0) := by
  have e : k0_pay303 x0 x1 x2
      = concatenate S4096x128 0 [⟨S2048x128, hot (k0_pay6 (View.ld x0 r0_0) (View.ld x1 r0_1) (View.ld x2 r0_2))⟩,
          ⟨S2048x128, hot (word2 (View.ld x0 r0_0) (View.ld x1 r0_1) (View.ld x2 r0_2))⟩] concatenates_S2048x128_S2048x128_S4096x128_d0 := rfl
  rw [e, ld0, ld1, ld2]
  have hnr : ∀ a : Fin 128, ((if a = j then (1 : ℝ) else 0 : ℝ) : EReal) = nr (if a = j then 1 else 0) := fun a => by
    unfold nr
    split <;> simp
  revert s
  refine both_ind (fun t => ?_) (fun t => ?_)
  · unfold choiceK
    rw [both_left, ← hnr]
    refine (concatenate_pair_apply_left (s₁ := S2048x128) (s₂ := S2048x128) (0 : Fin S4096x128.rank) _ _ _ (ix2 (Fin.castAdd 2048 t) j) rfl (ix2 t j) fun b => ?_).trans (hot_apply _ t j _ (pay6_apply x0 x1 x2 t))
    fin_cases b <;> rfl
  · unfold choiceK
    rw [both_right, ← hnr]
    refine (concatenate_pair_apply_right (s₁ := S2048x128) (s₂ := S2048x128) (0 : Fin S4096x128.rank) _ _ _ (ix2 (Fin.natAdd 2048 t) j) rfl rfl (ix2 t j) (fun b hb => ?_) ?_).trans (hot_apply _ t j _ (word2_apply x0 x1 x2 t))
    · fin_cases b
      · exact absurd rfl hb
      · rfl
    · show t.val + 2048 = 2048 + t.val
      omega

theorem counts_apply (j : Fin 128) :
    k0_pay15 (F := Ideal) (k0_pay295 x0 x1 x2) (k0_pay297 x0 x1 x2) (k0_pay299 x0 x1 x2) (k0_pay300 x0 x1 x2) (ix2 (0 : Fin 1) j)
      = nr (cntN (choiceK x0 x1 x2) j) := by
  unfold k0_pay15
  refine (up_col _ j).trans ((sum_col2 _ j).trans ?_)
  unfold cntN
  rw [← nr_sum]
  exact Finset.sum_congr rfl fun s _ => hots_apply x0 x1 x2 s j

theorem blocks_apply (j : Fin 128) : k0_pay342 x0 x1 x2 (ix2 (0 : Fin 1) j) = BitVec.ofNat 32 (blkN (choiceK x0 x1 x2) j) := by
  have hc := cntN_le (choiceK x0 x1 x2) j
  have h := counts_apply x0 x1 x2 j
  unfold k0_pay342
  generalize k0_pay15 (F := Ideal) (k0_pay295 x0 x1 x2) (k0_pay297 x0 x1 x2) (k0_pay299 x0 x1 x2) (k0_pay300 x0 x1 x2) = v at h
  have h2 : IntOp.addi (Ideal.fptosi 32 (v (ix2 (0 : Fin 1) j))) 127#32 = BitVec.ofNat 32 (cntN (choiceK x0 x1 x2) j + 127) := by
    rw [h, fptosi_nr _ (by omega)]
    exact addi_word _ 127
  have key := floor_word (cntN (choiceK x0 x1 x2) j + 127) 128 (by omega) (by decide) (by decide)
  rw [← h2] at key
  exact key

theorem excl_apply (j : Fin 128) : k0_pay152 (F := Ideal) (k0_pay342 x0 x1 x2) (k0_pay339 x0 x1 x2) (k0_pay340 x0 x1 x2) (ix2 (0 : Fin 1) j)
    = nr (exclN (choiceK x0 x1 x2) j) := by
  unfold k0_pay152
  refine (mm1 _ _ j).trans ?_
  unfold exclN
  rw [← nr_sum]
  refine Finset.sum_congr rfl fun i _ => ?_
  have hb := blkN_le (choiceK x0 x1 x2) i
  have h1 : (sitofp .f32 (k0_pay342 x0 x1 x2) : FVec Ideal S1x128 .f32) (ix2 (0 : Fin 1) i) = nr (blkN (choiceK x0 x1 x2) i) := by
    have e : (sitofp .f32 (k0_pay342 x0 x1 x2) : FVec Ideal S1x128 .f32) (ix2 (0 : Fin 1) i)
      = (((k0_pay342 x0 x1 x2 (ix2 (0 : Fin 1) i)).toInt : ℝ) : EReal) := rfl
    rw [e, blocks_apply, real_word _ (by omega)]
  have h2 : (sitofp .f32 (extui 32 (cmpi .slt (k0_pay339 x0 x1 x2) (k0_pay340 x0 x1 x2)) natLt_1_32) : FVec Ideal S128x128 .f32) (ix2 i j)
      = nr (if i < j then 1 else 0) := by
    have e : (sitofp .f32 (extui 32 (cmpi .slt (k0_pay339 x0 x1 x2) (k0_pay340 x0 x1 x2)) natLt_1_32) : FVec Ideal S128x128 .f32) (ix2 i j)
      = ((((IntOp.cmpi .slt (iota .tc S128x128 32 [0] iota_S128x128_d0_w32 (ix2 i j))
      (iota .tc S128x128 32 [1] iota_S128x128_d1_w32 (ix2 i j))).setWidth 32).toInt : ℝ) : EReal) := rfl
    rw [e, iota_single_apply, iota_single_apply]
    have hr := i.isLt
    have hk := j.isLt
    rw [show ((ix2 i j : S128x128.Idx) 0).val = i.val from rfl, show ((ix2 i j : S128x128.Idx) 1).val = j.val from rfl,
      slt_word i.val j.val (by omega) (by omega), real_bit]
    rfl
  rw [h1, h2, nr_mul]
  simp only [mul_ite, mul_one, mul_zero]

theorem lit_128 : Ideal.ofBits .f32 0x43000000#32 = nr 128 := by
  unfold nr
  simp [Ideal.ofBits, Ideal.ieee]
  rw [← EReal.coe_mul]
  norm_num

theorem slots_apply (s : Fin 4096) : k0_pay343 x0 x1 x2 (ix2 s (0 : Fin 1)) = nr (posN (choiceK x0 x1 x2) s) := by
  unfold k0_pay343 k0_pay153
  have g : ∀ p q : FVec Ideal S4096x1 .f32, addf p q (ix2 s (0 : Fin 1)) = (p (ix2 s (0 : Fin 1)) + q (ix2 s (0 : Fin 1)) : EReal) := fun _ _ => rfl
  refine (g _ _).trans ?_
  rw [pay341_eq, ranks_apply _ _ (hots_apply x0 x1 x2)]
  unfold posN
  rw [← nr_add]
  refine congrArg (fun z : EReal => z + nr (rankN (choiceK x0 x1 x2) s)) ?_
  refine (up_row4096 _ s).trans ((sum_lanes4096 _ s).trans ?_)
  have h : ∀ j : Fin 128, mulf (k0_pay303 x0 x1 x2) (broadcastTo S4096x128 (mulf (broadcast S1x128 (Scalar.ofBits .f32 0x43000000#32 : Ideal .f32))
      (k0_pay152 (F := Ideal) (k0_pay342 x0 x1 x2) (k0_pay339 x0 x1 x2) (k0_pay340 x0 x1 x2))) broadcasts_S1x128_S4096x128) (ix2 s j)
      = nr (if choiceK x0 x1 x2 s = j then 128 * exclN (choiceK x0 x1 x2) j else 0) := by
    intro j
    have g2 : ∀ p q : FVec Ideal S4096x128 .f32, mulf p q (ix2 s j) = (p (ix2 s j) * q (ix2 s j) : EReal) := fun _ _ => rfl
    have g3 : ∀ p q : FVec Ideal S1x128 .f32, mulf p q (ix2 (0 : Fin 1) j) = (p (ix2 (0 : Fin 1) j) * q (ix2 (0 : Fin 1) j) : EReal) := fun _ _ => rfl
    rw [g2, hots_apply, along_col4096, g3, excl_apply]
    have hl : broadcast S1x128 (Scalar.ofBits .f32 0x43000000#32 : Ideal .f32) (ix2 (0 : Fin 1) j) = nr 128 := lit_128
    rw [hl, nr_mul, nr_mul]
    simp only [ite_mul, one_mul, zero_mul]
  refine (Finset.sum_congr rfl fun j _ => h j).trans ?_
  rw [nr_sum, Finset.sum_ite_eq Finset.univ (choiceK x0 x1 x2 s), if_pos (Finset.mem_univ _)]

theorem slot_words (s : Fin 4096) : k0_pay353 x0 x1 x2 (ix2 s (0 : Fin 1)) = BitVec.ofNat 32 (posN (choiceK x0 x1 x2) s) := by
  have h := posN_le (choiceK x0 x1 x2) s
  have e : k0_pay353 x0 x1 x2 (ix2 s (0 : Fin 1)) = Ideal.fptosi 32 (k0_pay343 x0 x1 x2 (ix2 s (0 : Fin 1))) := rfl
  rw [e, slots_apply, fptosi_nr _ (by omega)]

/-- The slots the router leaves. -/
theorem out3_apply (s : Fin 4096) : out0_3 x0 x1 x2 (ix2 s (0 : Fin 1)) = BitVec.ofNat 32 (posN (choiceK x0 x1 x2) s) := by
  have e : out0_3 x0 x1 x2 = k0_pay353 x0 x1 x2 := View.canon_cons_unit_lit _ _ _ (by decide)
  rw [e, slot_words]

/-- The block owners the router leaves. -/
theorem out6_apply (b : Fin 128) : out0_6 x0 x1 x2 (ix2 b (0 : Fin 1))
    = IntOp.subi (BitVec.ofNat 32 (∑ j : Fin 128, if j.val < 8 ∧ exclN (choiceK x0 x1 x2) j ≤ b.val then 1 else 0)) 1#32 := by
  have e : out0_6 x0 x1 x2 = k0_pay155 (F := Ideal) (k0_pay342 x0 x1 x2) (k0_pay339 x0 x1 x2) (k0_pay340 x0 x1 x2) :=
    View.canon_cons_unit_lit _ _ _ (by decide)
  rw [e]
  unfold k0_pay155
  refine congrArg (fun z => IntOp.subi z 1#32) ?_
  refine (up_row128 _ b).trans ((addI_lanes128 _ b).trans (fold_words _ _ _ fun j _ => ?_))
  have g : ∀ (p q : IVec S128x128 1) (u v : IVec S128x128 32), select (andi p q) u v (ix2 b j)
    = Scalar.select (IntOp.andi (p (ix2 b j)) (q (ix2 b j))) (u (ix2 b j)) (v (ix2 b j)) := fun _ _ _ _ => rfl
  refine (g _ _ _ _).trans ?_
  have hj := j.isLt
  have hb := b.isLt
  have h1 : cmpi .slt (iota .tc S128x128 32 [1] iota_S128x128_d1_w32) (broadcast S128x128 8#32) (ix2 b j) = BitVec.ofBool (decide (j.val < 8)) := by
    show IntOp.cmpi .slt (iota .tc S128x128 32 [1] iota_S128x128_d1_w32 (ix2 b j)) 8#32 = _
    rw [iota_single_apply]
    exact slt_word j.val 8 (by omega) (by decide)
  have h2 : cmpf .ole (broadcastTo S128x128 (k0_pay152 (F := Ideal) (k0_pay342 x0 x1 x2) (k0_pay339 x0 x1 x2) (k0_pay340 x0 x1 x2)) broadcasts_S1x128_S128x128)
      (sitofp .f32 (iota .tc S128x128 32 [0] iota_S128x128_d0_w32) : FVec Ideal S128x128 .f32) (ix2 b j)
      = BitVec.ofBool (decide (exclN (choiceK x0 x1 x2) j ≤ b.val)) := by
    have e1 : ∀ p q : FVec Ideal S128x128 .f32, cmpf .ole p q (ix2 b j) = BitVec.ofBool (decide ((p (ix2 b j) : EReal) ≤ q (ix2 b j))) := fun _ _ => rfl
    rw [e1, along_col128, excl_apply]
    have e2 : (sitofp .f32 (iota .tc S128x128 32 [0] iota_S128x128_d0_w32) : FVec Ideal S128x128 .f32) (ix2 b j) = nr b.val := by
      have e3 : (sitofp .f32 (iota .tc S128x128 32 [0] iota_S128x128_d0_w32) : FVec Ideal S128x128 .f32) (ix2 b j)
        = (((iota .tc S128x128 32 [0] iota_S128x128_d0_w32 (ix2 b j)).toInt : ℝ) : EReal) := rfl
      rw [e3, iota_single_apply]
      exact real_word b.val (by omega)
    rw [e2]
    simp only [nr_le]
  rw [h1, h2]
  have h3 : ∀ p q : Prop, ∀ [Decidable p] [Decidable q], IntOp.andi (BitVec.ofBool (decide p)) (BitVec.ofBool (decide q)) = BitVec.ofBool (decide (p ∧ q)) := by
    intro p q _ _
    by_cases hp : p <;> by_cases hq : q <;> simp [hp, hq] <;> rfl
  rw [h3, select_decide]
  show (if _ then 1#32 else 0#32) = _
  split <;> rfl

end Cert.Proof.MoeS

end
-- ==== Proof.S.Stores.lean ====
/- The router's row ids and slot weights, chunk by chunk. -/
module

public import proofs.«01_k».proof.Proof.R.KerLoss

@[expose] public section

noncomputable section

namespace Cert.Proof.MoeS

open Cert.RouterIdeal Cert.RouterIdeal.Gen
open Idealize.ShloMosaic Idealize.ShloMosaic.TcCoe Idealize.SL.Sem
open Idealize.ShloMosaic.ValueIdx (ix1 ix2 ix3 eq_ix2)

/-- What the 128 slots of block `n` receive of the three columns. -/
def gathered (vals : FVec Ideal S4096x3 .f32) (pos : IVec S4096x1 32) (n : ℕ) : FVec Ideal S128x3 .f32 :=
  matmul dot_S4096x128_S4096x3_S128x3_0_0_1_1_n_n none
    (sitofp .f32 (extui 32 (cmpi .eq (broadcastTo S4096x128 pos broadcasts_S4096x1_S4096x128)
      (addi (broadcast S4096x128 (BitVec.ofNat 32 (128 * n))) (iota .tc S4096x128 32 [1] iota_S4096x128_d1_w32))) natLt_1_32) : FVec Ideal S4096x128 .f32)
    vals (constant S128x3 .f32 0x00000000#32)

/-- The row ids of block `n`. -/
def ridsC (vals : FVec Ideal S4096x3 .f32) (pos : IVec S4096x1 32) (n : ℕ) : IVec S128x1 32 :=
  addi (muli (fptosi 32 (extractStridedSlice S128x1 ![0, 0] (gathered vals pos n) slices_S128x3_o0_0_S128x1)) (broadcast S128x1 256#32))
    (fptosi 32 (extractStridedSlice S128x1 ![0, 1] (gathered vals pos n) slices_S128x3_o0_1_S128x1))

/-- The slot weights of block `n`. -/
def wslC (vals : FVec Ideal S4096x3 .f32) (pos : IVec S4096x1 32) (n : ℕ) : FVec Ideal S128x1 .f32 :=
  extractStridedSlice S128x1 ![0, 2] (gathered vals pos n) slices_S128x3_o0_2_S128x1

theorem inb_block (k : Fin 40) (a : Fin S5120x1.rank) : (![128 * (39 - k.val), 0] : Fin 2 → ℕ) a + S128x1.size a ≤ S5120x1.size a := by
  have := k.isLt
  match a with
  | ⟨0, _⟩ => show 128 * (39 - k.val) + 128 ≤ 5120; omega
  | ⟨1, _⟩ => exact le_refl 1

variable (x0 : Vec Ideal S2048x768 .f32) (x1 : Vec Ideal S768x128 .f32) (x2 : Vec Ideal S1x128 .f32)

theorem out4_eq : out0_4 x0 x1 x2 = View.canon (List.ofFn fun k : Fin 40 =>
    (⟨Rect.unit (s := S5120x1) ![128 * (39 - k.val), 0] S128x1.size (inb_block k), ridsC (k0_pay352 x0 x1 x2) (k0_pay353 x0 x1 x2) (39 - k.val)⟩
      : View.Piece (Elt Ideal) S5120x1 .i32)) := rfl

theorem out5_eq : out0_5 x0 x1 x2 = View.canon (List.ofFn fun k : Fin 40 =>
    (⟨Rect.unit (s := S5120x1) ![128 * (39 - k.val), 0] S128x1.size (inb_block k), wslC (k0_pay352 x0 x1 x2) (k0_pay353 x0 x1 x2) (39 - k.val)⟩
      : View.Piece (Elt Ideal) S5120x1 .f32)) := rfl

end Cert.Proof.MoeS

end
-- ==== Proof.S.Out.lean ====
/- The router's row ids and slot weights, as sums over the choices of a slot. -/
module

public import proofs.«01_k».proof.Proof.S.Pos
public import proofs.«01_k».proof.Proof.S.Stores
public import Idealize.ShloMosaic.Lib.Pipeline.ValueKit.Tiles

@[expose] public section

noncomputable section

namespace Cert.Proof.MoeS

open Cert.RouterIdeal Cert.RouterIdeal.Gen
open Cert.Proof.MoeR
open Idealize.ShloMosaic Idealize.ShloMosaic.TcCoe Idealize.SL.Sem
open Idealize.ShloMosaic.ValueIdx (ix1 ix2 ix3 eq_ix2 contrEquiv1 contrEquiv1_symm_val)

/-- The token of a choice. -/
def tokN (s : Fin 4096) : ℕ := s.val % 2048

theorem tokN_lt (s : Fin 4096) : tokN s < 2048 := Nat.mod_lt _ (by decide)

section tokens

variable (s : Fin 4096)

theorem rem_tok : k0_pay156 (ix2 s (0 : Fin 1)) = BitVec.ofNat 32 (tokN s) := by
  have hs := s.isLt
  have e : k0_pay156 (ix2 s (0 : Fin 1)) = IntOp.remsi .vector (iota .tc S4096x1 32 [0] iota_S4096x1_d0_w32 (ix2 s (0 : Fin 1))) (BitVec.ofNat 32 2048) := rfl
  rw [e, iota_single_apply]
  exact Routing.remsi_word .vector (a := s.val) (by omega) (by decide) (by decide)

/-- The kernel's token words. -/
def toks : IVec S4096x1 32 :=
  k0_pay159 (Scalar.select (Scalar.cmpi .eq 2048#32 0#32) 1#32 2048#32) k0_pay156 k0_pay157 k0_pay158 (Scalar.cmpi .slt (Scalar.select (Scalar.cmpi .eq 2048#32 0#32) 1#32 2048#32) 0#32)

theorem toks_apply : toks (ix2 s (0 : Fin 1)) = BitVec.ofNat 32 (tokN s) := by
  have h := tokN_lt s
  have key := mend_word (tokN s) (by omega) (IntOp.addi (BitVec.ofNat 32 (tokN s)) 2048#32)
  rw [← rem_tok s] at key
  exact key.trans (rem_tok s)

end tokens

variable (x0 : Vec Ideal S2048x768 .f32) (x1 : Vec Ideal S768x128 .f32) (x2 : Vec Ideal S1x128 .f32)

theorem high_apply (s : Fin 4096) : k0_pay347 x0 x1 x2 (ix2 s (0 : Fin 1)) = nr (tokN s / 256) := by
  have h := tokN_lt s
  have e : k0_pay347 x0 x1 x2 (ix2 s (0 : Fin 1)) = (((Scalar.select (IntOp.andi
        (IntOp.cmpi .ne (IntOp.subi ((IntOp.cmpi .sgt (toks (ix2 s (0 : Fin 1))) (BitVec.ofNat 32 0)).setWidth 32)
          ((IntOp.cmpi .slt (toks (ix2 s (0 : Fin 1))) (BitVec.ofNat 32 0)).setWidth 32)) 1#32)
        (IntOp.cmpi .ne (IntOp.remsi .vector (toks (ix2 s (0 : Fin 1))) (BitVec.ofNat 32 256)) (BitVec.ofNat 32 0)))
      (IntOp.subi (IntOp.divsi .vector (toks (ix2 s (0 : Fin 1))) (BitVec.ofNat 32 256)) 1#32)
      (IntOp.divsi .vector (toks (ix2 s (0 : Fin 1))) (BitVec.ofNat 32 256)) : BitVec 32).toInt : ℝ) : EReal) := rfl
  rw [e, toks_apply, floor_word (tokN s) 256 (by omega) (by decide) (by decide), real_word _ (by omega)]

/-- The kernel's low bytes of the tokens. -/
def lows : IVec S4096x1 32 := select (k0_pay349 x0 x1 x2) (k0_pay350 x0 x1 x2) (k0_pay348 x0 x1 x2)

theorem lows_apply (s : Fin 4096) : lows x0 x1 x2 (ix2 s (0 : Fin 1)) = BitVec.ofNat 32 (tokN s % 256) := by
  have h := tokN_lt s
  have e8 : k0_pay348 x0 x1 x2 (ix2 s (0 : Fin 1)) = BitVec.ofNat 32 (tokN s % 256) := by
    have e : k0_pay348 x0 x1 x2 (ix2 s (0 : Fin 1)) = IntOp.remsi .vector (toks (ix2 s (0 : Fin 1))) (BitVec.ofNat 32 256) := rfl
    rw [e, toks_apply]
    exact Routing.remsi_word .vector (by omega) (by decide) (by decide)
  have key := mend_word (tokN s % 256) (by omega) (k0_pay350 x0 x1 x2 (ix2 s (0 : Fin 1)))
  rw [← e8] at key
  exact key.trans e8

theorem m1_apply (t : Fin 2048) : k0_pay296 x0 x1 x2 (ix2 t (0 : Fin 1)) = mx (probK x0 x1 x2 t) := by
  have e : k0_pay296 x0 x1 x2 = k0_pay5 (View.ld x0 r0_0) (View.ld x1 r0_1) (View.ld x2 r0_2) := rfl
  rw [e, ld0, ld1, ld2]
  unfold k0_pay5
  refine (up_row _ t).trans ((max_row _ t).trans ?_)
  exact congrArg mx (funext fun j => pay4_prob x0 x1 x2 t j)

theorem m2_apply (t : Fin 2048) : k0_pay298 x0 x1 x2 (ix2 t (0 : Fin 1)) = mx (restK x0 x1 x2 t) := by
  have e : k0_pay298 x0 x1 x2 = k0_pay8 (View.ld x0 r0_0) (View.ld x1 r0_1) (View.ld x2 r0_2) := rfl
  rw [e, ld0, ld1, ld2]
  unfold k0_pay8
  refine (up_row _ t).trans ((max_row _ t).trans ?_)
  exact congrArg mx (funext fun j => pay7_apply x0 x1 x2 t j)

/-- The weight of a choice. -/
def weightK : Fin 4096 → EReal :=
  both (fun t => Ideal.div (mx (probK x0 x1 x2 t)) (mx (probK x0 x1 x2 t) + mx (restK x0 x1 x2 t)))
    fun t => Ideal.div (mx (restK x0 x1 x2 t)) (mx (probK x0 x1 x2 t) + mx (restK x0 x1 x2 t))

theorem w1_apply (t : Fin 2048) : k0_pay301 x0 x1 x2 (ix2 t (0 : Fin 1)) = Ideal.div (mx (probK x0 x1 x2 t)) (mx (probK x0 x1 x2 t) + mx (restK x0 x1 x2 t)) := by
  have g : ∀ u v : FVec Ideal S2048x1 .f32, k0_pay12 u v (ix2 t (0 : Fin 1))
    = Ideal.div (u (ix2 t (0 : Fin 1))) (u (ix2 t (0 : Fin 1)) + v (ix2 t (0 : Fin 1)) : EReal) := fun _ _ => rfl
  unfold k0_pay301
  rw [g, m1_apply, m2_apply]

theorem w2_apply (t : Fin 2048) : k0_pay302 x0 x1 x2 (ix2 t (0 : Fin 1)) = Ideal.div (mx (restK x0 x1 x2 t)) (mx (probK x0 x1 x2 t) + mx (restK x0 x1 x2 t)) := by
  have g : ∀ u v : FVec Ideal S2048x1 .f32, k0_pay13 u v (ix2 t (0 : Fin 1))
    = Ideal.div (v (ix2 t (0 : Fin 1))) (u (ix2 t (0 : Fin 1)) + v (ix2 t (0 : Fin 1)) : EReal) := fun _ _ => rfl
  unfold k0_pay302
  rw [g, m1_apply, m2_apply]

theorem weights_apply (s : Fin 4096) :
    concatenate S4096x1 0 [⟨S2048x1, k0_pay301 x0 x1 x2⟩, ⟨S2048x1, k0_pay302 x0 x1 x2⟩] concatenates_S2048x1_S2048x1_S4096x1_d0 (ix2 s (0 : Fin 1))
      = weightK x0 x1 x2 s := by
  revert s
  refine both_ind (fun t => ?_) (fun t => ?_)
  · unfold weightK
    rw [both_left, ← w1_apply]
    refine concatenate_pair_apply_left (s₁ := S2048x1) (s₂ := S2048x1) (0 : Fin S4096x1.rank) _ _ _ (ix2 (Fin.castAdd 2048 t) (0 : Fin 1)) rfl (ix2 t (0 : Fin 1)) fun b => ?_
    fin_cases b <;> rfl
  · unfold weightK
    rw [both_right, ← w2_apply]
    refine concatenate_pair_apply_right (s₁ := S2048x1) (s₂ := S2048x1) (0 : Fin S4096x1.rank) _ _ _ (ix2 (Fin.natAdd 2048 t) (0 : Fin 1)) rfl rfl (ix2 t (0 : Fin 1)) (fun b hb => ?_) ?_
    · fin_cases b
      · exact absurd rfl hb
      · rfl
    · show t.val + 2048 = 2048 + t.val
      omega

/-- The three columns that a slot receives. -/
theorem vals_eq : k0_pay352 x0 x1 x2 = concatenate S4096x3 1 [⟨S4096x1, k0_pay347 x0 x1 x2⟩,
    ⟨S4096x1, (sitofp .f32 (lows x0 x1 x2) : FVec Ideal S4096x1 .f32)⟩,
    ⟨S4096x1, concatenate S4096x1 0 [⟨S2048x1, k0_pay301 x0 x1 x2⟩, ⟨S2048x1, k0_pay302 x0 x1 x2⟩] concatenates_S2048x1_S2048x1_S4096x1_d0⟩]
    concatenates_S4096x1_S4096x1_S4096x1_S4096x3_d1 := rfl

theorem vals0 (s : Fin 4096) : k0_pay352 x0 x1 x2 (ix2 s (0 : Fin 3)) = nr (tokN s / 256) := by
  rw [vals_eq, ← high_apply x0 x1 x2]
  refine concatenate_apply_piece (t := S4096x3) 1 _ _ (ix2 s (0 : Fin 3)) 0 (by simp) S4096x1 _ rfl rfl 0 rfl (ix2 s (0 : Fin 1)) (fun b hb => ?_) rfl
  fin_cases b
  · rfl
  · exact absurd rfl hb

theorem vals1 (s : Fin 4096) : k0_pay352 x0 x1 x2 (ix2 s (1 : Fin 3)) = nr (tokN s % 256) := by
  have h := tokN_lt s
  have e : (sitofp .f32 (lows x0 x1 x2) : FVec Ideal S4096x1 .f32) (ix2 s (0 : Fin 1)) = nr (tokN s % 256) := by
    have e1 : (sitofp .f32 (lows x0 x1 x2) : FVec Ideal S4096x1 .f32) (ix2 s (0 : Fin 1)) = (((lows x0 x1 x2 (ix2 s (0 : Fin 1))).toInt : ℝ) : EReal) := rfl
    rw [e1, lows_apply, real_word _ (by omega)]
  rw [vals_eq, ← e]
  refine concatenate_apply_piece (t := S4096x3) 1 _ _ (ix2 s (1 : Fin 3)) 1 (by simp) S4096x1 _ rfl rfl 1 rfl (ix2 s (0 : Fin 1)) (fun b hb => ?_) rfl
  fin_cases b
  · rfl
  · exact absurd rfl hb

theorem vals2 (s : Fin 4096) : k0_pay352 x0 x1 x2 (ix2 s (2 : Fin 3)) = weightK x0 x1 x2 s := by
  rw [vals_eq, ← weights_apply]
  refine concatenate_apply_piece (t := S4096x3) 1 _ _ (ix2 s (2 : Fin 3)) 2 (by simp) S4096x1 _ rfl rfl 2 rfl (ix2 s (0 : Fin 1)) (fun b hb => ?_) rfl
  fin_cases b
  · rfl
  · exact absurd rfl hb

/-! ## What a slot receives -/

theorem mm_first (x : FVec Ideal S4096x128 .f32) (y : FVec Ideal S4096x3 .f32) (l : Fin 128) (q : Fin 3) :
    matmul dot_S4096x128_S4096x3_S128x3_0_0_1_1_n_n none x y (constant S128x3 .f32 0x00000000#32) (ix2 l q)
      = ∑ s : Fin 4096, x (ix2 s l) * y (ix2 s q) := by
  have hz : constant (F := Ideal) S128x3 .f32 0x00000000#32 (ix2 l q) = (0 : EReal) := Ideal.ofBits_zero_f32
  refine (Ideal.matmul_apply dot_S4096x128_S4096x3_S128x3_0_0_1_1_n_n none x y _ (ix2 l q)).trans ?_
  rw [hz, zero_add]
  refine (Equiv.sum_comp (contrEquiv1 dot_S4096x128_S4096x3_S128x3_0_0_1_1_n_n 4096 rfl rfl).symm _).symm.trans ?_
  refine Finset.sum_congr rfl fun k _ => ?_
  have hk := contrEquiv1_symm_val dot_S4096x128_S4096x3_S128x3_0_0_1_1_n_n 4096 rfl rfl k
  refine congrArg₂ (fun u v : EReal => u * v) (congrArg x ?_) (congrArg y ?_)
  · funext b
    apply Fin.ext
    match b with
    | ⟨0, _⟩ => exact hk
    | ⟨1, _⟩ => rfl
  · funext b
    apply Fin.ext
    match b with
    | ⟨0, _⟩ => exact hk
    | ⟨1, _⟩ => rfl

theorem along_row4096 {α : Type} (v : S4096x1.Idx → α) (t : Fin 4096) (j : Fin 128) :
    broadcastTo S4096x128 v broadcasts_S4096x1_S4096x128 (ix2 t j) = v (ix2 t (0 : Fin 1)) :=
  broadcastTo_apply _ _ _ _ fun a => by fin_cases a <;> rfl

section gather

variable (vals : FVec Ideal S4096x3 .f32) (pos : IVec S4096x1 32) (p : Fin 4096 → ℕ) (hp : ∀ s, p s < 2 ^ 31)
  (hpos : ∀ s, pos (ix2 s (0 : Fin 1)) = BitVec.ofNat 32 (p s))
include hp hpos

theorem gathered_apply (n : ℕ) (hn : n < 40) (l : Fin 128) (q : Fin 3) :
    gathered vals pos n (ix2 l q) = ∑ s : Fin 4096, nr (if p s = 128 * n + l.val then 1 else 0) * vals (ix2 s q) := by
  unfold gathered
  refine (mm_first _ _ l q).trans (Finset.sum_congr rfl fun s _ => congrArg (fun z : EReal => z * vals (ix2 s q)) ?_)
  have e : (sitofp .f32 (extui 32 (cmpi .eq (broadcastTo S4096x128 pos broadcasts_S4096x1_S4096x128)
      (addi (broadcast S4096x128 (BitVec.ofNat 32 (128 * n))) (iota .tc S4096x128 32 [1] iota_S4096x128_d1_w32))) natLt_1_32) : FVec Ideal S4096x128 .f32) (ix2 s l)
      = ((((IntOp.cmpi .eq (broadcastTo S4096x128 pos broadcasts_S4096x1_S4096x128 (ix2 s l))
        (IntOp.addi (BitVec.ofNat 32 (128 * n)) (iota .tc S4096x128 32 [1] iota_S4096x128_d1_w32 (ix2 s l)))).setWidth 32).toInt : ℝ) : EReal) := rfl
  have hl := l.isLt
  rw [e, along_row4096, hpos, iota_single_apply, show ((ix2 s l : S4096x128.Idx) 1).val = l.val from rfl, addi_word, eq_word _ _ (hp s) (by omega), real_bit]

end gather

/-- The sum of the tokens of the choices that have a slot. -/
def ridN (p : Fin 4096 → ℕ) (g : ℕ) : ℕ := ∑ s : Fin 4096, if p s = g then tokN s else 0

/-- The sum of the weights of the choices that have a slot. -/
def wslE (p : Fin 4096 → ℕ) (w : Fin 4096 → EReal) (g : ℕ) : EReal := ∑ s : Fin 4096, if p s = g then w s else 0

theorem pos_small (s : Fin 4096) : posN (choiceK x0 x1 x2) s < 2 ^ 31 := by
  have h := posN_le (choiceK x0 x1 x2) s
  omega

theorem rids_apply (n : ℕ) (hn : n < 40) (l : Fin 128) : ridsC (k0_pay352 x0 x1 x2) (k0_pay353 x0 x1 x2) n (ix2 l (0 : Fin 1))
    = BitVec.ofNat 32 (ridN (posN (choiceK x0 x1 x2)) (128 * n + l.val)) := by
  have gq := fun q => gathered_apply (k0_pay352 x0 x1 x2) (k0_pay353 x0 x1 x2) _ (pos_small x0 x1 x2) (slot_words x0 x1 x2) n hn l q
  have s0 : extractStridedSlice S128x1 ![0, 0] (gathered (k0_pay352 x0 x1 x2) (k0_pay353 x0 x1 x2) n) slices_S128x3_o0_0_S128x1 (ix2 l (0 : Fin 1))
      = gathered (k0_pay352 x0 x1 x2) (k0_pay353 x0 x1 x2) n (ix2 l (0 : Fin 3)) := by
    refine extractStridedSlice_apply _ _ _ _ _ fun b => ?_
    fin_cases b
    · exact (Nat.zero_add _).symm
    · rfl
  have s1 : extractStridedSlice S128x1 ![0, 1] (gathered (k0_pay352 x0 x1 x2) (k0_pay353 x0 x1 x2) n) slices_S128x3_o0_1_S128x1 (ix2 l (0 : Fin 1))
      = gathered (k0_pay352 x0 x1 x2) (k0_pay353 x0 x1 x2) n (ix2 l (1 : Fin 3)) := by
    refine extractStridedSlice_apply _ _ _ _ _ fun b => ?_
    fin_cases b
    · exact (Nat.zero_add _).symm
    · rfl
  have h0 : gathered (k0_pay352 x0 x1 x2) (k0_pay353 x0 x1 x2) n (ix2 l (0 : Fin 3))
      = nr (∑ s : Fin 4096, if posN (choiceK x0 x1 x2) s = 128 * n + l.val then tokN s / 256 else 0) := by
    rw [gq, ← nr_sum]
    refine Finset.sum_congr rfl fun s _ => ?_
    rw [vals0, nr_mul]
    simp only [ite_mul, one_mul, zero_mul]
  have h1 : gathered (k0_pay352 x0 x1 x2) (k0_pay353 x0 x1 x2) n (ix2 l (1 : Fin 3))
      = nr (∑ s : Fin 4096, if posN (choiceK x0 x1 x2) s = 128 * n + l.val then tokN s % 256 else 0) := by
    rw [gq, ← nr_sum]
    refine Finset.sum_congr rfl fun s _ => ?_
    rw [vals1, nr_mul]
    simp only [ite_mul, one_mul, zero_mul]
  have e : ridsC (k0_pay352 x0 x1 x2) (k0_pay353 x0 x1 x2) n (ix2 l (0 : Fin 1))
    = IntOp.addi (IntOp.muli (Ideal.fptosi 32 (extractStridedSlice S128x1 ![0, 0] (gathered (k0_pay352 x0 x1 x2) (k0_pay353 x0 x1 x2) n) slices_S128x3_o0_0_S128x1 (ix2 l (0 : Fin 1)))) (BitVec.ofNat 32 256))
      (Ideal.fptosi 32 (extractStridedSlice S128x1 ![0, 1] (gathered (k0_pay352 x0 x1 x2) (k0_pay353 x0 x1 x2) n) slices_S128x3_o0_1_S128x1 (ix2 l (0 : Fin 1)))) := rfl
  have b0 : ∀ f : Fin 4096 → ℕ, (∀ s, f s ≤ 2048) → ∑ s, f s < 2 ^ 31 := fun f hf => by
    refine lt_of_le_of_lt (Finset.sum_le_card_nsmul _ _ 2048 fun i _ => hf i) ?_
    simp
  rw [e, s0, s1, h0, h1, fptosi_nr _ (b0 _ fun s => by have := tokN_lt s; split <;> omega), fptosi_nr _ (b0 _ fun s => by have := tokN_lt s; split <;> omega),
    muli_word, addi_word]
  refine congrArg (BitVec.ofNat 32) ?_
  unfold ridN
  rw [Finset.sum_mul, ← Finset.sum_add_distrib]
  refine Finset.sum_congr rfl fun s _ => ?_
  split <;> omega

theorem wsl_apply (n : ℕ) (hn : n < 40) (l : Fin 128) : wslC (k0_pay352 x0 x1 x2) (k0_pay353 x0 x1 x2) n (ix2 l (0 : Fin 1))
    = wslE (posN (choiceK x0 x1 x2)) (weightK x0 x1 x2) (128 * n + l.val) := by
  unfold wslC
  have s2 : extractStridedSlice S128x1 ![0, 2] (gathered (k0_pay352 x0 x1 x2) (k0_pay353 x0 x1 x2) n) slices_S128x3_o0_2_S128x1 (ix2 l (0 : Fin 1))
      = gathered (k0_pay352 x0 x1 x2) (k0_pay353 x0 x1 x2) n (ix2 l (2 : Fin 3)) := by
    refine extractStridedSlice_apply _ _ _ _ _ fun b => ?_
    fin_cases b
    · exact (Nat.zero_add _).symm
    · rfl
  rw [s2, gathered_apply (k0_pay352 x0 x1 x2) (k0_pay353 x0 x1 x2) _ (pos_small x0 x1 x2) (slot_words x0 x1 x2) n hn l]
  unfold wslE
  refine Finset.sum_congr rfl fun s _ => ?_
  rw [vals2]
  have n1 : nr 1 = 1 := by unfold nr; simp
  split
  · rw [n1, one_mul]
  · rw [nr_zero, zero_mul]

theorem out4_apply (g : Fin 5120) : out0_4 x0 x1 x2 (ix2 g (0 : Fin 1)) = BitVec.ofNat 32 (ridN (posN (choiceK x0 x1 x2)) g.val) := by
  have hg := g.isLt
  rw [out4_eq]
  refine View.canon_ofFn_unit_eq_of_forall (S := S5120x1) (fun k : Fin 40 => (![128 * (39 - k.val), 0] : Fin 2 → ℕ)) S128x1.size inb_block _ (ix2 g (0 : Fin 1)) _ ?_ fun k x hx => ?_
  · refine ⟨⟨39 - g.val / 128, by omega⟩, fun a => ?_⟩
    match a with
    | ⟨0, _⟩ => show 128 * (39 - (39 - g.val / 128)) ≤ g.val ∧ g.val < 128 * (39 - (39 - g.val / 128)) + 128; omega
    | ⟨1, _⟩ => exact ⟨le_refl _, Nat.one_pos⟩
  · have hk := k.isLt
    have h0 := hx 0
    obtain ⟨l, z, rfl⟩ : ∃ (l : Fin 128) (z : Fin 1), x = ix2 l z := ⟨x 0, x 1, eq_ix2 x⟩
    obtain rfl : z = 0 := Subsingleton.elim _ _
    rw [rids_apply x0 x1 x2 (39 - k.val) (by omega) l]
    refine congrArg (fun m => BitVec.ofNat 32 (ridN (posN (choiceK x0 x1 x2)) m)) ?_
    exact h0.symm

theorem out5_apply (g : Fin 5120) : out0_5 x0 x1 x2 (ix2 g (0 : Fin 1)) = wslE (posN (choiceK x0 x1 x2)) (weightK x0 x1 x2) g.val := by
  have hg := g.isLt
  rw [out5_eq]
  refine View.canon_ofFn_unit_eq_of_forall (S := S5120x1) (fun k : Fin 40 => (![128 * (39 - k.val), 0] : Fin 2 → ℕ)) S128x1.size inb_block _ (ix2 g (0 : Fin 1)) _ ?_ fun k x hx => ?_
  · refine ⟨⟨39 - g.val / 128, by omega⟩, fun a => ?_⟩
    match a with
    | ⟨0, _⟩ => show 128 * (39 - (39 - g.val / 128)) ≤ g.val ∧ g.val < 128 * (39 - (39 - g.val / 128)) + 128; omega
    | ⟨1, _⟩ => exact ⟨le_refl _, Nat.one_pos⟩
  · have hk := k.isLt
    have h0 := hx 0
    obtain ⟨l, z, rfl⟩ : ∃ (l : Fin 128) (z : Fin 1), x = ix2 l z := ⟨x 0, x 1, eq_ix2 x⟩
    obtain rfl : z = 0 := Subsingleton.elim _ _
    rw [wsl_apply x0 x1 x2 (39 - k.val) (by omega) l]
    refine congrArg (wslE (posN (choiceK x0 x1 x2)) (weightK x0 x1 x2)) ?_
    exact h0.symm

end Cert.Proof.MoeS

end
-- ==== Proof.S.Ref.lean ====
/- The reference's slots, row ids, slot weights and block owners, read from its operands. -/
module

public import proofs.«01_k».proof.Proof.S.Out
public import proofs.«01_k».proof.Proof.R.Ref
public import proofs.«01_k».proof.Proof.Gen.DispatchIdeal.Run
public import proofs.«01_k».proof.Proof.Gen.DispatchIdeal.Read

@[expose] public section

noncomputable section

namespace Cert.Proof.MoeS

open Cert.DispatchIdeal Cert.DispatchIdeal.Gen Cert.DispatchIdeal.Read
open Cert.Proof.MoeR (pick indices_apply soft logit select_decide mx)
open Idealize.ShloMosaic Idealize.ShloMosaic.TcCoe Idealize.SL.Sem
open Idealize.ShloMosaic.ValueIdx (ix1 ix2 ix3 eq_ix2)

/-! ## Selected values -/

theorem topk_val (x : S2048x8.Idx → EReal) (gt : EReal → EReal → BitVec 1) (h : S2048x8.Slices (fun _ => 0) S2048x2) (t : Fin 2048) (q : Fin 2) :
    (Host.topK S2048x2 1 gt x h).1 (ix2 t q)
      = x (ix2 t (sortedFrom (fun k k' => gt (x (ix2 t k)) (x (ix2 t k')) == 1#1) (q.castLE (by decide : 2 ≤ 8)))) := by
  have hal : ∀ (j : S2048x8.Idx) (k : Fin 8), j 0 = t → j.along 1 k = ix2 t k := fun j k hj => by
    funext a
    fin_cases a
    · exact hj
    · rfl
  have key : ∀ j : S2048x8.Idx, j 0 = t → j 1 = q.castLE (by decide : 2 ≤ 8) →
      (Host.sort2 S2048x8 1 (fun l r => gt l.1 r.1) x (iotaInDim S2048x8 32 1)).1 j
        = x (ix2 t (sortedFrom (fun k k' => gt (x (ix2 t k)) (x (ix2 t k')) == 1#1) (q.castLE (by decide : 2 ≤ 8)))) := by
    intro j h0 h1
    have hs : (fun k k' : Fin 8 => gt (x (j.along 1 k)) (x (j.along 1 k')) == 1#1) = fun k k' : Fin 8 => gt (x (ix2 t k)) (x (ix2 t k')) == 1#1 := by
      funext k k'
      rw [hal j k h0, hal j k' h0]
    show x (j.along 1 (sortedFrom (fun k k' : Fin 8 => gt (x (j.along 1 k)) (x (j.along 1 k')) == 1#1) (j 1))) = _
    rw [hs, h1]
    exact congrArg x (hal j _ h0)
  refine key _ (Fin.ext ?_) (Fin.ext ?_)
  · exact Nat.zero_add _
  · exact Nat.zero_add _

/-! ## Where an update lands, and sums of words -/

theorem lands (idx : IVec S4096x1 32) (s : Fin 4096) (g : Fin 5120) :
    scatter_S5120_S4096x1_S4096_n_0_0_1.resultIdx? (ix1 s) idx = some (ix1 g) ↔ (idx (ix2 s (0 : Fin 1))).toInt = (g.val : ℤ) := by
  refine (Routing.resultIdx?_ix1 (N := 5120) scatter_S5120_S4096x1_S4096_n_0_0_1 (ix1 s) idx g).trans ?_
  have hw : scatter_S5120_S4096x1_S4096_n_0_0_1.window (ix1 s) 0 = 0 := rfl
  have hs : scatter_S5120_S4096x1_S4096_n_0_0_1.start (ix1 s) idx 0 = (idx (ix2 s (0 : Fin 1))).toInt := by
    unfold ScatterDims.start
    rw [dif_pos (by decide)]
    refine congrArg (fun i => (idx i).toInt) (funext fun b => ?_)
    fin_cases b
    · rfl
    · rfl
  rw [hw, hs]
  simp

/-- The vector's indices as the choices. -/
def idx4096 : Fin 4096 ≃ S4096.Idx :=
  ⟨fun s => ix1 s, fun i => i 0, fun _ => rfl, fun i => by funext a; fin_cases a; rfl⟩

/-- A scatter that adds words of naturals to zero, at a place. -/
theorem scatter_words (idx : IVec S4096x1 32) (p : Fin 4096 → ℕ) (hp : ∀ s, p s < 2 ^ 31) (hidx : ∀ s, idx (ix2 s (0 : Fin 1)) = BitVec.ofNat 32 (p s))
    (z : IVec S5120 32) (hz : ∀ i, z i = 0#32) (u : IVec S4096 32) (f : Fin 4096 → ℕ) (hu : ∀ s, u (ix1 s) = BitVec.ofNat 32 (f s)) (g : Fin 5120) :
    Host.scatter scatter_S5120_S4096x1_S4096_n_0_0_1 IntOp.addi z idx u (ix1 g) = BitVec.ofNat 32 (∑ s, if p s = g.val then f s else 0) := by
  rw [Routing.scatter_at, hz]
  have hl : ∀ i : S4096.Idx, scatter_S5120_S4096x1_S4096_n_0_0_1.resultIdx? i idx = some (ix1 g) ↔ p (i 0) = g.val := by
    intro i
    have e : i = ix1 (i 0) := (idx4096.right_inv i).symm
    refine (iff_of_eq (congrArg (fun k => scatter_S5120_S4096x1_S4096_n_0_0_1.resultIdx? k idx = some (ix1 g)) e)).trans ((lands idx (i 0) g).trans ?_)
    refine (Eq.congr_left ((congrArg BitVec.toInt (hidx (i 0))).trans (toInt_word _ (hp _)))).trans ?_
    exact Nat.cast_inj
  have hstep : ∀ (r : BitVec 32) (n : Fin S4096.numel),
      (if scatter_S5120_S4096x1_S4096_n_0_0_1.resultIdx? (S4096.rowMajor.symm n) idx = some (ix1 g) then IntOp.addi r (u (S4096.rowMajor.symm n)) else r)
        = IntOp.addi r (if p (S4096.rowMajor.symm n 0) = g.val then u (S4096.rowMajor.symm n) else 0#32) := by
    intro r n
    by_cases h : p (S4096.rowMajor.symm n 0) = g.val
    · rw [if_pos h, if_pos ((hl _).2 h)]
    · rw [if_neg h, if_neg fun q => h ((hl _).1 q)]
      exact (BitVec.add_zero r).symm
  simp only [hstep]
  rw [Routing.foldl_addi_ofNat _ _ (fun n : Fin S4096.numel => if p (S4096.rowMajor.symm n 0) = g.val then f (S4096.rowMajor.symm n 0) else 0) (fun n _ => ?_) 0#32 0 rfl]
  · refine congrArg (BitVec.ofNat 32) ?_
    rw [zero_add, ← Fin.sum_univ_def]
    refine (Equiv.sum_comp S4096.rowMajor.symm fun i : S4096.Idx => if p (i 0) = g.val then f (i 0) else 0).trans ?_
    exact (Equiv.sum_comp idx4096 fun i : S4096.Idx => if p (i 0) = g.val then f (i 0) else 0).symm
  · have e : S4096.rowMajor.symm n = ix1 (S4096.rowMajor.symm n 0) := (idx4096.right_inv _).symm
    have hv : u (S4096.rowMajor.symm n) = BitVec.ofNat 32 (f (S4096.rowMajor.symm n 0)) := (congrArg u e).trans (hu _)
    rw [hv]
    split <;> rfl

/-- A scatter that adds extended reals to zero, at a place. -/
theorem scatter_reals (idx : IVec S4096x1 32) (p : Fin 4096 → ℕ) (hp : ∀ s, p s < 2 ^ 31) (hidx : ∀ s, idx (ix2 s (0 : Fin 1)) = BitVec.ofNat 32 (p s))
    (z : FVec Ideal S5120 .f32) (hz : ∀ i, z i = (0 : EReal)) (u : FVec Ideal S4096 .f32) (f : Fin 4096 → EReal) (hu : ∀ s, u (ix1 s) = f s) (g : Fin 5120) :
    Host.scatterAdd scatter_S5120_S4096x1_S4096_n_0_0_1 z idx u (ix1 g) = wslE p f g.val := by
  show (z (ix1 g) : EReal) + ∑ j ∈ Finset.univ.filter (fun j => scatter_S5120_S4096x1_S4096_n_0_0_1.resultIdx? j idx = some (ix1 g)), u j = _
  rw [hz, zero_add, Finset.sum_filter]
  unfold wslE
  refine (Equiv.sum_comp idx4096 _).symm.trans (Finset.sum_congr rfl fun s _ => ?_)
  have hl : scatter_S5120_S4096x1_S4096_n_0_0_1.resultIdx? (ix1 s) idx = some (ix1 g) ↔ p s = g.val := by
    refine (lands idx s g).trans ?_
    rw [hidx, toInt_word _ (hp s)]
    exact Nat.cast_inj
  show (if scatter_S5120_S4096x1_S4096_n_0_0_1.resultIdx? (ix1 s) idx = some (ix1 g) then u (ix1 s) else 0) = _
  simp only [hl, hu]

/-! ## The values -/

variable (x0 : FVec Ideal S1x2048x768 .f32) (x1 : FVec Ideal S768x8 .f32) (x2 : FVec Ideal S8 .f32)

/-- The expert of a choice. -/
def choiceR : Fin 4096 → Fin 8 := both (pick x0 x1 x2 0) (pick x0 x1 x2 1)

/-- The probability of a token's expert. -/
def valR (t : Fin 2048) (q : Fin 2) : EReal := soft (logit x0 x1 x2 t) (pick x0 x1 x2 q t)

/-- The weight of a choice. -/
def weightR : Fin 4096 → EReal :=
  both (fun t => Ideal.div (valR x0 x1 x2 t 0) (valR x0 x1 x2 t 0 + valR x0 x1 x2 t 1))
    fun t => Ideal.div (valR x0 x1 x2 t 1) (valR x0 x1 x2 t 0 + valR x0 x1 x2 t 1)

theorem v21_at (s : Fin 4096) : val_main_v21 (F := Ideal) x0 x1 x2 (ix2 s (0 : Fin 1)) = BitVec.ofNat 32 (choiceR x0 x1 x2 s).val := by
  revert s
  refine both_ind (fun t => ?_) (fun t => ?_)
  · unfold choiceR
    rw [both_left, val_main_v21_apply, val_main_v20_apply]
    have h : idx_main_v20 (idx_main_v21 (ix2 (Fin.castAdd 2048 t) (0 : Fin 1))) = ix2 t (0 : Fin 2) := by
      have := t.isLt
      funext a
      apply Fin.ext
      match a with
      | ⟨0, _⟩ => show (t.val * 1 + 0) % 2048 = t.val; omega
      | ⟨1, _⟩ => show (t.val * 1 + 0) / 2048 = 0; omega
    rw [h]
    exact indices_apply x0 x1 x2 t 0
  · unfold choiceR
    rw [both_right, val_main_v21_apply, val_main_v20_apply]
    have h : idx_main_v20 (idx_main_v21 (ix2 (Fin.natAdd 2048 t) (0 : Fin 1))) = ix2 t (1 : Fin 2) := by
      have := t.isLt
      funext a
      apply Fin.ext
      match a with
      | ⟨0, _⟩ => show ((2048 + t.val) * 1 + 0) % 2048 = t.val; omega
      | ⟨1, _⟩ => show ((2048 + t.val) * 1 + 0) / 2048 = 1; omega
    rw [h]
    exact indices_apply x0 x1 x2 t 1

theorem values_at (t : Fin 2048) (q : Fin 2) : val_main_values (F := Ideal) x0 x1 x2 (ix2 t q) = valR x0 x1 x2 t q := by
  refine (topk_val (val_main_v15 (F := Ideal) x0 x1 x2) _ _ t q).trans ?_
  exact MoeR.v15_apply x0 x1 x2 t _

theorem v19_at (t : Fin 2048) (q : Fin 2) : val_main_v19 (F := Ideal) x0 x1 x2 (ix2 t q)
    = Ideal.div (valR x0 x1 x2 t q) (valR x0 x1 x2 t 0 + valR x0 x1 x2 t 1) := by
  rw [val_main_v19_apply, values_at, val_main_v18_apply, val_main_v17_apply, val_main_v16_apply, Fin.sum_univ_two]
  have hz : val_main_cst_2 (F := Ideal) (Shape.Idx.first h_S_) = (0 : EReal) := Ideal.ofBits_zero_f32
  have h0 : idx_main_v16 (idx_main_v17 (idx_main_v18 (ix2 t q))) 0 = ix2 t (0 : Fin 2) := by funext a; fin_cases a <;> rfl
  have h1 : idx_main_v16 (idx_main_v17 (idx_main_v18 (ix2 t q))) 1 = ix2 t (1 : Fin 2) := by funext a; fin_cases a <;> rfl
  rw [hz, zero_add, h0, h1, values_at, values_at]
  rfl

theorem v73_at (s : Fin 4096) : val_main_v73 (F := Ideal) x0 x1 x2 (ix1 s) = weightR x0 x1 x2 s := by
  revert s
  refine both_ind (fun t => ?_) (fun t => ?_)
  · unfold weightR
    rw [both_left, val_main_v73_apply, val_main_v72_apply]
    have h : idx_main_v72 (idx_main_v73 (ix1 (Fin.castAdd 2048 t))) = ix2 t (0 : Fin 2) := by
      have := t.isLt
      funext a
      apply Fin.ext
      match a with
      | ⟨0, _⟩ => show t.val % 2048 = t.val; omega
      | ⟨1, _⟩ => show t.val / 2048 = 0; omega
    rw [h]
    exact v19_at x0 x1 x2 t 0
  · unfold weightR
    rw [both_right, val_main_v73_apply, val_main_v72_apply]
    have h : idx_main_v72 (idx_main_v73 (ix1 (Fin.natAdd 2048 t))) = ix2 t (1 : Fin 2) := by
      have := t.isLt
      funext a
      apply Fin.ext
      match a with
      | ⟨0, _⟩ => show (2048 + t.val) % 2048 = t.val; omega
      | ⟨1, _⟩ => show (2048 + t.val) / 2048 = 1; omega
    rw [h]
    exact v19_at x0 x1 x2 t 1

theorem v28_at (s : Fin 4096) (e : Fin 8) : val_main_v28 (F := Ideal) x0 x1 x2 (ix2 s e) = BitVec.ofBool (decide (choiceR x0 x1 x2 s = e)) := by
  rw [val_main_v28_apply, val_main_v26_apply, val_main_v27_apply, val_main_v25_apply, val_main_v24_apply]
  have h : idx_main_v26 (ix2 s e) = ix2 s (0 : Fin 1) := by funext a; fin_cases a <;> rfl
  have he := e.isLt
  have hc := (choiceR x0 x1 x2 s).isLt
  rw [h, v21_at]
  refine (eq_word _ e.val (by omega) (by omega)).trans ?_
  simp only [Fin.val_inj]

theorem v37_at (s s' : Fin 4096) : val_main_v37 (F := Ideal) x0 x1 x2 (ix2 s s')
    = BitVec.ofBool (decide (s' < s ∧ choiceR x0 x1 x2 s' = choiceR x0 x1 x2 s)) := by
  rw [val_main_v37_apply, val_main_v32_apply, val_main_v30_apply, val_main_v31_apply, val_main_v29_apply, val_main_v36_apply, val_main_v34_apply,
    val_main_v33_apply, val_main_v35_apply, val_main_v23_apply, val_main_v23_apply, val_main_v22_apply, val_main_v22_apply]
  have h1 : idx_main_v30 (ix2 s s') = ix2 s (0 : Fin 1) := by funext a; fin_cases a <;> rfl
  have h2 : idx_main_v29 (idx_main_v31 (ix2 s s')) = ix2 s' (0 : Fin 1) := by funext a; fin_cases a <;> rfl
  have h3 : (idx_main_v23 (idx_main_v33 (idx_main_v34 (ix2 s s'))) 0).val = s'.val := by show s'.val * 1 + 0 = s'.val; omega
  have h4 : (idx_main_v23 (idx_main_v35 (ix2 s s')) 0).val = s.val := by show s.val * 1 + 0 = s.val; omega
  have hs := s.isLt
  have hs' := s'.isLt
  have hc := (choiceR x0 x1 x2 s).isLt
  have hc' := (choiceR x0 x1 x2 s').isLt
  rw [h1, h2, v21_at, v21_at, h3, h4, eq_word _ _ (by omega) (by omega), slt_word _ _ (by omega) (by omega)]
  have e1 : (choiceR x0 x1 x2 s).val = (choiceR x0 x1 x2 s').val ↔ choiceR x0 x1 x2 s' = choiceR x0 x1 x2 s := by rw [Fin.val_inj]; exact eq_comm
  have e2 : s'.val < s.val ↔ s' < s := Iff.rfl
  simp only [e1, e2]
  by_cases p : choiceR x0 x1 x2 s' = choiceR x0 x1 x2 s <;> by_cases q : s' < s <;> simp [p, q] <;> rfl

theorem v39_at (s : Fin 4096) : val_main_v39 (F := Ideal) x0 x1 x2 (ix1 s) = BitVec.ofNat 32 (rankN (choiceR x0 x1 x2) s) := by
  unfold val_main_v39
  refine (Host.reduce_eq_fold_single IntOp.addi _ _ reducesTo_S4096x4096_S4096_d1 (by decide) h_S_ (ix1 s)).trans ?_
  refine fold_words _ _ (fun s' => if s' < s ∧ choiceR x0 x1 x2 s' = choiceR x0 x1 x2 s then 1 else 0) fun s' _ => ?_
  refine Eq.trans (congrArg (val_main_v38 (F := Ideal) x0 x1 x2) (?_ : _ = ix2 s s')) ?_
  · funext a; fin_cases a <;> rfl
  · rw [val_main_v38_apply, v37_at]
    exact Routing.setWidth_ofBool _

theorem v41_at (e : Fin 8) : val_main_v41 (F := Ideal) x0 x1 x2 (ix1 e) = BitVec.ofNat 32 (cntN (choiceR x0 x1 x2) e) := by
  unfold val_main_v41
  refine (Host.reduce_eq_fold_single IntOp.addi _ _ reducesTo_S4096x8_S8_d0 (by decide) h_S_ (ix1 e)).trans ?_
  refine fold_words _ _ (fun s => if choiceR x0 x1 x2 s = e then 1 else 0) fun s _ => ?_
  refine Eq.trans (congrArg (val_main_v40 (F := Ideal) x0 x1 x2) (?_ : _ = ix2 s e)) ?_
  · funext a; fin_cases a <;> rfl
  · rw [val_main_v40_apply, v28_at]
    exact Routing.setWidth_ofBool _

theorem v45_at (e : Fin 8) : val_main_v45 (F := Ideal) x0 x1 x2 (ix1 e) = BitVec.ofNat 32 (blkN (choiceR x0 x1 x2) e) := by
  have h := cntN_le (choiceR x0 x1 x2) e
  rw [val_main_v45_apply, val_main_v43_apply, v41_at]
  show IntOp.divsi .host (IntOp.addi _ (BitVec.ofNat 32 127)) (BitVec.ofNat 32 128) = _
  rw [addi_word]
  exact Routing.divsi_word .host (by omega) (by decide) (by decide)

theorem v54_at (i j : Fin 8) : val_main_v54 (F := Ideal) x0 x1 x2 (ix2 i j) = BitVec.ofNat 32 (if i < j then blkN (choiceR x0 x1 x2) i else 0) := by
  rw [val_main_v54_apply, val_main_v52_apply, val_main_v50_apply, val_main_v47_apply, val_main_v46_apply, val_main_v51_apply, val_main_v49_apply,
    val_main_v48_apply, val_main_call0_v1_apply, val_main_v53_apply]
  have h1 : idx_main_v53 (idx_main_call0_v1 (ix2 i j)) = ix1 i := by funext a; fin_cases a; rfl
  have hi := i.isLt
  have hj := j.isLt
  rw [h1, v45_at]
  refine (congrArg (fun b => Scalar.select b _ _) (slt_word i.val j.val (by omega) (by omega))).trans ?_
  rw [select_decide]
  have e2 : i.val < j.val ↔ i < j := Iff.rfl
  simp only [e2]
  split <;> rfl

theorem v55_at (e : Fin 8) : val_main_v55 (F := Ideal) x0 x1 x2 (ix1 e) = BitVec.ofNat 32 (exclN (choiceR x0 x1 x2) e) := by
  unfold val_main_v55
  refine (Host.reduce_eq_fold_single IntOp.addi _ _ reducesTo_S8x8_S8_d0 (by decide) h_S_ (ix1 e)).trans ?_
  refine fold_words _ _ (fun i => if i < e then blkN (choiceR x0 x1 x2) i else 0) fun i _ => ?_
  refine Eq.trans (congrArg (val_main_v54 (F := Ideal) x0 x1 x2) (?_ : _ = ix2 i e)) (v54_at x0 x1 x2 i e)
  funext a; fin_cases a <;> rfl

theorem v58_at (s : Fin 4096) (e : Fin 8) : val_main_v58 (F := Ideal) x0 x1 x2 (ix2 s e)
    = BitVec.ofNat 32 (if choiceR x0 x1 x2 s = e then 128 * exclN (choiceR x0 x1 x2) e else 0) := by
  rw [val_main_v58_apply, v28_at, val_main_call1_v1_apply, val_main_v57_apply]
  have h1 : idx_main_call1_v1 (ix2 s e) = ix1 e := by funext a; fin_cases a; rfl
  rw [h1, v55_at, select_decide]
  have h2 : val_main_v56 (F := Ideal) (ix1 e) = BitVec.ofNat 32 128 := rfl
  rw [h2, muli_word]
  split <;> rfl

theorem row_sum (x : IVec S4096x8 32) (z : IVec S_ 32) (hz : z (Shape.Idx.first h_S_) = 0#32) (s : Fin 4096) (u : Fin 8 → ℕ)
    (key : ∀ e : Fin 8, x (ix2 s e) = BitVec.ofNat 32 (u e)) :
    Host.reduce IntOp.addi x z reducesTo_S4096x8_S4096_d1 h_S_ (ix1 s) = BitVec.ofNat 32 (∑ e, u e) := by
  refine (Host.reduce_eq_fold_single IntOp.addi x z reducesTo_S4096x8_S4096_d1 (by decide) h_S_ (ix1 s)).trans ?_
  rw [hz]
  refine fold_words _ _ u fun e _ => ?_
  refine Eq.trans (congrArg x (?_ : _ = ix2 s e)) (key e)
  funext a; fin_cases a <;> rfl

theorem v59_sum (s : Fin 4096) (u : Fin 8 → ℕ) (key : ∀ e : Fin 8, val_main_v58 (F := Ideal) x0 x1 x2 (ix2 s e) = BitVec.ofNat 32 (u e)) :
    val_main_v59 (F := Ideal) x0 x1 x2 (ix1 s) = BitVec.ofNat 32 (∑ e, u e) :=
  row_sum (val_main_v58 (F := Ideal) x0 x1 x2) (val_main_c_10 (F := Ideal)) rfl s u key

theorem sum_pick (c : Fin 8) (f : Fin 8 → ℕ) : (∑ e : Fin 8, if c = e then f e else 0) = f c := by
  rw [Finset.sum_ite_eq, if_pos (Finset.mem_univ _)]

theorem v59_at (s : Fin 4096) : val_main_v59 (F := Ideal) x0 x1 x2 (ix1 s) = BitVec.ofNat 32 (128 * exclN (choiceR x0 x1 x2) (choiceR x0 x1 x2 s)) :=
  (v59_sum x0 x1 x2 s (fun e => if choiceR x0 x1 x2 s = e then 128 * exclN (choiceR x0 x1 x2) e else 0) (v58_at x0 x1 x2 s)).trans
    (congrArg (BitVec.ofNat 32) (sum_pick (choiceR x0 x1 x2 s) fun e => 128 * exclN (choiceR x0 x1 x2) e))

theorem v60_at (s : Fin 4096) : val_main_v60 (F := Ideal) x0 x1 x2 (ix1 s) = BitVec.ofNat 32 (posN (choiceR x0 x1 x2) s) := by
  rw [val_main_v60_apply, v59_at, v39_at, addi_word]
  rfl

theorem pos8_small (s : Fin 4096) : posN (choiceR x0 x1 x2) s < 2 ^ 31 := by
  have h := posN_le (choiceR x0 x1 x2) s
  omega

theorem v63_at (s : Fin 4096) : val_main_v63 (F := Ideal) (ix1 s) = BitVec.ofNat 32 (tokN s) := by
  have hs := s.isLt
  have ht := tokN_lt s
  have e4 : val_main_call2_v4 (F := Ideal) (ix1 s) = BitVec.ofNat 32 (tokN s) :=
    Routing.remsi_word .host (a := s.val) (b := 2048) (by omega) (by decide) (by decide)
  have e8 : val_main_call2_v8 (F := Ideal) (ix1 s) = BitVec.ofBool false := by
    show IntOp.cmpi .slt (val_main_call2_v4 (F := Ideal) (ix1 s)) (BitVec.ofNat 32 0) = _
    rw [e4, slt_word _ 0 (by omega) (by decide)]
    exact congrArg BitVec.ofBool (decide_eq_false (by omega))
  have e11 : val_main_call2_v11 (F := Ideal) (ix1 s) = 0#1 := by
    show IntOp.cmpi .ne (val_main_call2_v8 (F := Ideal) (ix1 s)) (IntOp.cmpi .slt 2048#32 0#32) = _
    rw [e8]
    decide
  have e12 : val_main_call2_v12 (F := Ideal) (ix1 s) = 0#1 := by
    show IntOp.andi (val_main_call2_v11 (F := Ideal) (ix1 s)) (val_main_call2_v6 (F := Ideal) (ix1 s)) = _
    rw [e11]
    exact BitVec.zero_and
  rw [val_main_v63_apply, e12]
  exact e4

theorem v69_at (s : Fin 4096) : val_main_v69 (F := Ideal) x0 x1 x2 (ix2 s (0 : Fin 1)) = BitVec.ofNat 32 (posN (choiceR x0 x1 x2) s) := by
  have hp := pos8_small x0 x1 x2 s
  rw [val_main_v69_apply]
  have h1 : idx_main_v69 (ix2 s (0 : Fin 1)) = ix1 s := by funext a; fin_cases a; rfl
  rw [h1, val_main_v68_apply, val_main_v65_apply, v60_at]
  refine Routing.wrap_of_lt _ _ ?_
  rw [BitVec.toNat_ofNat]
  omega

theorem v79_at (s : Fin 4096) : val_main_v79 (F := Ideal) x0 x1 x2 (ix2 s (0 : Fin 1)) = BitVec.ofNat 32 (posN (choiceR x0 x1 x2) s) := by
  have hp := pos8_small x0 x1 x2 s
  rw [val_main_v79_apply]
  have h1 : idx_main_v79 (ix2 s (0 : Fin 1)) = ix1 s := by funext a; fin_cases a; rfl
  rw [h1, val_main_v78_apply, val_main_v75_apply, v60_at]
  refine Routing.wrap_of_lt _ _ ?_
  rw [BitVec.toNat_ofNat]
  omega

theorem v70_at (g : Fin 5120) : val_main_v70 (F := Ideal) x0 x1 x2 (ix1 g) = BitVec.ofNat 32 (ridN (posN (choiceR x0 x1 x2)) g.val) := by
  unfold val_main_v70
  exact scatter_words _ _ (pos8_small x0 x1 x2) (v69_at x0 x1 x2) _ (fun _ => rfl) _ tokN v63_at g

theorem v80_at (g : Fin 5120) : val_main_v80 (F := Ideal) x0 x1 x2 (ix1 g) = wslE (posN (choiceR x0 x1 x2)) (weightR x0 x1 x2) g.val := by
  unfold val_main_v80
  exact scatter_reals _ _ (pos8_small x0 x1 x2) (v79_at x0 x1 x2) _ (fun _ => Ideal.ofBits_zero_f32) _ _ (v73_at x0 x1 x2) g

theorem sle_word (a b : ℕ) (ha : a < 2 ^ 31) (hb : b < 2 ^ 31) :
    IntOp.cmpi .sle (BitVec.ofNat 32 a) (BitVec.ofNat 32 b) = BitVec.ofBool (decide (a ≤ b)) := WordCmp.cmpi_sle_ofNat ha hb

theorem v88_at (b : Fin 128) : val_main_v88 (F := Ideal) x0 x1 x2 (ix1 b) = BitVec.ofNat 32 (beN (choiceR x0 x1 x2) b.val) := by
  unfold val_main_v88
  refine (Host.reduce_eq_fold_single IntOp.addi _ _ reducesTo_S128x8_S128_d1 (by decide) h_S_ (ix1 b)).trans ?_
  refine fold_words _ _ (fun e => if exclN (choiceR x0 x1 x2) e ≤ b.val then 1 else 0) fun e _ => ?_
  refine Eq.trans (congrArg (val_main_v87 (F := Ideal) x0 x1 x2) (?_ : _ = ix2 b e)) ?_
  · funext a; fin_cases a <;> rfl
  · rw [val_main_v87_apply, val_main_v86_apply, val_main_v84_apply, val_main_v83_apply, val_main_v85_apply, val_main_v82_apply, val_main_v81_apply]
    have h1 : idx_main_v83 (idx_main_v84 (ix2 b e)) = ix1 e := by funext a; fin_cases a; rfl
    have hb := b.isLt
    have he := exclN_le (choiceR x0 x1 x2) e
    rw [h1, v55_at]
    refine (congrArg (fun w : BitVec 1 => w.setWidth 32) (sle_word _ b.val (by omega) (by omega))).trans ?_
    exact Routing.setWidth_ofBool _

/-! ## The results -/

theorem v91_at (s : Fin 4096) : val_main_v91 (F := Ideal) x0 x1 x2 (ix2 s (0 : Fin 1)) = BitVec.ofNat 32 (posN (choiceR x0 x1 x2) s) := by
  rw [val_main_v91_apply]
  refine Eq.trans (congrArg (val_main_v60 (F := Ideal) x0 x1 x2) (?_ : _ = ix1 s)) (v60_at x0 x1 x2 s)
  funext a; fin_cases a; exact Fin.ext (by show s.val * 1 + 0 = s.val; omega)

theorem v92_at (g : Fin 5120) : val_main_v92 (F := Ideal) x0 x1 x2 (ix2 g (0 : Fin 1)) = BitVec.ofNat 32 (ridN (posN (choiceR x0 x1 x2)) g.val) := by
  rw [val_main_v92_apply]
  refine Eq.trans (congrArg (val_main_v70 (F := Ideal) x0 x1 x2) (?_ : _ = ix1 g)) (v70_at x0 x1 x2 g)
  funext a; fin_cases a; exact Fin.ext (by show g.val * 1 + 0 = g.val; omega)

theorem v93_at (g : Fin 5120) : val_main_v93 (F := Ideal) x0 x1 x2 (ix2 g (0 : Fin 1)) = wslE (posN (choiceR x0 x1 x2)) (weightR x0 x1 x2) g.val := by
  rw [val_main_v93_apply]
  refine Eq.trans (congrArg (val_main_v80 (F := Ideal) x0 x1 x2) (?_ : _ = ix1 g)) (v80_at x0 x1 x2 g)
  funext a; fin_cases a; exact Fin.ext (by show g.val * 1 + 0 = g.val; omega)

theorem v94_at (b : Fin 128) : val_main_v94 (F := Ideal) x0 x1 x2 (ix2 b (0 : Fin 1)) = IntOp.subi (BitVec.ofNat 32 (beN (choiceR x0 x1 x2) b.val)) 1#32 := by
  rw [val_main_v94_apply]
  refine Eq.trans (congrArg (val_main_v90 (F := Ideal) x0 x1 x2) (?_ : _ = ix1 b)) ?_
  · funext a; fin_cases a; exact Fin.ext (by show b.val * 1 + 0 = b.val; omega)
  · rw [val_main_v90_apply, v88_at]
    rfl

end Cert.Proof.MoeS

end
-- ==== Proof.S.KerRun.lean ====
/- The router's kernel run: its slots, row ids, slot weights and block owners, from the launch's arrays. -/
module

public import proofs.«01_k».proof.Proof.S.Out
public import proofs.«01_k».proof.Proof.R.KerRun
public import proofs.«01_k».proof.Proof.Gen.SlotsIdeal.Value

@[expose] public section

noncomputable section

namespace Cert.Proof.MoeS

open Cert.SlotsIdeal Cert.SlotsIdeal.Gen
open Cert.Proof.MoeR (lane logit logitK pad_weights pad_bias)
open Idealize.ShloMosaic Idealize.ShloMosaic.TcCoe Idealize.SL.Sem
open Idealize.ShloMosaic.ValueIdx (ix1 ix2 ix3 eq_ix2)

/-! ## What the region reads -/

variable (m : (ℓ : Loc nD τ sig) → Buf (Elt Ideal) ℓ) (c : Dev nD)

theorem V_v0 : V m c main_v0 = (shapeCast S2048x768 (m ((c : Thread nD τ).loc main_arg0)) shapeCasts_S1x2048x768_S2048x768 : Vec Ideal S2048x768 .f32) := by
  after_reads_simp
  rfl

theorem V_v3 : ∃ z : Vec Ideal S768x128 .f32, V m c main_v3
    = (Host.scatter scatter_S768x128_S1_S768x8_01_n_1_0 (fun _ b => b) z (fun _ => 0#32) (m ((c : Thread nD τ).loc main_arg1)) : Vec Ideal S768x128 .f32) := by
  refine ⟨fun _ => Ideal.ofBits .f32 0x00000000#32, ?_⟩
  after_reads_simp
  rfl

theorem V_v8 : ∃ (z : Vec Ideal S1x128 .f32) (w : S2.Idx → BitVec 32), (∀ i, w i = 0#32) ∧ V m c main_v8
    = (Host.scatter scatter_S1x128_S2_S8_0_0_01_0 (fun _ b => b) z w (m ((c : Thread nD τ).loc main_arg2)) : Vec Ideal S1x128 .f32) := by
  refine ⟨fun _ => Ideal.ofBits .f32 0x00000000#32, concatenate S2 0 [⟨S1, fun _ => 0#32⟩, ⟨S1, fun _ => 0#32⟩] concatenates_S1_S1_S2_d0, fun i => ?_, ?_⟩
  · have hi : i = ix1 (i 0) := by funext a; fin_cases a; rfl
    rw [hi]
    generalize i 0 = q
    fin_cases q <;> rfl
  · after_reads_simp
    rfl

theorem iblk0 (t : Fin cfg0.N) (i : S2048x768.Idx) : (iblk m c 0 t : Vec Ideal S2048x768 .f32) i = (V m c main_v0 : Vec Ideal S2048x768 .f32) i := by
  unfold iblk
  rw [View.read_apply]
  refine (cast_eq _ _).trans ?_
  show V m c main_v0 _ = _
  refine congrArg (V m c main_v0) (funext fun a => Fin.ext ?_)
  exact (cfg0.win 0).rect_emb_val_of_index_zero t a rfl i

theorem iblk1 (t : Fin cfg0.N) (i : S768x128.Idx) : (iblk m c 1 t : Vec Ideal S768x128 .f32) i = (V m c main_v3 : Vec Ideal S768x128 .f32) i := by
  unfold iblk
  rw [View.read_apply]
  refine (cast_eq _ _).trans ?_
  show V m c main_v3 _ = _
  refine congrArg (V m c main_v3) (funext fun a => Fin.ext ?_)
  exact (cfg0.win 1).rect_emb_val_of_index_zero t a rfl i

theorem iblk2 (t : Fin cfg0.N) (i : S1x128.Idx) : (iblk m c 2 t : Vec Ideal S1x128 .f32) i = (V m c main_v8 : Vec Ideal S1x128 .f32) i := by
  unfold iblk
  rw [View.read_apply]
  refine (cast_eq _ _).trans ?_
  show V m c main_v8 _ = _
  refine congrArg (V m c main_v8) (funext fun a => Fin.ext ?_)
  exact (cfg0.win 2).rect_emb_val_of_index_zero t a rfl i

theorem posArr (i : S4096x1.Idx) : ((dats m 0 c).arrAt 3 cfg0.N : Vec Ideal S4096x1 .i32) i
    = out0_3 (V m c main_v0 : Vec Ideal S2048x768 .f32) (V m c main_v3 : Vec Ideal S768x128 .f32) (V m c main_v8 : Vec Ideal S1x128 .f32) i := by
  have h0 : (iblk m c 0 (0 : Fin 1) : Vec Ideal S2048x768 .f32) = (V m c main_v0 : Vec Ideal S2048x768 .f32) := funext (iblk0 m c (0 : Fin 1))
  have h1 : (iblk m c 1 (0 : Fin 1) : Vec Ideal S768x128 .f32) = (V m c main_v3 : Vec Ideal S768x128 .f32) := funext (iblk1 m c (0 : Fin 1))
  have h2 : (iblk m c 2 (0 : Fin 1) : Vec Ideal S1x128 .f32) = (V m c main_v8 : Vec Ideal S1x128 .f32) := funext (iblk2 m c (0 : Fin 1))
  have key := (dats m 0 c).arrAt_emb_eq_flushed 3 (Cert.SlotsIdeal.Value.disjoint3) (0 : Fin 1) (by decide) i
  have hemb : ((cfg0.win 3).blk (0 : Fin 1)).view.emb i = (i : S4096x1.Idx) :=
    funext fun a => Fin.ext ((cfg0.win 3).rect_emb_val_of_index_zero (0 : Fin 1) a rfl i)
  refine Eq.trans (congrArg ((dats m 0 c).arrAt 3 cfg0.N) hemb.symm) (key.trans ?_)
  refine (cast_eq _ _).trans ?_
  refine (congrFun (Cert.SlotsIdeal.Value.flushed3 m c (0 : Fin 1)) i).trans ?_
  show out0_3 (iblk m c 0 (0 : Fin 1)) (iblk m c 1 (0 : Fin 1)) (iblk m c 2 (0 : Fin 1)) i = _
  exact congrFun (congr (congr (congrArg out0_3 h0) h1) h2) i

theorem ridArr (i : S5120x1.Idx) : ((dats m 0 c).arrAt 4 cfg0.N : Vec Ideal S5120x1 .i32) i
    = out0_4 (V m c main_v0 : Vec Ideal S2048x768 .f32) (V m c main_v3 : Vec Ideal S768x128 .f32) (V m c main_v8 : Vec Ideal S1x128 .f32) i := by
  have h0 : (iblk m c 0 (0 : Fin 1) : Vec Ideal S2048x768 .f32) = (V m c main_v0 : Vec Ideal S2048x768 .f32) := funext (iblk0 m c (0 : Fin 1))
  have h1 : (iblk m c 1 (0 : Fin 1) : Vec Ideal S768x128 .f32) = (V m c main_v3 : Vec Ideal S768x128 .f32) := funext (iblk1 m c (0 : Fin 1))
  have h2 : (iblk m c 2 (0 : Fin 1) : Vec Ideal S1x128 .f32) = (V m c main_v8 : Vec Ideal S1x128 .f32) := funext (iblk2 m c (0 : Fin 1))
  have key := (dats m 0 c).arrAt_emb_eq_flushed 4 (Cert.SlotsIdeal.Value.disjoint4) (0 : Fin 1) (by decide) i
  have hemb : ((cfg0.win 4).blk (0 : Fin 1)).view.emb i = (i : S5120x1.Idx) :=
    funext fun a => Fin.ext ((cfg0.win 4).rect_emb_val_of_index_zero (0 : Fin 1) a rfl i)
  refine Eq.trans (congrArg ((dats m 0 c).arrAt 4 cfg0.N) hemb.symm) (key.trans ?_)
  refine (cast_eq _ _).trans ?_
  refine (congrFun (Cert.SlotsIdeal.Value.flushed4 m c (0 : Fin 1)) i).trans ?_
  show out0_4 (iblk m c 0 (0 : Fin 1)) (iblk m c 1 (0 : Fin 1)) (iblk m c 2 (0 : Fin 1)) i = _
  exact congrFun (congr (congr (congrArg out0_4 h0) h1) h2) i

theorem wslArr (i : S5120x1.Idx) : ((dats m 0 c).arrAt 5 cfg0.N : Vec Ideal S5120x1 .f32) i
    = out0_5 (V m c main_v0 : Vec Ideal S2048x768 .f32) (V m c main_v3 : Vec Ideal S768x128 .f32) (V m c main_v8 : Vec Ideal S1x128 .f32) i := by
  have h0 : (iblk m c 0 (0 : Fin 1) : Vec Ideal S2048x768 .f32) = (V m c main_v0 : Vec Ideal S2048x768 .f32) := funext (iblk0 m c (0 : Fin 1))
  have h1 : (iblk m c 1 (0 : Fin 1) : Vec Ideal S768x128 .f32) = (V m c main_v3 : Vec Ideal S768x128 .f32) := funext (iblk1 m c (0 : Fin 1))
  have h2 : (iblk m c 2 (0 : Fin 1) : Vec Ideal S1x128 .f32) = (V m c main_v8 : Vec Ideal S1x128 .f32) := funext (iblk2 m c (0 : Fin 1))
  have key := (dats m 0 c).arrAt_emb_eq_flushed 5 (Cert.SlotsIdeal.Value.disjoint5) (0 : Fin 1) (by decide) i
  have hemb : ((cfg0.win 5).blk (0 : Fin 1)).view.emb i = (i : S5120x1.Idx) :=
    funext fun a => Fin.ext ((cfg0.win 5).rect_emb_val_of_index_zero (0 : Fin 1) a rfl i)
  refine Eq.trans (congrArg ((dats m 0 c).arrAt 5 cfg0.N) hemb.symm) (key.trans ?_)
  refine (cast_eq _ _).trans ?_
  refine (congrFun (Cert.SlotsIdeal.Value.flushed5 m c (0 : Fin 1)) i).trans ?_
  show out0_5 (iblk m c 0 (0 : Fin 1)) (iblk m c 1 (0 : Fin 1)) (iblk m c 2 (0 : Fin 1)) i = _
  exact congrFun (congr (congr (congrArg out0_5 h0) h1) h2) i

theorem beArr (i : S128x1.Idx) : ((dats m 0 c).arrAt 6 cfg0.N : Vec Ideal S128x1 .i32) i
    = out0_6 (V m c main_v0 : Vec Ideal S2048x768 .f32) (V m c main_v3 : Vec Ideal S768x128 .f32) (V m c main_v8 : Vec Ideal S1x128 .f32) i := by
  have h0 : (iblk m c 0 (0 : Fin 1) : Vec Ideal S2048x768 .f32) = (V m c main_v0 : Vec Ideal S2048x768 .f32) := funext (iblk0 m c (0 : Fin 1))
  have h1 : (iblk m c 1 (0 : Fin 1) : Vec Ideal S768x128 .f32) = (V m c main_v3 : Vec Ideal S768x128 .f32) := funext (iblk1 m c (0 : Fin 1))
  have h2 : (iblk m c 2 (0 : Fin 1) : Vec Ideal S1x128 .f32) = (V m c main_v8 : Vec Ideal S1x128 .f32) := funext (iblk2 m c (0 : Fin 1))
  have key := (dats m 0 c).arrAt_emb_eq_flushed 6 (Cert.SlotsIdeal.Value.disjoint6) (0 : Fin 1) (by decide) i
  have hemb : ((cfg0.win 6).blk (0 : Fin 1)).view.emb i = (i : S128x1.Idx) :=
    funext fun a => Fin.ext ((cfg0.win 6).rect_emb_val_of_index_zero (0 : Fin 1) a rfl i)
  refine Eq.trans (congrArg ((dats m 0 c).arrAt 6 cfg0.N) hemb.symm) (key.trans ?_)
  refine (cast_eq _ _).trans ?_
  refine (congrFun (Cert.SlotsIdeal.Value.flushed6 m c (0 : Fin 1)) i).trans ?_
  show out0_6 (iblk m c 0 (0 : Fin 1)) (iblk m c 1 (0 : Fin 1)) (iblk m c 2 (0 : Fin 1)) i = _
  exact congrFun (congr (congr (congrArg out0_6 h0) h1) h2) i

theorem logitK_lane (t : Fin 2048) (e : Fin 8) :
    logitK (V m c main_v0 : Vec Ideal S2048x768 .f32) (V m c main_v3 : Vec Ideal S768x128 .f32) (V m c main_v8 : Vec Ideal S1x128 .f32) t (lane e)
      = logit (m ((c : Thread nD τ).loc main_arg0)) (m ((c : Thread nD τ).loc main_arg1)) (m ((c : Thread nD τ).loc main_arg2)) t e := by
  obtain ⟨z, h3⟩ := V_v3 m c
  obtain ⟨z', w, hw, h8⟩ := V_v8 m c
  rw [V_v0, h3, h8]
  unfold logitK logit
  refine congrArg₂ (· + ·) (Finset.sum_congr rfl fun k _ => congrArg₂ (· * ·) ?_ ?_) ?_
  · exact ValueIdx.shapeCast_1ab_ab_apply _ _ t k
  · exact pad_weights z _ k e
  · exact pad_bias z' w hw _ e

end Cert.Proof.MoeS

end
-- ==== Proof.S.Link.lean ====
/- With finite operands the router's choices and weights are the reference's. -/
module

public import proofs.«01_k».proof.Proof.S.Ref
public import proofs.«01_k».proof.Proof.S.KerRun
public import proofs.«01_k».proof.Proof.Range
public import proofs.«01_k».proof.Proof.Gen.Pre_finite

@[expose] public section

noncomputable section

namespace Cert.Proof.MoeS

open Cert.Proof.MoeR (lane logit logitK soft maskSoft mx pick pick_top2 firstK secondK firstK_spec secondK_spec probK restK First Top2 top2_masked soft_good lit_low)
open Idealize.ShloMosaic Idealize.ShloMosaic.TcCoe Idealize.SL.Sem
open Idealize.ShloMosaic.ValueIdx (ix1 ix2 ix3 eq_ix2)

/-! ## What the precondition gives -/

theorem lit_top : Ideal.ofBits .f32 0x7F800000#32 = ⊤ := by
  simp [Ideal.ofBits, Ideal.ieee]

theorem real_of_lt (a : EReal) (h : max a (-a) < ⊤) : ∃ r : ℝ, a = (r : EReal) := by
  refine ⟨a.toReal, (EReal.coe_toReal (fun e => ?_) fun e => ?_).symm⟩
  · rw [e] at h
    exact absurd h (by simp)
  · rw [e] at h
    exact absurd h (by simp)

theorem real_of_word (a : Ideal .f32) (h : FloatOps.cmpf .olt (FloatOps.hostAbsf a) (FloatOps.ofBits (F := Ideal) .f32 0x7F800000#32) = 1#1) :
    ∃ r : ℝ, (a : EReal) = (r : EReal) := by
  have h' : BitVec.ofBool (decide (max (a : EReal) (-a) < Ideal.ofBits .f32 0x7F800000#32)) = 1#1 := h
  rw [Range.ofBool_eq_one, decide_eq_true_eq, lit_top] at h'
  exact real_of_lt a h'

theorem real_of_fn (a0 : FVec Ideal Cert.Pre_finite.S1x2048x768 .f32) (a1 : FVec Ideal Cert.Pre_finite.S768x8 .f32) (a2 : FVec Ideal Cert.Pre_finite.S8 .f32)
    (j : Cert.Pre_finite.S_.Idx) (e : Cert.Pre_finite.fn (F := Ideal) a0 a1 a2 j = 1#1) :
    (∀ i, ∃ r : ℝ, (a0 i : EReal) = r) ∧ (∀ i, ∃ r : ℝ, (a1 i : EReal) = r) ∧ ∀ i, ∃ r : ℝ, (a2 i : EReal) = r := by
  haveI : Subsingleton Cert.Pre_finite.S_.Idx := inferInstanceAs (Subsingleton ((a : Fin 0) → _))
  unfold Cert.Pre_finite.fn at e
  dsimp only at e
  obtain ⟨e12, e3⟩ := Range.andi_one e
  obtain ⟨e1, e2⟩ := Range.andi_one e12
  refine ⟨fun i => ?_, fun i => ?_, fun i => ?_⟩
  · exact real_of_word _ (Host.reduce_andi_all _ _ _ _ j e1 i)
  · exact real_of_word _ (Host.reduce_andi_all _ _ _ _ j e2 i)
  · exact real_of_word _ (Host.reduce_andi_all _ _ _ _ j e3 i)

/-! ## The choices and the weights -/

/-- A token's logits are real when the operands are. -/
theorem logit_real (x : FVec Ideal Cert.RouterIdeal.S1x2048x768 .f32) (w : FVec Ideal Cert.RouterIdeal.S768x8 .f32) (b : FVec Ideal Cert.RouterIdeal.S8 .f32)
    (hx : ∀ i, ∃ r : ℝ, (x i : EReal) = r) (hw : ∀ i, ∃ r : ℝ, (w i : EReal) = r) (hb : ∀ i, ∃ r : ℝ, (b i : EReal) = r)
    (t : Fin 2048) (e : Fin 8) : ∃ r : ℝ, logit x w b t e = r := by
  choose fx hx using hx
  choose fw hw using hw
  choose fb hb using hb
  refine ⟨(∑ k : Fin 768, fx (ix3 (0 : Fin 1) t k) * fw (ix2 k e)) + fb (ix1 e), ?_⟩
  unfold logit
  rw [EReal.coe_add, hb]
  refine congrArg (· + _) ?_
  refine Eq.trans (Finset.sum_congr rfl fun k _ => ?_)
    (map_sum (⟨⟨fun r : ℝ => (r : EReal), EReal.coe_zero⟩, EReal.coe_add⟩ : ℝ →+ EReal) (fun k : Fin 768 => fx (ix3 (0 : Fin 1) t k) * fw (ix2 k e)) Finset.univ).symm
  rw [hx, hw]
  exact (EReal.coe_mul _ _).symm

theorem mx_of_first {n : Nat} {q : Fin n → EReal} {a : Fin n} (h : First q a) : mx q = q a :=
  le_antisymm (Finset.sup_le fun j _ => h.1 j) (MoeR.le_mx q a)

section Tok

variable (x0 : Vec Ideal Cert.RouterIdeal.S2048x768 .f32) (x1 : Vec Ideal Cert.RouterIdeal.S768x128 .f32) (x2 : Vec Ideal Cert.RouterIdeal.S1x128 .f32)
  (y0 : FVec Ideal Cert.RouterIdeal.S1x2048x768 .f32) (y1 : FVec Ideal Cert.RouterIdeal.S768x8 .f32) (y2 : FVec Ideal Cert.RouterIdeal.S8 .f32)
  (hl : ∀ t e, logitK x0 x1 x2 t (lane e) = logit y0 y1 y2 t e) (hr : ∀ t e, ∃ r : ℝ, logit y0 y1 y2 t e = r)

include hl hr

/-- A token: its two lanes are the two experts, and the two greatest probabilities are those experts'. -/
theorem tok (t : Fin 2048) : firstK x0 x1 x2 t = lane8 (pick y0 y1 y2 0 t) ∧ secondK x0 x1 x2 t = lane8 (pick y0 y1 y2 1 t)
    ∧ mx (probK x0 x1 x2 t) = valR y0 y1 y2 t 0 ∧ mx (restK x0 x1 x2 t) = valR y0 y1 y2 t 1 := by
  obtain ⟨c, hc⟩ := lit_low
  have hp : probK x0 x1 x2 t = maskSoft (c : EReal) (logitK x0 x1 x2 t) := by
    unfold probK MoeR.low
    rw [hc]
  have hg : (fun e => logitK x0 x1 x2 t (lane e)) = logit y0 y1 y2 t := funext (hl t)
  obtain ⟨e0, he0⟩ := MoeR.mx_mem (logit y0 y1 y2 t)
  obtain ⟨μ, hμ⟩ := hr t e0
  have good := soft_good c (logitK x0 x1 x2 t) μ (by rw [hg, ← he0, hμ])
  rw [hg, ← hp] at good
  have hb := secondK_spec x0 x1 x2 t
  obtain ⟨a', b', htop, ha', hb'⟩ := top2_masked _ _ good.1 good.2.1 good.2.2 _ _ (firstK_spec x0 x1 x2 t) hb
  obtain ⟨rfl, rfl⟩ := htop.unique (pick_top2 y0 y1 y2 t)
  refine ⟨ha', hb', ?_, ?_⟩
  · rw [mx_of_first (firstK_spec x0 x1 x2 t), ha']
    exact good.2.1 _
  · rw [mx_of_first hb]
    unfold restK
    have hne : secondK x0 x1 x2 t ≠ firstK x0 x1 x2 t := by
      rw [ha', hb']
      exact fun h => htop.1 (Fin.castLE_injective _ h).symm
    rw [if_neg hne, hb']
    exact good.2.1 _

theorem choices : choiceK x0 x1 x2 = fun s => lane8 (choiceR y0 y1 y2 s) := by
  funext s
  unfold choiceK choiceR
  revert s
  refine both_ind (fun t => ?_) (fun t => ?_)
  · rw [both_left, both_left]
    exact (tok x0 x1 x2 y0 y1 y2 hl hr t).1
  · rw [both_right, both_right]
    exact (tok x0 x1 x2 y0 y1 y2 hl hr t).2.1

theorem weights : weightK x0 x1 x2 = weightR y0 y1 y2 := by
  funext s
  unfold weightK weightR
  revert s
  refine both_ind (fun t => ?_) (fun t => ?_)
  · rw [both_left, both_left, (tok x0 x1 x2 y0 y1 y2 hl hr t).2.2.1, (tok x0 x1 x2 y0 y1 y2 hl hr t).2.2.2]
  · rw [both_right, both_right, (tok x0 x1 x2 y0 y1 y2 hl hr t).2.2.1, (tok x0 x1 x2 y0 y1 y2 hl hr t).2.2.2]

theorem positions : posN (choiceK x0 x1 x2) = posN (choiceR y0 y1 y2) := by
  rw [choices x0 x1 x2 y0 y1 y2 hl hr]
  exact funext (posN_lane _)

theorem owners (b : ℕ) : (∑ j : Fin 128, if j.val < 8 ∧ exclN (choiceK x0 x1 x2) j ≤ b then 1 else 0) = beN (choiceR y0 y1 y2) b := by
  rw [choices x0 x1 x2 y0 y1 y2 hl hr]
  exact beN_lane _ b

end Tok

/-! ## The four arrays -/

section Arrays

open Cert.SlotsIdeal Cert.SlotsIdeal.Gen

theorem out3_same : Cert.SlotsIdeal.Gen.out0_3 (F := Ideal) = Cert.RouterIdeal.Gen.out0_3 (F := Ideal) := rfl
theorem out4_same : Cert.SlotsIdeal.Gen.out0_4 (F := Ideal) = Cert.RouterIdeal.Gen.out0_4 (F := Ideal) := rfl
theorem out5_same : Cert.SlotsIdeal.Gen.out0_5 (F := Ideal) = Cert.RouterIdeal.Gen.out0_5 (F := Ideal) := rfl
theorem out6_same : Cert.SlotsIdeal.Gen.out0_6 (F := Ideal) = Cert.RouterIdeal.Gen.out0_6 (F := Ideal) := rfl

variable (m : (ℓ : Loc nD τ sig) → Buf (Elt Ideal) ℓ) (c : Dev nD)
  (hr : ∀ t e, ∃ r : ℝ, logit (m ((c : Thread nD τ).loc main_arg0)) (m ((c : Thread nD τ).loc main_arg1)) (m ((c : Thread nD τ).loc main_arg2)) t e = r)

include hr

theorem pos_value (i : S4096x1.Idx) : ((dats m 0 c).arrAt 3 cfg0.N : Vec Ideal S4096x1 .i32) i
    = Cert.DispatchIdeal.Read.val_main_v91 (F := Ideal) (m ((c : Thread nD τ).loc main_arg0)) (m ((c : Thread nD τ).loc main_arg1)) (m ((c : Thread nD τ).loc main_arg2)) i := by
  obtain ⟨s, hs⟩ : ∃ s : Fin 4096, i = ix2 s (0 : Fin 1) := ⟨i 0, (eq_ix2 i).trans (congrArg (ix2 (i 0)) (Fin.fin_one_eq_zero (i 1)))⟩
  rw [hs]
  refine (posArr m c _).trans ?_
  rw [out3_same]
  refine (out3_apply _ _ _ s).trans (Eq.trans ?_ (v91_at _ _ _ s).symm)
  exact congrArg (fun p : Fin 4096 → ℕ => BitVec.ofNat 32 (p s)) (positions _ _ _ _ _ _ (logitK_lane m c) hr)

theorem rid_value (i : S5120x1.Idx) : ((dats m 0 c).arrAt 4 cfg0.N : Vec Ideal S5120x1 .i32) i
    = Cert.DispatchIdeal.Read.val_main_v92 (F := Ideal) (m ((c : Thread nD τ).loc main_arg0)) (m ((c : Thread nD τ).loc main_arg1)) (m ((c : Thread nD τ).loc main_arg2)) i := by
  obtain ⟨g, hg⟩ : ∃ g : Fin 5120, i = ix2 g (0 : Fin 1) := ⟨i 0, (eq_ix2 i).trans (congrArg (ix2 (i 0)) (Fin.fin_one_eq_zero (i 1)))⟩
  rw [hg]
  refine (ridArr m c _).trans ?_
  rw [out4_same]
  refine (out4_apply _ _ _ g).trans (Eq.trans ?_ (v92_at _ _ _ g).symm)
  exact congrArg (fun p : Fin 4096 → ℕ => BitVec.ofNat 32 (ridN p g.val)) (positions _ _ _ _ _ _ (logitK_lane m c) hr)

theorem wsl_value (i : S5120x1.Idx) : ((dats m 0 c).arrAt 5 cfg0.N : Vec Ideal S5120x1 .f32) i
    = Cert.DispatchIdeal.Read.val_main_v93 (F := Ideal) (m ((c : Thread nD τ).loc main_arg0)) (m ((c : Thread nD τ).loc main_arg1)) (m ((c : Thread nD τ).loc main_arg2)) i := by
  obtain ⟨g, hg⟩ : ∃ g : Fin 5120, i = ix2 g (0 : Fin 1) := ⟨i 0, (eq_ix2 i).trans (congrArg (ix2 (i 0)) (Fin.fin_one_eq_zero (i 1)))⟩
  rw [hg]
  refine (wslArr m c _).trans ?_
  rw [out5_same]
  refine (out5_apply _ _ _ g).trans (Eq.trans ?_ (v93_at _ _ _ g).symm)
  exact congrArg₂ (fun (p : Fin 4096 → ℕ) (w : Fin 4096 → EReal) => wslE p w g.val) (positions _ _ _ _ _ _ (logitK_lane m c) hr)
    (weights _ _ _ _ _ _ (logitK_lane m c) hr)

theorem be_value (i : S128x1.Idx) : ((dats m 0 c).arrAt 6 cfg0.N : Vec Ideal S128x1 .i32) i
    = Cert.DispatchIdeal.Read.val_main_v94 (F := Ideal) (m ((c : Thread nD τ).loc main_arg0)) (m ((c : Thread nD τ).loc main_arg1)) (m ((c : Thread nD τ).loc main_arg2)) i := by
  obtain ⟨b, hb⟩ : ∃ b : Fin 128, i = ix2 b (0 : Fin 1) := ⟨i 0, (eq_ix2 i).trans (congrArg (ix2 (i 0)) (Fin.fin_one_eq_zero (i 1)))⟩
  rw [hb]
  refine (beArr m c _).trans ?_
  rw [out6_same]
  refine (out6_apply _ _ _ b).trans (Eq.trans ?_ (v94_at _ _ _ b).symm)
  exact congrArg (fun n : ℕ => IntOp.subi (BitVec.ofNat 32 n) 1#32) (owners _ _ _ _ _ _ (logitK_lane m c) hr b.val)

end Arrays

end Cert.Proof.MoeS

end
-- ==== Proof.S.Slots.lean ====
/- The router's slots, row ids, slot weights and block owners equal the reference's. -/
module

public import proofs.«01_k».proof.Defs
public import proofs.«01_k».proof.Proof.S.Link
public import proofs.«01_k».proof.Proof.Gen.Slots.Frame
public import Idealize.ShloMosaic.Lib.Quiescent

@[expose] public section

noncomputable section

namespace Cert.Proof

open Idealize.ShloMosaic Idealize.ShloMosaic.TcCoe Idealize.SL.Sem Cert.Proof.MoeS

theorem frame_slots : Cert.quiescent_Slots := fun m ρ _ => Cert.Slots.Gen.frame m ρ

theorem frame_slotsIdeal : Cert.quiescent_SlotsIdeal := fun m ρ _ => Cert.SlotsIdeal.Gen.frame m ρ

theorem frame_slotsIdeal_finite : Cert.quiescent_SlotsIdeal_pre_finite := fun m ρ _ => Cert.SlotsIdeal.Gen.frame m ρ

theorem frame_dispatch : Cert.quiescent_DispatchIdeal := by
  intro m ρ _
  exact (θ_run Cert.DispatchIdeal.defs _ _).mono (fun r hr => ⟨fun c => (hr c).2.2.2.2, sem_eq_zero_of_no_sems rfl _⟩) (Cert.DispatchIdeal.Value.run (F := Ideal) m ρ)

theorem frame_dispatch_finite : Cert.quiescent_DispatchIdeal_pre_finite := fun m ρ _ => frame_dispatch m ρ trivial

open Cert.SlotsIdeal Cert.SlotsIdeal.Gen in
theorem algebraic_slots : Cert.algebraic_SlotsIdeal_DispatchIdeal_pre_finite := by
  intro m ρ m' ρ' hpre heq
  have hr : ∀ (c : Dev nD) (t : Fin 2048) (e : Fin 8), ∃ r : ℝ,
      MoeR.logit (m ((c : Thread nD τ).loc main_arg0)) (m ((c : Thread nD τ).loc main_arg1)) (m ((c : Thread nD τ).loc main_arg2)) t e = r := fun c t e => by
    obtain ⟨h0, h1, h2⟩ := real_of_fn _ _ _ (fun a => a.elim0) (congrFun (hpre c) fun a => a.elim0)
    exact logit_real _ _ _ h0 h1 h2 t e
  refine ⟨fun c => (dats m 0 c).arrAt 3 cfg0.N, fun c => (dats m 0 c).arrAt 4 cfg0.N, fun c => (dats m 0 c).arrAt 5 cfg0.N, fun c => (dats m 0 c).arrAt 6 cfg0.N, ?_, ?_⟩
  · exact (θ_run Cert.SlotsIdeal.defs _ _).mono
      (fun r h c => ⟨(h c).1, (h c).2.1, (h c).2.2.1, (h c).2.2.2.1, (h c).2.2.2.2.2⟩) (Cert.SlotsIdeal.Value.run_blocks (F := Ideal) m ρ)
  · refine (θ_run Cert.DispatchIdeal.defs _ _).mono
      (fun r h c => ⟨(h c).1.trans ?_, (h c).2.1.trans ?_, (h c).2.2.1.trans ?_, (h c).2.2.2.1.trans ?_, (h c).2.2.2.2⟩) (Cert.DispatchIdeal.Value.run (F := Ideal) m' ρ')
    · rw [Cert.DispatchIdeal.Read.val_main_v91_eq, (heq c).1, (heq c).2.1, (heq c).2.2]
      exact (funext (pos_value m c (hr c))).symm
    · rw [Cert.DispatchIdeal.Read.val_main_v92_eq, (heq c).1, (heq c).2.1, (heq c).2.2]
      exact (funext (rid_value m c (hr c))).symm
    · rw [Cert.DispatchIdeal.Read.val_main_v93_eq, (heq c).1, (heq c).2.1, (heq c).2.2]
      exact (funext (wsl_value m c (hr c))).symm
    · refine (Cert.DispatchIdeal.Read.val_main_v94_eq (F := Ideal) _ _ _).trans ?_
      rw [(heq c).1, (heq c).2.1, (heq c).2.2]
      exact (funext (be_value m c (hr c))).symm

end Cert.Proof

end
-- ==== Proof.lean ====
/- The claims, put together from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.Pre_in_range
public import proofs.«01_k».proof.Proof.Gen.ReferenceIdeal
public import proofs.«01_k».proof.Proof.Gen.ReferenceIdeal.Run
public import proofs.«01_k».proof.Proof.Frames
public import proofs.«01_k».proof.Proof.K.Frames
public import proofs.«01_k».proof.Proof.Algebraic
public import proofs.«01_k».proof.Proof.R.Loss
public import proofs.«01_k».proof.Proof.S.Slots
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Router.Gen.facts, Cert.RouterIdeal.Gen.facts,
    Cert.BalanceIdeal.Gen.facts, Cert.Slots.Gen.facts, Cert.SlotsIdeal.Gen.facts, Cert.DispatchIdeal.Gen.facts, Cert.Pre_in_range.Gen.facts,
    Cert.Pre_finite.Gen.facts, MoeK.frame_kernel, Moe.frame_kernelIdeal, frame_reference, frame_router, frame_routerIdeal, frame_balance,
    frame_slots, frame_slotsIdeal, frame_slotsIdeal_finite, frame_dispatch, frame_dispatch_finite, trivial, algebraic, trivial, algebraic_loss,
    trivial, algebraic_slots⟩

end Cert.Proof

end
